-- ==== Defs.lean ====
def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvRIdeal (m : (ℓ : Loc Cert.ConvRIdeal.nD Cert.ConvRIdeal.τ Cert.ConvRIdeal.sig) → Buf (Elt Ideal) ℓ) : Prop :=
  True

def Pre_DuK (m : (ℓ : Loc Cert.DuK.nD Cert.DuK.τ Cert.DuK.sig) → Buf (Elt Bits) ℓ) : Prop :=
  True

def Pre_DuKIdeal (m : (ℓ : Loc Cert.DuKIdeal.nD Cert.DuKIdeal.τ Cert.DuKIdeal.sig) → Buf (Elt Ideal) ℓ) : Prop :=
  True

def Pre_DuRIdeal (m : (ℓ : Loc Cert.DuRIdeal.nD Cert.DuRIdeal.τ Cert.DuRIdeal.sig) → Buf (Elt Ideal) ℓ) : Prop :=
  True

def Pre_AttK (m : (ℓ : Loc Cert.AttK.nD Cert.AttK.τ Cert.AttK.sig) → Buf (Elt Bits) ℓ) : Prop :=
  True

def Pre_AttKIdeal (m : (ℓ : Loc Cert.AttKIdeal.nD Cert.AttKIdeal.τ Cert.AttKIdeal.sig) → Buf (Elt Ideal) ℓ) : Prop :=
  True

def Pre_AttKIdeal_attn_ok [hPre_attn_ok : Cert.Pre_attn_ok.Facts] (m : (ℓ : Loc Cert.AttKIdeal.nD Cert.AttKIdeal.τ Cert.AttKIdeal.sig) → Buf (Elt Ideal) ℓ) : Prop :=
  ∀ c : Dev Cert.AttKIdeal.nD,
    (Cert.Pre_attn_ok.fn (F := Ideal) (m ((c.tc : Thread Cert.AttKIdeal.nD Cert.AttKIdeal.τ).loc Cert.AttKIdeal.main_arg0)) (m ((c.tc : Thread Cert.AttKIdeal.nD Cert.AttKIdeal.τ).loc Cert.AttKIdeal.main_arg1)) (m ((c.tc : Thread Cert.AttKIdeal.nD Cert.AttKIdeal.τ).loc Cert.AttKIdeal.main_arg2)) (m ((c.tc : Thread Cert.AttKIdeal.nD Cert.AttKIdeal.τ).loc Cert.AttKIdeal.main_arg3)) (m ((c.tc : Thread Cert.AttKIdeal.nD Cert.AttKIdeal.τ).loc Cert.AttKIdeal.main_arg4))) = (fun _ => 1#1)

def Pre_AttRIdeal (m : (ℓ : Loc Cert.AttRIdeal.nD Cert.AttRIdeal.τ Cert.AttRIdeal.sig) → Buf (Elt Ideal) ℓ) : Prop :=
  True

def Pre_AttRIdeal_attn_ok [hPre_attn_ok : Cert.Pre_attn_ok.Facts] (m : (ℓ : Loc Cert.AttRIdeal.nD Cert.AttRIdeal.τ Cert.AttRIdeal.sig) → Buf (Elt Ideal) ℓ) : Prop :=
  ∀ c : Dev Cert.AttRIdeal.nD,
    (Cert.Pre_attn_ok.fn (F := Ideal) (m ((c.tc : Thread Cert.AttRIdeal.nD Cert.AttRIdeal.τ).loc Cert.AttRIdeal.main_arg0)) (m ((c.tc : Thread Cert.AttRIdeal.nD Cert.AttRIdeal.τ).loc Cert.AttRIdeal.main_arg1)) (m ((c.tc : Thread Cert.AttRIdeal.nD Cert.AttRIdeal.τ).loc Cert.AttRIdeal.main_arg2)) (m ((c.tc : Thread Cert.AttRIdeal.nD Cert.AttRIdeal.τ).loc Cert.AttRIdeal.main_arg3)) (m ((c.tc : Thread Cert.AttRIdeal.nD Cert.AttRIdeal.τ).loc Cert.AttRIdeal.main_arg4))) = (fun _ => 1#1)

def Pre_RmsK (m : (ℓ : Loc Cert.RmsK.nD Cert.RmsK.τ Cert.RmsK.sig) → Buf (Elt Bits) ℓ) : Prop :=
  True

def Pre_RmsKIdeal (m : (ℓ : Loc Cert.RmsKIdeal.nD Cert.RmsKIdeal.τ Cert.RmsKIdeal.sig) → Buf (Elt Ideal) ℓ) : Prop :=
  True

def Pre_RmsKIdeal_rms_ok [hPre_rms_ok : Cert.Pre_rms_ok.Facts] (m : (ℓ : Loc Cert.RmsKIdeal.nD Cert.RmsKIdeal.τ Cert.RmsKIdeal.sig) → Buf (Elt Ideal) ℓ) : Prop :=
  ∀ c : Dev Cert.RmsKIdeal.nD,
    (Cert.Pre_rms_ok.fn (F := Ideal) (m ((c.tc : Thread Cert.RmsKIdeal.nD Cert.RmsKIdeal.τ).loc Cert.RmsKIdeal.main_arg0)) (m ((c.tc : Thread Cert.RmsKIdeal.nD Cert.RmsKIdeal.τ).loc Cert.RmsKIdeal.main_arg1)) (m ((c.tc : Thread Cert.RmsKIdeal.nD Cert.RmsKIdeal.τ).loc Cert.RmsKIdeal.main_arg2)) (m ((c.tc : Thread Cert.RmsKIdeal.nD Cert.RmsKIdeal.τ).loc Cert.RmsKIdeal.main_arg3)) (m ((c.tc : Thread Cert.RmsKIdeal.nD Cert.RmsKIdeal.τ).loc Cert.RmsKIdeal.main_arg4))) = (fun _ => 1#1)

def Pre_RmsRIdeal (m : (ℓ : Loc Cert.RmsRIdeal.nD Cert.RmsRIdeal.τ Cert.RmsRIdeal.sig) → Buf (Elt Ideal) ℓ) : Prop :=
  True

def Pre_RmsRIdeal_rms_ok [hPre_rms_ok : Cert.Pre_rms_ok.Facts] (m : (ℓ : Loc Cert.RmsRIdeal.nD Cert.RmsRIdeal.τ Cert.RmsRIdeal.sig) → Buf (Elt Ideal) ℓ) : Prop :=
  ∀ c : Dev Cert.RmsRIdeal.nD,
    (Cert.Pre_rms_ok.fn (F := Ideal) (m ((c.tc : Thread Cert.RmsRIdeal.nD Cert.RmsRIdeal.τ).loc Cert.RmsRIdeal.main_arg0)) (m ((c.tc : Thread Cert.RmsRIdeal.nD Cert.RmsRIdeal.τ).loc Cert.RmsRIdeal.main_arg1)) (m ((c.tc : Thread Cert.RmsRIdeal.nD Cert.RmsRIdeal.τ).loc Cert.RmsRIdeal.main_arg2)) (m ((c.tc : Thread Cert.RmsRIdeal.nD Cert.RmsRIdeal.τ).loc Cert.RmsRIdeal.main_arg3)) (m ((c.tc : Thread Cert.RmsRIdeal.nD Cert.RmsRIdeal.τ).loc Cert.RmsRIdeal.main_arg4))) = (fun _ => 1#1)

def Pre_RmsCK (m : (ℓ : Loc Cert.RmsCK.nD Cert.RmsCK.τ Cert.RmsCK.sig) → Buf (Elt Bits) ℓ) : Prop :=
  True

def Pre_RmsCKIdeal (m : (ℓ : Loc Cert.RmsCKIdeal.nD Cert.RmsCKIdeal.τ Cert.RmsCKIdeal.sig) → Buf (Elt Ideal) ℓ) : Prop :=
  True

def Pre_RmsCKIdeal_rms_ok_conv [hPre_rms_ok_conv : Cert.Pre_rms_ok_conv.Facts] (m : (ℓ : Loc Cert.RmsCKIdeal.nD Cert.RmsCKIdeal.τ Cert.RmsCKIdeal.sig) → Buf (Elt Ideal) ℓ) : Prop :=
  ∀ c : Dev Cert.RmsCKIdeal.nD,
    (Cert.Pre_rms_ok_conv.fn (F := Ideal) (m ((c.tc : Thread Cert.RmsCKIdeal.nD Cert.RmsCKIdeal.τ).loc Cert.RmsCKIdeal.main_arg0)) (m ((c.tc : Thread Cert.RmsCKIdeal.nD Cert.RmsCKIdeal.τ).loc Cert.RmsCKIdeal.main_arg1)) (m ((c.tc : Thread Cert.RmsCKIdeal.nD Cert.RmsCKIdeal.τ).loc Cert.RmsCKIdeal.main_arg2)) (m ((c.tc : Thread Cert.RmsCKIdeal.nD Cert.RmsCKIdeal.τ).loc Cert.RmsCKIdeal.main_arg3)) (m ((c.tc : Thread Cert.RmsCKIdeal.nD Cert.RmsCKIdeal.τ).loc Cert.RmsCKIdeal.main_arg4))) = (fun _ => 1#1)

def Pre_RmsCRIdeal (m : (ℓ : Loc Cert.RmsCRIdeal.nD Cert.RmsCRIdeal.τ Cert.RmsCRIdeal.sig) → Buf (Elt Ideal) ℓ) : Prop :=
  True

def Pre_RmsCRIdeal_rms_ok_conv [hPre_rms_ok_conv : Cert.Pre_rms_ok_conv.Facts] (m : (ℓ : Loc Cert.RmsCRIdeal.nD Cert.RmsCRIdeal.τ Cert.RmsCRIdeal.sig) → Buf (Elt Ideal) ℓ) : Prop :=
  ∀ c : Dev Cert.RmsCRIdeal.nD,
    (Cert.Pre_rms_ok_conv.fn (F := Ideal) (m ((c.tc : Thread Cert.RmsCRIdeal.nD Cert.RmsCRIdeal.τ).loc Cert.RmsCRIdeal.main_arg0)) (m ((c.tc : Thread Cert.RmsCRIdeal.nD Cert.RmsCRIdeal.τ).loc Cert.RmsCRIdeal.main_arg1)) (m ((c.tc : Thread Cert.RmsCRIdeal.nD Cert.RmsCRIdeal.τ).loc Cert.RmsCRIdeal.main_arg2)) (m ((c.tc : Thread Cert.RmsCRIdeal.nD Cert.RmsCRIdeal.τ).loc Cert.RmsCRIdeal.main_arg3)) (m ((c.tc : Thread Cert.RmsCRIdeal.nD Cert.RmsCRIdeal.τ).loc Cert.RmsCRIdeal.main_arg4))) = (fun _ => 1#1)

def Pre_RmsDK (m : (ℓ : Loc Cert.RmsDK.nD Cert.RmsDK.τ Cert.RmsDK.sig) → Buf (Elt Bits) ℓ) : Prop :=
  True

def Pre_RmsDKIdeal (m : (ℓ : Loc Cert.RmsDKIdeal.nD Cert.RmsDKIdeal.τ Cert.RmsDKIdeal.sig) → Buf (Elt Ideal) ℓ) : Prop :=
  True

def Pre_RmsDKIdeal_rms_ok_down [hPre_rms_ok_down : Cert.Pre_rms_ok_down.Facts] (m : (ℓ : Loc Cert.RmsDKIdeal.nD Cert.RmsDKIdeal.τ Cert.RmsDKIdeal.sig) → Buf (Elt Ideal) ℓ) : Prop :=
  ∀ c : Dev Cert.RmsDKIdeal.nD,
    (Cert.Pre_rms_ok_down.fn (F := Ideal) (m ((c.tc : Thread Cert.RmsDKIdeal.nD Cert.RmsDKIdeal.τ).loc Cert.RmsDKIdeal.main_arg0)) (m ((c.tc : Thread Cert.RmsDKIdeal.nD Cert.RmsDKIdeal.τ).loc Cert.RmsDKIdeal.main_arg1)) (m ((c.tc : Thread Cert.RmsDKIdeal.nD Cert.RmsDKIdeal.τ).loc Cert.RmsDKIdeal.main_arg2)) (m ((c.tc : Thread Cert.RmsDKIdeal.nD Cert.RmsDKIdeal.τ).loc Cert.RmsDKIdeal.main_arg3)) (m ((c.tc : Thread Cert.RmsDKIdeal.nD Cert.RmsDKIdeal.τ).loc Cert.RmsDKIdeal.main_arg4))) = (fun _ => 1#1)

def Pre_RmsDRIdeal (m : (ℓ : Loc Cert.RmsDRIdeal.nD Cert.RmsDRIdeal.τ Cert.RmsDRIdeal.sig) → Buf (Elt Ideal) ℓ) : Prop :=
  True

def Pre_RmsDRIdeal_rms_ok_down [hPre_rms_ok_down : Cert.Pre_rms_ok_down.Facts] (m : (ℓ : Loc Cert.RmsDRIdeal.nD Cert.RmsDRIdeal.τ Cert.RmsDRIdeal.sig) → Buf (Elt Ideal) ℓ) : Prop :=
  ∀ c : Dev Cert.RmsDRIdeal.nD,
    (Cert.Pre_rms_ok_down.fn (F := Ideal) (m ((c.tc : Thread Cert.RmsDRIdeal.nD Cert.RmsDRIdeal.τ).loc Cert.RmsDRIdeal.main_arg0)) (m ((c.tc : Thread Cert.RmsDRIdeal.nD Cert.RmsDRIdeal.τ).loc Cert.RmsDRIdeal.main_arg1)) (m ((c.tc : Thread Cert.RmsDRIdeal.nD Cert.RmsDRIdeal.τ).loc Cert.RmsDRIdeal.main_arg2)) (m ((c.tc : Thread Cert.RmsDRIdeal.nD Cert.RmsDRIdeal.τ).loc Cert.RmsDRIdeal.main_arg3)) (m ((c.tc : Thread Cert.RmsDRIdeal.nD Cert.RmsDRIdeal.τ).loc Cert.RmsDRIdeal.main_arg4))) = (fun _ => 1#1)

def Pre_LossK (m : (ℓ : Loc Cert.LossK.nD Cert.LossK.τ Cert.LossK.sig) → Buf (Elt Bits) ℓ) : Prop :=
  True

def Pre_LossKIdeal (m : (ℓ : Loc Cert.LossKIdeal.nD Cert.LossKIdeal.τ Cert.LossKIdeal.sig) → Buf (Elt Ideal) ℓ) : Prop :=
  True

def Pre_LossRIdeal (m : (ℓ : Loc Cert.LossRIdeal.nD Cert.LossRIdeal.τ Cert.LossRIdeal.sig) → Buf (Elt Ideal) ℓ) : Prop :=
  True

def Pre_DeltaK (m : (ℓ : Loc Cert.DeltaK.nD Cert.DeltaK.τ Cert.DeltaK.sig) → Buf (Elt Bits) ℓ) : Prop :=
  True

def Pre_DeltaKIdeal (m : (ℓ : Loc Cert.DeltaKIdeal.nD Cert.DeltaKIdeal.τ Cert.DeltaKIdeal.sig) → Buf (Elt Ideal) ℓ) : Prop :=
  True

def Pre_DeltaRIdeal (m : (ℓ : Loc Cert.DeltaRIdeal.nD Cert.DeltaRIdeal.τ Cert.DeltaRIdeal.sig) → Buf (Elt Ideal) ℓ) : Prop :=
  True

def Pre_GateK (m : (ℓ : Loc Cert.GateK.nD Cert.GateK.τ Cert.GateK.sig) → Buf (Elt Bits) ℓ) : Prop :=
  True

def Pre_GateKIdeal (m : (ℓ : Loc Cert.GateKIdeal.nD Cert.GateKIdeal.τ Cert.GateKIdeal.sig) → Buf (Elt Ideal) ℓ) : Prop :=
  True

def Pre_GateRIdeal (m : (ℓ : Loc Cert.GateRIdeal.nD Cert.GateRIdeal.τ Cert.GateRIdeal.sig) → Buf (Elt Ideal) ℓ) : Prop :=
  True

def Pre_UpK (m : (ℓ : Loc Cert.UpK.nD Cert.UpK.τ Cert.UpK.sig) → Buf (Elt Bits) ℓ) : Prop :=
  True

def Pre_UpKIdeal (m : (ℓ : Loc Cert.UpKIdeal.nD Cert.UpKIdeal.τ Cert.UpKIdeal.sig) → Buf (Elt Ideal) ℓ) : Prop :=
  True

def Pre_UpRIdeal (m : (ℓ : Loc Cert.UpRIdeal.nD Cert.UpRIdeal.τ Cert.UpRIdeal.sig) → Buf (Elt Ideal) ℓ) : Prop :=
  True

def Pre_InK (m : (ℓ : Loc Cert.InK.nD Cert.InK.τ Cert.InK.sig) → Buf (Elt Bits) ℓ) : Prop :=
  True

def Pre_InKIdeal (m : (ℓ : Loc Cert.InKIdeal.nD Cert.InKIdeal.τ Cert.InKIdeal.sig) → Buf (Elt Ideal) ℓ) : Prop :=
  True

def Pre_InRIdeal (m : (ℓ : Loc Cert.InRIdeal.nD Cert.InRIdeal.τ Cert.InRIdeal.sig) → Buf (Elt Ideal) ℓ) : Prop :=
  True

def Pre_DownK (m : (ℓ : Loc Cert.DownK.nD Cert.DownK.τ Cert.DownK.sig) → Buf (Elt Bits) ℓ) : Prop :=
  True

def Pre_DownKIdeal (m : (ℓ : Loc Cert.DownKIdeal.nD Cert.DownKIdeal.τ Cert.DownKIdeal.sig) → Buf (Elt Ideal) ℓ) : Prop :=
  True

def Pre_DownRIdeal (m : (ℓ : Loc Cert.DownRIdeal.nD Cert.DownRIdeal.τ Cert.DownRIdeal.sig) → Buf (Elt Ideal) ℓ) : Prop :=
  True

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1)
      ∧ r.2.mem ((c.tc : Thread Cert.ConvK.nD Cert.ConvK.τ).loc Cert.ConvK.main_arg2) = m ((c.tc : Thread Cert.ConvK.nD Cert.ConvK.τ).loc Cert.ConvK.main_arg2))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2))
      ∧ r.2.sem = fun _ => 0)

def quiescent_ConvRIdeal [hConvRIdeal : Cert.ConvRIdeal.Facts] : Prop :=
  ∀ (m : (ℓ : Loc Cert.ConvRIdeal.nD Cert.ConvRIdeal.τ Cert.ConvRIdeal.sig) → Buf (Elt Ideal) ℓ) (g : Dev Cert.ConvRIdeal.nD → PrngReg), Pre_ConvRIdeal m →
    θ_run (Cert.ConvRIdeal.defs (F := Ideal)) (onTc (τ := Cert.ConvRIdeal.τ) (Cert.ConvRIdeal.main (F := Ideal))) ⟨m, fun _ => 0, g⟩ (fun r => (∀ c : Dev Cert.ConvRIdeal.nD,
      r.2.mem ((c.tc : Thread Cert.ConvRIdeal.nD Cert.ConvRIdeal.τ).loc Cert.ConvRIdeal.main_arg0) = m ((c.tc : Thread Cert.ConvRIdeal.nD Cert.ConvRIdeal.τ).loc Cert.ConvRIdeal.main_arg0)
      ∧ r.2.mem ((c.tc : Thread Cert.ConvRIdeal.nD Cert.ConvRIdeal.τ).loc Cert.ConvRIdeal.main_arg1) = m ((c.tc : Thread Cert.ConvRIdeal.nD Cert.ConvRIdeal.τ).loc Cert.ConvRIdeal.main_arg1)
      ∧ r.2.mem ((c.tc : Thread Cert.ConvRIdeal.nD Cert.ConvRIdeal.τ).loc Cert.ConvRIdeal.main_arg2) = m ((c.tc : Thread Cert.ConvRIdeal.nD Cert.ConvRIdeal.τ).loc Cert.ConvRIdeal.main_arg2))
      ∧ r.2.sem = fun _ => 0)

def quiescent_DuK [hDuK : Cert.DuK.Facts] : Prop :=
  ∀ (m : (ℓ : Loc Cert.DuK.nD Cert.DuK.τ Cert.DuK.sig) → Buf (Elt Bits) ℓ) (g : Dev Cert.DuK.nD → PrngReg), Pre_DuK m →
    θ_run (Cert.DuK.defs (F := Bits)) (onTc (τ := Cert.DuK.τ) (Cert.DuK.main (F := Bits))) ⟨m, fun _ => 0, g⟩ (fun r => (∀ c : Dev Cert.DuK.nD,
      r.2.mem ((c.tc : Thread Cert.DuK.nD Cert.DuK.τ).loc Cert.DuK.main_arg0) = m ((c.tc : Thread Cert.DuK.nD Cert.DuK.τ).loc Cert.DuK.main_arg0)
      ∧ r.2.mem ((c.tc : Thread Cert.DuK.nD Cert.DuK.τ).loc Cert.DuK.main_arg1) = m ((c.tc : Thread Cert.DuK.nD Cert.DuK.τ).loc Cert.DuK.main_arg1)
      ∧ r.2.mem ((c.tc : Thread Cert.DuK.nD Cert.DuK.τ).loc Cert.DuK.main_arg2) = m ((c.tc : Thread Cert.DuK.nD Cert.DuK.τ).loc Cert.DuK.main_arg2))
      ∧ r.2.sem = fun _ => 0)

def quiescent_DuKIdeal [hDuKIdeal : Cert.DuKIdeal.Facts] : Prop :=
  ∀ (m : (ℓ : Loc Cert.DuKIdeal.nD Cert.DuKIdeal.τ Cert.DuKIdeal.sig) → Buf (Elt Ideal) ℓ) (g : Dev Cert.DuKIdeal.nD → PrngReg), Pre_DuKIdeal m →
    θ_run (Cert.DuKIdeal.defs (F := Ideal)) (onTc (τ := Cert.DuKIdeal.τ) (Cert.DuKIdeal.main (F := Ideal))) ⟨m, fun _ => 0, g⟩ (fun r => (∀ c : Dev Cert.DuKIdeal.nD,
      r.2.mem ((c.tc : Thread Cert.DuKIdeal.nD Cert.DuKIdeal.τ).loc Cert.DuKIdeal.main_arg0) = m ((c.tc : Thread Cert.DuKIdeal.nD Cert.DuKIdeal.τ).loc Cert.DuKIdeal.main_arg0)
      ∧ r.2.mem ((c.tc : Thread Cert.DuKIdeal.nD Cert.DuKIdeal.τ).loc Cert.DuKIdeal.main_arg1) = m ((c.tc : Thread Cert.DuKIdeal.nD Cert.DuKIdeal.τ).loc Cert.DuKIdeal.main_arg1)
      ∧ r.2.mem ((c.tc : Thread Cert.DuKIdeal.nD Cert.DuKIdeal.τ).loc Cert.DuKIdeal.main_arg2) = m ((c.tc : Thread Cert.DuKIdeal.nD Cert.DuKIdeal.τ).loc Cert.DuKIdeal.main_arg2))
      ∧ r.2.sem = fun _ => 0)

def quiescent_DuRIdeal [hDuRIdeal : Cert.DuRIdeal.Facts] : Prop :=
  ∀ (m : (ℓ : Loc Cert.DuRIdeal.nD Cert.DuRIdeal.τ Cert.DuRIdeal.sig) → Buf (Elt Ideal) ℓ) (g : Dev Cert.DuRIdeal.nD → PrngReg), Pre_DuRIdeal m →
    θ_run (Cert.DuRIdeal.defs (F := Ideal)) (onTc (τ := Cert.DuRIdeal.τ) (Cert.DuRIdeal.main (F := Ideal))) ⟨m, fun _ => 0, g⟩ (fun r => (∀ c : Dev Cert.DuRIdeal.nD,
      r.2.mem ((c.tc : Thread Cert.DuRIdeal.nD Cert.DuRIdeal.τ).loc Cert.DuRIdeal.main_arg0) = m ((c.tc : Thread Cert.DuRIdeal.nD Cert.DuRIdeal.τ).loc Cert.DuRIdeal.main_arg0)
      ∧ r.2.mem ((c.tc : Thread Cert.DuRIdeal.nD Cert.DuRIdeal.τ).loc Cert.DuRIdeal.main_arg1) = m ((c.tc : Thread Cert.DuRIdeal.nD Cert.DuRIdeal.τ).loc Cert.DuRIdeal.main_arg1)
      ∧ r.2.mem ((c.tc : Thread Cert.DuRIdeal.nD Cert.DuRIdeal.τ).loc Cert.DuRIdeal.main_arg2) = m ((c.tc : Thread Cert.DuRIdeal.nD Cert.DuRIdeal.τ).loc Cert.DuRIdeal.main_arg2))
      ∧ r.2.sem = fun _ => 0)

def quiescent_AttK [hAttK : Cert.AttK.Facts] : Prop :=
  ∀ (m : (ℓ : Loc Cert.AttK.nD Cert.AttK.τ Cert.AttK.sig) → Buf (Elt Bits) ℓ) (g : Dev Cert.AttK.nD → PrngReg), Pre_AttK m →
    θ_run (Cert.AttK.defs (F := Bits)) (onTc (τ := Cert.AttK.τ) (Cert.AttK.main (F := Bits))) ⟨m, fun _ => 0, g⟩ (fun r => (∀ c : Dev Cert.AttK.nD,
      r.2.mem ((c.tc : Thread Cert.AttK.nD Cert.AttK.τ).loc Cert.AttK.main_arg0) = m ((c.tc : Thread Cert.AttK.nD Cert.AttK.τ).loc Cert.AttK.main_arg0)
      ∧ r.2.mem ((c.tc : Thread Cert.AttK.nD Cert.AttK.τ).loc Cert.AttK.main_arg1) = m ((c.tc : Thread Cert.AttK.nD Cert.AttK.τ).loc Cert.AttK.main_arg1)
      ∧ r.2.mem ((c.tc : Thread Cert.AttK.nD Cert.AttK.τ).loc Cert.AttK.main_arg2) = m ((c.tc : Thread Cert.AttK.nD Cert.AttK.τ).loc Cert.AttK.main_arg2)
      ∧ r.2.mem ((c.tc : Thread Cert.AttK.nD Cert.AttK.τ).loc Cert.AttK.main_arg3) = m ((c.tc : Thread Cert.AttK.nD Cert.AttK.τ).loc Cert.AttK.main_arg3)
      ∧ r.2.mem ((c.tc : Thread Cert.AttK.nD Cert.AttK.τ).loc Cert.AttK.main_arg4) = m ((c.tc : Thread Cert.AttK.nD Cert.AttK.τ).loc Cert.AttK.main_arg4))
      ∧ r.2.sem = fun _ => 0)

def quiescent_AttKIdeal [hAttKIdeal : Cert.AttKIdeal.Facts] : Prop :=
  ∀ (m : (ℓ : Loc Cert.AttKIdeal.nD Cert.AttKIdeal.τ Cert.AttKIdeal.sig) → Buf (Elt Ideal) ℓ) (g : Dev Cert.AttKIdeal.nD → PrngReg), Pre_AttKIdeal m →
    θ_run (Cert.AttKIdeal.defs (F := Ideal)) (onTc (τ := Cert.AttKIdeal.τ) (Cert.AttKIdeal.main (F := Ideal))) ⟨m, fun _ => 0, g⟩ (fun r => (∀ c : Dev Cert.AttKIdeal.nD,
      r.2.mem ((c.tc : Thread Cert.AttKIdeal.nD Cert.AttKIdeal.τ).loc Cert.AttKIdeal.main_arg0) = m ((c.tc : Thread Cert.AttKIdeal.nD Cert.AttKIdeal.τ).loc Cert.AttKIdeal.main_arg0)
      ∧ r.2.mem ((c.tc : Thread Cert.AttKIdeal.nD Cert.AttKIdeal.τ).loc Cert.AttKIdeal.main_arg1) = m ((c.tc : Thread Cert.AttKIdeal.nD Cert.AttKIdeal.τ).loc Cert.AttKIdeal.main_arg1)
      ∧ r.2.mem ((c.tc : Thread Cert.AttKIdeal.nD Cert.AttKIdeal.τ).loc Cert.AttKIdeal.main_arg2) = m ((c.tc : Thread Cert.AttKIdeal.nD Cert.AttKIdeal.τ).loc Cert.AttKIdeal.main_arg2)
      ∧ r.2.mem ((c.tc : Thread Cert.AttKIdeal.nD Cert.AttKIdeal.τ).loc Cert.AttKIdeal.main_arg3) = m ((c.tc : Thread Cert.AttKIdeal.nD Cert.AttKIdeal.τ).loc Cert.AttKIdeal.main_arg3)
      ∧ r.2.mem ((c.tc : Thread Cert.AttKIdeal.nD Cert.AttKIdeal.τ).loc Cert.AttKIdeal.main_arg4) = m ((c.tc : Thread Cert.AttKIdeal.nD Cert.AttKIdeal.τ).loc Cert.AttKIdeal.main_arg4))
      ∧ r.2.sem = fun _ => 0)

def quiescent_AttKIdeal_pre_attn_ok [hAttKIdeal : Cert.AttKIdeal.Facts] [hPre_attn_ok : Cert.Pre_attn_ok.Facts] : Prop :=
  ∀ (m : (ℓ : Loc Cert.AttKIdeal.nD Cert.AttKIdeal.τ Cert.AttKIdeal.sig) → Buf (Elt Ideal) ℓ) (g : Dev Cert.AttKIdeal.nD → PrngReg), Pre_AttKIdeal_attn_ok m →
    θ_run (Cert.AttKIdeal.defs (F := Ideal)) (onTc (τ := Cert.AttKIdeal.τ) (Cert.AttKIdeal.main (F := Ideal))) ⟨m, fun _ => 0, g⟩ (fun r => (∀ c : Dev Cert.AttKIdeal.nD,
      r.2.mem ((c.tc : Thread Cert.AttKIdeal.nD Cert.AttKIdeal.τ).loc Cert.AttKIdeal.main_arg0) = m ((c.tc : Thread Cert.AttKIdeal.nD Cert.AttKIdeal.τ).loc Cert.AttKIdeal.main_arg0)
      ∧ r.2.mem ((c.tc : Thread Cert.AttKIdeal.nD Cert.AttKIdeal.τ).loc Cert.AttKIdeal.main_arg1) = m ((c.tc : Thread Cert.AttKIdeal.nD Cert.AttKIdeal.τ).loc Cert.AttKIdeal.main_arg1)
      ∧ r.2.mem ((c.tc : Thread Cert.AttKIdeal.nD Cert.AttKIdeal.τ).loc Cert.AttKIdeal.main_arg2) = m ((c.tc : Thread Cert.AttKIdeal.nD Cert.AttKIdeal.τ).loc Cert.AttKIdeal.main_arg2)
      ∧ r.2.mem ((c.tc : Thread Cert.AttKIdeal.nD Cert.AttKIdeal.τ).loc Cert.AttKIdeal.main_arg3) = m ((c.tc : Thread Cert.AttKIdeal.nD Cert.AttKIdeal.τ).loc Cert.AttKIdeal.main_arg3)
      ∧ r.2.mem ((c.tc : Thread Cert.AttKIdeal.nD Cert.AttKIdeal.τ).loc Cert.AttKIdeal.main_arg4) = m ((c.tc : Thread Cert.AttKIdeal.nD Cert.AttKIdeal.τ).loc Cert.AttKIdeal.main_arg4))
      ∧ r.2.sem = fun _ => 0)

def quiescent_AttRIdeal [hAttRIdeal : Cert.AttRIdeal.Facts] : Prop :=
  ∀ (m : (ℓ : Loc Cert.AttRIdeal.nD Cert.AttRIdeal.τ Cert.AttRIdeal.sig) → Buf (Elt Ideal) ℓ) (g : Dev Cert.AttRIdeal.nD → PrngReg), Pre_AttRIdeal m →
    θ_run (Cert.AttRIdeal.defs (F := Ideal)) (onTc (τ := Cert.AttRIdeal.τ) (Cert.AttRIdeal.main (F := Ideal))) ⟨m, fun _ => 0, g⟩ (fun r => (∀ c : Dev Cert.AttRIdeal.nD,
      r.2.mem ((c.tc : Thread Cert.AttRIdeal.nD Cert.AttRIdeal.τ).loc Cert.AttRIdeal.main_arg0) = m ((c.tc : Thread Cert.AttRIdeal.nD Cert.AttRIdeal.τ).loc Cert.AttRIdeal.main_arg0)
      ∧ r.2.mem ((c.tc : Thread Cert.AttRIdeal.nD Cert.AttRIdeal.τ).loc Cert.AttRIdeal.main_arg1) = m ((c.tc : Thread Cert.AttRIdeal.nD Cert.AttRIdeal.τ).loc Cert.AttRIdeal.main_arg1)
      ∧ r.2.mem ((c.tc : Thread Cert.AttRIdeal.nD Cert.AttRIdeal.τ).loc Cert.AttRIdeal.main_arg2) = m ((c.tc : Thread Cert.AttRIdeal.nD Cert.AttRIdeal.τ).loc Cert.AttRIdeal.main_arg2)
      ∧ r.2.mem ((c.tc : Thread Cert.AttRIdeal.nD Cert.AttRIdeal.τ).loc Cert.AttRIdeal.main_arg3) = m ((c.tc : Thread Cert.AttRIdeal.nD Cert.AttRIdeal.τ).loc Cert.AttRIdeal.main_arg3)
      ∧ r.2.mem ((c.tc : Thread Cert.AttRIdeal.nD Cert.AttRIdeal.τ).loc Cert.AttRIdeal.main_arg4) = m ((c.tc : Thread Cert.AttRIdeal.nD Cert.AttRIdeal.τ).loc Cert.AttRIdeal.main_arg4))
      ∧ r.2.sem = fun _ => 0)

def quiescent_AttRIdeal_pre_attn_ok [hAttRIdeal : Cert.AttRIdeal.Facts] [hPre_attn_ok : Cert.Pre_attn_ok.Facts] : Prop :=
  ∀ (m : (ℓ : Loc Cert.AttRIdeal.nD Cert.AttRIdeal.τ Cert.AttRIdeal.sig) → Buf (Elt Ideal) ℓ) (g : Dev Cert.AttRIdeal.nD → PrngReg), Pre_AttRIdeal_attn_ok m →
    θ_run (Cert.AttRIdeal.defs (F := Ideal)) (onTc (τ := Cert.AttRIdeal.τ) (Cert.AttRIdeal.main (F := Ideal))) ⟨m, fun _ => 0, g⟩ (fun r => (∀ c : Dev Cert.AttRIdeal.nD,
      r.2.mem ((c.tc : Thread Cert.AttRIdeal.nD Cert.AttRIdeal.τ).loc Cert.AttRIdeal.main_arg0) = m ((c.tc : Thread Cert.AttRIdeal.nD Cert.AttRIdeal.τ).loc Cert.AttRIdeal.main_arg0)
      ∧ r.2.mem ((c.tc : Thread Cert.AttRIdeal.nD Cert.AttRIdeal.τ).loc Cert.AttRIdeal.main_arg1) = m ((c.tc : Thread Cert.AttRIdeal.nD Cert.AttRIdeal.τ).loc Cert.AttRIdeal.main_arg1)
      ∧ r.2.mem ((c.tc : Thread Cert.AttRIdeal.nD Cert.AttRIdeal.τ).loc Cert.AttRIdeal.main_arg2) = m ((c.tc : Thread Cert.AttRIdeal.nD Cert.AttRIdeal.τ).loc Cert.AttRIdeal.main_arg2)
      ∧ r.2.mem ((c.tc : Thread Cert.AttRIdeal.nD Cert.AttRIdeal.τ).loc Cert.AttRIdeal.main_arg3) = m ((c.tc : Thread Cert.AttRIdeal.nD Cert.AttRIdeal.τ).loc Cert.AttRIdeal.main_arg3)
      ∧ r.2.mem ((c.tc : Thread Cert.AttRIdeal.nD Cert.AttRIdeal.τ).loc Cert.AttRIdeal.main_arg4) = m ((c.tc : Thread Cert.AttRIdeal.nD Cert.AttRIdeal.τ).loc Cert.AttRIdeal.main_arg4))
      ∧ r.2.sem = fun _ => 0)

def quiescent_RmsK [hRmsK : Cert.RmsK.Facts] : Prop :=
  ∀ (m : (ℓ : Loc Cert.RmsK.nD Cert.RmsK.τ Cert.RmsK.sig) → Buf (Elt Bits) ℓ) (g : Dev Cert.RmsK.nD → PrngReg), Pre_RmsK m →
    θ_run (Cert.RmsK.defs (F := Bits)) (onTc (τ := Cert.RmsK.τ) (Cert.RmsK.main (F := Bits))) ⟨m, fun _ => 0, g⟩ (fun r => (∀ c : Dev Cert.RmsK.nD,
      r.2.mem ((c.tc : Thread Cert.RmsK.nD Cert.RmsK.τ).loc Cert.RmsK.main_arg0) = m ((c.tc : Thread Cert.RmsK.nD Cert.RmsK.τ).loc Cert.RmsK.main_arg0)
      ∧ r.2.mem ((c.tc : Thread Cert.RmsK.nD Cert.RmsK.τ).loc Cert.RmsK.main_arg1) = m ((c.tc : Thread Cert.RmsK.nD Cert.RmsK.τ).loc Cert.RmsK.main_arg1)
      ∧ r.2.mem ((c.tc : Thread Cert.RmsK.nD Cert.RmsK.τ).loc Cert.RmsK.main_arg2) = m ((c.tc : Thread Cert.RmsK.nD Cert.RmsK.τ).loc Cert.RmsK.main_arg2)
      ∧ r.2.mem ((c.tc : Thread Cert.RmsK.nD Cert.RmsK.τ).loc Cert.RmsK.main_arg3) = m ((c.tc : Thread Cert.RmsK.nD Cert.RmsK.τ).loc Cert.RmsK.main_arg3)
      ∧ r.2.mem ((c.tc : Thread Cert.RmsK.nD Cert.RmsK.τ).loc Cert.RmsK.main_arg4) = m ((c.tc : Thread Cert.RmsK.nD Cert.RmsK.τ).loc Cert.RmsK.main_arg4))
      ∧ r.2.sem = fun _ => 0)

def quiescent_RmsKIdeal [hRmsKIdeal : Cert.RmsKIdeal.Facts] : Prop :=
  ∀ (m : (ℓ : Loc Cert.RmsKIdeal.nD Cert.RmsKIdeal.τ Cert.RmsKIdeal.sig) → Buf (Elt Ideal) ℓ) (g : Dev Cert.RmsKIdeal.nD → PrngReg), Pre_RmsKIdeal m →
    θ_run (Cert.RmsKIdeal.defs (F := Ideal)) (onTc (τ := Cert.RmsKIdeal.τ) (Cert.RmsKIdeal.main (F := Ideal))) ⟨m, fun _ => 0, g⟩ (fun r => (∀ c : Dev Cert.RmsKIdeal.nD,
      r.2.mem ((c.tc : Thread Cert.RmsKIdeal.nD Cert.RmsKIdeal.τ).loc Cert.RmsKIdeal.main_arg0) = m ((c.tc : Thread Cert.RmsKIdeal.nD Cert.RmsKIdeal.τ).loc Cert.RmsKIdeal.main_arg0)
      ∧ r.2.mem ((c.tc : Thread Cert.RmsKIdeal.nD Cert.RmsKIdeal.τ).loc Cert.RmsKIdeal.main_arg1) = m ((c.tc : Thread Cert.RmsKIdeal.nD Cert.RmsKIdeal.τ).loc Cert.RmsKIdeal.main_arg1)
      ∧ r.2.mem ((c.tc : Thread Cert.RmsKIdeal.nD Cert.RmsKIdeal.τ).loc Cert.RmsKIdeal.main_arg2) = m ((c.tc : Thread Cert.RmsKIdeal.nD Cert.RmsKIdeal.τ).loc Cert.RmsKIdeal.main_arg2)
      ∧ r.2.mem ((c.tc : Thread Cert.RmsKIdeal.nD Cert.RmsKIdeal.τ).loc Cert.RmsKIdeal.main_arg3) = m ((c.tc : Thread Cert.RmsKIdeal.nD Cert.RmsKIdeal.τ).loc Cert.RmsKIdeal.main_arg3)
      ∧ r.2.mem ((c.tc : Thread Cert.RmsKIdeal.nD Cert.RmsKIdeal.τ).loc Cert.RmsKIdeal.main_arg4) = m ((c.tc : Thread Cert.RmsKIdeal.nD Cert.RmsKIdeal.τ).loc Cert.RmsKIdeal.main_arg4))
      ∧ r.2.sem = fun _ => 0)

def quiescent_RmsKIdeal_pre_rms_ok [hRmsKIdeal : Cert.RmsKIdeal.Facts] [hPre_rms_ok : Cert.Pre_rms_ok.Facts] : Prop :=
  ∀ (m : (ℓ : Loc Cert.RmsKIdeal.nD Cert.RmsKIdeal.τ Cert.RmsKIdeal.sig) → Buf (Elt Ideal) ℓ) (g : Dev Cert.RmsKIdeal.nD → PrngReg), Pre_RmsKIdeal_rms_ok m →
    θ_run (Cert.RmsKIdeal.defs (F := Ideal)) (onTc (τ := Cert.RmsKIdeal.τ) (Cert.RmsKIdeal.main (F := Ideal))) ⟨m, fun _ => 0, g⟩ (fun r => (∀ c : Dev Cert.RmsKIdeal.nD,
      r.2.mem ((c.tc : Thread Cert.RmsKIdeal.nD Cert.RmsKIdeal.τ).loc Cert.RmsKIdeal.main_arg0) = m ((c.tc : Thread Cert.RmsKIdeal.nD Cert.RmsKIdeal.τ).loc Cert.RmsKIdeal.main_arg0)
      ∧ r.2.mem ((c.tc : Thread Cert.RmsKIdeal.nD Cert.RmsKIdeal.τ).loc Cert.RmsKIdeal.main_arg1) = m ((c.tc : Thread Cert.RmsKIdeal.nD Cert.RmsKIdeal.τ).loc Cert.RmsKIdeal.main_arg1)
      ∧ r.2.mem ((c.tc : Thread Cert.RmsKIdeal.nD Cert.RmsKIdeal.τ).loc Cert.RmsKIdeal.main_arg2) = m ((c.tc : Thread Cert.RmsKIdeal.nD Cert.RmsKIdeal.τ).loc Cert.RmsKIdeal.main_arg2)
      ∧ r.2.mem ((c.tc : Thread Cert.RmsKIdeal.nD Cert.RmsKIdeal.τ).loc Cert.RmsKIdeal.main_arg3) = m ((c.tc : Thread Cert.RmsKIdeal.nD Cert.RmsKIdeal.τ).loc Cert.RmsKIdeal.main_arg3)
      ∧ r.2.mem ((c.tc : Thread Cert.RmsKIdeal.nD Cert.RmsKIdeal.τ).loc Cert.RmsKIdeal.main_arg4) = m ((c.tc : Thread Cert.RmsKIdeal.nD Cert.RmsKIdeal.τ).loc Cert.RmsKIdeal.main_arg4))
      ∧ r.2.sem = fun _ => 0)

def quiescent_RmsRIdeal [hRmsRIdeal : Cert.RmsRIdeal.Facts] : Prop :=
  ∀ (m : (ℓ : Loc Cert.RmsRIdeal.nD Cert.RmsRIdeal.τ Cert.RmsRIdeal.sig) → Buf (Elt Ideal) ℓ) (g : Dev Cert.RmsRIdeal.nD → PrngReg), Pre_RmsRIdeal m →
    θ_run (Cert.RmsRIdeal.defs (F := Ideal)) (onTc (τ := Cert.RmsRIdeal.τ) (Cert.RmsRIdeal.main (F := Ideal))) ⟨m, fun _ => 0, g⟩ (fun r => (∀ c : Dev Cert.RmsRIdeal.nD,
      r.2.mem ((c.tc : Thread Cert.RmsRIdeal.nD Cert.RmsRIdeal.τ).loc Cert.RmsRIdeal.main_arg0) = m ((c.tc : Thread Cert.RmsRIdeal.nD Cert.RmsRIdeal.τ).loc Cert.RmsRIdeal.main_arg0)
      ∧ r.2.mem ((c.tc : Thread Cert.RmsRIdeal.nD Cert.RmsRIdeal.τ).loc Cert.RmsRIdeal.main_arg1) = m ((c.tc : Thread Cert.RmsRIdeal.nD Cert.RmsRIdeal.τ).loc Cert.RmsRIdeal.main_arg1)
      ∧ r.2.mem ((c.tc : Thread Cert.RmsRIdeal.nD Cert.RmsRIdeal.τ).loc Cert.RmsRIdeal.main_arg2) = m ((c.tc : Thread Cert.RmsRIdeal.nD Cert.RmsRIdeal.τ).loc Cert.RmsRIdeal.main_arg2)
      ∧ r.2.mem ((c.tc : Thread Cert.RmsRIdeal.nD Cert.RmsRIdeal.τ).loc Cert.RmsRIdeal.main_arg3) = m ((c.tc : Thread Cert.RmsRIdeal.nD Cert.RmsRIdeal.τ).loc Cert.RmsRIdeal.main_arg3)
      ∧ r.2.mem ((c.tc : Thread Cert.RmsRIdeal.nD Cert.RmsRIdeal.τ).loc Cert.RmsRIdeal.main_arg4) = m ((c.tc : Thread Cert.RmsRIdeal.nD Cert.RmsRIdeal.τ).loc Cert.RmsRIdeal.main_arg4))
      ∧ r.2.sem = fun _ => 0)

def quiescent_RmsRIdeal_pre_rms_ok [hRmsRIdeal : Cert.RmsRIdeal.Facts] [hPre_rms_ok : Cert.Pre_rms_ok.Facts] : Prop :=
  ∀ (m : (ℓ : Loc Cert.RmsRIdeal.nD Cert.RmsRIdeal.τ Cert.RmsRIdeal.sig) → Buf (Elt Ideal) ℓ) (g : Dev Cert.RmsRIdeal.nD → PrngReg), Pre_RmsRIdeal_rms_ok m →
    θ_run (Cert.RmsRIdeal.defs (F := Ideal)) (onTc (τ := Cert.RmsRIdeal.τ) (Cert.RmsRIdeal.main (F := Ideal))) ⟨m, fun _ => 0, g⟩ (fun r => (∀ c : Dev Cert.RmsRIdeal.nD,
      r.2.mem ((c.tc : Thread Cert.RmsRIdeal.nD Cert.RmsRIdeal.τ).loc Cert.RmsRIdeal.main_arg0) = m ((c.tc : Thread Cert.RmsRIdeal.nD Cert.RmsRIdeal.τ).loc Cert.RmsRIdeal.main_arg0)
      ∧ r.2.mem ((c.tc : Thread Cert.RmsRIdeal.nD Cert.RmsRIdeal.τ).loc Cert.RmsRIdeal.main_arg1) = m ((c.tc : Thread Cert.RmsRIdeal.nD Cert.RmsRIdeal.τ).loc Cert.RmsRIdeal.main_arg1)
      ∧ r.2.mem ((c.tc : Thread Cert.RmsRIdeal.nD Cert.RmsRIdeal.τ).loc Cert.RmsRIdeal.main_arg2) = m ((c.tc : Thread Cert.RmsRIdeal.nD Cert.RmsRIdeal.τ).loc Cert.RmsRIdeal.main_arg2)
      ∧ r.2.mem ((c.tc : Thread Cert.RmsRIdeal.nD Cert.RmsRIdeal.τ).loc Cert.RmsRIdeal.main_arg3) = m ((c.tc : Thread Cert.RmsRIdeal.nD Cert.RmsRIdeal.τ).loc Cert.RmsRIdeal.main_arg3)
      ∧ r.2.mem ((c.tc : Thread Cert.RmsRIdeal.nD Cert.RmsRIdeal.τ).loc Cert.RmsRIdeal.main_arg4) = m ((c.tc : Thread Cert.RmsRIdeal.nD Cert.RmsRIdeal.τ).loc Cert.RmsRIdeal.main_arg4))
      ∧ r.2.sem = fun _ => 0)

def quiescent_RmsCK [hRmsCK : Cert.RmsCK.Facts] : Prop :=
  ∀ (m : (ℓ : Loc Cert.RmsCK.nD Cert.RmsCK.τ Cert.RmsCK.sig) → Buf (Elt Bits) ℓ) (g : Dev Cert.RmsCK.nD → PrngReg), Pre_RmsCK m →
    θ_run (Cert.RmsCK.defs (F := Bits)) (onTc (τ := Cert.RmsCK.τ) (Cert.RmsCK.main (F := Bits))) ⟨m, fun _ => 0, g⟩ (fun r => (∀ c : Dev Cert.RmsCK.nD,
      r.2.mem ((c.tc : Thread Cert.RmsCK.nD Cert.RmsCK.τ).loc Cert.RmsCK.main_arg0) = m ((c.tc : Thread Cert.RmsCK.nD Cert.RmsCK.τ).loc Cert.RmsCK.main_arg0)
      ∧ r.2.mem ((c.tc : Thread Cert.RmsCK.nD Cert.RmsCK.τ).loc Cert.RmsCK.main_arg1) = m ((c.tc : Thread Cert.RmsCK.nD Cert.RmsCK.τ).loc Cert.RmsCK.main_arg1)
      ∧ r.2.mem ((c.tc : Thread Cert.RmsCK.nD Cert.RmsCK.τ).loc Cert.RmsCK.main_arg2) = m ((c.tc : Thread Cert.RmsCK.nD Cert.RmsCK.τ).loc Cert.RmsCK.main_arg2)
      ∧ r.2.mem ((c.tc : Thread Cert.RmsCK.nD Cert.RmsCK.τ).loc Cert.RmsCK.main_arg3) = m ((c.tc : Thread Cert.RmsCK.nD Cert.RmsCK.τ).loc Cert.RmsCK.main_arg3)
      ∧ r.2.mem ((c.tc : Thread Cert.RmsCK.nD Cert.RmsCK.τ).loc Cert.RmsCK.main_arg4) = m ((c.tc : Thread Cert.RmsCK.nD Cert.RmsCK.τ).loc Cert.RmsCK.main_arg4))
      ∧ r.2.sem = fun _ => 0)

def quiescent_RmsCKIdeal [hRmsCKIdeal : Cert.RmsCKIdeal.Facts] : Prop :=
  ∀ (m : (ℓ : Loc Cert.RmsCKIdeal.nD Cert.RmsCKIdeal.τ Cert.RmsCKIdeal.sig) → Buf (Elt Ideal) ℓ) (g : Dev Cert.RmsCKIdeal.nD → PrngReg), Pre_RmsCKIdeal m →
    θ_run (Cert.RmsCKIdeal.defs (F := Ideal)) (onTc (τ := Cert.RmsCKIdeal.τ) (Cert.RmsCKIdeal.main (F := Ideal))) ⟨m, fun _ => 0, g⟩ (fun r => (∀ c : Dev Cert.RmsCKIdeal.nD,
      r.2.mem ((c.tc : Thread Cert.RmsCKIdeal.nD Cert.RmsCKIdeal.τ).loc Cert.RmsCKIdeal.main_arg0) = m ((c.tc : Thread Cert.RmsCKIdeal.nD Cert.RmsCKIdeal.τ).loc Cert.RmsCKIdeal.main_arg0)
      ∧ r.2.mem ((c.tc : Thread Cert.RmsCKIdeal.nD Cert.RmsCKIdeal.τ).loc Cert.RmsCKIdeal.main_arg1) = m ((c.tc : Thread Cert.RmsCKIdeal.nD Cert.RmsCKIdeal.τ).loc Cert.RmsCKIdeal.main_arg1)
      ∧ r.2.mem ((c.tc : Thread Cert.RmsCKIdeal.nD Cert.RmsCKIdeal.τ).loc Cert.RmsCKIdeal.main_arg2) = m ((c.tc : Thread Cert.RmsCKIdeal.nD Cert.RmsCKIdeal.τ).loc Cert.RmsCKIdeal.main_arg2)
      ∧ r.2.mem ((c.tc : Thread Cert.RmsCKIdeal.nD Cert.RmsCKIdeal.τ).loc Cert.RmsCKIdeal.main_arg3) = m ((c.tc : Thread Cert.RmsCKIdeal.nD Cert.RmsCKIdeal.τ).loc Cert.RmsCKIdeal.main_arg3)
      ∧ r.2.mem ((c.tc : Thread Cert.RmsCKIdeal.nD Cert.RmsCKIdeal.τ).loc Cert.RmsCKIdeal.main_arg4) = m ((c.tc : Thread Cert.RmsCKIdeal.nD Cert.RmsCKIdeal.τ).loc Cert.RmsCKIdeal.main_arg4))
      ∧ r.2.sem = fun _ => 0)

def quiescent_RmsCKIdeal_pre_rms_ok_conv [hRmsCKIdeal : Cert.RmsCKIdeal.Facts] [hPre_rms_ok_conv : Cert.Pre_rms_ok_conv.Facts] : Prop :=
  ∀ (m : (ℓ : Loc Cert.RmsCKIdeal.nD Cert.RmsCKIdeal.τ Cert.RmsCKIdeal.sig) → Buf (Elt Ideal) ℓ) (g : Dev Cert.RmsCKIdeal.nD → PrngReg), Pre_RmsCKIdeal_rms_ok_conv m →
    θ_run (Cert.RmsCKIdeal.defs (F := Ideal)) (onTc (τ := Cert.RmsCKIdeal.τ) (Cert.RmsCKIdeal.main (F := Ideal))) ⟨m, fun _ => 0, g⟩ (fun r => (∀ c : Dev Cert.RmsCKIdeal.nD,
      r.2.mem ((c.tc : Thread Cert.RmsCKIdeal.nD Cert.RmsCKIdeal.τ).loc Cert.RmsCKIdeal.main_arg0) = m ((c.tc : Thread Cert.RmsCKIdeal.nD Cert.RmsCKIdeal.τ).loc Cert.RmsCKIdeal.main_arg0)
      ∧ r.2.mem ((c.tc : Thread Cert.RmsCKIdeal.nD Cert.RmsCKIdeal.τ).loc Cert.RmsCKIdeal.main_arg1) = m ((c.tc : Thread Cert.RmsCKIdeal.nD Cert.RmsCKIdeal.τ).loc Cert.RmsCKIdeal.main_arg1)
      ∧ r.2.mem ((c.tc : Thread Cert.RmsCKIdeal.nD Cert.RmsCKIdeal.τ).loc Cert.RmsCKIdeal.main_arg2) = m ((c.tc : Thread Cert.RmsCKIdeal.nD Cert.RmsCKIdeal.τ).loc Cert.RmsCKIdeal.main_arg2)
      ∧ r.2.mem ((c.tc : Thread Cert.RmsCKIdeal.nD Cert.RmsCKIdeal.τ).loc Cert.RmsCKIdeal.main_arg3) = m ((c.tc : Thread Cert.RmsCKIdeal.nD Cert.RmsCKIdeal.τ).loc Cert.RmsCKIdeal.main_arg3)
      ∧ r.2.mem ((c.tc : Thread Cert.RmsCKIdeal.nD Cert.RmsCKIdeal.τ).loc Cert.RmsCKIdeal.main_arg4) = m ((c.tc : Thread Cert.RmsCKIdeal.nD Cert.RmsCKIdeal.τ).loc Cert.RmsCKIdeal.main_arg4))
      ∧ r.2.sem = fun _ => 0)

def quiescent_RmsCRIdeal [hRmsCRIdeal : Cert.RmsCRIdeal.Facts] : Prop :=
  ∀ (m : (ℓ : Loc Cert.RmsCRIdeal.nD Cert.RmsCRIdeal.τ Cert.RmsCRIdeal.sig) → Buf (Elt Ideal) ℓ) (g : Dev Cert.RmsCRIdeal.nD → PrngReg), Pre_RmsCRIdeal m →
    θ_run (Cert.RmsCRIdeal.defs (F := Ideal)) (onTc (τ := Cert.RmsCRIdeal.τ) (Cert.RmsCRIdeal.main (F := Ideal))) ⟨m, fun _ => 0, g⟩ (fun r => (∀ c : Dev Cert.RmsCRIdeal.nD,
      r.2.mem ((c.tc : Thread Cert.RmsCRIdeal.nD Cert.RmsCRIdeal.τ).loc Cert.RmsCRIdeal.main_arg0) = m ((c.tc : Thread Cert.RmsCRIdeal.nD Cert.RmsCRIdeal.τ).loc Cert.RmsCRIdeal.main_arg0)
      ∧ r.2.mem ((c.tc : Thread Cert.RmsCRIdeal.nD Cert.RmsCRIdeal.τ).loc Cert.RmsCRIdeal.main_arg1) = m ((c.tc : Thread Cert.RmsCRIdeal.nD Cert.RmsCRIdeal.τ).loc Cert.RmsCRIdeal.main_arg1)
      ∧ r.2.mem ((c.tc : Thread Cert.RmsCRIdeal.nD Cert.RmsCRIdeal.τ).loc Cert.RmsCRIdeal.main_arg2) = m ((c.tc : Thread Cert.RmsCRIdeal.nD Cert.RmsCRIdeal.τ).loc Cert.RmsCRIdeal.main_arg2)
      ∧ r.2.mem ((c.tc : Thread Cert.RmsCRIdeal.nD Cert.RmsCRIdeal.τ).loc Cert.RmsCRIdeal.main_arg3) = m ((c.tc : Thread Cert.RmsCRIdeal.nD Cert.RmsCRIdeal.τ).loc Cert.RmsCRIdeal.main_arg3)
      ∧ r.2.mem ((c.tc : Thread Cert.RmsCRIdeal.nD Cert.RmsCRIdeal.τ).loc Cert.RmsCRIdeal.main_arg4) = m ((c.tc : Thread Cert.RmsCRIdeal.nD Cert.RmsCRIdeal.τ).loc Cert.RmsCRIdeal.main_arg4))
      ∧ r.2.sem = fun _ => 0)

def quiescent_RmsCRIdeal_pre_rms_ok_conv [hRmsCRIdeal : Cert.RmsCRIdeal.Facts] [hPre_rms_ok_conv : Cert.Pre_rms_ok_conv.Facts] : Prop :=
  ∀ (m : (ℓ : Loc Cert.RmsCRIdeal.nD Cert.RmsCRIdeal.τ Cert.RmsCRIdeal.sig) → Buf (Elt Ideal) ℓ) (g : Dev Cert.RmsCRIdeal.nD → PrngReg), Pre_RmsCRIdeal_rms_ok_conv m →
    θ_run (Cert.RmsCRIdeal.defs (F := Ideal)) (onTc (τ := Cert.RmsCRIdeal.τ) (Cert.RmsCRIdeal.main (F := Ideal))) ⟨m, fun _ => 0, g⟩ (fun r => (∀ c : Dev Cert.RmsCRIdeal.nD,
      r.2.mem ((c.tc : Thread Cert.RmsCRIdeal.nD Cert.RmsCRIdeal.τ).loc Cert.RmsCRIdeal.main_arg0) = m ((c.tc : Thread Cert.RmsCRIdeal.nD Cert.RmsCRIdeal.τ).loc Cert.RmsCRIdeal.main_arg0)
      ∧ r.2.mem ((c.tc : Thread Cert.RmsCRIdeal.nD Cert.RmsCRIdeal.τ).loc Cert.RmsCRIdeal.main_arg1) = m ((c.tc : Thread Cert.RmsCRIdeal.nD Cert.RmsCRIdeal.τ).loc Cert.RmsCRIdeal.main_arg1)
      ∧ r.2.mem ((c.tc : Thread Cert.RmsCRIdeal.nD Cert.RmsCRIdeal.τ).loc Cert.RmsCRIdeal.main_arg2) = m ((c.tc : Thread Cert.RmsCRIdeal.nD Cert.RmsCRIdeal.τ).loc Cert.RmsCRIdeal.main_arg2)
      ∧ r.2.mem ((c.tc : Thread Cert.RmsCRIdeal.nD Cert.RmsCRIdeal.τ).loc Cert.RmsCRIdeal.main_arg3) = m ((c.tc : Thread Cert.RmsCRIdeal.nD Cert.RmsCRIdeal.τ).loc Cert.RmsCRIdeal.main_arg3)
      ∧ r.2.mem ((c.tc : Thread Cert.RmsCRIdeal.nD Cert.RmsCRIdeal.τ).loc Cert.RmsCRIdeal.main_arg4) = m ((c.tc : Thread Cert.RmsCRIdeal.nD Cert.RmsCRIdeal.τ).loc Cert.RmsCRIdeal.main_arg4))
      ∧ r.2.sem = fun _ => 0)

def quiescent_RmsDK [hRmsDK : Cert.RmsDK.Facts] : Prop :=
  ∀ (m : (ℓ : Loc Cert.RmsDK.nD Cert.RmsDK.τ Cert.RmsDK.sig) → Buf (Elt Bits) ℓ) (g : Dev Cert.RmsDK.nD → PrngReg), Pre_RmsDK m →
    θ_run (Cert.RmsDK.defs (F := Bits)) (onTc (τ := Cert.RmsDK.τ) (Cert.RmsDK.main (F := Bits))) ⟨m, fun _ => 0, g⟩ (fun r => (∀ c : Dev Cert.RmsDK.nD,
      r.2.mem ((c.tc : Thread Cert.RmsDK.nD Cert.RmsDK.τ).loc Cert.RmsDK.main_arg0) = m ((c.tc : Thread Cert.RmsDK.nD Cert.RmsDK.τ).loc Cert.RmsDK.main_arg0)
      ∧ r.2.mem ((c.tc : Thread Cert.RmsDK.nD Cert.RmsDK.τ).loc Cert.RmsDK.main_arg1) = m ((c.tc : Thread Cert.RmsDK.nD Cert.RmsDK.τ).loc Cert.RmsDK.main_arg1)
      ∧ r.2.mem ((c.tc : Thread Cert.RmsDK.nD Cert.RmsDK.τ).loc Cert.RmsDK.main_arg2) = m ((c.tc : Thread Cert.RmsDK.nD Cert.RmsDK.τ).loc Cert.RmsDK.main_arg2)
      ∧ r.2.mem ((c.tc : Thread Cert.RmsDK.nD Cert.RmsDK.τ).loc Cert.RmsDK.main_arg3) = m ((c.tc : Thread Cert.RmsDK.nD Cert.RmsDK.τ).loc Cert.RmsDK.main_arg3)
      ∧ r.2.mem ((c.tc : Thread Cert.RmsDK.nD Cert.RmsDK.τ).loc Cert.RmsDK.main_arg4) = m ((c.tc : Thread Cert.RmsDK.nD Cert.RmsDK.τ).loc Cert.RmsDK.main_arg4))
      ∧ r.2.sem = fun _ => 0)

def quiescent_RmsDKIdeal [hRmsDKIdeal : Cert.RmsDKIdeal.Facts] : Prop :=
  ∀ (m : (ℓ : Loc Cert.RmsDKIdeal.nD Cert.RmsDKIdeal.τ Cert.RmsDKIdeal.sig) → Buf (Elt Ideal) ℓ) (g : Dev Cert.RmsDKIdeal.nD → PrngReg), Pre_RmsDKIdeal m →
    θ_run (Cert.RmsDKIdeal.defs (F := Ideal)) (onTc (τ := Cert.RmsDKIdeal.τ) (Cert.RmsDKIdeal.main (F := Ideal))) ⟨m, fun _ => 0, g⟩ (fun r => (∀ c : Dev Cert.RmsDKIdeal.nD,
      r.2.mem ((c.tc : Thread Cert.RmsDKIdeal.nD Cert.RmsDKIdeal.τ).loc Cert.RmsDKIdeal.main_arg0) = m ((c.tc : Thread Cert.RmsDKIdeal.nD Cert.RmsDKIdeal.τ).loc Cert.RmsDKIdeal.main_arg0)
      ∧ r.2.mem ((c.tc : Thread Cert.RmsDKIdeal.nD Cert.RmsDKIdeal.τ).loc Cert.RmsDKIdeal.main_arg1) = m ((c.tc : Thread Cert.RmsDKIdeal.nD Cert.RmsDKIdeal.τ).loc Cert.RmsDKIdeal.main_arg1)
      ∧ r.2.mem ((c.tc : Thread Cert.RmsDKIdeal.nD Cert.RmsDKIdeal.τ).loc Cert.RmsDKIdeal.main_arg2) = m ((c.tc : Thread Cert.RmsDKIdeal.nD Cert.RmsDKIdeal.τ).loc Cert.RmsDKIdeal.main_arg2)
      ∧ r.2.mem ((c.tc : Thread Cert.RmsDKIdeal.nD Cert.RmsDKIdeal.τ).loc Cert.RmsDKIdeal.main_arg3) = m ((c.tc : Thread Cert.RmsDKIdeal.nD Cert.RmsDKIdeal.τ).loc Cert.RmsDKIdeal.main_arg3)
      ∧ r.2.mem ((c.tc : Thread Cert.RmsDKIdeal.nD Cert.RmsDKIdeal.τ).loc Cert.RmsDKIdeal.main_arg4) = m ((c.tc : Thread Cert.RmsDKIdeal.nD Cert.RmsDKIdeal.τ).loc Cert.RmsDKIdeal.main_arg4))
      ∧ r.2.sem = fun _ => 0)

def quiescent_RmsDKIdeal_pre_rms_ok_down [hRmsDKIdeal : Cert.RmsDKIdeal.Facts] [hPre_rms_ok_down : Cert.Pre_rms_ok_down.Facts] : Prop :=
  ∀ (m : (ℓ : Loc Cert.RmsDKIdeal.nD Cert.RmsDKIdeal.τ Cert.RmsDKIdeal.sig) → Buf (Elt Ideal) ℓ) (g : Dev Cert.RmsDKIdeal.nD → PrngReg), Pre_RmsDKIdeal_rms_ok_down m →
    θ_run (Cert.RmsDKIdeal.defs (F := Ideal)) (onTc (τ := Cert.RmsDKIdeal.τ) (Cert.RmsDKIdeal.main (F := Ideal))) ⟨m, fun _ => 0, g⟩ (fun r => (∀ c : Dev Cert.RmsDKIdeal.nD,
      r.2.mem ((c.tc : Thread Cert.RmsDKIdeal.nD Cert.RmsDKIdeal.τ).loc Cert.RmsDKIdeal.main_arg0) = m ((c.tc : Thread Cert.RmsDKIdeal.nD Cert.RmsDKIdeal.τ).loc Cert.RmsDKIdeal.main_arg0)
      ∧ r.2.mem ((c.tc : Thread Cert.RmsDKIdeal.nD Cert.RmsDKIdeal.τ).loc Cert.RmsDKIdeal.main_arg1) = m ((c.tc : Thread Cert.RmsDKIdeal.nD Cert.RmsDKIdeal.τ).loc Cert.RmsDKIdeal.main_arg1)
      ∧ r.2.mem ((c.tc : Thread Cert.RmsDKIdeal.nD Cert.RmsDKIdeal.τ).loc Cert.RmsDKIdeal.main_arg2) = m ((c.tc : Thread Cert.RmsDKIdeal.nD Cert.RmsDKIdeal.τ).loc Cert.RmsDKIdeal.main_arg2)
      ∧ r.2.mem ((c.tc : Thread Cert.RmsDKIdeal.nD Cert.RmsDKIdeal.τ).loc Cert.RmsDKIdeal.main_arg3) = m ((c.tc : Thread Cert.RmsDKIdeal.nD Cert.RmsDKIdeal.τ).loc Cert.RmsDKIdeal.main_arg3)
      ∧ r.2.mem ((c.tc : Thread Cert.RmsDKIdeal.nD Cert.RmsDKIdeal.τ).loc Cert.RmsDKIdeal.main_arg4) = m ((c.tc : Thread Cert.RmsDKIdeal.nD Cert.RmsDKIdeal.τ).loc Cert.RmsDKIdeal.main_arg4))
      ∧ r.2.sem = fun _ => 0)

def quiescent_RmsDRIdeal [hRmsDRIdeal : Cert.RmsDRIdeal.Facts] : Prop :=
  ∀ (m : (ℓ : Loc Cert.RmsDRIdeal.nD Cert.RmsDRIdeal.τ Cert.RmsDRIdeal.sig) → Buf (Elt Ideal) ℓ) (g : Dev Cert.RmsDRIdeal.nD → PrngReg), Pre_RmsDRIdeal m →
    θ_run (Cert.RmsDRIdeal.defs (F := Ideal)) (onTc (τ := Cert.RmsDRIdeal.τ) (Cert.RmsDRIdeal.main (F := Ideal))) ⟨m, fun _ => 0, g⟩ (fun r => (∀ c : Dev Cert.RmsDRIdeal.nD,
      r.2.mem ((c.tc : Thread Cert.RmsDRIdeal.nD Cert.RmsDRIdeal.τ).loc Cert.RmsDRIdeal.main_arg0) = m ((c.tc : Thread Cert.RmsDRIdeal.nD Cert.RmsDRIdeal.τ).loc Cert.RmsDRIdeal.main_arg0)
      ∧ r.2.mem ((c.tc : Thread Cert.RmsDRIdeal.nD Cert.RmsDRIdeal.τ).loc Cert.RmsDRIdeal.main_arg1) = m ((c.tc : Thread Cert.RmsDRIdeal.nD Cert.RmsDRIdeal.τ).loc Cert.RmsDRIdeal.main_arg1)
      ∧ r.2.mem ((c.tc : Thread Cert.RmsDRIdeal.nD Cert.RmsDRIdeal.τ).loc Cert.RmsDRIdeal.main_arg2) = m ((c.tc : Thread Cert.RmsDRIdeal.nD Cert.RmsDRIdeal.τ).loc Cert.RmsDRIdeal.main_arg2)
      ∧ r.2.mem ((c.tc : Thread Cert.RmsDRIdeal.nD Cert.RmsDRIdeal.τ).loc Cert.RmsDRIdeal.main_arg3) = m ((c.tc : Thread Cert.RmsDRIdeal.nD Cert.RmsDRIdeal.τ).loc Cert.RmsDRIdeal.main_arg3)
      ∧ r.2.mem ((c.tc : Thread Cert.RmsDRIdeal.nD Cert.RmsDRIdeal.τ).loc Cert.RmsDRIdeal.main_arg4) = m ((c.tc : Thread Cert.RmsDRIdeal.nD Cert.RmsDRIdeal.τ).loc Cert.RmsDRIdeal.main_arg4))
      ∧ r.2.sem = fun _ => 0)

def quiescent_RmsDRIdeal_pre_rms_ok_down [hRmsDRIdeal : Cert.RmsDRIdeal.Facts] [hPre_rms_ok_down : Cert.Pre_rms_ok_down.Facts] : Prop :=
  ∀ (m : (ℓ : Loc Cert.RmsDRIdeal.nD Cert.RmsDRIdeal.τ Cert.RmsDRIdeal.sig) → Buf (Elt Ideal) ℓ) (g : Dev Cert.RmsDRIdeal.nD → PrngReg), Pre_RmsDRIdeal_rms_ok_down m →
    θ_run (Cert.RmsDRIdeal.defs (F := Ideal)) (onTc (τ := Cert.RmsDRIdeal.τ) (Cert.RmsDRIdeal.main (F := Ideal))) ⟨m, fun _ => 0, g⟩ (fun r => (∀ c : Dev Cert.RmsDRIdeal.nD,
      r.2.mem ((c.tc : Thread Cert.RmsDRIdeal.nD Cert.RmsDRIdeal.τ).loc Cert.RmsDRIdeal.main_arg0) = m ((c.tc : Thread Cert.RmsDRIdeal.nD Cert.RmsDRIdeal.τ).loc Cert.RmsDRIdeal.main_arg0)
      ∧ r.2.mem ((c.tc : Thread Cert.RmsDRIdeal.nD Cert.RmsDRIdeal.τ).loc Cert.RmsDRIdeal.main_arg1) = m ((c.tc : Thread Cert.RmsDRIdeal.nD Cert.RmsDRIdeal.τ).loc Cert.RmsDRIdeal.main_arg1)
      ∧ r.2.mem ((c.tc : Thread Cert.RmsDRIdeal.nD Cert.RmsDRIdeal.τ).loc Cert.RmsDRIdeal.main_arg2) = m ((c.tc : Thread Cert.RmsDRIdeal.nD Cert.RmsDRIdeal.τ).loc Cert.RmsDRIdeal.main_arg2)
      ∧ r.2.mem ((c.tc : Thread Cert.RmsDRIdeal.nD Cert.RmsDRIdeal.τ).loc Cert.RmsDRIdeal.main_arg3) = m ((c.tc : Thread Cert.RmsDRIdeal.nD Cert.RmsDRIdeal.τ).loc Cert.RmsDRIdeal.main_arg3)
      ∧ r.2.mem ((c.tc : Thread Cert.RmsDRIdeal.nD Cert.RmsDRIdeal.τ).loc Cert.RmsDRIdeal.main_arg4) = m ((c.tc : Thread Cert.RmsDRIdeal.nD Cert.RmsDRIdeal.τ).loc Cert.RmsDRIdeal.main_arg4))
      ∧ r.2.sem = fun _ => 0)

def quiescent_LossK [hLossK : Cert.LossK.Facts] : Prop :=
  ∀ (m : (ℓ : Loc Cert.LossK.nD Cert.LossK.τ Cert.LossK.sig) → Buf (Elt Bits) ℓ) (g : Dev Cert.LossK.nD → PrngReg), Pre_LossK m →
    θ_run (Cert.LossK.defs (F := Bits)) (onTc (τ := Cert.LossK.τ) (Cert.LossK.main (F := Bits))) ⟨m, fun _ => 0, g⟩ (fun r => (∀ c : Dev Cert.LossK.nD,
      r.2.mem ((c.tc : Thread Cert.LossK.nD Cert.LossK.τ).loc Cert.LossK.main_arg0) = m ((c.tc : Thread Cert.LossK.nD Cert.LossK.τ).loc Cert.LossK.main_arg0)
      ∧ r.2.mem ((c.tc : Thread Cert.LossK.nD Cert.LossK.τ).loc Cert.LossK.main_arg1) = m ((c.tc : Thread Cert.LossK.nD Cert.LossK.τ).loc Cert.LossK.main_arg1)
      ∧ r.2.mem ((c.tc : Thread Cert.LossK.nD Cert.LossK.τ).loc Cert.LossK.main_arg2) = m ((c.tc : Thread Cert.LossK.nD Cert.LossK.τ).loc Cert.LossK.main_arg2)
      ∧ r.2.mem ((c.tc : Thread Cert.LossK.nD Cert.LossK.τ).loc Cert.LossK.main_arg3) = m ((c.tc : Thread Cert.LossK.nD Cert.LossK.τ).loc Cert.LossK.main_arg3))
      ∧ r.2.sem = fun _ => 0)

def quiescent_LossKIdeal [hLossKIdeal : Cert.LossKIdeal.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
      ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2)
      ∧ r.2.mem ((c.tc : Thread Cert.LossRIdeal.nD Cert.LossRIdeal.τ).loc Cert.LossRIdeal.main_arg3) = m ((c.tc : Thread Cert.LossRIdeal.nD Cert.LossRIdeal.τ).loc Cert.LossRIdeal.main_arg3))
      ∧ r.2.sem = fun _ => 0)

def quiescent_DeltaK [hDeltaK : Cert.DeltaK.Facts] : Prop :=
  ∀ (m : (ℓ : Loc Cert.DeltaK.nD Cert.DeltaK.τ Cert.DeltaK.sig) → Buf (Elt Bits) ℓ) (g : Dev Cert.DeltaK.nD → PrngReg), Pre_DeltaK m →
    θ_run (Cert.DeltaK.defs (F := Bits)) (onTc (τ := Cert.DeltaK.τ) (Cert.DeltaK.main (F := Bits))) ⟨m, fun _ => 0, g⟩ (fun r => (∀ c : Dev Cert.DeltaK.nD,
      r.2.mem ((c.tc : Thread Cert.DeltaK.nD Cert.DeltaK.τ).loc Cert.DeltaK.main_arg0) = m ((c.tc : Thread Cert.DeltaK.nD Cert.DeltaK.τ).loc Cert.DeltaK.main_arg0)
      ∧ r.2.mem ((c.tc : Thread Cert.DeltaK.nD Cert.DeltaK.τ).loc Cert.DeltaK.main_arg1) = m ((c.tc : Thread Cert.DeltaK.nD Cert.DeltaK.τ).loc Cert.DeltaK.main_arg1)
      ∧ r.2.mem ((c.tc : Thread Cert.DeltaK.nD Cert.DeltaK.τ).loc Cert.DeltaK.main_arg2) = m ((c.tc : Thread Cert.DeltaK.nD Cert.DeltaK.τ).loc Cert.DeltaK.main_arg2))
      ∧ r.2.sem = fun _ => 0)

def quiescent_DeltaKIdeal [hDeltaKIdeal : Cert.DeltaKIdeal.Facts] : Prop :=
  ∀ (m : (ℓ : Loc Cert.DeltaKIdeal.nD Cert.DeltaKIdeal.τ Cert.DeltaKIdeal.sig) → Buf (Elt Ideal) ℓ) (g : Dev Cert.DeltaKIdeal.nD → PrngReg), Pre_DeltaKIdeal m →
    θ_run (Cert.DeltaKIdeal.defs (F := Ideal)) (onTc (τ := Cert.DeltaKIdeal.τ) (Cert.DeltaKIdeal.main (F := Ideal))) ⟨m, fun _ => 0, g⟩ (fun r => (∀ c : Dev Cert.DeltaKIdeal.nD,
      r.2.mem ((c.tc : Thread Cert.DeltaKIdeal.nD Cert.DeltaKIdeal.τ).loc Cert.DeltaKIdeal.main_arg0) = m ((c.tc : Thread Cert.DeltaKIdeal.nD Cert.DeltaKIdeal.τ).loc Cert.DeltaKIdeal.main_arg0)
      ∧ r.2.mem ((c.tc : Thread Cert.DeltaKIdeal.nD Cert.DeltaKIdeal.τ).loc Cert.DeltaKIdeal.main_arg1) = m ((c.tc : Thread Cert.DeltaKIdeal.nD Cert.DeltaKIdeal.τ).loc Cert.DeltaKIdeal.main_arg1)
      ∧ r.2.mem ((c.tc : Thread Cert.DeltaKIdeal.nD Cert.DeltaKIdeal.τ).loc Cert.DeltaKIdeal.main_arg2) = m ((c.tc : Thread Cert.DeltaKIdeal.nD Cert.DeltaKIdeal.τ).loc Cert.DeltaKIdeal.main_arg2))
      ∧ r.2.sem = fun _ => 0)

def quiescent_DeltaRIdeal [hDeltaRIdeal : Cert.DeltaRIdeal.Facts] : Prop :=
  ∀ (m : (ℓ : Loc Cert.DeltaRIdeal.nD Cert.DeltaRIdeal.τ Cert.DeltaRIdeal.sig) → Buf (Elt Ideal) ℓ) (g : Dev Cert.DeltaRIdeal.nD → PrngReg), Pre_DeltaRIdeal m →
    θ_run (Cert.DeltaRIdeal.defs (F := Ideal)) (onTc (τ := Cert.DeltaRIdeal.τ) (Cert.DeltaRIdeal.main (F := Ideal))) ⟨m, fun _ => 0, g⟩ (fun r => (∀ c : Dev Cert.DeltaRIdeal.nD,
      r.2.mem ((c.tc : Thread Cert.DeltaRIdeal.nD Cert.DeltaRIdeal.τ).loc Cert.DeltaRIdeal.main_arg0) = m ((c.tc : Thread Cert.DeltaRIdeal.nD Cert.DeltaRIdeal.τ).loc Cert.DeltaRIdeal.main_arg0)
      ∧ r.2.mem ((c.tc : Thread Cert.DeltaRIdeal.nD Cert.DeltaRIdeal.τ).loc Cert.DeltaRIdeal.main_arg1) = m ((c.tc : Thread Cert.DeltaRIdeal.nD Cert.DeltaRIdeal.τ).loc Cert.DeltaRIdeal.main_arg1)
      ∧ r.2.mem ((c.tc : Thread Cert.DeltaRIdeal.nD Cert.DeltaRIdeal.τ).loc Cert.DeltaRIdeal.main_arg2) = m ((c.tc : Thread Cert.DeltaRIdeal.nD Cert.DeltaRIdeal.τ).loc Cert.DeltaRIdeal.main_arg2))
      ∧ r.2.sem = fun _ => 0)

def quiescent_GateK [hGateK : Cert.GateK.Facts] : Prop :=
  ∀ (m : (ℓ : Loc Cert.GateK.nD Cert.GateK.τ Cert.GateK.sig) → Buf (Elt Bits) ℓ) (g : Dev Cert.GateK.nD → PrngReg), Pre_GateK m →
    θ_run (Cert.GateK.defs (F := Bits)) (onTc (τ := Cert.GateK.τ) (Cert.GateK.main (F := Bits))) ⟨m, fun _ => 0, g⟩ (fun r => (∀ c : Dev Cert.GateK.nD,
      r.2.mem ((c.tc : Thread Cert.GateK.nD Cert.GateK.τ).loc Cert.GateK.main_arg0) = m ((c.tc : Thread Cert.GateK.nD Cert.GateK.τ).loc Cert.GateK.main_arg0)
      ∧ r.2.mem ((c.tc : Thread Cert.GateK.nD Cert.GateK.τ).loc Cert.GateK.main_arg1) = m ((c.tc : Thread Cert.GateK.nD Cert.GateK.τ).loc Cert.GateK.main_arg1))
      ∧ r.2.sem = fun _ => 0)

def quiescent_GateKIdeal [hGateKIdeal : Cert.GateKIdeal.Facts] : Prop :=
  ∀ (m : (ℓ : Loc Cert.GateKIdeal.nD Cert.GateKIdeal.τ Cert.GateKIdeal.sig) → Buf (Elt Ideal) ℓ) (g : Dev Cert.GateKIdeal.nD → PrngReg), Pre_GateKIdeal m →
    θ_run (Cert.GateKIdeal.defs (F := Ideal)) (onTc (τ := Cert.GateKIdeal.τ) (Cert.GateKIdeal.main (F := Ideal))) ⟨m, fun _ => 0, g⟩ (fun r => (∀ c : Dev Cert.GateKIdeal.nD,
      r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
      ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1))
      ∧ r.2.sem = fun _ => 0)

def quiescent_GateRIdeal [hGateRIdeal : Cert.GateRIdeal.Facts] : Prop :=
  ∀ (m : (ℓ : Loc Cert.GateRIdeal.nD Cert.GateRIdeal.τ Cert.GateRIdeal.sig) → Buf (Elt Ideal) ℓ) (g : Dev Cert.GateRIdeal.nD → PrngReg), Pre_GateRIdeal m →
    θ_run (Cert.GateRIdeal.defs (F := Ideal)) (onTc (τ := Cert.GateRIdeal.τ) (Cert.GateRIdeal.main (F := Ideal))) ⟨m, fun _ => 0, g⟩ (fun r => (∀ c : Dev Cert.GateRIdeal.nD,
      r.2.mem ((c.tc : Thread Cert.GateRIdeal.nD Cert.GateRIdeal.τ).loc Cert.GateRIdeal.main_arg0) = m ((c.tc : Thread Cert.GateRIdeal.nD Cert.GateRIdeal.τ).loc Cert.GateRIdeal.main_arg0)
      ∧ r.2.mem ((c.tc : Thread Cert.GateRIdeal.nD Cert.GateRIdeal.τ).loc Cert.GateRIdeal.main_arg1) = m ((c.tc : Thread Cert.GateRIdeal.nD Cert.GateRIdeal.τ).loc Cert.GateRIdeal.main_arg1))
      ∧ r.2.sem = fun _ => 0)

def quiescent_UpK [hUpK : Cert.UpK.Facts] : Prop :=
  ∀ (m : (ℓ : Loc Cert.UpK.nD Cert.UpK.τ Cert.UpK.sig) → Buf (Elt Bits) ℓ) (g : Dev Cert.UpK.nD → PrngReg), Pre_UpK m →
    θ_run (Cert.UpK.defs (F := Bits)) (onTc (τ := Cert.UpK.τ) (Cert.UpK.main (F := Bits))) ⟨m, fun _ => 0, g⟩ (fun r => (∀ c : Dev Cert.UpK.nD,
      r.2.mem ((c.tc : Thread Cert.UpK.nD Cert.UpK.τ).loc Cert.UpK.main_arg0) = m ((c.tc : Thread Cert.UpK.nD Cert.UpK.τ).loc Cert.UpK.main_arg0)
      ∧ r.2.mem ((c.tc : Thread Cert.UpK.nD Cert.UpK.τ).loc Cert.UpK.main_arg1) = m ((c.tc : Thread Cert.UpK.nD Cert.UpK.τ).loc Cert.UpK.main_arg1)
      ∧ r.2.mem ((c.tc : Thread Cert.UpK.nD Cert.UpK.τ).loc Cert.UpK.main_arg2) = m ((c.tc : Thread Cert.UpK.nD Cert.UpK.τ).loc Cert.UpK.main_arg2))
      ∧ r.2.sem = fun _ => 0)

def quiescent_UpKIdeal [hUpKIdeal : Cert.UpKIdeal.Facts] : Prop :=
  ∀ (m : (ℓ : Loc Cert.UpKIdeal.nD Cert.UpKIdeal.τ Cert.UpKIdeal.sig) → Buf (Elt Ideal) ℓ) (g : Dev Cert.UpKIdeal.nD → PrngReg), Pre_UpKIdeal m →
    θ_run (Cert.UpKIdeal.defs (F := Ideal)) (onTc (τ := Cert.UpKIdeal.τ) (Cert.UpKIdeal.main (F := Ideal))) ⟨m, fun _ => 0, g⟩ (fun r => (∀ c : Dev Cert.UpKIdeal.nD,
      r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
      ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1)
      ∧ r.2.mem ((c.tc : Thread Cert.UpKIdeal.nD Cert.UpKIdeal.τ).loc Cert.UpKIdeal.main_arg2) = m ((c.tc : Thread Cert.UpKIdeal.nD Cert.UpKIdeal.τ).loc Cert.UpKIdeal.main_arg2))
      ∧ r.2.sem = fun _ => 0)

def quiescent_UpRIdeal [hUpRIdeal : Cert.UpRIdeal.Facts] : Prop :=
  ∀ (m : (ℓ : Loc Cert.UpRIdeal.nD Cert.UpRIdeal.τ Cert.UpRIdeal.sig) → Buf (Elt Ideal) ℓ) (g : Dev Cert.UpRIdeal.nD → PrngReg), Pre_UpRIdeal m →
    θ_run (Cert.UpRIdeal.defs (F := Ideal)) (onTc (τ := Cert.UpRIdeal.τ) (Cert.UpRIdeal.main (F := Ideal))) ⟨m, fun _ => 0, g⟩ (fun r => (∀ c : Dev Cert.UpRIdeal.nD,
      r.2.mem ((c.tc : Thread Cert.UpRIdeal.nD Cert.UpRIdeal.τ).loc Cert.UpRIdeal.main_arg0) = m ((c.tc : Thread Cert.UpRIdeal.nD Cert.UpRIdeal.τ).loc Cert.UpRIdeal.main_arg0)
      ∧ r.2.mem ((c.tc : Thread Cert.UpRIdeal.nD Cert.UpRIdeal.τ).loc Cert.UpRIdeal.main_arg1) = m ((c.tc : Thread Cert.UpRIdeal.nD Cert.UpRIdeal.τ).loc Cert.UpRIdeal.main_arg1)
      ∧ r.2.mem ((c.tc : Thread Cert.UpRIdeal.nD Cert.UpRIdeal.τ).loc Cert.UpRIdeal.main_arg2) = m ((c.tc : Thread Cert.UpRIdeal.nD Cert.UpRIdeal.τ).loc Cert.UpRIdeal.main_arg2))
      ∧ r.2.sem = fun _ => 0)

def quiescent_InK [hInK : Cert.InK.Facts] : Prop :=
  ∀ (m : (ℓ : Loc Cert.InK.nD Cert.InK.τ Cert.InK.sig) → Buf (Elt Bits) ℓ) (g : Dev Cert.InK.nD → PrngReg), Pre_InK m →
    θ_run (Cert.InK.defs (F := Bits)) (onTc (τ := Cert.InK.τ) (Cert.InK.main (F := Bits))) ⟨m, fun _ => 0, g⟩ (fun r => (∀ c : Dev Cert.InK.nD,
      r.2.mem ((c.tc : Thread Cert.InK.nD Cert.InK.τ).loc Cert.InK.main_arg0) = m ((c.tc : Thread Cert.InK.nD Cert.InK.τ).loc Cert.InK.main_arg0)
      ∧ r.2.mem ((c.tc : Thread Cert.InK.nD Cert.InK.τ).loc Cert.InK.main_arg1) = m ((c.tc : Thread Cert.InK.nD Cert.InK.τ).loc Cert.InK.main_arg1)
      ∧ r.2.mem ((c.tc : Thread Cert.InK.nD Cert.InK.τ).loc Cert.InK.main_arg2) = m ((c.tc : Thread Cert.InK.nD Cert.InK.τ).loc Cert.InK.main_arg2))
      ∧ r.2.sem = fun _ => 0)

def quiescent_InKIdeal [hInKIdeal : Cert.InKIdeal.Facts] : Prop :=
  ∀ (m : (ℓ : Loc Cert.InKIdeal.nD Cert.InKIdeal.τ Cert.InKIdeal.sig) → Buf (Elt Ideal) ℓ) (g : Dev Cert.InKIdeal.nD → PrngReg), Pre_InKIdeal m →
    θ_run (Cert.InKIdeal.defs (F := Ideal)) (onTc (τ := Cert.InKIdeal.τ) (Cert.InKIdeal.main (F := Ideal))) ⟨m, fun _ => 0, g⟩ (fun r => (∀ c : Dev Cert.InKIdeal.nD,
      r.2.mem ((c.tc : Thread Cert.InKIdeal.nD Cert.InKIdeal.τ).loc Cert.InKIdeal.main_arg0) = m ((c.tc : Thread Cert.InKIdeal.nD Cert.InKIdeal.τ).loc Cert.InKIdeal.main_arg0)
      ∧ r.2.mem ((c.tc : Thread Cert.InKIdeal.nD Cert.InKIdeal.τ).loc Cert.InKIdeal.main_arg1) = m ((c.tc : Thread Cert.InKIdeal.nD Cert.InKIdeal.τ).loc Cert.InKIdeal.main_arg1)
      ∧ r.2.mem ((c.tc : Thread Cert.InKIdeal.nD Cert.InKIdeal.τ).loc Cert.InKIdeal.main_arg2) = m ((c.tc : Thread Cert.InKIdeal.nD Cert.InKIdeal.τ).loc Cert.InKIdeal.main_arg2))
      ∧ r.2.sem = fun _ => 0)

def quiescent_InRIdeal [hInRIdeal : Cert.InRIdeal.Facts] : Prop :=
  ∀ (m : (ℓ : Loc Cert.InRIdeal.nD Cert.InRIdeal.τ Cert.InRIdeal.sig) → Buf (Elt Ideal) ℓ) (g : Dev Cert.InRIdeal.nD → PrngReg), Pre_InRIdeal m →
    θ_run (Cert.InRIdeal.defs (F := Ideal)) (onTc (τ := Cert.InRIdeal.τ) (Cert.InRIdeal.main (F := Ideal))) ⟨m, fun _ => 0, g⟩ (fun r => (∀ c : Dev Cert.InRIdeal.nD,
      r.2.mem ((c.tc : Thread Cert.InRIdeal.nD Cert.InRIdeal.τ).loc Cert.InRIdeal.main_arg0) = m ((c.tc : Thread Cert.InRIdeal.nD Cert.InRIdeal.τ).loc Cert.InRIdeal.main_arg0)
      ∧ r.2.mem ((c.tc : Thread Cert.InRIdeal.nD Cert.InRIdeal.τ).loc Cert.InRIdeal.main_arg1) = m ((c.tc : Thread Cert.InRIdeal.nD Cert.InRIdeal.τ).loc Cert.InRIdeal.main_arg1)
      ∧ r.2.mem ((c.tc : Thread Cert.InRIdeal.nD Cert.InRIdeal.τ).loc Cert.InRIdeal.main_arg2) = m ((c.tc : Thread Cert.InRIdeal.nD Cert.InRIdeal.τ).loc Cert.InRIdeal.main_arg2))
      ∧ r.2.sem = fun _ => 0)

def quiescent_DownK [hDownK : Cert.DownK.Facts] : Prop :=
  ∀ (m : (ℓ : Loc Cert.DownK.nD Cert.DownK.τ Cert.DownK.sig) → Buf (Elt Bits) ℓ) (g : Dev Cert.DownK.nD → PrngReg), Pre_DownK m →
    θ_run (Cert.DownK.defs (F := Bits)) (onTc (τ := Cert.DownK.τ) (Cert.DownK.main (F := Bits))) ⟨m, fun _ => 0, g⟩ (fun r => (∀ c : Dev Cert.DownK.nD,
      r.2.mem ((c.tc : Thread Cert.DownK.nD Cert.DownK.τ).loc Cert.DownK.main_arg0) = m ((c.tc : Thread Cert.DownK.nD Cert.DownK.τ).loc Cert.DownK.main_arg0)
      ∧ r.2.mem ((c.tc : Thread Cert.DownK.nD Cert.DownK.τ).loc Cert.DownK.main_arg1) = m ((c.tc : Thread Cert.DownK.nD Cert.DownK.τ).loc Cert.DownK.main_arg1)
      ∧ r.2.mem ((c.tc : Thread Cert.DownK.nD Cert.DownK.τ).loc Cert.DownK.main_arg2) = m ((c.tc : Thread Cert.DownK.nD Cert.DownK.τ).loc Cert.DownK.main_arg2))
      ∧ r.2.sem = fun _ => 0)

def quiescent_DownKIdeal [hDownKIdeal : Cert.DownKIdeal.Facts] : Prop :=
  ∀ (m : (ℓ : Loc Cert.DownKIdeal.nD Cert.DownKIdeal.τ Cert.DownKIdeal.sig) → Buf (Elt Ideal) ℓ) (g : Dev Cert.DownKIdeal.nD → PrngReg), Pre_DownKIdeal m →
    θ_run (Cert.DownKIdeal.defs (F := Ideal)) (onTc (τ := Cert.DownKIdeal.τ) (Cert.DownKIdeal.main (F := Ideal))) ⟨m, fun _ => 0, g⟩ (fun r => (∀ c : Dev Cert.DownKIdeal.nD,
      r.2.mem ((c.tc : Thread Cert.DownKIdeal.nD Cert.DownKIdeal.τ).loc Cert.DownKIdeal.main_arg0) = m ((c.tc : Thread Cert.DownKIdeal.nD Cert.DownKIdeal.τ).loc Cert.DownKIdeal.main_arg0)
      ∧ r.2.mem ((c.tc : Thread Cert.DownKIdeal.nD Cert.DownKIdeal.τ).loc Cert.DownKIdeal.main_arg1) = m ((c.tc : Thread Cert.DownKIdeal.nD Cert.DownKIdeal.τ).loc Cert.DownKIdeal.main_arg1)
      ∧ r.2.mem ((c.tc : Thread Cert.DownKIdeal.nD Cert.DownKIdeal.τ).loc Cert.DownKIdeal.main_arg2) = m ((c.tc : Thread Cert.DownKIdeal.nD Cert.DownKIdeal.τ).loc Cert.DownKIdeal.main_arg2))
      ∧ r.2.sem = fun _ => 0)

def quiescent_DownRIdeal [hDownRIdeal : Cert.DownRIdeal.Facts] : Prop :=
  ∀ (m : (ℓ : Loc Cert.DownRIdeal.nD Cert.DownRIdeal.τ Cert.DownRIdeal.sig) → Buf (Elt Ideal) ℓ) (g : Dev Cert.DownRIdeal.nD → PrngReg), Pre_DownRIdeal m →
    θ_run (Cert.DownRIdeal.defs (F := Ideal)) (onTc (τ := Cert.DownRIdeal.τ) (Cert.DownRIdeal.main (F := Ideal))) ⟨m, fun _ => 0, g⟩ (fun r => (∀ c : Dev Cert.DownRIdeal.nD,
      r.2.mem ((c.tc : Thread Cert.DownRIdeal.nD Cert.DownRIdeal.τ).loc Cert.DownRIdeal.main_arg0) = m ((c.tc : Thread Cert.DownRIdeal.nD Cert.DownRIdeal.τ).loc Cert.DownRIdeal.main_arg0)
      ∧ r.2.mem ((c.tc : Thread Cert.DownRIdeal.nD Cert.DownRIdeal.τ).loc Cert.DownRIdeal.main_arg1) = m ((c.tc : Thread Cert.DownRIdeal.nD Cert.DownRIdeal.τ).loc Cert.DownRIdeal.main_arg1)
      ∧ r.2.mem ((c.tc : Thread Cert.DownRIdeal.nD Cert.DownRIdeal.τ).loc Cert.DownRIdeal.main_arg2) = m ((c.tc : Thread Cert.DownRIdeal.nD Cert.DownRIdeal.τ).loc Cert.DownRIdeal.main_arg2))
      ∧ r.2.sem = fun _ => 0)

def preserves_ConvK_ConvKIdeal : Prop :=
  True

def algebraic_ConvKIdeal_ConvRIdeal [hConvKIdeal : Cert.ConvKIdeal.Facts] [hConvRIdeal : Cert.ConvRIdeal.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvRIdeal.nD Cert.ConvRIdeal.τ Cert.ConvRIdeal.sig) → Buf (Elt Ideal) ℓ) (g' : Dev Cert.ConvRIdeal.nD → PrngReg), Pre_ConvKIdeal m →
    (∀ c : Dev Cert.ConvKIdeal.nD,
      m' ((c.tc : Thread Cert.ConvRIdeal.nD Cert.ConvRIdeal.τ).loc Cert.ConvRIdeal.main_arg0) = m ((c.tc : Thread Cert.ConvKIdeal.nD Cert.ConvKIdeal.τ).loc Cert.ConvKIdeal.main_arg0)
      ∧ m' ((c.tc : Thread Cert.ConvRIdeal.nD Cert.ConvRIdeal.τ).loc Cert.ConvRIdeal.main_arg1) = m ((c.tc : Thread Cert.ConvKIdeal.nD Cert.ConvKIdeal.τ).loc Cert.ConvKIdeal.main_arg1)
      ∧ m' ((c.tc : Thread Cert.ConvRIdeal.nD Cert.ConvRIdeal.τ).loc Cert.ConvRIdeal.main_arg2) = m ((c.tc : Thread Cert.ConvKIdeal.nD Cert.ConvKIdeal.τ).loc Cert.ConvKIdeal.main_arg2)) →
    ∃ (v0 : (c : Dev Cert.ConvKIdeal.nD) → Buf (Elt Ideal) ((c.tc : Thread Cert.ConvKIdeal.nD Cert.ConvKIdeal.τ).loc Cert.ConvKIdeal.main_v1_0)) (v1 : (c : Dev Cert.ConvKIdeal.nD) → Buf (Elt Ideal) ((c.tc : Thread Cert.ConvKIdeal.nD Cert.ConvKIdeal.τ).loc Cert.ConvKIdeal.main_v1_1)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v1_0) = v0 c
          ∧ r.2.mem ((c.tc : Thread Cert.ConvKIdeal.nD Cert.ConvKIdeal.τ).loc Cert.ConvKIdeal.main_v1_1) = v1 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
          ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2))
      ∧ θ_run (Cert.ConvRIdeal.defs (F := Ideal)) (onTc (τ := Cert.ConvRIdeal.τ) (Cert.ConvRIdeal.main (F := Ideal))) ⟨m', fun _ => 0, g'⟩ (fun r => ∀ c : Dev Cert.ConvRIdeal.nD,
          r.2.mem ((c.tc : Thread Cert.ConvRIdeal.nD Cert.ConvRIdeal.τ).loc Cert.ConvRIdeal.main_v69) = v0 c
          ∧ r.2.mem ((c.tc : Thread Cert.ConvRIdeal.nD Cert.ConvRIdeal.τ).loc Cert.ConvRIdeal.main_v61) = v1 c
          ∧ r.2.mem ((c.tc : Thread Cert.ConvRIdeal.nD Cert.ConvRIdeal.τ).loc Cert.ConvRIdeal.main_arg0) = m' ((c.tc : Thread Cert.ConvRIdeal.nD Cert.ConvRIdeal.τ).loc Cert.ConvRIdeal.main_arg0)
          ∧ r.2.mem ((c.tc : Thread Cert.ConvRIdeal.nD Cert.ConvRIdeal.τ).loc Cert.ConvRIdeal.main_arg1) = m' ((c.tc : Thread Cert.ConvRIdeal.nD Cert.ConvRIdeal.τ).loc Cert.ConvRIdeal.main_arg1)
          ∧ r.2.mem ((c.tc : Thread Cert.ConvRIdeal.nD Cert.ConvRIdeal.τ).loc Cert.ConvRIdeal.main_arg2) = m' ((c.tc : Thread Cert.ConvRIdeal.nD Cert.ConvRIdeal.τ).loc Cert.ConvRIdeal.main_arg2))

def preserves_DuK_DuKIdeal : Prop :=
  True

def algebraic_DuKIdeal_DuRIdeal [hDuKIdeal : Cert.DuKIdeal.Facts] [hDuRIdeal : Cert.DuRIdeal.Facts] : Prop :=
  ∀ (m : (ℓ : Loc Cert.DuKIdeal.nD Cert.DuKIdeal.τ Cert.DuKIdeal.sig) → Buf (Elt Ideal) ℓ) (g : Dev Cert.DuKIdeal.nD → PrngReg)
    (m' : (ℓ : Loc Cert.DuRIdeal.nD Cert.DuRIdeal.τ Cert.DuRIdeal.sig) → Buf (Elt Ideal) ℓ) (g' : Dev Cert.DuRIdeal.nD → PrngReg), Pre_DuKIdeal m →
    (∀ c : Dev Cert.DuKIdeal.nD,
      m' ((c.tc : Thread Cert.DuRIdeal.nD Cert.DuRIdeal.τ).loc Cert.DuRIdeal.main_arg0) = m ((c.tc : Thread Cert.DuKIdeal.nD Cert.DuKIdeal.τ).loc Cert.DuKIdeal.main_arg0)
      ∧ m' ((c.tc : Thread Cert.DuRIdeal.nD Cert.DuRIdeal.τ).loc Cert.DuRIdeal.main_arg1) = m ((c.tc : Thread Cert.DuKIdeal.nD Cert.DuKIdeal.τ).loc Cert.DuKIdeal.main_arg1)
      ∧ m' ((c.tc : Thread Cert.DuRIdeal.nD Cert.DuRIdeal.τ).loc Cert.DuRIdeal.main_arg2) = m ((c.tc : Thread Cert.DuKIdeal.nD Cert.DuKIdeal.τ).loc Cert.DuKIdeal.main_arg2)) →
    ∃ (v0 : (c : Dev Cert.DuKIdeal.nD) → Buf (Elt Ideal) ((c.tc : Thread Cert.DuKIdeal.nD Cert.DuKIdeal.τ).loc Cert.DuKIdeal.main_v8)),
      θ_run (Cert.DuKIdeal.defs (F := Ideal)) (onTc (τ := Cert.DuKIdeal.τ) (Cert.DuKIdeal.main (F := Ideal))) ⟨m, fun _ => 0, g⟩ (fun r => ∀ c : Dev Cert.DuKIdeal.nD,
          r.2.mem ((c.tc : Thread Cert.DuKIdeal.nD Cert.DuKIdeal.τ).loc Cert.DuKIdeal.main_v8) = v0 c
          ∧ r.2.mem ((c.tc : Thread Cert.DuKIdeal.nD Cert.DuKIdeal.τ).loc Cert.DuKIdeal.main_arg0) = m ((c.tc : Thread Cert.DuKIdeal.nD Cert.DuKIdeal.τ).loc Cert.DuKIdeal.main_arg0)
          ∧ r.2.mem ((c.tc : Thread Cert.DuKIdeal.nD Cert.DuKIdeal.τ).loc Cert.DuKIdeal.main_arg1) = m ((c.tc : Thread Cert.DuKIdeal.nD Cert.DuKIdeal.τ).loc Cert.DuKIdeal.main_arg1)
          ∧ r.2.mem ((c.tc : Thread Cert.DuKIdeal.nD Cert.DuKIdeal.τ).loc Cert.DuKIdeal.main_arg2) = m ((c.tc : Thread Cert.DuKIdeal.nD Cert.DuKIdeal.τ).loc Cert.DuKIdeal.main_arg2))
      ∧ θ_run (Cert.DuRIdeal.defs (F := Ideal)) (onTc (τ := Cert.DuRIdeal.τ) (Cert.DuRIdeal.main (F := Ideal))) ⟨m', fun _ => 0, g'⟩ (fun r => ∀ c : Dev Cert.DuRIdeal.nD,
          r.2.mem ((c.tc : Thread Cert.DuRIdeal.nD Cert.DuRIdeal.τ).loc Cert.DuRIdeal.main_v12) = v0 c
          ∧ r.2.mem ((c.tc : Thread Cert.DuRIdeal.nD Cert.DuRIdeal.τ).loc Cert.DuRIdeal.main_arg0) = m' ((c.tc : Thread Cert.DuRIdeal.nD Cert.DuRIdeal.τ).loc Cert.DuRIdeal.main_arg0)
          ∧ r.2.mem ((c.tc : Thread Cert.DuRIdeal.nD Cert.DuRIdeal.τ).loc Cert.DuRIdeal.main_arg1) = m' ((c.tc : Thread Cert.DuRIdeal.nD Cert.DuRIdeal.τ).loc Cert.DuRIdeal.main_arg1)
          ∧ r.2.mem ((c.tc : Thread Cert.DuRIdeal.nD Cert.DuRIdeal.τ).loc Cert.DuRIdeal.main_arg2) = m' ((c.tc : Thread Cert.DuRIdeal.nD Cert.DuRIdeal.τ).loc Cert.DuRIdeal.main_arg2))

def preserves_AttK_AttKIdeal : Prop :=
  IdealRules.named_const.Statement Cert.AttKIdeal.κ "mask" .f32 0xFF7FFFFF#32 ⊥

def algebraic_AttKIdeal_AttRIdeal_pre_attn_ok [hAttKIdeal : Cert.AttKIdeal.Facts] [hAttRIdeal : Cert.AttRIdeal.Facts] [hPre_attn_ok : Cert.Pre_attn_ok.Facts] : Prop :=
  ∀ (m : (ℓ : Loc Cert.AttKIdeal.nD Cert.AttKIdeal.τ Cert.AttKIdeal.sig) → Buf (Elt Ideal) ℓ) (g : Dev Cert.AttKIdeal.nD → PrngReg)
    (m' : (ℓ : Loc Cert.AttRIdeal.nD Cert.AttRIdeal.τ Cert.AttRIdeal.sig) → Buf (Elt Ideal) ℓ) (g' : Dev Cert.AttRIdeal.nD → PrngReg), Pre_AttKIdeal_attn_ok m →
    (∀ c : Dev Cert.AttKIdeal.nD,
      m' ((c.tc : Thread Cert.AttRIdeal.nD Cert.AttRIdeal.τ).loc Cert.AttRIdeal.main_arg0) = m ((c.tc : Thread Cert.AttKIdeal.nD Cert.AttKIdeal.τ).loc Cert.AttKIdeal.main_arg0)
      ∧ m' ((c.tc : Thread Cert.AttRIdeal.nD Cert.AttRIdeal.τ).loc Cert.AttRIdeal.main_arg1) = m ((c.tc : Thread Cert.AttKIdeal.nD Cert.AttKIdeal.τ).loc Cert.AttKIdeal.main_arg1)
      ∧ m' ((c.tc : Thread Cert.AttRIdeal.nD Cert.AttRIdeal.τ).loc Cert.AttRIdeal.main_arg2) = m ((c.tc : Thread Cert.AttKIdeal.nD Cert.AttKIdeal.τ).loc Cert.AttKIdeal.main_arg2)
      ∧ m' ((c.tc : Thread Cert.AttRIdeal.nD Cert.AttRIdeal.τ).loc Cert.AttRIdeal.main_arg3) = m ((c.tc : Thread Cert.AttKIdeal.nD Cert.AttKIdeal.τ).loc Cert.AttKIdeal.main_arg3)
      ∧ m' ((c.tc : Thread Cert.AttRIdeal.nD Cert.AttRIdeal.τ).loc Cert.AttRIdeal.main_arg4) = m ((c.tc : Thread Cert.AttKIdeal.nD Cert.AttKIdeal.τ).loc Cert.AttKIdeal.main_arg4)) →
    ∃ (v0 : (c : Dev Cert.AttKIdeal.nD) → Buf (Elt Ideal) ((c.tc : Thread Cert.AttKIdeal.nD Cert.AttKIdeal.τ).loc Cert.AttKIdeal.main_v62_0)) (v1 : (c : Dev Cert.AttKIdeal.nD) → Buf (Elt Ideal) ((c.tc : Thread Cert.AttKIdeal.nD Cert.AttKIdeal.τ).loc Cert.AttKIdeal.main_v62_1)) (v2 : (c : Dev Cert.AttKIdeal.nD) → Buf (Elt Ideal) ((c.tc : Thread Cert.AttKIdeal.nD Cert.AttKIdeal.τ).loc Cert.AttKIdeal.main_v62_2)),
      θ_run (Cert.AttKIdeal.defs (F := Ideal)) (onTc (τ := Cert.AttKIdeal.τ) (Cert.AttKIdeal.main (F := Ideal))) ⟨m, fun _ => 0, g⟩ (fun r => ∀ c : Dev Cert.AttKIdeal.nD,
          r.2.mem ((c.tc : Thread Cert.AttKIdeal.nD Cert.AttKIdeal.τ).loc Cert.AttKIdeal.main_v62_0) = v0 c
          ∧ r.2.mem ((c.tc : Thread Cert.AttKIdeal.nD Cert.AttKIdeal.τ).loc Cert.AttKIdeal.main_v62_1) = v1 c
          ∧ r.2.mem ((c.tc : Thread Cert.AttKIdeal.nD Cert.AttKIdeal.τ).loc Cert.AttKIdeal.main_v62_2) = v2 c
          ∧ r.2.mem ((c.tc : Thread Cert.AttKIdeal.nD Cert.AttKIdeal.τ).loc Cert.AttKIdeal.main_arg0) = m ((c.tc : Thread Cert.AttKIdeal.nD Cert.AttKIdeal.τ).loc Cert.AttKIdeal.main_arg0)
          ∧ r.2.mem ((c.tc : Thread Cert.AttKIdeal.nD Cert.AttKIdeal.τ).loc Cert.AttKIdeal.main_arg1) = m ((c.tc : Thread Cert.AttKIdeal.nD Cert.AttKIdeal.τ).loc Cert.AttKIdeal.main_arg1)
          ∧ r.2.mem ((c.tc : Thread Cert.AttKIdeal.nD Cert.AttKIdeal.τ).loc Cert.AttKIdeal.main_arg2) = m ((c.tc : Thread Cert.AttKIdeal.nD Cert.AttKIdeal.τ).loc Cert.AttKIdeal.main_arg2)
          ∧ r.2.mem ((c.tc : Thread Cert.AttKIdeal.nD Cert.AttKIdeal.τ).loc Cert.AttKIdeal.main_arg3) = m ((c.tc : Thread Cert.AttKIdeal.nD Cert.AttKIdeal.τ).loc Cert.AttKIdeal.main_arg3)
          ∧ r.2.mem ((c.tc : Thread Cert.AttKIdeal.nD Cert.AttKIdeal.τ).loc Cert.AttKIdeal.main_arg4) = m ((c.tc : Thread Cert.AttKIdeal.nD Cert.AttKIdeal.τ).loc Cert.AttKIdeal.main_arg4))
      ∧ θ_run (Cert.AttRIdeal.defs (F := Ideal)) (onTc (τ := Cert.AttRIdeal.τ) (Cert.AttRIdeal.main (F := Ideal))) ⟨m', fun _ => 0, g'⟩ (fun r => ∀ c : Dev Cert.AttRIdeal.nD,
          r.2.mem ((c.tc : Thread Cert.AttRIdeal.nD Cert.AttRIdeal.τ).loc Cert.AttRIdeal.main_v67) = v0 c
          ∧ r.2.mem ((c.tc : Thread Cert.AttRIdeal.nD Cert.AttRIdeal.τ).loc Cert.AttRIdeal.main_v72) = v1 c
          ∧ r.2.mem ((c.tc : Thread Cert.AttRIdeal.nD Cert.AttRIdeal.τ).loc Cert.AttRIdeal.main_v73) = v2 c
          ∧ r.2.mem ((c.tc : Thread Cert.AttRIdeal.nD Cert.AttRIdeal.τ).loc Cert.AttRIdeal.main_arg0) = m' ((c.tc : Thread Cert.AttRIdeal.nD Cert.AttRIdeal.τ).loc Cert.AttRIdeal.main_arg0)
          ∧ r.2.mem ((c.tc : Thread Cert.AttRIdeal.nD Cert.AttRIdeal.τ).loc Cert.AttRIdeal.main_arg1) = m' ((c.tc : Thread Cert.AttRIdeal.nD Cert.AttRIdeal.τ).loc Cert.AttRIdeal.main_arg1)
          ∧ r.2.mem ((c.tc : Thread Cert.AttRIdeal.nD Cert.AttRIdeal.τ).loc Cert.AttRIdeal.main_arg2) = m' ((c.tc : Thread Cert.AttRIdeal.nD Cert.AttRIdeal.τ).loc Cert.AttRIdeal.main_arg2)
          ∧ r.2.mem ((c.tc : Thread Cert.AttRIdeal.nD Cert.AttRIdeal.τ).loc Cert.AttRIdeal.main_arg3) = m' ((c.tc : Thread Cert.AttRIdeal.nD Cert.AttRIdeal.τ).loc Cert.AttRIdeal.main_arg3)
          ∧ r.2.mem ((c.tc : Thread Cert.AttRIdeal.nD Cert.AttRIdeal.τ).loc Cert.AttRIdeal.main_arg4) = m' ((c.tc : Thread Cert.AttRIdeal.nD Cert.AttRIdeal.τ).loc Cert.AttRIdeal.main_arg4))

def preserves_RmsK_RmsKIdeal : Prop :=
  True

def algebraic_RmsKIdeal_RmsRIdeal_pre_rms_ok [hRmsKIdeal : Cert.RmsKIdeal.Facts] [hRmsRIdeal : Cert.RmsRIdeal.Facts] [hPre_rms_ok : Cert.Pre_rms_ok.Facts] : Prop :=
  ∀ (m : (ℓ : Loc Cert.RmsKIdeal.nD Cert.RmsKIdeal.τ Cert.RmsKIdeal.sig) → Buf (Elt Ideal) ℓ) (g : Dev Cert.RmsKIdeal.nD → PrngReg)
    (m' : (ℓ : Loc Cert.RmsRIdeal.nD Cert.RmsRIdeal.τ Cert.RmsRIdeal.sig) → Buf (Elt Ideal) ℓ) (g' : Dev Cert.RmsRIdeal.nD → PrngReg), Pre_RmsKIdeal_rms_ok m →
    (∀ c : Dev Cert.RmsKIdeal.nD,
      m' ((c.tc : Thread Cert.RmsRIdeal.nD Cert.RmsRIdeal.τ).loc Cert.RmsRIdeal.main_arg0) = m ((c.tc : Thread Cert.RmsKIdeal.nD Cert.RmsKIdeal.τ).loc Cert.RmsKIdeal.main_arg0)
      ∧ m' ((c.tc : Thread Cert.RmsRIdeal.nD Cert.RmsRIdeal.τ).loc Cert.RmsRIdeal.main_arg1) = m ((c.tc : Thread Cert.RmsKIdeal.nD Cert.RmsKIdeal.τ).loc Cert.RmsKIdeal.main_arg1)
      ∧ m' ((c.tc : Thread Cert.RmsRIdeal.nD Cert.RmsRIdeal.τ).loc Cert.RmsRIdeal.main_arg2) = m ((c.tc : Thread Cert.RmsKIdeal.nD Cert.RmsKIdeal.τ).loc Cert.RmsKIdeal.main_arg2)
      ∧ m' ((c.tc : Thread Cert.RmsRIdeal.nD Cert.RmsRIdeal.τ).loc Cert.RmsRIdeal.main_arg3) = m ((c.tc : Thread Cert.RmsKIdeal.nD Cert.RmsKIdeal.τ).loc Cert.RmsKIdeal.main_arg3)
      ∧ m' ((c.tc : Thread Cert.RmsRIdeal.nD Cert.RmsRIdeal.τ).loc Cert.RmsRIdeal.main_arg4) = m ((c.tc : Thread Cert.RmsKIdeal.nD Cert.RmsKIdeal.τ).loc Cert.RmsKIdeal.main_arg4)) →
    ∃ (v0 : (c : Dev Cert.RmsKIdeal.nD) → Buf (Elt Ideal) ((c.tc : Thread Cert.RmsKIdeal.nD Cert.RmsKIdeal.τ).loc Cert.RmsKIdeal.main_v5_0)) (v1 : (c : Dev Cert.RmsKIdeal.nD) → Buf (Elt Ideal) ((c.tc : Thread Cert.RmsKIdeal.nD Cert.RmsKIdeal.τ).loc Cert.RmsKIdeal.main_v5_1)) (v2 : (c : Dev Cert.RmsKIdeal.nD) → Buf (Elt Ideal) ((c.tc : Thread Cert.RmsKIdeal.nD Cert.RmsKIdeal.τ).loc Cert.RmsKIdeal.main_v5_2)),
      θ_run (Cert.RmsKIdeal.defs (F := Ideal)) (onTc (τ := Cert.RmsKIdeal.τ) (Cert.RmsKIdeal.main (F := Ideal))) ⟨m, fun _ => 0, g⟩ (fun r => ∀ c : Dev Cert.RmsKIdeal.nD,
          r.2.mem ((c.tc : Thread Cert.RmsKIdeal.nD Cert.RmsKIdeal.τ).loc Cert.RmsKIdeal.main_v5_0) = v0 c
          ∧ r.2.mem ((c.tc : Thread Cert.RmsKIdeal.nD Cert.RmsKIdeal.τ).loc Cert.RmsKIdeal.main_v5_1) = v1 c
          ∧ r.2.mem ((c.tc : Thread Cert.RmsKIdeal.nD Cert.RmsKIdeal.τ).loc Cert.RmsKIdeal.main_v5_2) = v2 c
          ∧ r.2.mem ((c.tc : Thread Cert.RmsKIdeal.nD Cert.RmsKIdeal.τ).loc Cert.RmsKIdeal.main_arg0) = m ((c.tc : Thread Cert.RmsKIdeal.nD Cert.RmsKIdeal.τ).loc Cert.RmsKIdeal.main_arg0)
          ∧ r.2.mem ((c.tc : Thread Cert.RmsKIdeal.nD Cert.RmsKIdeal.τ).loc Cert.RmsKIdeal.main_arg1) = m ((c.tc : Thread Cert.RmsKIdeal.nD Cert.RmsKIdeal.τ).loc Cert.RmsKIdeal.main_arg1)
          ∧ r.2.mem ((c.tc : Thread Cert.RmsKIdeal.nD Cert.RmsKIdeal.τ).loc Cert.RmsKIdeal.main_arg2) = m ((c.tc : Thread Cert.RmsKIdeal.nD Cert.RmsKIdeal.τ).loc Cert.RmsKIdeal.main_arg2)
          ∧ r.2.mem ((c.tc : Thread Cert.RmsKIdeal.nD Cert.RmsKIdeal.τ).loc Cert.RmsKIdeal.main_arg3) = m ((c.tc : Thread Cert.RmsKIdeal.nD Cert.RmsKIdeal.τ).loc Cert.RmsKIdeal.main_arg3)
          ∧ r.2.mem ((c.tc : Thread Cert.RmsKIdeal.nD Cert.RmsKIdeal.τ).loc Cert.RmsKIdeal.main_arg4) = m ((c.tc : Thread Cert.RmsKIdeal.nD Cert.RmsKIdeal.τ).loc Cert.RmsKIdeal.main_arg4))
      ∧ θ_run (Cert.RmsRIdeal.defs (F := Ideal)) (onTc (τ := Cert.RmsRIdeal.τ) (Cert.RmsRIdeal.main (F := Ideal))) ⟨m', fun _ => 0, g'⟩ (fun r => ∀ c : Dev Cert.RmsRIdeal.nD,
          r.2.mem ((c.tc : Thread Cert.RmsRIdeal.nD Cert.RmsRIdeal.τ).loc Cert.RmsRIdeal.main_v38) = v0 c
          ∧ r.2.mem ((c.tc : Thread Cert.RmsRIdeal.nD Cert.RmsRIdeal.τ).loc Cert.RmsRIdeal.main_v39) = v1 c
          ∧ r.2.mem ((c.tc : Thread Cert.RmsRIdeal.nD Cert.RmsRIdeal.τ).loc Cert.RmsRIdeal.main_v40) = v2 c
          ∧ r.2.mem ((c.tc : Thread Cert.RmsRIdeal.nD Cert.RmsRIdeal.τ).loc Cert.RmsRIdeal.main_arg0) = m' ((c.tc : Thread Cert.RmsRIdeal.nD Cert.RmsRIdeal.τ).loc Cert.RmsRIdeal.main_arg0)
          ∧ r.2.mem ((c.tc : Thread Cert.RmsRIdeal.nD Cert.RmsRIdeal.τ).loc Cert.RmsRIdeal.main_arg1) = m' ((c.tc : Thread Cert.RmsRIdeal.nD Cert.RmsRIdeal.τ).loc Cert.RmsRIdeal.main_arg1)
          ∧ r.2.mem ((c.tc : Thread Cert.RmsRIdeal.nD Cert.RmsRIdeal.τ).loc Cert.RmsRIdeal.main_arg2) = m' ((c.tc : Thread Cert.RmsRIdeal.nD Cert.RmsRIdeal.τ).loc Cert.RmsRIdeal.main_arg2)
          ∧ r.2.mem ((c.tc : Thread Cert.RmsRIdeal.nD Cert.RmsRIdeal.τ).loc Cert.RmsRIdeal.main_arg3) = m' ((c.tc : Thread Cert.RmsRIdeal.nD Cert.RmsRIdeal.τ).loc Cert.RmsRIdeal.main_arg3)
          ∧ r.2.mem ((c.tc : Thread Cert.RmsRIdeal.nD Cert.RmsRIdeal.τ).loc Cert.RmsRIdeal.main_arg4) = m' ((c.tc : Thread Cert.RmsRIdeal.nD Cert.RmsRIdeal.τ).loc Cert.RmsRIdeal.main_arg4))

def preserves_RmsCK_RmsCKIdeal : Prop :=
  True

def algebraic_RmsCKIdeal_RmsCRIdeal_pre_rms_ok_conv [hRmsCKIdeal : Cert.RmsCKIdeal.Facts] [hRmsCRIdeal : Cert.RmsCRIdeal.Facts] [hPre_rms_ok_conv : Cert.Pre_rms_ok_conv.Facts] : Prop :=
  ∀ (m : (ℓ : Loc Cert.RmsCKIdeal.nD Cert.RmsCKIdeal.τ Cert.RmsCKIdeal.sig) → Buf (Elt Ideal) ℓ) (g : Dev Cert.RmsCKIdeal.nD → PrngReg)
    (m' : (ℓ : Loc Cert.RmsCRIdeal.nD Cert.RmsCRIdeal.τ Cert.RmsCRIdeal.sig) → Buf (Elt Ideal) ℓ) (g' : Dev Cert.RmsCRIdeal.nD → PrngReg), Pre_RmsCKIdeal_rms_ok_conv m →
    (∀ c : Dev Cert.RmsCKIdeal.nD,
      m' ((c.tc : Thread Cert.RmsCRIdeal.nD Cert.RmsCRIdeal.τ).loc Cert.RmsCRIdeal.main_arg0) = m ((c.tc : Thread Cert.RmsCKIdeal.nD Cert.RmsCKIdeal.τ).loc Cert.RmsCKIdeal.main_arg0)
      ∧ m' ((c.tc : Thread Cert.RmsCRIdeal.nD Cert.RmsCRIdeal.τ).loc Cert.RmsCRIdeal.main_arg1) = m ((c.tc : Thread Cert.RmsCKIdeal.nD Cert.RmsCKIdeal.τ).loc Cert.RmsCKIdeal.main_arg1)
      ∧ m' ((c.tc : Thread Cert.RmsCRIdeal.nD Cert.RmsCRIdeal.τ).loc Cert.RmsCRIdeal.main_arg2) = m ((c.tc : Thread Cert.RmsCKIdeal.nD Cert.RmsCKIdeal.τ).loc Cert.RmsCKIdeal.main_arg2)
      ∧ m' ((c.tc : Thread Cert.RmsCRIdeal.nD Cert.RmsCRIdeal.τ).loc Cert.RmsCRIdeal.main_arg3) = m ((c.tc : Thread Cert.RmsCKIdeal.nD Cert.RmsCKIdeal.τ).loc Cert.RmsCKIdeal.main_arg3)
      ∧ m' ((c.tc : Thread Cert.RmsCRIdeal.nD Cert.RmsCRIdeal.τ).loc Cert.RmsCRIdeal.main_arg4) = m ((c.tc : Thread Cert.RmsCKIdeal.nD Cert.RmsCKIdeal.τ).loc Cert.RmsCKIdeal.main_arg4)) →
    ∃ (v0 : (c : Dev Cert.RmsCKIdeal.nD) → Buf (Elt Ideal) ((c.tc : Thread Cert.RmsCKIdeal.nD Cert.RmsCKIdeal.τ).loc Cert.RmsCKIdeal.main_v5_0)) (v1 : (c : Dev Cert.RmsCKIdeal.nD) → Buf (Elt Ideal) ((c.tc : Thread Cert.RmsCKIdeal.nD Cert.RmsCKIdeal.τ).loc Cert.RmsCKIdeal.main_v5_1)) (v2 : (c : Dev Cert.RmsCKIdeal.nD) → Buf (Elt Ideal) ((c.tc : Thread Cert.RmsCKIdeal.nD Cert.RmsCKIdeal.τ).loc Cert.RmsCKIdeal.main_v5_2)),
      θ_run (Cert.RmsCKIdeal.defs (F := Ideal)) (onTc (τ := Cert.RmsCKIdeal.τ) (Cert.RmsCKIdeal.main (F := Ideal))) ⟨m, fun _ => 0, g⟩ (fun r => ∀ c : Dev Cert.RmsCKIdeal.nD,
          r.2.mem ((c.tc : Thread Cert.RmsCKIdeal.nD Cert.RmsCKIdeal.τ).loc Cert.RmsCKIdeal.main_v5_0) = v0 c
          ∧ r.2.mem ((c.tc : Thread Cert.RmsCKIdeal.nD Cert.RmsCKIdeal.τ).loc Cert.RmsCKIdeal.main_v5_1) = v1 c
          ∧ r.2.mem ((c.tc : Thread Cert.RmsCKIdeal.nD Cert.RmsCKIdeal.τ).loc Cert.RmsCKIdeal.main_v5_2) = v2 c
          ∧ r.2.mem ((c.tc : Thread Cert.RmsCKIdeal.nD Cert.RmsCKIdeal.τ).loc Cert.RmsCKIdeal.main_arg0) = m ((c.tc : Thread Cert.RmsCKIdeal.nD Cert.RmsCKIdeal.τ).loc Cert.RmsCKIdeal.main_arg0)
          ∧ r.2.mem ((c.tc : Thread Cert.RmsCKIdeal.nD Cert.RmsCKIdeal.τ).loc Cert.RmsCKIdeal.main_arg1) = m ((c.tc : Thread Cert.RmsCKIdeal.nD Cert.RmsCKIdeal.τ).loc Cert.RmsCKIdeal.main_arg1)
          ∧ r.2.mem ((c.tc : Thread Cert.RmsCKIdeal.nD Cert.RmsCKIdeal.τ).loc Cert.RmsCKIdeal.main_arg2) = m ((c.tc : Thread Cert.RmsCKIdeal.nD Cert.RmsCKIdeal.τ).loc Cert.RmsCKIdeal.main_arg2)
          ∧ r.2.mem ((c.tc : Thread Cert.RmsCKIdeal.nD Cert.RmsCKIdeal.τ).loc Cert.RmsCKIdeal.main_arg3) = m ((c.tc : Thread Cert.RmsCKIdeal.nD Cert.RmsCKIdeal.τ).loc Cert.RmsCKIdeal.main_arg3)
          ∧ r.2.mem ((c.tc : Thread Cert.RmsCKIdeal.nD Cert.RmsCKIdeal.τ).loc Cert.RmsCKIdeal.main_arg4) = m ((c.tc : Thread Cert.RmsCKIdeal.nD Cert.RmsCKIdeal.τ).loc Cert.RmsCKIdeal.main_arg4))
      ∧ θ_run (Cert.RmsCRIdeal.defs (F := Ideal)) (onTc (τ := Cert.RmsCRIdeal.τ) (Cert.RmsCRIdeal.main (F := Ideal))) ⟨m', fun _ => 0, g'⟩ (fun r => ∀ c : Dev Cert.RmsCRIdeal.nD,
          r.2.mem ((c.tc : Thread Cert.RmsCRIdeal.nD Cert.RmsCRIdeal.τ).loc Cert.RmsCRIdeal.main_v38) = v0 c
          ∧ r.2.mem ((c.tc : Thread Cert.RmsCRIdeal.nD Cert.RmsCRIdeal.τ).loc Cert.RmsCRIdeal.main_v39) = v1 c
          ∧ r.2.mem ((c.tc : Thread Cert.RmsCRIdeal.nD Cert.RmsCRIdeal.τ).loc Cert.RmsCRIdeal.main_v40) = v2 c
          ∧ r.2.mem ((c.tc : Thread Cert.RmsCRIdeal.nD Cert.RmsCRIdeal.τ).loc Cert.RmsCRIdeal.main_arg0) = m' ((c.tc : Thread Cert.RmsCRIdeal.nD Cert.RmsCRIdeal.τ).loc Cert.RmsCRIdeal.main_arg0)
          ∧ r.2.mem ((c.tc : Thread Cert.RmsCRIdeal.nD Cert.RmsCRIdeal.τ).loc Cert.RmsCRIdeal.main_arg1) = m' ((c.tc : Thread Cert.RmsCRIdeal.nD Cert.RmsCRIdeal.τ).loc Cert.RmsCRIdeal.main_arg1)
          ∧ r.2.mem ((c.tc : Thread Cert.RmsCRIdeal.nD Cert.RmsCRIdeal.τ).loc Cert.RmsCRIdeal.main_arg2) = m' ((c.tc : Thread Cert.RmsCRIdeal.nD Cert.RmsCRIdeal.τ).loc Cert.RmsCRIdeal.main_arg2)
          ∧ r.2.mem ((c.tc : Thread Cert.RmsCRIdeal.nD Cert.RmsCRIdeal.τ).loc Cert.RmsCRIdeal.main_arg3) = m' ((c.tc : Thread Cert.RmsCRIdeal.nD Cert.RmsCRIdeal.τ).loc Cert.RmsCRIdeal.main_arg3)
          ∧ r.2.mem ((c.tc : Thread Cert.RmsCRIdeal.nD Cert.RmsCRIdeal.τ).loc Cert.RmsCRIdeal.main_arg4) = m' ((c.tc : Thread Cert.RmsCRIdeal.nD Cert.RmsCRIdeal.τ).loc Cert.RmsCRIdeal.main_arg4))

def preserves_RmsDK_RmsDKIdeal : Prop :=
  True

def algebraic_RmsDKIdeal_RmsDRIdeal_pre_rms_ok_down [hRmsDKIdeal : Cert.RmsDKIdeal.Facts] [hRmsDRIdeal : Cert.RmsDRIdeal.Facts] [hPre_rms_ok_down : Cert.Pre_rms_ok_down.Facts] : Prop :=
  ∀ (m : (ℓ : Loc Cert.RmsDKIdeal.nD Cert.RmsDKIdeal.τ Cert.RmsDKIdeal.sig) → Buf (Elt Ideal) ℓ) (g : Dev Cert.RmsDKIdeal.nD → PrngReg)
    (m' : (ℓ : Loc Cert.RmsDRIdeal.nD Cert.RmsDRIdeal.τ Cert.RmsDRIdeal.sig) → Buf (Elt Ideal) ℓ) (g' : Dev Cert.RmsDRIdeal.nD → PrngReg), Pre_RmsDKIdeal_rms_ok_down m →
    (∀ c : Dev Cert.RmsDKIdeal.nD,
      m' ((c.tc : Thread Cert.RmsDRIdeal.nD Cert.RmsDRIdeal.τ).loc Cert.RmsDRIdeal.main_arg0) = m ((c.tc : Thread Cert.RmsDKIdeal.nD Cert.RmsDKIdeal.τ).loc Cert.RmsDKIdeal.main_arg0)
      ∧ m' ((c.tc : Thread Cert.RmsDRIdeal.nD Cert.RmsDRIdeal.τ).loc Cert.RmsDRIdeal.main_arg1) = m ((c.tc : Thread Cert.RmsDKIdeal.nD Cert.RmsDKIdeal.τ).loc Cert.RmsDKIdeal.main_arg1)
      ∧ m' ((c.tc : Thread Cert.RmsDRIdeal.nD Cert.RmsDRIdeal.τ).loc Cert.RmsDRIdeal.main_arg2) = m ((c.tc : Thread Cert.RmsDKIdeal.nD Cert.RmsDKIdeal.τ).loc Cert.RmsDKIdeal.main_arg2)
      ∧ m' ((c.tc : Thread Cert.RmsDRIdeal.nD Cert.RmsDRIdeal.τ).loc Cert.RmsDRIdeal.main_arg3) = m ((c.tc : Thread Cert.RmsDKIdeal.nD Cert.RmsDKIdeal.τ).loc Cert.RmsDKIdeal.main_arg3)
      ∧ m' ((c.tc : Thread Cert.RmsDRIdeal.nD Cert.RmsDRIdeal.τ).loc Cert.RmsDRIdeal.main_arg4) = m ((c.tc : Thread Cert.RmsDKIdeal.nD Cert.RmsDKIdeal.τ).loc Cert.RmsDKIdeal.main_arg4)) →
    ∃ (v0 : (c : Dev Cert.RmsDKIdeal.nD) → Buf (Elt Ideal) ((c.tc : Thread Cert.RmsDKIdeal.nD Cert.RmsDKIdeal.τ).loc Cert.RmsDKIdeal.main_v5_0)) (v1 : (c : Dev Cert.RmsDKIdeal.nD) → Buf (Elt Ideal) ((c.tc : Thread Cert.RmsDKIdeal.nD Cert.RmsDKIdeal.τ).loc Cert.RmsDKIdeal.main_v5_1)) (v2 : (c : Dev Cert.RmsDKIdeal.nD) → Buf (Elt Ideal) ((c.tc : Thread Cert.RmsDKIdeal.nD Cert.RmsDKIdeal.τ).loc Cert.RmsDKIdeal.main_v5_2)),
      θ_run (Cert.RmsDKIdeal.defs (F := Ideal)) (onTc (τ := Cert.RmsDKIdeal.τ) (Cert.RmsDKIdeal.main (F := Ideal))) ⟨m, fun _ => 0, g⟩ (fun r => ∀ c : Dev Cert.RmsDKIdeal.nD,
          r.2.mem ((c.tc : Thread Cert.RmsDKIdeal.nD Cert.RmsDKIdeal.τ).loc Cert.RmsDKIdeal.main_v5_0) = v0 c
          ∧ r.2.mem ((c.tc : Thread Cert.RmsDKIdeal.nD Cert.RmsDKIdeal.τ).loc Cert.RmsDKIdeal.main_v5_1) = v1 c
          ∧ r.2.mem ((c.tc : Thread Cert.RmsDKIdeal.nD Cert.RmsDKIdeal.τ).loc Cert.RmsDKIdeal.main_v5_2) = v2 c
          ∧ r.2.mem ((c.tc : Thread Cert.RmsDKIdeal.nD Cert.RmsDKIdeal.τ).loc Cert.RmsDKIdeal.main_arg0) = m ((c.tc : Thread Cert.RmsDKIdeal.nD Cert.RmsDKIdeal.τ).loc Cert.RmsDKIdeal.main_arg0)
          ∧ r.2.mem ((c.tc : Thread Cert.RmsDKIdeal.nD Cert.RmsDKIdeal.τ).loc Cert.RmsDKIdeal.main_arg1) = m ((c.tc : Thread Cert.RmsDKIdeal.nD Cert.RmsDKIdeal.τ).loc Cert.RmsDKIdeal.main_arg1)
          ∧ r.2.mem ((c.tc : Thread Cert.RmsDKIdeal.nD Cert.RmsDKIdeal.τ).loc Cert.RmsDKIdeal.main_arg2) = m ((c.tc : Thread Cert.RmsDKIdeal.nD Cert.RmsDKIdeal.τ).loc Cert.RmsDKIdeal.main_arg2)
          ∧ r.2.mem ((c.tc : Thread Cert.RmsDKIdeal.nD Cert.RmsDKIdeal.τ).loc Cert.RmsDKIdeal.main_arg3) = m ((c.tc : Thread Cert.RmsDKIdeal.nD Cert.RmsDKIdeal.τ).loc Cert.RmsDKIdeal.main_arg3)
          ∧ r.2.mem ((c.tc : Thread Cert.RmsDKIdeal.nD Cert.RmsDKIdeal.τ).loc Cert.RmsDKIdeal.main_arg4) = m ((c.tc : Thread Cert.RmsDKIdeal.nD Cert.RmsDKIdeal.τ).loc Cert.RmsDKIdeal.main_arg4))
      ∧ θ_run (Cert.RmsDRIdeal.defs (F := Ideal)) (onTc (τ := Cert.RmsDRIdeal.τ) (Cert.RmsDRIdeal.main (F := Ideal))) ⟨m', fun _ => 0, g'⟩ (fun r => ∀ c : Dev Cert.RmsDRIdeal.nD,
          r.2.mem ((c.tc : Thread Cert.RmsDRIdeal.nD Cert.RmsDRIdeal.τ).loc Cert.RmsDRIdeal.main_v38) = v0 c
          ∧ r.2.mem ((c.tc : Thread Cert.RmsDRIdeal.nD Cert.RmsDRIdeal.τ).loc Cert.RmsDRIdeal.main_v39) = v1 c
          ∧ r.2.mem ((c.tc : Thread Cert.RmsDRIdeal.nD Cert.RmsDRIdeal.τ).loc Cert.RmsDRIdeal.main_v40) = v2 c
          ∧ r.2.mem ((c.tc : Thread Cert.RmsDRIdeal.nD Cert.RmsDRIdeal.τ).loc Cert.RmsDRIdeal.main_arg0) = m' ((c.tc : Thread Cert.RmsDRIdeal.nD Cert.RmsDRIdeal.τ).loc Cert.RmsDRIdeal.main_arg0)
          ∧ r.2.mem ((c.tc : Thread Cert.RmsDRIdeal.nD Cert.RmsDRIdeal.τ).loc Cert.RmsDRIdeal.main_arg1) = m' ((c.tc : Thread Cert.RmsDRIdeal.nD Cert.RmsDRIdeal.τ).loc Cert.RmsDRIdeal.main_arg1)
          ∧ r.2.mem ((c.tc : Thread Cert.RmsDRIdeal.nD Cert.RmsDRIdeal.τ).loc Cert.RmsDRIdeal.main_arg2) = m' ((c.tc : Thread Cert.RmsDRIdeal.nD Cert.RmsDRIdeal.τ).loc Cert.RmsDRIdeal.main_arg2)
          ∧ r.2.mem ((c.tc : Thread Cert.RmsDRIdeal.nD Cert.RmsDRIdeal.τ).loc Cert.RmsDRIdeal.main_arg3) = m' ((c.tc : Thread Cert.RmsDRIdeal.nD Cert.RmsDRIdeal.τ).loc Cert.RmsDRIdeal.main_arg3)
          ∧ r.2.mem ((c.tc : Thread Cert.RmsDRIdeal.nD Cert.RmsDRIdeal.τ).loc Cert.RmsDRIdeal.main_arg4) = m' ((c.tc : Thread Cert.RmsDRIdeal.nD Cert.RmsDRIdeal.τ).loc Cert.RmsDRIdeal.main_arg4))

def preserves_LossK_LossKIdeal : Prop :=
  True

def algebraic_LossKIdeal_LossRIdeal [hLossKIdeal : Cert.LossKIdeal.Facts] [hLossRIdeal : Cert.LossRIdeal.Facts] : Prop :=
  ∀ (m : (ℓ : Loc Cert.LossKIdeal.nD Cert.LossKIdeal.τ Cert.LossKIdeal.sig) → Buf (Elt Ideal) ℓ) (g : Dev Cert.LossKIdeal.nD → PrngReg)
    (m' : (ℓ : Loc Cert.LossRIdeal.nD Cert.LossRIdeal.τ Cert.LossRIdeal.sig) → Buf (Elt Ideal) ℓ) (g' : Dev Cert.LossRIdeal.nD → PrngReg), Pre_LossKIdeal m →
    (∀ c : Dev Cert.LossKIdeal.nD,
      m' ((c.tc : Thread Cert.LossRIdeal.nD Cert.LossRIdeal.τ).loc Cert.LossRIdeal.main_arg0) = m ((c.tc : Thread Cert.LossKIdeal.nD Cert.LossKIdeal.τ).loc Cert.LossKIdeal.main_arg0)
      ∧ m' ((c.tc : Thread Cert.LossRIdeal.nD Cert.LossRIdeal.τ).loc Cert.LossRIdeal.main_arg1) = m ((c.tc : Thread Cert.LossKIdeal.nD Cert.LossKIdeal.τ).loc Cert.LossKIdeal.main_arg1)
      ∧ m' ((c.tc : Thread Cert.LossRIdeal.nD Cert.LossRIdeal.τ).loc Cert.LossRIdeal.main_arg2) = m ((c.tc : Thread Cert.LossKIdeal.nD Cert.LossKIdeal.τ).loc Cert.LossKIdeal.main_arg2)
      ∧ m' ((c.tc : Thread Cert.LossRIdeal.nD Cert.LossRIdeal.τ).loc Cert.LossRIdeal.main_arg3) = m ((c.tc : Thread Cert.LossKIdeal.nD Cert.LossKIdeal.τ).loc Cert.LossKIdeal.main_arg3)) →
    ∃ (v0 : (c : Dev Cert.LossKIdeal.nD) → Buf (Elt Ideal) ((c.tc : Thread Cert.LossKIdeal.nD Cert.LossKIdeal.τ).loc Cert.LossKIdeal.main_v2_0)) (v1 : (c : Dev Cert.LossKIdeal.nD) → Buf (Elt Ideal) ((c.tc : Thread Cert.LossKIdeal.nD Cert.LossKIdeal.τ).loc Cert.LossKIdeal.main_v2_1)) (v2 : (c : Dev Cert.LossKIdeal.nD) → Buf (Elt Ideal) ((c.tc : Thread Cert.LossKIdeal.nD Cert.LossKIdeal.τ).loc Cert.LossKIdeal.main_v2_2)),
      θ_run (Cert.LossKIdeal.defs (F := Ideal)) (onTc (τ := Cert.LossKIdeal.τ) (Cert.LossKIdeal.main (F := Ideal))) ⟨m, fun _ => 0, g⟩ (fun r => ∀ c : Dev Cert.LossKIdeal.nD,
          r.2.mem ((c.tc : Thread Cert.LossKIdeal.nD Cert.LossKIdeal.τ).loc Cert.LossKIdeal.main_v2_0) = v0 c
          ∧ r.2.mem ((c.tc : Thread Cert.LossKIdeal.nD Cert.LossKIdeal.τ).loc Cert.LossKIdeal.main_v2_1) = v1 c
          ∧ r.2.mem ((c.tc : Thread Cert.LossKIdeal.nD Cert.LossKIdeal.τ).loc Cert.LossKIdeal.main_v2_2) = v2 c
          ∧ r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
          ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
          ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
          ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v18) = v0 c
          ∧ r.2.mem ((c.tc : Thread Cert.LossRIdeal.nD Cert.LossRIdeal.τ).loc Cert.LossRIdeal.main_v16) = v1 c
          ∧ r.2.mem ((c.tc : Thread Cert.LossRIdeal.nD Cert.LossRIdeal.τ).loc Cert.LossRIdeal.main_v19) = v2 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2)
          ∧ r.2.mem ((c.tc : Thread Cert.LossRIdeal.nD Cert.LossRIdeal.τ).loc Cert.LossRIdeal.main_arg3) = m' ((c.tc : Thread Cert.LossRIdeal.nD Cert.LossRIdeal.τ).loc Cert.LossRIdeal.main_arg3))

def preserves_DeltaK_DeltaKIdeal : Prop :=
  True

def algebraic_DeltaKIdeal_DeltaRIdeal [hDeltaKIdeal : Cert.DeltaKIdeal.Facts] [hDeltaRIdeal : Cert.DeltaRIdeal.Facts] : Prop :=
  ∀ (m : (ℓ : Loc Cert.DeltaKIdeal.nD Cert.DeltaKIdeal.τ Cert.DeltaKIdeal.sig) → Buf (Elt Ideal) ℓ) (g : Dev Cert.DeltaKIdeal.nD → PrngReg)
    (m' : (ℓ : Loc Cert.DeltaRIdeal.nD Cert.DeltaRIdeal.τ Cert.DeltaRIdeal.sig) → Buf (Elt Ideal) ℓ) (g' : Dev Cert.DeltaRIdeal.nD → PrngReg), Pre_DeltaKIdeal m →
    (∀ c : Dev Cert.DeltaKIdeal.nD,
      m' ((c.tc : Thread Cert.DeltaRIdeal.nD Cert.DeltaRIdeal.τ).loc Cert.DeltaRIdeal.main_arg0) = m ((c.tc : Thread Cert.DeltaKIdeal.nD Cert.DeltaKIdeal.τ).loc Cert.DeltaKIdeal.main_arg0)
      ∧ m' ((c.tc : Thread Cert.DeltaRIdeal.nD Cert.DeltaRIdeal.τ).loc Cert.DeltaRIdeal.main_arg1) = m ((c.tc : Thread Cert.DeltaKIdeal.nD Cert.DeltaKIdeal.τ).loc Cert.DeltaKIdeal.main_arg1)
      ∧ m' ((c.tc : Thread Cert.DeltaRIdeal.nD Cert.DeltaRIdeal.τ).loc Cert.DeltaRIdeal.main_arg2) = m ((c.tc : Thread Cert.DeltaKIdeal.nD Cert.DeltaKIdeal.τ).loc Cert.DeltaKIdeal.main_arg2)) →
    ∃ (v0 : (c : Dev Cert.DeltaKIdeal.nD) → Buf (Elt Ideal) ((c.tc : Thread Cert.DeltaKIdeal.nD Cert.DeltaKIdeal.τ).loc Cert.DeltaKIdeal.main_v3_0)) (v1 : (c : Dev Cert.DeltaKIdeal.nD) → Buf (Elt Ideal) ((c.tc : Thread Cert.DeltaKIdeal.nD Cert.DeltaKIdeal.τ).loc Cert.DeltaKIdeal.main_v3_1)),
      θ_run (Cert.DeltaKIdeal.defs (F := Ideal)) (onTc (τ := Cert.DeltaKIdeal.τ) (Cert.DeltaKIdeal.main (F := Ideal))) ⟨m, fun _ => 0, g⟩ (fun r => ∀ c : Dev Cert.DeltaKIdeal.nD,
          r.2.mem ((c.tc : Thread Cert.DeltaKIdeal.nD Cert.DeltaKIdeal.τ).loc Cert.DeltaKIdeal.main_v3_0) = v0 c
          ∧ r.2.mem ((c.tc : Thread Cert.DeltaKIdeal.nD Cert.DeltaKIdeal.τ).loc Cert.DeltaKIdeal.main_v3_1) = v1 c
          ∧ r.2.mem ((c.tc : Thread Cert.DeltaKIdeal.nD Cert.DeltaKIdeal.τ).loc Cert.DeltaKIdeal.main_arg0) = m ((c.tc : Thread Cert.DeltaKIdeal.nD Cert.DeltaKIdeal.τ).loc Cert.DeltaKIdeal.main_arg0)
          ∧ r.2.mem ((c.tc : Thread Cert.DeltaKIdeal.nD Cert.DeltaKIdeal.τ).loc Cert.DeltaKIdeal.main_arg1) = m ((c.tc : Thread Cert.DeltaKIdeal.nD Cert.DeltaKIdeal.τ).loc Cert.DeltaKIdeal.main_arg1)
          ∧ r.2.mem ((c.tc : Thread Cert.DeltaKIdeal.nD Cert.DeltaKIdeal.τ).loc Cert.DeltaKIdeal.main_arg2) = m ((c.tc : Thread Cert.DeltaKIdeal.nD Cert.DeltaKIdeal.τ).loc Cert.DeltaKIdeal.main_arg2))
      ∧ θ_run (Cert.DeltaRIdeal.defs (F := Ideal)) (onTc (τ := Cert.DeltaRIdeal.τ) (Cert.DeltaRIdeal.main (F := Ideal))) ⟨m', fun _ => 0, g'⟩ (fun r => ∀ c : Dev Cert.DeltaRIdeal.nD,
          r.2.mem ((c.tc : Thread Cert.DeltaRIdeal.nD Cert.DeltaRIdeal.τ).loc Cert.DeltaRIdeal.main_v1) = v0 c
          ∧ r.2.mem ((c.tc : Thread Cert.DeltaRIdeal.nD Cert.DeltaRIdeal.τ).loc Cert.DeltaRIdeal.main_v6) = v1 c
          ∧ r.2.mem ((c.tc : Thread Cert.DeltaRIdeal.nD Cert.DeltaRIdeal.τ).loc Cert.DeltaRIdeal.main_arg0) = m' ((c.tc : Thread Cert.DeltaRIdeal.nD Cert.DeltaRIdeal.τ).loc Cert.DeltaRIdeal.main_arg0)
          ∧ r.2.mem ((c.tc : Thread Cert.DeltaRIdeal.nD Cert.DeltaRIdeal.τ).loc Cert.DeltaRIdeal.main_arg1) = m' ((c.tc : Thread Cert.DeltaRIdeal.nD Cert.DeltaRIdeal.τ).loc Cert.DeltaRIdeal.main_arg1)
          ∧ r.2.mem ((c.tc : Thread Cert.DeltaRIdeal.nD Cert.DeltaRIdeal.τ).loc Cert.DeltaRIdeal.main_arg2) = m' ((c.tc : Thread Cert.DeltaRIdeal.nD Cert.DeltaRIdeal.τ).loc Cert.DeltaRIdeal.main_arg2))

def preserves_GateK_GateKIdeal : Prop :=
  True

def algebraic_GateKIdeal_GateRIdeal [hGateKIdeal : Cert.GateKIdeal.Facts] [hGateRIdeal : Cert.GateRIdeal.Facts] : Prop :=
  ∀ (m : (ℓ : Loc Cert.GateKIdeal.nD Cert.GateKIdeal.τ Cert.GateKIdeal.sig) → Buf (Elt Ideal) ℓ) (g : Dev Cert.GateKIdeal.nD → PrngReg)
    (m' : (ℓ : Loc Cert.GateRIdeal.nD Cert.GateRIdeal.τ Cert.GateRIdeal.sig) → Buf (Elt Ideal) ℓ) (g' : Dev Cert.GateRIdeal.nD → PrngReg), Pre_GateKIdeal m →
    (∀ c : Dev Cert.GateKIdeal.nD,
      m' ((c.tc : Thread Cert.GateRIdeal.nD Cert.GateRIdeal.τ).loc Cert.GateRIdeal.main_arg0) = m ((c.tc : Thread Cert.GateKIdeal.nD Cert.GateKIdeal.τ).loc Cert.GateKIdeal.main_arg0)
      ∧ m' ((c.tc : Thread Cert.GateRIdeal.nD Cert.GateRIdeal.τ).loc Cert.GateRIdeal.main_arg1) = m ((c.tc : Thread Cert.GateKIdeal.nD Cert.GateKIdeal.τ).loc Cert.GateKIdeal.main_arg1)) →
    ∃ (v0 : (c : Dev Cert.GateKIdeal.nD) → Buf (Elt Ideal) ((c.tc : Thread Cert.GateKIdeal.nD Cert.GateKIdeal.τ).loc Cert.GateKIdeal.main_v1)),
      θ_run (Cert.GateKIdeal.defs (F := Ideal)) (onTc (τ := Cert.GateKIdeal.τ) (Cert.GateKIdeal.main (F := Ideal))) ⟨m, fun _ => 0, g⟩ (fun r => ∀ c : Dev Cert.GateKIdeal.nD,
          r.2.mem ((c.tc : Thread Cert.GateKIdeal.nD Cert.GateKIdeal.τ).loc Cert.GateKIdeal.main_v1) = v0 c
          ∧ r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
          ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1))
      ∧ θ_run (Cert.GateRIdeal.defs (F := Ideal)) (onTc (τ := Cert.GateRIdeal.τ) (Cert.GateRIdeal.main (F := Ideal))) ⟨m', fun _ => 0, g'⟩ (fun r => ∀ c : Dev Cert.GateRIdeal.nD,
          r.2.mem ((c.tc : Thread Cert.GateRIdeal.nD Cert.GateRIdeal.τ).loc Cert.GateRIdeal.main_v28) = v0 c
          ∧ r.2.mem ((c.tc : Thread Cert.GateRIdeal.nD Cert.GateRIdeal.τ).loc Cert.GateRIdeal.main_arg0) = m' ((c.tc : Thread Cert.GateRIdeal.nD Cert.GateRIdeal.τ).loc Cert.GateRIdeal.main_arg0)
          ∧ r.2.mem ((c.tc : Thread Cert.GateRIdeal.nD Cert.GateRIdeal.τ).loc Cert.GateRIdeal.main_arg1) = m' ((c.tc : Thread Cert.GateRIdeal.nD Cert.GateRIdeal.τ).loc Cert.GateRIdeal.main_arg1))

def preserves_UpK_UpKIdeal : Prop :=
  True

def algebraic_UpKIdeal_UpRIdeal [hUpKIdeal : Cert.UpKIdeal.Facts] [hUpRIdeal : Cert.UpRIdeal.Facts] : Prop :=
  ∀ (m : (ℓ : Loc Cert.UpKIdeal.nD Cert.UpKIdeal.τ Cert.UpKIdeal.sig) → Buf (Elt Ideal) ℓ) (g : Dev Cert.UpKIdeal.nD → PrngReg)
    (m' : (ℓ : Loc Cert.UpRIdeal.nD Cert.UpRIdeal.τ Cert.UpRIdeal.sig) → Buf (Elt Ideal) ℓ) (g' : Dev Cert.UpRIdeal.nD → PrngReg), Pre_UpKIdeal m →
    (∀ c : Dev Cert.UpKIdeal.nD,
      m' ((c.tc : Thread Cert.UpRIdeal.nD Cert.UpRIdeal.τ).loc Cert.UpRIdeal.main_arg0) = m ((c.tc : Thread Cert.UpKIdeal.nD Cert.UpKIdeal.τ).loc Cert.UpKIdeal.main_arg0)
      ∧ m' ((c.tc : Thread Cert.UpRIdeal.nD Cert.UpRIdeal.τ).loc Cert.UpRIdeal.main_arg1) = m ((c.tc : Thread Cert.UpKIdeal.nD Cert.UpKIdeal.τ).loc Cert.UpKIdeal.main_arg1)
      ∧ m' ((c.tc : Thread Cert.UpRIdeal.nD Cert.UpRIdeal.τ).loc Cert.UpRIdeal.main_arg2) = m ((c.tc : Thread Cert.UpKIdeal.nD Cert.UpKIdeal.τ).loc Cert.UpKIdeal.main_arg2)) →
    ∃ (v0 : (c : Dev Cert.UpKIdeal.nD) → Buf (Elt Ideal) ((c.tc : Thread Cert.UpKIdeal.nD Cert.UpKIdeal.τ).loc Cert.UpKIdeal.main_v4_0)) (v1 : (c : Dev Cert.UpKIdeal.nD) → Buf (Elt Ideal) ((c.tc : Thread Cert.UpKIdeal.nD Cert.UpKIdeal.τ).loc Cert.UpKIdeal.main_v4_1)) (v2 : (c : Dev Cert.UpKIdeal.nD) → Buf (Elt Ideal) ((c.tc : Thread Cert.UpKIdeal.nD Cert.UpKIdeal.τ).loc Cert.UpKIdeal.main_v4_2)),
      θ_run (Cert.UpKIdeal.defs (F := Ideal)) (onTc (τ := Cert.UpKIdeal.τ) (Cert.UpKIdeal.main (F := Ideal))) ⟨m, fun _ => 0, g⟩ (fun r => ∀ c : Dev Cert.UpKIdeal.nD,
          r.2.mem ((c.tc : Thread Cert.UpKIdeal.nD Cert.UpKIdeal.τ).loc Cert.UpKIdeal.main_v4_0) = v0 c
          ∧ r.2.mem ((c.tc : Thread Cert.UpKIdeal.nD Cert.UpKIdeal.τ).loc Cert.UpKIdeal.main_v4_1) = v1 c
          ∧ r.2.mem ((c.tc : Thread Cert.UpKIdeal.nD Cert.UpKIdeal.τ).loc Cert.UpKIdeal.main_v4_2) = v2 c
          ∧ r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
          ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1)
          ∧ r.2.mem ((c.tc : Thread Cert.UpKIdeal.nD Cert.UpKIdeal.τ).loc Cert.UpKIdeal.main_arg2) = m ((c.tc : Thread Cert.UpKIdeal.nD Cert.UpKIdeal.τ).loc Cert.UpKIdeal.main_arg2))
      ∧ θ_run (Cert.UpRIdeal.defs (F := Ideal)) (onTc (τ := Cert.UpRIdeal.τ) (Cert.UpRIdeal.main (F := Ideal))) ⟨m', fun _ => 0, g'⟩ (fun r => ∀ c : Dev Cert.UpRIdeal.nD,
          r.2.mem ((c.tc : Thread Cert.UpRIdeal.nD Cert.UpRIdeal.τ).loc Cert.UpRIdeal.main_v16) = v0 c
          ∧ r.2.mem ((c.tc : Thread Cert.UpRIdeal.nD Cert.UpRIdeal.τ).loc Cert.UpRIdeal.main_v18) = v1 c
          ∧ r.2.mem ((c.tc : Thread Cert.UpRIdeal.nD Cert.UpRIdeal.τ).loc Cert.UpRIdeal.main_v21) = v2 c
          ∧ r.2.mem ((c.tc : Thread Cert.UpRIdeal.nD Cert.UpRIdeal.τ).loc Cert.UpRIdeal.main_arg0) = m' ((c.tc : Thread Cert.UpRIdeal.nD Cert.UpRIdeal.τ).loc Cert.UpRIdeal.main_arg0)
          ∧ r.2.mem ((c.tc : Thread Cert.UpRIdeal.nD Cert.UpRIdeal.τ).loc Cert.UpRIdeal.main_arg1) = m' ((c.tc : Thread Cert.UpRIdeal.nD Cert.UpRIdeal.τ).loc Cert.UpRIdeal.main_arg1)
          ∧ r.2.mem ((c.tc : Thread Cert.UpRIdeal.nD Cert.UpRIdeal.τ).loc Cert.UpRIdeal.main_arg2) = m' ((c.tc : Thread Cert.UpRIdeal.nD Cert.UpRIdeal.τ).loc Cert.UpRIdeal.main_arg2))

def preserves_InK_InKIdeal : Prop :=
  True

def algebraic_InKIdeal_InRIdeal [hInKIdeal : Cert.InKIdeal.Facts] [hInRIdeal : Cert.InRIdeal.Facts] : Prop :=
  ∀ (m : (ℓ : Loc Cert.InKIdeal.nD Cert.InKIdeal.τ Cert.InKIdeal.sig) → Buf (Elt Ideal) ℓ) (g : Dev Cert.InKIdeal.nD → PrngReg)
    (m' : (ℓ : Loc Cert.InRIdeal.nD Cert.InRIdeal.τ Cert.InRIdeal.sig) → Buf (Elt Ideal) ℓ) (g' : Dev Cert.InRIdeal.nD → PrngReg), Pre_InKIdeal m →
    (∀ c : Dev Cert.InKIdeal.nD,
      m' ((c.tc : Thread Cert.InRIdeal.nD Cert.InRIdeal.τ).loc Cert.InRIdeal.main_arg0) = m ((c.tc : Thread Cert.InKIdeal.nD Cert.InKIdeal.τ).loc Cert.InKIdeal.main_arg0)
      ∧ m' ((c.tc : Thread Cert.InRIdeal.nD Cert.InRIdeal.τ).loc Cert.InRIdeal.main_arg1) = m ((c.tc : Thread Cert.InKIdeal.nD Cert.InKIdeal.τ).loc Cert.InKIdeal.main_arg1)
      ∧ m' ((c.tc : Thread Cert.InRIdeal.nD Cert.InRIdeal.τ).loc Cert.InRIdeal.main_arg2) = m ((c.tc : Thread Cert.InKIdeal.nD Cert.InKIdeal.τ).loc Cert.InKIdeal.main_arg2)) →
    ∃ (v0 : (c : Dev Cert.InKIdeal.nD) → Buf (Elt Ideal) ((c.tc : Thread Cert.InKIdeal.nD Cert.InKIdeal.τ).loc Cert.InKIdeal.main_v4_0)) (v1 : (c : Dev Cert.InKIdeal.nD) → Buf (Elt Ideal) ((c.tc : Thread Cert.InKIdeal.nD Cert.InKIdeal.τ).loc Cert.InKIdeal.main_v4_1)),
      θ_run (Cert.InKIdeal.defs (F := Ideal)) (onTc (τ := Cert.InKIdeal.τ) (Cert.InKIdeal.main (F := Ideal))) ⟨m, fun _ => 0, g⟩ (fun r => ∀ c : Dev Cert.InKIdeal.nD,
          r.2.mem ((c.tc : Thread Cert.InKIdeal.nD Cert.InKIdeal.τ).loc Cert.InKIdeal.main_v4_0) = v0 c
          ∧ r.2.mem ((c.tc : Thread Cert.InKIdeal.nD Cert.InKIdeal.τ).loc Cert.InKIdeal.main_v4_1) = v1 c
          ∧ r.2.mem ((c.tc : Thread Cert.InKIdeal.nD Cert.InKIdeal.τ).loc Cert.InKIdeal.main_arg0) = m ((c.tc : Thread Cert.InKIdeal.nD Cert.InKIdeal.τ).loc Cert.InKIdeal.main_arg0)
          ∧ r.2.mem ((c.tc : Thread Cert.InKIdeal.nD Cert.InKIdeal.τ).loc Cert.InKIdeal.main_arg1) = m ((c.tc : Thread Cert.InKIdeal.nD Cert.InKIdeal.τ).loc Cert.InKIdeal.main_arg1)
          ∧ r.2.mem ((c.tc : Thread Cert.InKIdeal.nD Cert.InKIdeal.τ).loc Cert.InKIdeal.main_arg2) = m ((c.tc : Thread Cert.InKIdeal.nD Cert.InKIdeal.τ).loc Cert.InKIdeal.main_arg2))
      ∧ θ_run (Cert.InRIdeal.defs (F := Ideal)) (onTc (τ := Cert.InRIdeal.τ) (Cert.InRIdeal.main (F := Ideal))) ⟨m', fun _ => 0, g'⟩ (fun r => ∀ c : Dev Cert.InRIdeal.nD,
          r.2.mem ((c.tc : Thread Cert.InRIdeal.nD Cert.InRIdeal.τ).loc Cert.InRIdeal.main_v14) = v0 c
          ∧ r.2.mem ((c.tc : Thread Cert.InRIdeal.nD Cert.InRIdeal.τ).loc Cert.InRIdeal.main_v16) = v1 c
          ∧ r.2.mem ((c.tc : Thread Cert.InRIdeal.nD Cert.InRIdeal.τ).loc Cert.InRIdeal.main_arg0) = m' ((c.tc : Thread Cert.InRIdeal.nD Cert.InRIdeal.τ).loc Cert.InRIdeal.main_arg0)
          ∧ r.2.mem ((c.tc : Thread Cert.InRIdeal.nD Cert.InRIdeal.τ).loc Cert.InRIdeal.main_arg1) = m' ((c.tc : Thread Cert.InRIdeal.nD Cert.InRIdeal.τ).loc Cert.InRIdeal.main_arg1)
          ∧ r.2.mem ((c.tc : Thread Cert.InRIdeal.nD Cert.InRIdeal.τ).loc Cert.InRIdeal.main_arg2) = m' ((c.tc : Thread Cert.InRIdeal.nD Cert.InRIdeal.τ).loc Cert.InRIdeal.main_arg2))

def preserves_DownK_DownKIdeal : Prop :=
  True

def algebraic_DownKIdeal_DownRIdeal [hDownKIdeal : Cert.DownKIdeal.Facts] [hDownRIdeal : Cert.DownRIdeal.Facts] : Prop :=
  ∀ (m : (ℓ : Loc Cert.DownKIdeal.nD Cert.DownKIdeal.τ Cert.DownKIdeal.sig) → Buf (Elt Ideal) ℓ) (g : Dev Cert.DownKIdeal.nD → PrngReg)
    (m' : (ℓ : Loc Cert.DownRIdeal.nD Cert.DownRIdeal.τ Cert.DownRIdeal.sig) → Buf (Elt Ideal) ℓ) (g' : Dev Cert.DownRIdeal.nD → PrngReg), Pre_DownKIdeal m →
    (∀ c : Dev Cert.DownKIdeal.nD,
      m' ((c.tc : Thread Cert.DownRIdeal.nD Cert.DownRIdeal.τ).loc Cert.DownRIdeal.main_arg0) = m ((c.tc : Thread Cert.DownKIdeal.nD Cert.DownKIdeal.τ).loc Cert.DownKIdeal.main_arg0)
      ∧ m' ((c.tc : Thread Cert.DownRIdeal.nD Cert.DownRIdeal.τ).loc Cert.DownRIdeal.main_arg1) = m ((c.tc : Thread Cert.DownKIdeal.nD Cert.DownKIdeal.τ).loc Cert.DownKIdeal.main_arg1)
      ∧ m' ((c.tc : Thread Cert.DownRIdeal.nD Cert.DownRIdeal.τ).loc Cert.DownRIdeal.main_arg2) = m ((c.tc : Thread Cert.DownKIdeal.nD Cert.DownKIdeal.τ).loc Cert.DownKIdeal.main_arg2)) →
    ∃ (v0 : (c : Dev Cert.DownKIdeal.nD) → Buf (Elt Ideal) ((c.tc : Thread Cert.DownKIdeal.nD Cert.DownKIdeal.τ).loc Cert.DownKIdeal.main_v4_0)) (v1 : (c : Dev Cert.DownKIdeal.nD) → Buf (Elt Ideal) ((c.tc : Thread Cert.DownKIdeal.nD Cert.DownKIdeal.τ).loc Cert.DownKIdeal.main_v4_1)),
      θ_run (Cert.DownKIdeal.defs (F := Ideal)) (onTc (τ := Cert.DownKIdeal.τ) (Cert.DownKIdeal.main (F := Ideal))) ⟨m, fun _ => 0, g⟩ (fun r => ∀ c : Dev Cert.DownKIdeal.nD,
          r.2.mem ((c.tc : Thread Cert.DownKIdeal.nD Cert.DownKIdeal.τ).loc Cert.DownKIdeal.main_v4_0) = v0 c
          ∧ r.2.mem ((c.tc : Thread Cert.DownKIdeal.nD Cert.DownKIdeal.τ).loc Cert.DownKIdeal.main_v4_1) = v1 c
          ∧ r.2.mem ((c.tc : Thread Cert.DownKIdeal.nD Cert.DownKIdeal.τ).loc Cert.DownKIdeal.main_arg0) = m ((c.tc : Thread Cert.DownKIdeal.nD Cert.DownKIdeal.τ).loc Cert.DownKIdeal.main_arg0)
          ∧ r.2.mem ((c.tc : Thread Cert.DownKIdeal.nD Cert.DownKIdeal.τ).loc Cert.DownKIdeal.main_arg1) = m ((c.tc : Thread Cert.DownKIdeal.nD Cert.DownKIdeal.τ).loc Cert.DownKIdeal.main_arg1)
          ∧ r.2.mem ((c.tc : Thread Cert.DownKIdeal.nD Cert.DownKIdeal.τ).loc Cert.DownKIdeal.main_arg2) = m ((c.tc : Thread Cert.DownKIdeal.nD Cert.DownKIdeal.τ).loc Cert.DownKIdeal.main_arg2))
      ∧ θ_run (Cert.DownRIdeal.defs (F := Ideal)) (onTc (τ := Cert.DownRIdeal.τ) (Cert.DownRIdeal.main (F := Ideal))) ⟨m', fun _ => 0, g'⟩ (fun r => ∀ c : Dev Cert.DownRIdeal.nD,
          r.2.mem ((c.tc : Thread Cert.DownRIdeal.nD Cert.DownRIdeal.τ).loc Cert.DownRIdeal.main_v14) = v0 c
          ∧ r.2.mem ((c.tc : Thread Cert.DownRIdeal.nD Cert.DownRIdeal.τ).loc Cert.DownRIdeal.main_v16) = v1 c
          ∧ r.2.mem ((c.tc : Thread Cert.DownRIdeal.nD Cert.DownRIdeal.τ).loc Cert.DownRIdeal.main_arg0) = m' ((c.tc : Thread Cert.DownRIdeal.nD Cert.DownRIdeal.τ).loc Cert.DownRIdeal.main_arg0)
          ∧ r.2.mem ((c.tc : Thread Cert.DownRIdeal.nD Cert.DownRIdeal.τ).loc Cert.DownRIdeal.main_arg1) = m' ((c.tc : Thread Cert.DownRIdeal.nD Cert.DownRIdeal.τ).loc Cert.DownRIdeal.main_arg1)
          ∧ r.2.mem ((c.tc : Thread Cert.DownRIdeal.nD Cert.DownRIdeal.τ).loc Cert.DownRIdeal.main_arg2) = m' ((c.tc : Thread Cert.DownRIdeal.nD Cert.DownRIdeal.τ).loc Cert.DownRIdeal.main_arg2))

def Claim : Prop :=
  ∃ (hConvK : Cert.ConvK.Facts) (hConvKIdeal : Cert.ConvKIdeal.Facts) (hConvRIdeal : Cert.ConvRIdeal.Facts) (hDuK : Cert.DuK.Facts) (hDuKIdeal : Cert.DuKIdeal.Facts) (hDuRIdeal : Cert.DuRIdeal.Facts) (hAttK : Cert.AttK.Facts) (hAttKIdeal : Cert.AttKIdeal.Facts) (hAttRIdeal : Cert.AttRIdeal.Facts) (hRmsK : Cert.RmsK.Facts) (hRmsKIdeal : Cert.RmsKIdeal.Facts) (hRmsRIdeal : Cert.RmsRIdeal.Facts) (hRmsCK : Cert.RmsCK.Facts) (hRmsCKIdeal : Cert.RmsCKIdeal.Facts) (hRmsCRIdeal : Cert.RmsCRIdeal.Facts) (hRmsDK : Cert.RmsDK.Facts) (hRmsDKIdeal : Cert.RmsDKIdeal.Facts) (hRmsDRIdeal : Cert.RmsDRIdeal.Facts) (hLossK : Cert.LossK.Facts) (hLossKIdeal : Cert.LossKIdeal.Facts) (hLossRIdeal : Cert.LossRIdeal.Facts) (hDeltaK : Cert.DeltaK.Facts) (hDeltaKIdeal : Cert.DeltaKIdeal.Facts) (hDeltaRIdeal : Cert.DeltaRIdeal.Facts) (hGateK : Cert.GateK.Facts) (hGateKIdeal : Cert.GateKIdeal.Facts) (hGateRIdeal : Cert.GateRIdeal.Facts) (hUpK : Cert.UpK.Facts) (hUpKIdeal : Cert.UpKIdeal.Facts) (hUpRIdeal : Cert.UpRIdeal.Facts) (hInK : Cert.InK.Facts) (hInKIdeal : Cert.InKIdeal.Facts) (hInRIdeal : Cert.InRIdeal.Facts) (hDownK : Cert.DownK.Facts) (hDownKIdeal : Cert.DownKIdeal.Facts) (hDownRIdeal : Cert.DownRIdeal.Facts) (hPre_attn_ok : Cert.Pre_attn_ok.Facts) (hPre_rms_ok : Cert.Pre_rms_ok.Facts) (hPre_rms_ok_conv : Cert.Pre_rms_ok_conv.Facts) (hPre_rms_ok_down : Cert.Pre_rms_ok_down.Facts),
    quiescent_ConvK (hConvK := hConvK)
    ∧ quiescent_ConvKIdeal (hConvKIdeal := hConvKIdeal)
    ∧ quiescent_ConvRIdeal (hConvRIdeal := hConvRIdeal)
    ∧ quiescent_DuK (hDuK := hDuK)
    ∧ quiescent_DuKIdeal (hDuKIdeal := hDuKIdeal)
    ∧ quiescent_DuRIdeal (hDuRIdeal := hDuRIdeal)
    ∧ quiescent_AttK (hAttK := hAttK)
    ∧ quiescent_AttKIdeal (hAttKIdeal := hAttKIdeal)
    ∧ quiescent_AttKIdeal_pre_attn_ok (hAttKIdeal := hAttKIdeal) (hPre_attn_ok := hPre_attn_ok)
    ∧ quiescent_AttRIdeal (hAttRIdeal := hAttRIdeal)
    ∧ quiescent_AttRIdeal_pre_attn_ok (hAttRIdeal := hAttRIdeal) (hPre_attn_ok := hPre_attn_ok)
    ∧ quiescent_RmsK (hRmsK := hRmsK)
    ∧ quiescent_RmsKIdeal (hRmsKIdeal := hRmsKIdeal)
    ∧ quiescent_RmsKIdeal_pre_rms_ok (hRmsKIdeal := hRmsKIdeal) (hPre_rms_ok := hPre_rms_ok)
    ∧ quiescent_RmsRIdeal (hRmsRIdeal := hRmsRIdeal)
    ∧ quiescent_RmsRIdeal_pre_rms_ok (hRmsRIdeal := hRmsRIdeal) (hPre_rms_ok := hPre_rms_ok)
    ∧ quiescent_RmsCK (hRmsCK := hRmsCK)
    ∧ quiescent_RmsCKIdeal (hRmsCKIdeal := hRmsCKIdeal)
    ∧ quiescent_RmsCKIdeal_pre_rms_ok_conv (hRmsCKIdeal := hRmsCKIdeal) (hPre_rms_ok_conv := hPre_rms_ok_conv)
    ∧ quiescent_RmsCRIdeal (hRmsCRIdeal := hRmsCRIdeal)
    ∧ quiescent_RmsCRIdeal_pre_rms_ok_conv (hRmsCRIdeal := hRmsCRIdeal) (hPre_rms_ok_conv := hPre_rms_ok_conv)
    ∧ quiescent_RmsDK (hRmsDK := hRmsDK)
    ∧ quiescent_RmsDKIdeal (hRmsDKIdeal := hRmsDKIdeal)
    ∧ quiescent_RmsDKIdeal_pre_rms_ok_down (hRmsDKIdeal := hRmsDKIdeal) (hPre_rms_ok_down := hPre_rms_ok_down)
    ∧ quiescent_RmsDRIdeal (hRmsDRIdeal := hRmsDRIdeal)
    ∧ quiescent_RmsDRIdeal_pre_rms_ok_down (hRmsDRIdeal := hRmsDRIdeal) (hPre_rms_ok_down := hPre_rms_ok_down)
    ∧ quiescent_LossK (hLossK := hLossK)
    ∧ quiescent_LossKIdeal (hLossKIdeal := hLossKIdeal)
    ∧ quiescent_LossRIdeal (hLossRIdeal := hLossRIdeal)
    ∧ quiescent_DeltaK (hDeltaK := hDeltaK)
    ∧ quiescent_DeltaKIdeal (hDeltaKIdeal := hDeltaKIdeal)
    ∧ quiescent_DeltaRIdeal (hDeltaRIdeal := hDeltaRIdeal)
    ∧ quiescent_GateK (hGateK := hGateK)
    ∧ quiescent_GateKIdeal (hGateKIdeal := hGateKIdeal)
    ∧ quiescent_GateRIdeal (hGateRIdeal := hGateRIdeal)
    ∧ quiescent_UpK (hUpK := hUpK)
    ∧ quiescent_UpKIdeal (hUpKIdeal := hUpKIdeal)
    ∧ quiescent_UpRIdeal (hUpRIdeal := hUpRIdeal)
    ∧ quiescent_InK (hInK := hInK)
    ∧ quiescent_InKIdeal (hInKIdeal := hInKIdeal)
    ∧ quiescent_InRIdeal (hInRIdeal := hInRIdeal)
    ∧ quiescent_DownK (hDownK := hDownK)
    ∧ quiescent_DownKIdeal (hDownKIdeal := hDownKIdeal)
    ∧ quiescent_DownRIdeal (hDownRIdeal := hDownRIdeal)
    ∧ preserves_ConvK_ConvKIdeal
    ∧ algebraic_ConvKIdeal_ConvRIdeal (hConvKIdeal := hConvKIdeal) (hConvRIdeal := hConvRIdeal)
    ∧ preserves_DuK_DuKIdeal
    ∧ algebraic_DuKIdeal_DuRIdeal (hDuKIdeal := hDuKIdeal) (hDuRIdeal := hDuRIdeal)
    ∧ preserves_AttK_AttKIdeal
    ∧ algebraic_AttKIdeal_AttRIdeal_pre_attn_ok (hAttKIdeal := hAttKIdeal) (hAttRIdeal := hAttRIdeal) (hPre_attn_ok := hPre_attn_ok)
    ∧ preserves_RmsK_RmsKIdeal
    ∧ algebraic_RmsKIdeal_RmsRIdeal_pre_rms_ok (hRmsKIdeal := hRmsKIdeal) (hRmsRIdeal := hRmsRIdeal) (hPre_rms_ok := hPre_rms_ok)
    ∧ preserves_RmsCK_RmsCKIdeal
    ∧ algebraic_RmsCKIdeal_RmsCRIdeal_pre_rms_ok_conv (hRmsCKIdeal := hRmsCKIdeal) (hRmsCRIdeal := hRmsCRIdeal) (hPre_rms_ok_conv := hPre_rms_ok_conv)
    ∧ preserves_RmsDK_RmsDKIdeal
    ∧ algebraic_RmsDKIdeal_RmsDRIdeal_pre_rms_ok_down (hRmsDKIdeal := hRmsDKIdeal) (hRmsDRIdeal := hRmsDRIdeal) (hPre_rms_ok_down := hPre_rms_ok_down)
    ∧ preserves_LossK_LossKIdeal
    ∧ algebraic_LossKIdeal_LossRIdeal (hLossKIdeal := hLossKIdeal) (hLossRIdeal := hLossRIdeal)
    ∧ preserves_DeltaK_DeltaKIdeal
    ∧ algebraic_DeltaKIdeal_DeltaRIdeal (hDeltaKIdeal := hDeltaKIdeal) (hDeltaRIdeal := hDeltaRIdeal)
    ∧ preserves_GateK_GateKIdeal
    ∧ algebraic_GateKIdeal_GateRIdeal (hGateKIdeal := hGateKIdeal) (hGateRIdeal := hGateRIdeal)
    ∧ preserves_UpK_UpKIdeal
    ∧ algebraic_UpKIdeal_UpRIdeal (hUpKIdeal := hUpKIdeal) (hUpRIdeal := hUpRIdeal)
    ∧ preserves_InK_InKIdeal
    ∧ algebraic_InKIdeal_InRIdeal (hInKIdeal := hInKIdeal) (hInRIdeal := hInRIdeal)
    ∧ preserves_DownK_DownKIdeal
    ∧ algebraic_DownKIdeal_DownRIdeal (hDownKIdeal := hDownKIdeal) (hDownRIdeal := hDownRIdeal)
-- ==== Pre_attn_ok.lean ====
abbrev S8192x8x192 : Shape := ⟨3, ![8192, 8, 192]⟩
abbrev S8192x8x128 : Shape := ⟨3, ![8192, 8, 128]⟩
abbrev S8192x1024 : Shape := ⟨2, ![8192, 1024]⟩
abbrev S8192 : Shape := ⟨1, ![8192]⟩
abbrev S_ : Shape := ⟨0, ![]⟩
abbrev S8191 : Shape := ⟨1, ![8191]⟩

class Facts : Prop where
  bcast_S_S8192x8x192 : S_.BroadcastsInDim S8192x8x192 (![] : Fin 0 → Fin S8192x8x192.rank)
  reducesTo_S8192x8x192_S_d0_1_2 : S8192x8x192.ReducesTo [0, 1, 2] S_
  h_S_ : 0 < S_.numel
  bcast_S_S8192x8x128 : S_.BroadcastsInDim S8192x8x128 (![] : Fin 0 → Fin S8192x8x128.rank)
  reducesTo_S8192x8x128_S_d0_1_2 : S8192x8x128.ReducesTo [0, 1, 2] S_
  bcast_S_S8192x1024 : S_.BroadcastsInDim S8192x1024 (![] : Fin 0 → Fin S8192x1024.rank)
  reducesTo_S8192x1024_S_d0_1 : S8192x1024.ReducesTo [0, 1] S_
  slices_S8192_S8191_1 : S8192.Slices ![1] S8191
  slices_S8192_S8191_0 : S8192.Slices ![0] S8191
  reducesTo_S8191_S_d0 : S8191.ReducesTo [0] S_

variable [Facts]

def fn_part1 {F : FTy → Type} [FloatOps F] (main_arg4 : IVec S8192 32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : IVec S8191 32 := (extractStridedSlice S8191 ![1] · slices_S8192_S8191_1) main_arg4
  let main_v20 : IVec S8191 32 := (extractStridedSlice S8191 ![0] · slices_S8192_S8191_0) main_arg4
  let main_v21 : IVec S8191 1 := cmpi .sgt main_v19 main_v20
  let main_c_6 : IVec S_ 1 := constantI S_ 1 1#1
  let main_v22 : IVec S_ 1 := (fun x v => Host.reduce IntOp.andi x v reducesTo_S8191_S_d0 h_S_) main_v21 main_c_6
  let main_v23 : IVec S_ 1 := andi main_v18 main_v22
  main_v23

def fn {F : FTy → Type} [FloatOps F] (main_arg0 : FVec F S8192x8x192 .f32) (main_arg1 : FVec F S8192x8x192 .f32) (main_arg2 : FVec F S8192x8x128 .f32) (main_arg3 : FVec F S8192x1024 .f32) (main_arg4 : IVec S8192 32) : IVec S_ 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_c : IVec S_ 1 := constantI S_ 1 1#1
  let main_v3 : IVec S_ 1 := (fun x v => Host.reduce IntOp.andi x v reducesTo_S8192x8x192_S_d0_1_2 h_S_) main_v2 main_c
  let main_v4 : FVec F S8192x8x192 .f32 := Host.absf main_arg1
  let main_cst_0 : FVec F S_ .f32 := constant S_ .f32 0x7F800000#32
  let main_v5 : FVec F S8192x8x192 .f32 := broadcastInDim S8192x8x192 ![] bcast_S_S8192x8x192 main_cst_0
  let main_v6 : IVec S8192x8x192 1 := cmpf .olt main_v4 main_v5
  let main_c_1 : IVec S_ 1 := constantI S_ 1 1#1
  let main_v7 : IVec S_ 1 := (fun x v => Host.reduce IntOp.andi x v reducesTo_S8192x8x192_S_d0_1_2 h_S_) main_v6 main_c_1
  let main_v8 : IVec S_ 1 := andi main_v3 main_v7
  let main_v9 : FVec F S8192x8x128 .f32 := Host.absf main_arg2
  let main_cst_2 : FVec F S_ .f32 := constant S_ .f32 0x7F800000#32
  let main_v10 : FVec F S8192x8x128 .f32 := broadcastInDim S8192x8x128 ![] bcast_S_S8192x8x128 main_cst_2
  let main_v11 : IVec S8192x8x128 1 := cmpf .olt main_v9 main_v10
  let main_c_3 : IVec S_ 1 := constantI S_ 1 1#1
  let main_v12 : IVec S_ 1 := (fun x v => Host.reduce IntOp.andi x v reducesTo_S8192x8x128_S_d0_1_2 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Pre_rms_ok.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x4096 .f32) (main_arg1 : FVec F S1024x4096 .f32) (main_arg2 : FVec F S8192x1024 .f32) (main_arg3 : FVec F S1024 .f32) (main_arg4 : FVec F S8192x1024 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Pre_rms_ok_conv.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x3072 .f32) (main_arg1 : FVec F S1024x3072 .f32) (main_arg2 : FVec F S8192x1024 .f32) (main_arg3 : FVec F S1024 .f32) (main_arg4 : FVec F S8192x1024 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Pre_rms_ok_down.lean ====
abbrev S8192x448 : Shape := ⟨2, ![8192, 448]⟩
abbrev S1024x448 : Shape := ⟨2, ![1024, 448]⟩
abbrev S8192x1024 : Shape := ⟨2, ![8192, 1024]⟩
abbrev S1024 : Shape := ⟨1, ![1024]⟩
abbrev S_ : Shape := ⟨0, ![]⟩

class Facts : Prop where
  bcast_S_S8192x448 : S_.BroadcastsInDim S8192x448 (![] : Fin 0 → Fin S8192x448.rank)
  reducesTo_S8192x448_S_d0_1 : S8192x448.ReducesTo [0, 1] S_
  h_S_ : 0 < S_.numel
  bcast_S_S1024x448 : S_.BroadcastsInDim S1024x448 (![] : Fin 0 → Fin S1024x448.rank)
  reducesTo_S1024x448_S_d0_1 : S1024x448.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x448 .f32) (main_arg1 : FVec F S1024x448 .f32) (main_arg2 : FVec F S8192x1024 .f32) (main_arg3 : FVec F S1024 .f32) (main_arg4 : FVec F S8192x1024 .f32) : IVec S_ 1 :=
  let main_v0 : FVec F S8192x448 .f32 := Host.absf main_arg0
  let main_cst : FVec F S_ .f32 := constant S_ .f32 0x7F800000#32
  let main_v1 : FVec F S8192x448 .f32 := broadcastInDim S8192x448 ![] bcast_S_S8192x448 main_cst
  let main_v2 : IVec S8192x448 1 := cmpf .olt main_v0 main_v1
  let main_c : IVec S_ 1 := constantI S_ 1 1#1
  let main_v3 : IVec S_ 1 := (fun x v => Host.reduce IntOp.andi x v reducesTo_S8192x448_S_d0_1 h_S_) main_v2 main_c
  let main_v4 : FVec F S1024x448 .f32 := Host.absf main_arg1
  let main_cst_0 : FVec F S_ .f32 := constant S_ .f32 0x7F800000#32
  let main_v5 : FVec F S1024x448 .f32 := broadcastInDim S1024x448 ![] bcast_S_S1024x448 main_cst_0
  let main_v6 : IVec S1024x448 1 := cmpf .olt main_v4 main_v5
  let main_c_1 : IVec S_ 1 := constantI S_ 1 1#1
  let main_v7 : IVec S_ 1 := (fun x v => Host.reduce IntOp.andi x v reducesTo_S1024x448_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== ConvK.lean ====
abbrev S8192x1024 : Shape := ⟨2, ![8192, 1024]⟩
abbrev S8192x3072 : Shape := ⟨2, ![8192, 3072]⟩
abbrev S3x1024 : Shape := ⟨2, ![3, 1024]⟩
abbrev S1024x1024 : Shape := ⟨2, ![1024, 1024]⟩
abbrev S16x1024 : Shape := ⟨2, ![16, 1024]⟩
abbrev S1024x3072 : Shape := ⟨2, ![1024, 3072]⟩
abbrev S1040x1024 : Shape := ⟨2, ![1040, 1024]⟩
abbrev S1x1024 : Shape := ⟨2, ![1, 1024]⟩
abbrev S1024 : Shape := ⟨1, ![1024]⟩

abbrev nBuf : Space → Nat
  | .hbm => 6
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S3x1024, .f32⟩
  | .hbm, ⟨3, _⟩ => ⟨S8192x3072, .bf16⟩
  | .hbm, ⟨4, _⟩ => ⟨S8192x3072, .bf16⟩
  | .hbm, ⟨5, _⟩ => ⟨S3x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1024x1024, .bf16⟩
  | .local _ .vmem, ⟨5, _⟩ => ⟨S1024x1024, .bf16⟩
  | .local _ .vmem, ⟨6, _⟩ => ⟨S16x1024, .bf16⟩
  | .local _ .vmem, ⟨7, _⟩ => ⟨S16x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S3x1024, .f32⟩
  | .local _ .vmem, ⟨17, _⟩ => ⟨S1024x3072, .bf16⟩
  | .local _ .vmem, ⟨18, _⟩ => ⟨S1024x3072, .bf16⟩
  | .local _ .vmem, ⟨19, _⟩ => ⟨S3x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_33 : BitVec 32 := 0#32
  let v92 : BitVec 1 := Scalar.cmpi .eq arg0 c0_i32_33
  let v93 : BitVec 32 := Scalar.extui v92
  let c0_i32_34 : BitVec 32 := 0#32
  let v94 : BitVec 1 := Scalar.cmpi .ne v93 c0_i32_34
  v94

def k0_cond2 (i : grid0.Coords) : BitVec 1 :=
  let arg0 : BitVec 32 := BitVec.ofNat 32 (i 0).val
  let c0_i32_35 : BitVec 32 := 0#32
  let v95 : BitVec 1 := Scalar.cmpi .ne arg0 c0_i32_35
  let v96 : BitVec 32 := Scalar.extui v95
  let c0_i32_36 : BitVec 32 := 0#32
  let v97 : BitVec 1 := Scalar.cmpi .ne v96 c0_i32_36
  v97

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvRIdeal.lean ====
abbrev S8192x1024 : Shape := ⟨2, ![8192, 1024]⟩
abbrev S8192x3072 : Shape := ⟨2, ![8192, 3072]⟩
abbrev S3x1024 : Shape := ⟨2, ![3, 1024]⟩
abbrev S_ : Shape := ⟨0, ![]⟩
abbrev S2x1024 : Shape := ⟨2, ![2, 1024]⟩
abbrev S8190x1024 : Shape := ⟨2, ![8190, 1024]⟩
abbrev S1x1024 : Shape := ⟨2, ![1, 1024]⟩
abbrev S1024 : Shape := ⟨1, ![1024]⟩
abbrev S8191x1024 : Shape := ⟨2, ![8191, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S3x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S2x1024, .f32⟩
  | .hbm, ⟨9, _⟩ => ⟨S8190x1024, .f32⟩
  | .hbm, ⟨10, _⟩ => ⟨S8192x1024, .f32⟩
  | .hbm, ⟨11, _⟩ => ⟨S_, .f32⟩
  | .hbm, ⟨12, _⟩ => ⟨S2x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S1x1024, .f32⟩
  | .hbm, ⟨20, _⟩ => ⟨S8191x1024, .f32⟩
  | .hbm, ⟨21, _⟩ => ⟨S8192x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S3x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S3x1024, .f32⟩
  | .hbm, ⟨61, _⟩ => ⟨S3x1024, .f32⟩
  | .hbm, ⟨62, _⟩ => ⟨S1x1024, .f32⟩
  | .hbm, ⟨63, _⟩ => ⟨S8191x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S_, .f32⟩
  | .hbm, ⟨77, _⟩ => ⟨S3x1024, .f32⟩
  | .hbm, ⟨78, _⟩ => ⟨S3x1024, .f32⟩
  | .hbm, ⟨79, _⟩ => ⟨S2x1024, .f32⟩
  | .hbm, ⟨80, _⟩ => ⟨S8190x1024, .f32⟩
  | .hbm, ⟨81, _⟩ => ⟨S_, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x3072, .f32⟩
  | .hbm, ⟨87, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== DuK.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩
abbrev S1x4096x1024 : Shape := ⟨3, ![1, 4096, 1024]⟩
abbrev S512x1024 : Shape := ⟨2, ![512, 1024]⟩
abbrev S512x4096 : Shape := ⟨2, ![512, 4096]⟩
abbrev S1x512x1024 : Shape := ⟨3, ![1, 512, 1024]⟩
abbrev S512x512 : Shape := ⟨2, ![512, 512]⟩

abbrev nBuf : Space → Nat
  | .hbm => 14
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S8192x1024, .bf16⟩
  | .hbm, ⟨11, _⟩ => ⟨S4096x1024, .bf16⟩
  | .hbm, ⟨12, _⟩ => ⟨S1x4096x1024, .bf16⟩
  | .hbm, ⟨13, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1x4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DuRIdeal.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== AttK.lean ====
abbrev S8192x8x192 : Shape := ⟨3, ![8192, 8, 192]⟩
abbrev S8192x8x128 : Shape := ⟨3, ![8192, 8, 128]⟩
abbrev S8192x1024 : Shape := ⟨2, ![8192, 1024]⟩
abbrev S8192 : Shape := ⟨1, ![8192]⟩
abbrev S10 : Shape := ⟨1, ![10]⟩
abbrev S8x8192x8192 : Shape := ⟨3, ![8, 8192, 8192]⟩
abbrev S_ : Shape := ⟨0, ![]⟩
abbrev S1x8192x1 : Shape := ⟨3, ![1, 8192, 1]⟩
abbrev S1x1x8192 : Shape := ⟨3, ![1, 1, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8 : Shape := ⟨2, ![8192, 8]⟩
abbrev S8x8192x192 : Shape := ⟨3, ![8, 8192, 192]⟩
abbrev S8x8192x256 : Shape := ⟨3, ![8, 8192, 256]⟩
abbrev S8x8192x128 : Shape := ⟨3, ![8, 8192, 128]⟩
abbrev S8x1x8192 : Shape := ⟨3, ![8, 1, 8192]⟩
abbrev S8192x1 : Shape := ⟨2, ![8192, 1]⟩
abbrev S1x8192 : Shape := ⟨2, ![1, 8192]⟩
abbrev S1x2048x256 : Shape := ⟨3, ![1, 2048, 256]⟩
abbrev S1 : Shape := ⟨1, ![1]⟩
abbrev S1x2048x128 : Shape := ⟨3, ![1, 2048, 128]⟩
abbrev S2048x128 : Shape := ⟨2, ![2048, 128]⟩
abbrev S1x1x2048 : Shape := ⟨3, ![1, 1, 2048]⟩
abbrev S2048x1 : Shape := ⟨2, ![2048, 1]⟩
abbrev S1x2048 : Shape := ⟨2, ![1, 2048]⟩
abbrev S1x8192x256 : Shape := ⟨3, ![1, 8192, 256]⟩
abbrev S8192x256 : Shape := ⟨2, ![8192, 256]⟩
abbrev S2048x256 : Shape := ⟨2, ![2048, 256]⟩
abbrev S1x256x256 : Shape := ⟨3, ![1, 256, 256]⟩
abbrev S256x256 : Shape := ⟨2, ![256, 256]⟩
abbrev S256x128 : Shape := ⟨2, ![256, 128]⟩
abbrev S256x1 : Shape := ⟨2, ![256, 1]⟩
abbrev S1x256 : Shape := ⟨2, ![1, 256]⟩
abbrev S1x256x128 : Shape := ⟨3, ![1, 256, 128]⟩
abbrev S1x512x256 : Shape := ⟨3, ![1, 512, 256]⟩
abbrev S512x256 : Shape := ⟨2, ![512, 256]⟩
abbrev S512x1 : Shape := ⟨2, ![512, 1]⟩
abbrev S1x512x128 : Shape := ⟨3, ![1, 512, 128]⟩
abbrev S512x128 : Shape := ⟨2, ![512, 128]⟩
abbrev S1x1x256 : Shape := ⟨3, ![1, 1, 256]⟩
abbrev S1x768x256 : Shape := ⟨3, ![1, 768, 256]⟩
abbrev S768x256 : Shape := ⟨2, ![768, 256]⟩
abbrev S768x1 : Shape := ⟨2, ![768, 1]⟩
abbrev S1x768x128 : Shape := ⟨3, ![1, 768, 128]⟩
abbrev S768x128 : Shape := ⟨2, ![768, 128]⟩
abbrev S1x1024x256 : Shape := ⟨3, ![1, 1024, 256]⟩
abbrev S1024x256 : Shape := ⟨2, ![1024, 256]⟩
abbrev S1024x1 : Shape := ⟨2, ![1024, 1]⟩
abbrev S1x1024x128 : Shape := ⟨3, ![1, 1024, 128]⟩
abbrev S1024x128 : Shape := ⟨2, ![1024, 128]⟩
abbrev S1x1280x256 : Shape := ⟨3, ![1, 1280, 256]⟩
abbrev S1280x256 : Shape := ⟨2, ![1280, 256]⟩
abbrev S1280x1 : Shape := ⟨2, ![1280, 1]⟩
abbrev S1x1280x128 : Shape := ⟨3, ![1, 1280, 128]⟩
abbrev S1280x128 : Shape := ⟨2, ![1280, 128]⟩
abbrev S1x1536x256 : Shape := ⟨3, ![1, 1536, 256]⟩
abbrev S1536x256 : Shape := ⟨2, ![1536, 256]⟩
abbrev S1536x1 : Shape := ⟨2, ![1536, 1]⟩
abbrev S1x1536x128 : Shape := ⟨3, ![1, 1536, 128]⟩
abbrev S1536x128 : Shape := ⟨2, ![1536, 128]⟩
abbrev S1x1792x256 : Shape := ⟨3, ![1, 1792, 256]⟩
abbrev S1792x256 : Shape := ⟨2, ![1792, 256]⟩
abbrev S1792x1 : Shape := ⟨2, ![1792, 1]⟩
abbrev S1x1792x128 : Shape := ⟨3, ![1, 1792, 128]⟩
abbrev S1792x128 : Shape := ⟨2, ![1792, 128]⟩

abbrev nBuf : Space → Nat
  | .hbm => 92
  | .vmem => 22
  | .smem => 2
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x1024, .f32⟩
  | .hbm, ⟨4, _⟩ => ⟨S8192, .i32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S1x8192x1, .i32⟩
  | .hbm, ⟨10, _⟩ => ⟨S1x1x8192, .i32⟩
  | .hbm, ⟨11, _⟩ => ⟨S1x8192x8192, .i32⟩
  | .hbm, ⟨12, _⟩ => ⟨S1x8192x8192, .i32⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192, .f32⟩
  | .hbm, ⟨28, _⟩ => ⟨S8x8192, .f32⟩
  | .hbm, ⟨29, _⟩ => ⟨S8x8192x8192, .f32⟩
  | .hbm, ⟨30, _⟩ => ⟨S_, .f32⟩
  | .hbm, ⟨31, _⟩ => ⟨S8x8192x8192, .f32⟩
  | .hbm, ⟨32, _⟩ => ⟨S8x8192x8192, .f32⟩
  | .hbm, ⟨33, _⟩ => ⟨S1x8192x1, .i32⟩
  | .hbm, ⟨34, _⟩ => ⟨S1x1x8192, .i32⟩
  | .hbm, ⟨35, _⟩ => ⟨S1x8192x8192, .i32⟩
  | .hbm, ⟨36, _⟩ => ⟨S1x8192x8192, .i32⟩
  | .hbm, ⟨37, _⟩ => ⟨S1x8192x8192, .i1⟩
  | .hbm, ⟨38, _⟩ => ⟨S_, .f32⟩
  | .hbm, ⟨39, _⟩ => ⟨S_, .f32⟩
  | .hbm, ⟨40, _⟩ => ⟨S8x8192x8192, .i1⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S8x8192x8192, .f32⟩
  | .hbm, ⟨56, _⟩ => ⟨S8x8192x8192, .f32⟩
  | .hbm, ⟨57, _⟩ => ⟨S8x128x8192, .f32⟩
  | .hbm, ⟨58, _⟩ => ⟨S8192x8x128, .f32⟩
  | .hbm, ⟨59, _⟩ => ⟨S8192x8x128, .f32⟩
  | .hbm, ⟨60, _⟩ => ⟨S8192x8x128, .f32⟩
  | .hbm, ⟨61, _⟩ => ⟨S_, .f32⟩
  | .hbm, ⟨62, _⟩ => ⟨S8192x8, .f32⟩
  | .hbm, ⟨63, _⟩ => ⟨S8x8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192x8x192, .f32⟩
  | .hbm, ⟨68, _⟩ => ⟨S8192x8x192, .f32⟩
  | .hbm, ⟨69, _⟩ => ⟨S8192x8x192, .f32⟩
  | .hbm, ⟨70, _⟩ => ⟨S8192x8x192, .f32⟩
  | .hbm, ⟨71, _⟩ => ⟨S8x8192x192, .f32⟩
  | .hbm, ⟨72, _⟩ => ⟨S_, .i32⟩
  | .hbm, ⟨73, _⟩ => ⟨S_, .f32⟩
  | .hbm, ⟨74, _⟩ => ⟨S8x8192x256, .f32⟩
  | .hbm, ⟨75, _⟩ => ⟨S8x8192x256, .bf16⟩
  | .hbm, ⟨76, _⟩ => ⟨S8x8192x192, .f32⟩
  | .hbm, ⟨77, _⟩ => ⟨S_, .i32⟩
  | .hbm, ⟨78, _⟩ => ⟨S_, .f32⟩
  | .hbm, ⟨79, _⟩ => ⟨S8x8192x256, .f32⟩
  | .hbm, ⟨80, _⟩ => ⟨S8x8192x256, .bf16⟩
  | .hbm, ⟨81, _⟩ => ⟨S8x8192x128, .f32⟩
  | .hbm, ⟨82, _⟩ => ⟨S8x8192x128, .bf16⟩
  | .hbm, ⟨83, _⟩ => ⟨S8x8192, .f32⟩
  | .hbm, ⟨84, _⟩ => ⟨S8x8192, .f32⟩
  | .hbm, ⟨85, _⟩ => ⟨S8x1x8192, .f32⟩
  | .hbm, ⟨86, _⟩ => ⟨S8x1x8192, .f32⟩
  | .hbm, ⟨87, _⟩ => ⟨S8192x1, .i32⟩
  | .hbm, ⟨88, _⟩ => ⟨S1x8192, .i32⟩
  | .hbm, ⟨89, _⟩ => ⟨S8x8192x256, .f32⟩
  | .hbm, ⟨90, _⟩ => ⟨S8x8192x256, .f32⟩
  | .hbm, ⟨91, _⟩ => ⟨S8x8192x128, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .f32⟩
  | .local _ .vmem, ⟨7, _⟩ => ⟨S2048x128, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S2048x1, .i32⟩
  | .local _ .vmem, ⟨13, _⟩ => ⟨S2048x1, .i32⟩
  | .local _ .vmem, ⟨14, _⟩ => ⟨S1x2048, .i32⟩
  | .local _ .vmem, ⟨15, _⟩ => ⟨S1x2048, .i32⟩
  | .local _ .vmem, ⟨16, _⟩ => ⟨S1x8192x256, .f32⟩
  | .local _ .vmem, ⟨17, _⟩ => ⟨S1x8192x256, .f32⟩
  | .local _ .vmem, ⟨18, _⟩ => ⟨S1x2048x256, .f32⟩
  | .local _ .vmem, ⟨19, _⟩ => ⟨S1x2048x256, .f32⟩
  | .local _ .vmem, ⟨20, _⟩ => ⟨S1x2048x128, .f32⟩
  | .local _ .vmem, ⟨21, _⟩ => ⟨S1x2048x128, .f32⟩
  | .local _ .smem, ⟨0, _⟩ => ⟨S10, .i32⟩
  | .local _ .smem, ⟨1, _⟩ => ⟨S10, .i32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_12 : Ref sig .tc := ⟨.hbm, 72, rfl⟩
abbrev main_call2_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_13 : Ref sig .tc := ⟨.hbm, 77, rfl⟩
abbrev main_call3_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62_0 : Ref sig .tc := ⟨.hbm, 89, rfl⟩
abbrev main_v62_1 : Ref sig .tc := ⟨.hbm, 90, rfl⟩
abbrev main_v62_2 : Ref sig .tc := ⟨.hbm, 91, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c2048_i32 : BitVec 32 := 2048#32
  let v80 : BitVec 32 := Scalar.muli v1 c2048_i32
  let c0_i32_57 : BitVec 32 := 0#32
  let v81 : BitVec 32 := Scalar.addi v80 c0_i32_57
  v81
def k0_cond3 (v1 : BitVec 32) (v3 : BitVec 32) : BitVec 1 :=
  let v10 : BitVec 1 := Scalar.cmpi .eq v1 v3
  let v11 : BitVec 32 := Scalar.extui v10
  let c0_i32_2 : BitVec 32 := 0#32
  let v12 : BitVec 1 := Scalar.cmpi .ne v11 c0_i32_2
  v12

def k0_off2 (v1 : BitVec 32) (c0_i32_57 : BitVec 32) : Fin 3 → Nat :=
  let c0_58 : Index := 0#32
  let c2048_i32 : BitVec 32 := 2048#32
  let v80 : BitVec 32 := Scalar.muli v1 c2048_i32
  let v81 : BitVec 32 := Scalar.addi v80 c0_i32_57
  let v82 : BitVec 32 := v81
  let v83 : Index := Scalar.indexCast v82
  let c0_59 : Index := 0#32
  ![0, v83.toNat, 0]
def k0_mult2 (v1 : BitVec 32) : BitVec 32 :=
  let c2048_i32_103 : BitVec 32 := 2048#32
  let v139 : BitVec 32 := Scalar.muli v1 c2048_i32_103
  let c256_i32 : BitVec 32 := 256#32
  let v140 : BitVec 32 := Scalar.addi v139 c256_i32
  v140
def k0_mult3 (v1 : BitVec 32) : BitVec 32 :=
  let c2048_i32_149 : BitVec 32 := 2048#32
  let v198 : BitVec 32 := Scalar.muli v1 c2048_i32_149
  let c512_i32 : BitVec 32 := 512#32
  let v199 : BitVec 32 := Scalar.addi v198 c512_i32
  v199
def k0_mult4 (v1 : BitVec 32) : BitVec 32 :=
  let c2048_i32_195 : BitVec 32 := 2048#32
  let v257 : BitVec 32 := Scalar.muli v1 c2048_i32_195
  let c768_i32 : BitVec 32 := 768#32
  let v258 : BitVec 32 := Scalar.addi v257 c768_i32
  v258
def k0_mult5 (v1 : BitVec 32) : BitVec 32 :=
  let c2048_i32_241 : BitVec 32 := 2048#32
  let v316 : BitVec 32 := Scalar.muli v1 c2048_i32_241
  let c1024_i32 : BitVec 32 := 1024#32
  let v317 : BitVec 32 := Scalar.addi v316 c1024_i32
  v317
def k0_mult6 (v1 : BitVec 32) : BitVec 32 :=
  let c2048_i32_287 : BitVec 32 := 2048#32
  let v375 : BitVec 32 := Scalar.muli v1 c2048_i32_287
  let c1280_i32 : BitVec 32 := 1280#32
  let v376 : BitVec 32 := Scalar.addi v375 c1280_i32
  v376
def k0_mult7 (v1 : BitVec 32) : BitVec 32 :=
  let c2048_i32_333 : BitVec 32 := 2048#32
  let v434 : BitVec 32 := Scalar.muli v1 c2048_i32_333
  let c1536_i32 : BitVec 32 := 1536#32
  let v435 : BitVec 32 := Scalar.addi v434 c1536_i32
  v435
def k0_mult8 (v1 : BitVec 32) : BitVec 32 :=
  let c2048_i32_362 : BitVec 32 := 2048#32
  let v474 : BitVec 32 := Scalar.muli v1 c2048_i32_362
  let c1792_i32 : BitVec 32 := 1792#32
  let v475 : BitVec 32 := Scalar.addi v474 c1792_i32
  v475
def k0_mult9 (v1 : BitVec 32) : BitVec 32 :=
  let c2048_i32 : BitVec 32 := 2048#32
  let v62 : BitVec 32 := Scalar.muli v1 c2048_i32
  let c0_i32_47 : BitVec 32 := 0#32
  let v63 : BitVec 32 := Scalar.addi v62 c0_i32_47
  v63
def k0_cond4 (v1 : BitVec 32) (v3 : BitVec 32) : BitVec 1 :=
  let v13 : BitVec 1 := Scalar.cmpi .ne v1 v3
  let v14 : BitVec 32 := Scalar.extui v13
  let c0_i32_3 : BitVec 32 := 0#32
  let v15 : BitVec 1 := Scalar.cmpi .ne v14 c0_i32_3
  v15

def k0_off3 (v1 : BitVec 32) (c0_i32_47 : BitVec 32) : Fin 3 → Nat :=
  let c0_48 : Index := 0#32
  let c2048_i32 : BitVec 32 := 2048#32
  let v62 : BitVec 32 := Scalar.muli v1 c2048_i32
  let v63 : BitVec 32 := Scalar.addi v62 c0_i32_47
  let v64 : BitVec 32 := v63
  let v65 : Index := Scalar.indexCast v64
  let c0_49 : Index := 0#32
  ![0, v65.toNat, 0]
def k0_mult10 (v1 : BitVec 32) : BitVec 32 :=
  let c2048_i32_88 : BitVec 32 := 2048#32
  let v112 : BitVec 32 := Scalar.muli v1 c2048_i32_88
  let c256_i32 : BitVec 32 := 256#32
  let v113 : BitVec 32 := Scalar.addi v112 c256_i32
  v113
def k0_mult11 (v1 : BitVec 32) : BitVec 32 :=
  let c2048_i32_129 : BitVec 32 := 2048#32
  let v162 : BitVec 32 := Scalar.muli v1 c2048_i32_129
  let c512_i32 : BitVec 32 := 512#32
  let v163 : BitVec 32 := Scalar.addi v162 c512_i32
  v163
def k0_mult12 (v1 : BitVec 32) : BitVec 32 :=
  let c2048_i32_170 : BitVec 32 := 2048#32
  let v212 : BitVec 32 := Scalar.muli v1 c2048_i32_170
  let c768_i32 : BitVec 32 := 768#32
  let v213 : BitVec 32 := Scalar.addi v212 c768_i32
  v213
def k0_mult13 (v1 : BitVec 32) : BitVec 32 :=
  let c2048_i32_211 : BitVec 32 := 2048#32
  let v262 : BitVec 32 := Scalar.muli v1 c2048_i32_211
  let c1024_i32 : BitVec 32 := 1024#32
  let v263 : BitVec 32 := Scalar.addi v262 c1024_i32
  v263
def k0_mult14 (v1 : BitVec 32) : BitVec 32 :=
  let c2048_i32_252 : BitVec 32 := 2048#32
  let v312 : BitVec 32 := Scalar.muli v1 c2048_i32_252
  let c1280_i32 : BitVec 32 := 1280#32
  let v313 : BitVec 32 := Scalar.addi v312 c1280_i32
  v313
def k0_mult15 (v1 : BitVec 32) : BitVec 32 :=
  let c2048_i32_293 : BitVec 32 := 2048#32
  let v362 : BitVec 32 := Scalar.muli v1 c2048_i32_293
  let c1536_i32 : BitVec 32 := 1536#32
  let v363 : BitVec 32 := Scalar.addi v362 c1536_i32
  v363
def k0_mult16 (v1 : BitVec 32) : BitVec 32 :=
  let c2048_i32_322 : BitVec 32 := 2048#32
  let v402 : BitVec 32 := Scalar.muli v1 c2048_i32_322
  let c1792_i32 : BitVec 32 := 1792#32
  let v403 : BitVec 32 := Scalar.addi v402 c1792_i32
  v403

def k0_chk1 (v1 : BitVec 32) (v3 : BitVec 32) : Prop :=
  (∀ (k0_h3 : k0_cond3 v1 v3 = 1#1), 256 ∣ (k0_mult1 v1).toNat) ∧
  (∀ (k0_h3 : k0_cond3 v1 v3 = 1#1), ∀ (r : Fin 8), ∀ a, (k0_off2 v1 (BitVec.ofNat 32 (256 * r.val))) a + S1x256x256.size a ≤ S1x8192x256.size a) ∧
  (∀ (k0_h3 : k0_cond3 v1 v3 = 1#1), 256 ∣ (k0_mult2 v1).toNat) ∧
  (∀ (k0_h3 : k0_cond3 v1 v3 = 1#1), 256 ∣ (k0_mult3 v1).toNat) ∧
  (∀ (k0_h3 : k0_cond3 v1 v3 = 1#1), 256 ∣ (k0_mult4 v1).toNat) ∧
  (∀ (k0_h3 : k0_cond3 v1 v3 = 1#1), 256 ∣ (k0_mult5 v1).toNat) ∧
  (∀ (k0_h3 : k0_cond3 v1 v3 = 1#1), 256 ∣ (k0_mult6 v1).toNat) ∧
  (∀ (k0_h3 : k0_cond3 v1 v3 = 1#1), 256 ∣ (k0_mult7 v1).toNat) ∧
  (∀ (k0_h3 : k0_cond3 v1 v3 = 1#1), 256 ∣ (k0_mult8 v1).toNat) ∧
  (∀ (k0_h4 : k0_cond4 v1 v3 = 1#1), 256 ∣ (k0_mult9 v1).toNat) ∧
  (∀ (k0_h4 : k0_cond4 v1 v3 = 1#1), ∀ (r : Fin 8), ∀ a, (k0_off3 v1 (BitVec.ofNat 32 (256 * r.val))) a + S1x256x256.size a ≤ S1x8192x256.size a) ∧
  (∀ (k0_h4 : k0_cond4 v1 v3 = 1#1), 256 ∣ (k0_mult10 v1).toNat) ∧
  (∀ (k0_h4 : k0_cond4 v1 v3 = 1#1), 256 ∣ (k0_mult11 v1).toNat) ∧
  (∀ (k0_h4 : k0_cond4 v1 v3 = 1#1), 256 ∣ (k0_mult12 v1).toNat) ∧
  (∀ (k0_h4 : k0_cond4 v1 v3 = 1#1), 256 ∣ (k0_mult13 v1).toNat) ∧
  (∀ (k0_h4 : k0_cond4 v1 v3 = 1#1), 256 ∣ (k0_mult14 v1).toNat) ∧
  (∀ (k0_h4 : k0_cond4 v1 v3 = 1#1), 256 ∣ (k0_mult15 v1).toNat) ∧
  (∀ (k0_h4 : k0_cond4 v1 v3 = 1#1), 256 ∣ (k0_mult16 v1).toNat)
theorem k0_mult1_dvd : ∀ (v1 : BitVec 32) (v3 : BitVec 32) (k0_hw1 : k0_chk1 v1 v3), ∀ (k0_h3 : k0_cond3 v1 v3 = 1#1), 256 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ (r : Fin 8), ∀ a, (k0_off2 v1 (BitVec.ofNat 32 (256 * r.val))) a + S1x256x256.size a ≤ S1x8192x256.size a := fun v1 v3 k0_hw1 k0_h3 r => k0_hw1.2.1 k0_h3 r
theorem k0_mult2_dvd : ∀ (v1 : BitVec 32) (v3 : BitVec 32) (k0_hw1 : k0_chk1 v1 v3), ∀ (k0_h3 : k0_cond3 v1 v3 = 1#1), 256 ∣ (k0_mult2 v1).toNat := fun v1 v3 k0_hw1 k0_h3 => k0_hw1.2.2.1 k0_h3
theorem k0_mult3_dvd : ∀ (v1 : BitVec 32) (v3 : BitVec 32) (k0_hw1 : k0_chk1 v1 v3), ∀ (k0_h3 : k0_cond3 v1 v3 = 1#1), 256 ∣ (k0_mult3 v1).toNat := fun v1 v3 k0_hw1 k0_h3 => k0_hw1.2.2.2.1 k0_h3
theorem k0_mult4_dvd : ∀ (v1 : BitVec 32) (v3 : BitVec 32) (k0_hw1 : k0_chk1 v1 v3), ∀ (k0_h3 : k0_cond3 v1 v3 = 1#1), 256 ∣ (k0_mult4 v1).toNat := fun v1 v3 k0_hw1 k0_h3 => k0_hw1.2.2.2.2.1 k0_h3
theorem k0_mult5_dvd : ∀ (v1 : BitVec 32) (v3 : BitVec 32) (k0_hw1 : k0_chk1 v1 v3), ∀ (k0_h3 : k0_cond3 v1 v3 = 1#1), 256 ∣ (k0_mult5 v1).toNat := fun v1 v3 k0_hw1 k0_h3 => k0_hw1.2.2.2.2.2.1 k0_h3
theorem k0_mult6_dvd : ∀ (v1 : BitVec 32) (v3 : BitVec 32) (k0_hw1 : k0_chk1 v1 v3), ∀ (k0_h3 : k0_cond3 v1 v3 = 1#1), 256 ∣ (k0_mult6 v1).toNat := fun v1 v3 k0_hw1 k0_h3 => k0_hw1.2.2.2.2.2.2.1 k0_h3
theorem k0_mult7_dvd : ∀ (v1 : BitVec 32) (v3 : BitVec 32) (k0_hw1 : k0_chk1 v1 v3), ∀ (k0_h3 : k0_cond3 v1 v3 = 1#1), 256 ∣ (k0_mult7 v1).toNat := fun v1 v3 k0_hw1 k0_h3 => k0_hw1.2.2.2.2.2.2.2.1 k0_h3
theorem k0_mult8_dvd : ∀ (v1 : BitVec 32) (v3 : BitVec 32) (k0_hw1 : k0_chk1 v1 v3), ∀ (k0_h3 : k0_cond3 v1 v3 = 1#1), 256 ∣ (k0_mult8 v1).toNat := fun v1 v3 k0_hw1 k0_h3 => k0_hw1.2.2.2.2.2.2.2.2.1 k0_h3
theorem k0_mult9_dvd : ∀ (v1 : BitVec 32) (v3 : BitVec 32) (k0_hw1 : k0_chk1 v1 v3), ∀ (k0_h4 : k0_cond4 v1 v3 = 1#1), 256 ∣ (k0_mult9 v1).toNat := fun v1 v3 k0_hw1 k0_h4 => k0_hw1.2.2.2.2.2.2.2.2.2.1 k0_h4
theorem k0_off3_inb : ∀ (v1 : BitVec 32) (v3 : BitVec 32) (k0_hw1 : k0_chk1 v1 v3), ∀ (k0_h4 : k0_cond4 v1 v3 = 1#1), ∀ (r : Fin 8), ∀ a, (k0_off3 v1 (BitVec.ofNat 32 (256 * r.val))) a + S1x256x256.size a ≤ S1x8192x256.size a := fun v1 v3 k0_hw1 k0_h4 r => k0_hw1.2.2.2.2.2.2.2.2.2.2.1 k0_h4 r
theorem k0_mult10_dvd : ∀ (v1 : BitVec 32) (v3 : BitVec 32) (k0_hw1 : k0_chk1 v1 v3), ∀ (k0_h4 : k0_cond4 v1 v3 = 1#1), 256 ∣ (k0_mult10 v1).toNat := fun v1 v3 k0_hw1 k0_h4 => k0_hw1.2.2.2.2.2.2.2.2.2.2.2.1 k0_h4
theorem k0_mult11_dvd : ∀ (v1 : BitVec 32) (v3 : BitVec 32) (k0_hw1 : k0_chk1 v1 v3), ∀ (k0_h4 : k0_cond4 v1 v3 = 1#1), 256 ∣ (k0_mult11 v1).toNat := fun v1 v3 k0_hw1 k0_h4 => k0_hw1.2.2.2.2.2.2.2.2.2.2.2.2.1 k0_h4
theorem k0_mult12_dvd : ∀ (v1 : BitVec 32) (v3 : BitVec 32) (k0_hw1 : k0_chk1 v1 v3), ∀ (k0_h4 : k0_cond4 v1 v3 = 1#1), 256 ∣ (k0_mult12 v1).toNat := fun v1 v3 k0_hw1 k0_h4 => k0_hw1.2.2.2.2.2.2.2.2.2.2.2.2.2.1 k0_h4
theorem k0_mult13_dvd : ∀ (v1 : BitVec 32) (v3 : BitVec 32) (k0_hw1 : k0_chk1 v1 v3), ∀ (k0_h4 : k0_cond4 v1 v3 = 1#1), 256 ∣ (k0_mult13 v1).toNat := fun v1 v3 k0_hw1 k0_h4 => k0_hw1.2.2.2.2.2.2.2.2.2.2.2.2.2.2.1 k0_h4
theorem k0_mult14_dvd : ∀ (v1 : BitVec 32) (v3 : BitVec 32) (k0_hw1 : k0_chk1 v1 v3), ∀ (k0_h4 : k0_cond4 v1 v3 = 1#1), 256 ∣ (k0_mult14 v1).toNat := fun v1 v3 k0_hw1 k0_h4 => k0_hw1.2.2.2.2.2.2.2.2.2.2.2.2.2.2.2.1 k0_h4
theorem k0_mult15_dvd : ∀ (v1 : BitVec 32) (v3 : BitVec 32) (k0_hw1 : k0_chk1 v1 v3), ∀ (k0_h4 : k0_cond4 v1 v3 = 1#1), 256 ∣ (k0_mult15 v1).toNat := fun v1 v3 k0_hw1 k0_h4 => k0_hw1.2.2.2.2.2.2.2.2.2.2.2.2.2.2.2.2.1 k0_h4
theorem k0_mult16_dvd : ∀ (v1 : BitVec 32) (v3 : BitVec 32) (k0_hw1 : k0_chk1 v1 v3), ∀ (k0_h4 : k0_cond4 v1 v3 = 1#1), 256 ∣ (k0_mult16 v1).toNat := fun v1 v3 k0_hw1 k0_h4 => k0_hw1.2.2.2.2.2.2.2.2.2.2.2.2.2.2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_6 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![v1.toNat, c0_i32.toNat]

def cc0_transform_7 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![c0_i32.toNat, v1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_10 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x8192x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttKIdeal.lean ====
variable {F : FTy → Type} [FloatOps F] [Named F]
def κ : String → Option EReal := fun
  | "mask" => some ⊥
  | _ => none
-- ==== AttRIdeal.lean ====
abbrev S8192x8x192 : Shape := ⟨3, ![8192, 8, 192]⟩
abbrev S8192x8x128 : Shape := ⟨3, ![8192, 8, 128]⟩
abbrev S8192x1024 : Shape := ⟨2, ![8192, 1024]⟩
abbrev S8192 : Shape := ⟨1, ![8192]⟩
abbrev S8x8192x8192 : Shape := ⟨3, ![8, 8192, 8192]⟩
abbrev S_ : Shape := ⟨0, ![]⟩
abbrev S1x8192x1 : Shape := ⟨3, ![1, 8192, 1]⟩
abbrev S1x1x8192 : Shape := ⟨3, ![1, 1, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S8x8192x256 : Shape := ⟨3, ![8, 8192, 256]⟩
abbrev S8x8192x128 : Shape := ⟨3, ![8, 8192, 128]⟩

abbrev nBuf : Space → Nat
  | .hbm => 107
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x1024, .f32⟩
  | .hbm, ⟨4, _⟩ => ⟨S8192, .i32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S1x8192x1, .i32⟩
  | .hbm, ⟨10, _⟩ => ⟨S1x1x8192, .i32⟩
  | .hbm, ⟨11, _⟩ => ⟨S1x8192x8192, .i32⟩
  | .hbm, ⟨12, _⟩ => ⟨S1x8192x8192, .i32⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .i1⟩
  | .hbm, ⟨35, _⟩ => ⟨S_, .f32⟩
  | .hbm, ⟨36, _⟩ => ⟨S8x8192, .f32⟩
  | .hbm, ⟨37, _⟩ => ⟨S8x8192, .i1⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x1, .f32⟩
  | .hbm, ⟨56, _⟩ => ⟨S_, .f32⟩
  | .hbm, ⟨57, _⟩ => ⟨S8x8192x1, .f32⟩
  | .hbm, ⟨58, _⟩ => ⟨S8x8192x1, .f32⟩
  | .hbm, ⟨59, _⟩ => ⟨S8x128x8192, .f32⟩
  | .hbm, ⟨60, _⟩ => ⟨S8192x8x128, .f32⟩
  | .hbm, ⟨61, _⟩ => ⟨S8192x1024, .f32⟩
  | .hbm, ⟨62, _⟩ => ⟨S8192x8x128, .f32⟩
  | .hbm, ⟨63, _⟩ => ⟨S8x128x8192, .f32⟩
  | .hbm, ⟨64, _⟩ => ⟨S8x8192x8192, .f32⟩
  | .hbm, ⟨65, _⟩ => ⟨S8x128x8192, .f32⟩
  | .hbm, ⟨66, _⟩ => ⟨S8192x8x128, .f32⟩
  | .hbm, ⟨67, _⟩ => ⟨S8x8192x8192, .f32⟩
  | .hbm, ⟨68, _⟩ => ⟨S8x8192x8192, .f32⟩
  | .hbm, ⟨69, _⟩ => ⟨S8x8192x8192, .f32⟩
  | .hbm, ⟨70, _⟩ => ⟨S_, .f32⟩
  | .hbm, ⟨71, _⟩ => ⟨S8x8192, .f32⟩
  | .hbm, ⟨72, _⟩ => ⟨S8x8192x1, .f32⟩
  | .hbm, ⟨73, _⟩ => ⟨S8x8192x1, .f32⟩
  | .hbm, ⟨74, _⟩ => ⟨S8x8192x8192, .f32⟩
  | .hbm, ⟨75, _⟩ => ⟨S8x8192x8192, .f32⟩
  | .hbm, ⟨76, _⟩ => ⟨S_, .f32⟩
  | .hbm, ⟨77, _⟩ => ⟨S8x8192, .f32⟩
  | .hbm, ⟨78, _⟩ => ⟨S8x8192x8192, .f32⟩
  | .hbm, ⟨79, _⟩ => ⟨S8x8192x8192, .f32⟩
  | .hbm, ⟨80, _⟩ => ⟨S8x8192x8192, .f32⟩
  | .hbm, ⟨81, _⟩ => ⟨S_, .f32⟩
  | .hbm, ⟨82, _⟩ => ⟨S8x8192x8192, .f32⟩
  | .hbm, ⟨83, _⟩ => ⟨S8x8192x8192, .f32⟩
  | .hbm, ⟨84, _⟩ => ⟨S_, .f32⟩
  | .hbm, ⟨85, _⟩ => ⟨S8x8192x8192, .f32⟩
  | .hbm, ⟨86, _⟩ => ⟨S8x8192x8192, .f32⟩
  | .hbm, ⟨87, _⟩ => ⟨S8x8192x192, .f32⟩
  | .hbm, ⟨88, _⟩ => ⟨S8192x8x192, .f32⟩
  | .hbm, ⟨89, _⟩ => ⟨S8x8192x192, .f32⟩
  | .hbm, ⟨90, _⟩ => ⟨S8192x8x192, .f32⟩
  | .hbm, ⟨91, _⟩ => ⟨S_, .f32⟩
  | .hbm, ⟨92, _⟩ => ⟨S8192x8x192, .f32⟩
  | .hbm, ⟨93, _⟩ => ⟨S8192x8x192, .f32⟩
  | .hbm, ⟨94, _⟩ => ⟨S8x8192x192, .f32⟩
  | .hbm, ⟨95, _⟩ => ⟨S_, .i32⟩
  | .hbm, ⟨96, _⟩ => ⟨S_, .f32⟩
  | .hbm, ⟨97, _⟩ => ⟨S8x8192x256, .f32⟩
  | .hbm, ⟨98, _⟩ => ⟨S_, .f32⟩
  | .hbm, ⟨99, _⟩ => ⟨S_, .f32⟩
  | .hbm, ⟨100, _⟩ => ⟨S8192x8x192, .f32⟩
  | .hbm, ⟨101, _⟩ => ⟨S8192x8x192, .f32⟩
  | .hbm, ⟨102, _⟩ => ⟨S8x8192x192, .f32⟩
  | .hbm, ⟨103, _⟩ => ⟨S_, .i32⟩
  | .hbm, ⟨104, _⟩ => ⟨S_, .f32⟩
  | .hbm, ⟨105, _⟩ => ⟨S8x8192x256, .f32⟩
  | .hbm, ⟨106, _⟩ => ⟨S8x8192x128, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_call0_v0 : Ref sig .tc := ⟨.hbm, 15, rfl⟩
abbrev main_v8_1 : Ref sig .tc := ⟨.hbm, 16, rfl⟩
abbrev main_call0_v2 : Ref sig .tc := ⟨.hbm, 17, rfl⟩
abbrev main_v8_0 : Ref sig .tc := ⟨.hbm, 18, rfl⟩
abbrev main_call0_cst : Ref sig .tc := ⟨.hbm, 19, rfl⟩
abbrev main_v8_2 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_cst_8 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c : Ref sig .tc := ⟨.hbm, 95, rfl⟩
abbrev main_call2_v0 : Ref sig .tc := ⟨.hbm, 96, rfl⟩
abbrev main_v67 : Ref sig .tc := ⟨.hbm, 97, rfl⟩
abbrev main_cst_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_call3_v0 : Ref sig .tc := ⟨.hbm, 104, rfl⟩
abbrev main_v72 : Ref sig .tc := ⟨.hbm, 105, rfl⟩
abbrev main_v73 : Ref sig .tc := ⟨.hbm, 106, rfl⟩

abbrev nD : Nat := 1
abbrev τ : Topo := Topo.v7x

variable {F : FTy → Type} [FloatOps F]
-- ==== RmsK.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S1024x8x512 : Shape := ⟨3, ![1024, 8, 512]⟩
abbrev S8x1024x512 : Shape := ⟨3, ![8, 1024, 512]⟩
abbrev S1x1024 : Shape := ⟨2, ![1, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S8192x4096, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v80 : BitVec 1 := Scalar.cmpi .eq arg0 c0_i32
  let v81 : BitVec 32 := Scalar.extui v80
  let c0_i32_48 : BitVec 32 := 0#32
  let v82 : BitVec 1 := Scalar.cmpi .ne v81 c0_i32_48
  v82

def k0_cond2 (i : grid0.Coords) : BitVec 1 :=
  let arg0 : BitVec 32 := BitVec.ofNat 32 (i 0).val
  let c0_i32_49 : BitVec 32 := 0#32
  let v83 : BitVec 1 := Scalar.cmpi .ne arg0 c0_i32_49
  let v84 : BitVec 32 := Scalar.extui v83
  let c0_i32_50 : BitVec 32 := 0#32
  let v85 : BitVec 1 := Scalar.cmpi .ne v84 c0_i32_50
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RmsRIdeal.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== RmsCK.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S1024x8x384 : Shape := ⟨3, ![1024, 8, 384]⟩
abbrev S8x1024x384 : Shape := ⟨3, ![8, 1024, 384]⟩
abbrev S1x1024 : Shape := ⟨2, ![1, 1024]⟩
abbrev S512x3072 : Shape := ⟨2, ![512, 3072]⟩
abbrev S512x1024 : Shape := ⟨2, ![512, 1024]⟩
abbrev S512x384 : Shape := ⟨2, ![512, 384]⟩
abbrev S1x1024x384 : Shape := ⟨3, ![1, 1024, 384]⟩
abbrev S1024x384 : Shape := ⟨2, ![1024, 384]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x3072, .bf16⟩
  | .hbm, ⟨6, _⟩ => ⟨S1024x8x384, .bf16⟩
  | .hbm, ⟨7, _⟩ => ⟨S8x1024x384, .bf16⟩
  | .hbm, ⟨8, _⟩ => ⟨S8192x3072, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S8x1024x384, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v80 : BitVec 1 := Scalar.cmpi .eq arg0 c0_i32
  let v81 : BitVec 32 := Scalar.extui v80
  let c0_i32_48 : BitVec 32 := 0#32
  let v82 : BitVec 1 := Scalar.cmpi .ne v81 c0_i32_48
  v82

def k0_cond2 (i : grid0.Coords) : BitVec 1 :=
  let arg0 : BitVec 32 := BitVec.ofNat 32 (i 0).val
  let c0_i32_49 : BitVec 32 := 0#32
  let v83 : BitVec 1 := Scalar.cmpi .ne arg0 c0_i32_49
  let v84 : BitVec 32 := Scalar.extui v83
  let c0_i32_50 : BitVec 32 := 0#32
  let v85 : BitVec 1 := Scalar.cmpi .ne v84 c0_i32_50
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RmsCRIdeal.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3072, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== RmsDK.lean ====
abbrev S8192x448 : Shape := ⟨2, ![8192, 448]⟩
abbrev S1024x448 : Shape := ⟨2, ![1024, 448]⟩
abbrev S8192x1024 : Shape := ⟨2, ![8192, 1024]⟩
abbrev S1024 : Shape := ⟨1, ![1024]⟩
abbrev S_ : Shape := ⟨0, ![]⟩
abbrev S1024x512 : Shape := ⟨2, ![1024, 512]⟩
abbrev S1x1024x512 : Shape := ⟨3, ![1, 1024, 512]⟩
abbrev S8192x512 : Shape := ⟨2, ![8192, 512]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S8192x448, .f32⟩
  | .hbm, ⟨1, _⟩ => ⟨S1024x448, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x448, .bf16⟩
  | .hbm, ⟨6, _⟩ => ⟨S_, .i32⟩
  | .hbm, ⟨7, _⟩ => ⟨S_, .bf16⟩
  | .hbm, ⟨8, _⟩ => ⟨S1024x512, .bf16⟩
  | .hbm, ⟨9, _⟩ => ⟨S1x1024x512, .bf16⟩
  | .hbm, ⟨10, _⟩ => ⟨S_, .i32⟩
  | .hbm, ⟨11, _⟩ => ⟨S_, .f32⟩
  | .hbm, ⟨12, _⟩ => ⟨S8192x512, .f32⟩
  | .hbm, ⟨13, _⟩ => ⟨S1x1024, .f32⟩
  | .hbm, ⟨14, _⟩ => ⟨S8192x1024, .f32⟩
  | .hbm, ⟨15, _⟩ => ⟨S8192x1024, .bf16⟩
  | .hbm, ⟨16, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S1x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_20 : BitVec 32 := 0#32
  let v41 : BitVec 1 := Scalar.cmpi .ne v40 c0_i32_20
  v41

def k0_cond2 (i : grid0.Coords) : BitVec 1 :=
  let arg0 : BitVec 32 := BitVec.ofNat 32 (i 0).val
  let c0_i32_21 : BitVec 32 := 0#32
  let v42 : BitVec 1 := Scalar.cmpi .ne arg0 c0_i32_21
  let v43 : BitVec 32 := Scalar.extui v42
  let c0_i32_22 : BitVec 32 := 0#32
  let v44 : BitVec 1 := Scalar.cmpi .ne v43 c0_i32_22
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RmsDRIdeal.lean ====
abbrev S8192x448 : Shape := ⟨2, ![8192, 448]⟩
abbrev S1024x448 : Shape := ⟨2, ![1024, 448]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x448, .f32⟩
  | .hbm, ⟨1, _⟩ => ⟨S1024x448, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x448, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | _, _ => ⟨S8192x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== LossK.lean ====
abbrev S8192x4096 : Shape := ⟨2, ![8192, 4096]⟩
abbrev S4096x1024 : Shape := ⟨2, ![4096, 1024]⟩
abbrev S8192x1024 : Shape := ⟨2, ![8192, 1024]⟩
abbrev S1x128 : Shape := ⟨2, ![1, 128]⟩
abbrev S512x4096 : Shape := ⟨2, ![512, 4096]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S8192x4096, .bf16⟩
  | .hbm, ⟨5, _⟩ => ⟨S4096x1024, .bf16⟩
  | .hbm, ⟨6, _⟩ => ⟨S1x128, .f32⟩
  | .hbm, ⟨7, _⟩ => ⟨S8192x1024, .f32⟩
  | .hbm, ⟨8, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_13 : BitVec 32 := 0#32
  let v22 : BitVec 1 := Scalar.cmpi .ne v21 c0_i32_13
  v22

def k0_cond2 (i : grid0.Coords) : BitVec 1 :=
  let arg0 : BitVec 32 := BitVec.ofNat 32 (i 0).val
  let c0_i32_14 : BitVec 32 := 0#32
  let v23 : BitVec 1 := Scalar.cmpi .ne arg0 c0_i32_14
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LossRIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S_, .f32⟩
  | .hbm, ⟨31, _⟩ => ⟨S1x128, .f32⟩
  | .hbm, ⟨32, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== DeltaK.lean ====
abbrev S8192x1024 : Shape := ⟨2, ![8192, 1024]⟩
abbrev S1024x1024 : Shape := ⟨2, ![1024, 1024]⟩
abbrev S1x1024x1024 : Shape := ⟨3, ![1, 1024, 1024]⟩
abbrev S8x1x8192 : Shape := ⟨3, ![8, 1, 8192]⟩
abbrev S8x1x1024 : Shape := ⟨3, ![8, 1, 1024]⟩
abbrev S1024x128 : Shape := ⟨2, ![1024, 128]⟩
abbrev S128x1024 : Shape := ⟨2, ![128, 1024]⟩
abbrev S1024 : Shape := ⟨1, ![1024]⟩
abbrev S1x1024 : Shape := ⟨2, ![1, 1024]⟩
abbrev S1x1x1024 : Shape := ⟨3, ![1, 1, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S1x1024x1024, .bf16⟩
  | .hbm, ⟨6, _⟩ => ⟨S8192x1024, .f32⟩
  | .hbm, ⟨7, _⟩ => ⟨S8x1x8192, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x1x1024, .f32⟩
  | .local _ .vmem, ⟨8, _⟩ => ⟨S8x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DeltaRIdeal.lean ====
abbrev S8192x1024 : Shape := ⟨2, ![8192, 1024]⟩
abbrev S1024x1024 : Shape := ⟨2, ![1024, 1024]⟩
abbrev S8192x8x128 : Shape := ⟨3, ![8192, 8, 128]⟩
abbrev S_ : Shape := ⟨0, ![]⟩
abbrev S8192x8 : Shape := ⟨2, ![8192, 8]⟩
abbrev S8x8192 : Shape := ⟨2, ![8, 8192]⟩
abbrev S8x1x8192 : Shape := ⟨3, ![8, 1, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x8x128, .f32⟩
  | .hbm, ⟨7, _⟩ => ⟨S_, .f32⟩
  | .hbm, ⟨8, _⟩ => ⟨S8192x8, .f32⟩
  | .hbm, ⟨9, _⟩ => ⟨S8x8192, .f32⟩
  | .hbm, ⟨10, _⟩ => ⟨S8x1x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== GateK.lean ====
abbrev S8192x3072 : Shape := ⟨2, ![8192, 3072]⟩
abbrev S3x1024 : Shape := ⟨2, ![3, 1024]⟩
abbrev S8192x1024 : Shape := ⟨2, ![8192, 1024]⟩
abbrev S1024x1024 : Shape := ⟨2, ![1024, 1024]⟩
abbrev S16x1024 : Shape := ⟨2, ![16, 1024]⟩
abbrev S1040x1024 : Shape := ⟨2, ![1040, 1024]⟩
abbrev S1x1024 : Shape := ⟨2, ![1, 1024]⟩

abbrev nBuf : Space → Nat
  | .hbm => 4
  | .vmem => 13
  | .smem => 0
  | _ => 0

abbrev bufTy : (tb : Table) → Fin (tcTables nBuf tb) → BufTy
  | .hbm, ⟨0, _⟩ => ⟨S8192x3072, .f32⟩
  | .hbm, ⟨1, _⟩ => ⟨S3x1024, .f32⟩
  | .hbm, ⟨2, _⟩ => ⟨S8192x3072, .bf16⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S3x1024, .f32⟩
  | .local _ .vmem, ⟨11, _⟩ => ⟨S1024x1024, .bf16⟩
  | .local _ .vmem, ⟨12, _⟩ => ⟨S1024x1024, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateRIdeal.lean ====
abbrev S8192x3072 : Shape := ⟨2, ![8192, 3072]⟩
abbrev S3x1024 : Shape := ⟨2, ![3, 1024]⟩
abbrev S8192x1024 : Shape := ⟨2, ![8192, 1024]⟩
abbrev S_ : Shape := ⟨0, ![]⟩
abbrev S2x1024 : Shape := ⟨2, ![2, 1024]⟩
abbrev S8190x1024 : Shape := ⟨2, ![8190, 1024]⟩
abbrev S1x1024 : Shape := ⟨2, ![1, 1024]⟩
abbrev S1024 : Shape := ⟨1, ![1024]⟩
abbrev S8191x1024 : Shape := ⟨2, ![8191, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S2x1024, .f32⟩
  | .hbm, ⟨8, _⟩ => ⟨S8190x1024, .f32⟩
  | .hbm, ⟨9, _⟩ => ⟨S8192x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S1x1024, .f32⟩
  | .hbm, ⟨17, _⟩ => ⟨S8191x1024, .f32⟩
  | .hbm, ⟨18, _⟩ => ⟨S8192x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== UpK.lean ====
abbrev S8192x1024 : Shape := ⟨2, ![8192, 1024]⟩
abbrev S1024 : Shape := ⟨1, ![1024]⟩
abbrev S1024x4096 : Shape := ⟨2, ![1024, 4096]⟩
abbrev S1024x8x512 : Shape := ⟨3, ![1024, 8, 512]⟩
abbrev S8x1024x512 : Shape := ⟨3, ![8, 1024, 512]⟩
abbrev S1x1024 : Shape := ⟨2, ![1, 1024]⟩
abbrev S1024x8192 : Shape := ⟨2, ![1024, 8192]⟩
abbrev S8192x4096 : Shape := ⟨2, ![8192, 4096]⟩
abbrev S512x1024 : Shape := ⟨2, ![512, 1024]⟩
abbrev S1024x512 : Shape := ⟨2, ![1024, 512]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S512x512 : Shape := ⟨2, ![512, 512]⟩

abbrev nBuf : Space → Nat
  | .hbm => 10
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S1x1024, .f32⟩
  | .hbm, ⟨7, _⟩ => ⟨S1024x8192, .bf16⟩
  | .hbm, ⟨8, _⟩ => ⟨S8192x4096, .bf16⟩
  | .hbm, ⟨9, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== UpRIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1024x8192 : Shape := ⟨2, ![1024, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S1024x8192, .f32⟩
  | .hbm, ⟨24, _⟩ => ⟨S1024x8192, .bf16⟩
  | .hbm, ⟨25, _⟩ => ⟨S8192x4096, .f32⟩
  | .hbm, ⟨26, _⟩ => ⟨S8192x4096, .bf16⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== InK.lean ====
abbrev S8192x1024 : Shape := ⟨2, ![8192, 1024]⟩
abbrev S1024 : Shape := ⟨1, ![1024]⟩
abbrev S1024x3072 : Shape := ⟨2, ![1024, 3072]⟩
abbrev S1024x8x384 : Shape := ⟨3, ![1024, 8, 384]⟩
abbrev S8x1024x384 : Shape := ⟨3, ![8, 1024, 384]⟩
abbrev S1x1024 : Shape := ⟨2, ![1, 1024]⟩
abbrev S1024x8192 : Shape := ⟨2, ![1024, 8192]⟩
abbrev S8192x3072 : Shape := ⟨2, ![8192, 3072]⟩
abbrev S512x1024 : Shape := ⟨2, ![512, 1024]⟩
abbrev S1024x512 : Shape := ⟨2, ![1024, 512]⟩
abbrev S512x3072 : Shape := ⟨2, ![512, 3072]⟩
abbrev S512 : Shape := ⟨1, ![512]⟩
abbrev S512x1 : Shape := ⟨2, ![512, 1]⟩
abbrev S1x1024x384 : Shape := ⟨3, ![1, 1024, 384]⟩
abbrev S1024x384 : Shape := ⟨2, ![1024, 384]⟩
abbrev S512x384 : Shape := ⟨2, ![512, 384]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1024x8x384, .bf16⟩
  | .hbm, ⟨5, _⟩ => ⟨S8x1024x384, .bf16⟩
  | .hbm, ⟨6, _⟩ => ⟨S1x1024, .f32⟩
  | .hbm, ⟨7, _⟩ => ⟨S1024x8192, .bf16⟩
  | .hbm, ⟨8, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x384, .bf16⟩
  | .local _ .vmem, ⟨4, _⟩ => ⟨S1024x512, .bf16⟩
  | .local _ .vmem, ⟨5, _⟩ => ⟨S1024x512, .bf16⟩
  | .local _ .vmem, ⟨6, _⟩ => ⟨S512x3072, .bf16⟩
  | .local _ .vmem, ⟨7, _⟩ => ⟨S512x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InRIdeal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩
abbrev S8192x3072 : Shape := ⟨2, ![8192, 3072]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x8192, .f32⟩
  | .hbm, ⟨20, _⟩ => ⟨S1024x8192, .bf16⟩
  | .hbm, ⟨21, _⟩ => ⟨S8192x3072, .f32⟩
  | .hbm, ⟨22, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== DownK.lean ====
abbrev S8192x1024 : Shape := ⟨2, ![8192, 1024]⟩
abbrev S1024 : Shape := ⟨1, ![1024]⟩
abbrev S1024x448 : Shape := ⟨2, ![1024, 448]⟩
abbrev S_ : Shape := ⟨0, ![]⟩
abbrev S1024x512 : Shape := ⟨2, ![1024, 512]⟩
abbrev S1x1024x512 : Shape := ⟨3, ![1, 1024, 512]⟩
abbrev S1x1024 : Shape := ⟨2, ![1, 1024]⟩
abbrev S1024x8192 : Shape := ⟨2, ![1024, 8192]⟩
abbrev S8192x512 : Shape := ⟨2, ![8192, 512]⟩
abbrev S1024x1024 : Shape := ⟨2, ![1024, 1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x448, .f32⟩
  | .hbm, ⟨3, _⟩ => ⟨S1024x448, .bf16⟩
  | .hbm, ⟨4, _⟩ => ⟨S_, .i32⟩
  | .hbm, ⟨5, _⟩ => ⟨S_, .bf16⟩
  | .hbm, ⟨6, _⟩ => ⟨S1024x512, .bf16⟩
  | .hbm, ⟨7, _⟩ => ⟨S1x1024x512, .bf16⟩
  | .hbm, ⟨8, _⟩ => ⟨S1x1024, .f32⟩
  | .hbm, ⟨9, _⟩ => ⟨S1024x8192, .bf16⟩
  | .hbm, ⟨10, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .f32⟩
  | .local _ .vmem, ⟨7, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownRIdeal.lean ====
abbrev S8192x1024 : Shape := ⟨2, ![8192, 1024]⟩
abbrev S1024 : Shape := ⟨1, ![1024]⟩
abbrev S1024x448 : Shape := ⟨2, ![1024, 448]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩
abbrev S8192x448 : Shape := ⟨2, ![8192, 448]⟩
abbrev S8192x512 : Shape := ⟨2, ![8192, 512]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x448, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x8192, .f32⟩
  | .hbm, ⟨20, _⟩ => ⟨S1024x8192, .bf16⟩
  | .hbm, ⟨21, _⟩ => ⟨S8192x448, .f32⟩
  | .hbm, ⟨22, _⟩ => ⟨S_, .i32⟩
  | .hbm, ⟨23, _⟩ => ⟨S_, .f32⟩
  | .hbm, ⟨24, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Rows.lean ====
/- Arrays read at natural numbers: zero outside their extents. -/
module

public import Idealize.ShloMosaic.Lib.Pipeline.ValueKit
public import Idealize.ShloMosaic.Lib.Pointwise

@[expose] public section

noncomputable section

namespace Cert.Rows

open Idealize.ShloMosaic

/-- The matrix `f` at row `r` and column `c`, zero outside. -/
def nat2 {A B : ℕ} (f : (⟨2, ![A, B]⟩ : Shape).Idx → EReal) (r c : ℕ) : EReal :=
  if h : r < A ∧ c < B then f (ix2 ⟨r, h.1⟩ ⟨c, h.2⟩) else 0

theorem nat2_ix2 {A B : ℕ} (f : (⟨2, ![A, B]⟩ : Shape).Idx → EReal) (a : Fin A) (b : Fin B) : f (ix2 a b) = nat2 f a b := by
  rw [nat2, dif_pos ⟨a.isLt, b.isLt⟩]

theorem nat2_eq {A B : ℕ} (f : (⟨2, ![A, B]⟩ : Shape).Idx → EReal) (i : (⟨2, ![A, B]⟩ : Shape).Idx) (r c : ℕ) (hr : (i 0).val = r) (hc : (i 1).val = c) :
    f i = nat2 f r c := by
  subst hr hc
  exact (congrArg f (eq_ix2 i)).trans (nat2_ix2 f (i 0) (i 1))

theorem nat2_zero {A B : ℕ} (f : (⟨2, ![A, B]⟩ : Shape).Idx → EReal) {r : ℕ} (c : ℕ) (h : A ≤ r) : nat2 f r c = 0 := by
  rw [nat2, dif_neg fun h' => absurd h'.1 (not_lt.mpr h)]

end Cert.Rows
-- ==== Proof.Conv.lean ====
/- The gradient of the gated short convolution. -/
module

public import proofs.«01_k».proof.Defs
public import proofs.«01_k».proof.Proof.Gen.ConvKIdeal.Value
public import proofs.«01_k».proof.Proof.Gen.ConvRIdeal.Run
public import proofs.«01_k».proof.Proof.Gen.ConvRIdeal.Read
public import Idealize.ShloMosaic.Lib.Pipeline.ValueKit
public import Idealize.ShloMosaic.Lib.Pointwise
public import Idealize.ShloMosaic.Lib.Claim
public import Idealize.ShloMosaic.Lib.Quiescent
public import proofs.«01_k».proof.Proof.Rows

@[expose] public section

set_option maxRecDepth 16384

noncomputable section

namespace Cert.ConvProof

open Idealize.ShloMosaic Idealize.ShloMosaic.TcCoe Idealize.SL.Sem
open Cert.ConvKIdeal Cert.ConvKIdeal.Gen Cert.Rows

section Values

variable (z : S8192x1024.Idx → EReal) (b : S8192x3072.Idx → EReal) (w : S3x1024.Idx → EReal)

/-- The gated input of the convolution, by row. -/
def G (r q : ℕ) : EReal := nat2 b r (1024 + q) * nat2 b r (2048 + q)
/-- … `k` rows earlier, zero before the first row. -/
def back (k r q : ℕ) : EReal := if k ≤ r then G b (r - k) q else 0
/-- The cotangent of the convolution's output. -/
def D (r q : ℕ) : EReal := nat2 z r q * nat2 b r q
/-- The convolution's output. -/
def U (r q : ℕ) : EReal := nat2 w 2 q * G b r q + nat2 w 1 q * back b 1 r q + nat2 w 0 q * back b 2 r q
/-- The cotangent of the gated input. -/
def E (r q : ℕ) : EReal := nat2 w 2 q * D z b r q + nat2 w 1 q * D z b (r + 1) q + nat2 w 0 q * D z b (r + 2) q
/-- The gradient of the three gates, side by side. -/
def dbcu (i : S8192x3072.Idx) : EReal :=
  if (i 1).val < 1024 then nat2 z (i 0) (i 1) * U b w (i 0) (i 1)
  else if (i 1).val < 2048 then E z b w (i 0) ((i 1).val - 1024) * nat2 b (i 0) (1024 + (i 1))
  else E z b w (i 0) ((i 1).val - 2048) * nat2 b (i 0) ((i 1).val - 1024)
/-- The gradient of the taps. -/
def dw (i : S3x1024.Idx) : EReal := ∑ r : Fin 8192, D z b r (i 1) * back b (2 - (i 0).val) r (i 1)

theorem back_zero (r q : ℕ) : back b 0 r q = G b r q := rfl

theorem D_zero {r : ℕ} (q : ℕ) (h : 8192 ≤ r) : D z b r q = 0 := by rw [D, nat2_zero z q h, zero_mul]

theorem back_shift (T a k q : ℕ) (hk : k ≤ 16) : back b 16 (T + (16 + a - k)) q = back b k (T + a) q := by
  unfold back
  by_cases h : k ≤ T + a
  · rw [if_pos (by omega), if_pos h]; congr 1; omega
  · rw [if_neg (by omega), if_neg h]

end Values

section Body

variable (z : S8192x1024.Idx → EReal) (b : S8192x3072.Idx → EReal) (w : S3x1024.Idx → EReal)

/-- What the blocks at grid point `t` hold. -/
structure Blocks (t : ℕ) (x0 : S1024x1024.Idx → EReal) (x1 : S16x1024.Idx → EReal) (x2 : S1024x1024.Idx → EReal) (x3 : S16x1024.Idx → EReal)
    (x4 x5 : S1024x1024.Idx → EReal) (x6 x7 : S16x1024.Idx → EReal) (x8 : S3x1024.Idx → EReal) : Prop where
  h0 : ∀ i, x0 i = nat2 z (t * 1024 + (i 0).val) (i 1)
  h1 : ∀ i, x1 i = nat2 z (min ((t + 1) * 64) 511 * 16 + (i 0).val) (i 1)
  h2 : ∀ i, x2 i = nat2 b (t * 1024 + (i 0).val) (i 1)
  h3 : ∀ i, x3 i = nat2 b (min ((t + 1) * 64) 511 * 16 + (i 0).val) (i 1)
  h4 : ∀ i, x4 i = nat2 b (t * 1024 + (i 0).val) (1024 + (i 1).val)
  h5 : ∀ i, x5 i = nat2 b (t * 1024 + (i 0).val) (2048 + (i 1).val)
  h6 : ∀ i, x6 i = nat2 b ((t * 64 - 1) * 16 + (i 0).val) (1024 + (i 1).val)
  h7 : ∀ i, x7 i = nat2 b ((t * 64 - 1) * 16 + (i 0).val) (2048 + (i 1).val)
  h8 : ∀ i, x8 i = nat2 w (i 0) (i 1)

variable {z b w} {t : Fin grid0.N} {x0 x2 x4 x5 : S1024x1024.Idx → EReal} {x1 x3 x6 x7 : S16x1024.Idx → EReal} {x8 : S3x1024.Idx → EReal}
  (B : Blocks z b w t x0 x1 x2 x3 x4 x5 x6 x7 x8)

theorem coord : ∀ t : Fin grid0.N, (grid0.coords t 0).val = t.val := by decide +kernel

/-- The two masks, as conditions on the row and the grid point. -/
theorem mask0 : ∀ (t : Fin 8) (j : Fin 1040), IntOp.andi (IntOp.cmpi CmpIPredicate.slt (BitVec.ofNat 32 j.val) 16#32) (Scalar.cmpi CmpIPredicate.eq (BitVec.ofNat 32 t.val) 0#32)
    = if j.val < 16 ∧ t.val = 0 then 1#1 else 0#1 := by decide +kernel
theorem mask7 : ∀ (t : Fin 8) (j : Fin 1040), IntOp.andi (IntOp.cmpi CmpIPredicate.sge (BitVec.ofNat 32 j.val) 1024#32) (Scalar.cmpi CmpIPredicate.eq (BitVec.ofNat 32 t.val) 7#32)
    = if 1024 ≤ j.val ∧ t.val = 7 then 1#1 else 0#1 := by decide +kernel

include B in
theorem gated (j : Fin 1040) (q : Fin 1024) : k0_pay11 (F := Ideal) (grid0.coords t) x4 x5 x6 x7 (ix2 j q) = back b 16 (t.val * 1024 + j) q := by
  have ht : t.val < 8 := lt_of_lt_of_eq t.isLt N_0
  unfold_payloads
  pointwise [B.h4, B.h5, B.h6, B.h7, coord]
  rw [mask0 ⟨t, ht⟩ j]
  unfold back G
  by_cases hm : j.val < 16 ∧ t.val = 0
  · rw [if_pos hm, if_neg (by omega)]; rfl
  · rw [if_neg hm, if_pos (by omega)]
    by_cases hj : j.val < 16
    · rw [dif_pos hj, dif_pos hj]
      have e : (t.val * 64 - 1) * 16 + j.val = t.val * 1024 + j.val - 16 := by omega
      exact e ▸ rfl
    · rw [dif_neg hj, dif_neg hj]
      have e : t.val * 1024 + (j.val - 16) = t.val * 1024 + j.val - 16 := by omega
      exact e ▸ rfl

include B in
theorem cotangent (j : Fin 1040) (q : Fin 1024) : k0_pay15 (F := Ideal) (BitVec.ofNat 32 (grid0.coords t 0).val) x0 x2 x1 x3 (ix2 j q) = D z b (t.val * 1024 + j) q := by
  have ht : t.val < 8 := lt_of_lt_of_eq t.isLt N_0
  unfold_payloads
  pointwise [B.h0, B.h1, B.h2, B.h3, coord]
  rw [mask7 ⟨t, ht⟩ j]
  by_cases hm : 1024 ≤ j.val ∧ t.val = 7
  · rw [if_pos hm, D_zero z b q (by omega)]; rfl
  · rw [if_neg hm]
    by_cases hj : j.val < 1024
    · rw [dif_pos hj]; rfl
    · rw [dif_neg hj]
      have e : min ((t.val + 1) * 64) 511 * 16 + (j.val - 1024) = t.val * 1024 + j.val := by omega
      exact e ▸ rfl

variable {g0 g1 g2 : S1x1024.Idx → EReal} (hg0 : ∀ q : Fin 1024, g0 (ix2 0 q) = nat2 w 0 q) (hg1 : ∀ q : Fin 1024, g1 (ix2 0 q) = nat2 w 1 q) (hg2 : ∀ q : Fin 1024, g2 (ix2 0 q) = nat2 w 2 q)

include B in
/-- The gated input shifted by `k` rows, at a row of the block. -/
theorem shift1 (a q : Fin 1024) : k0_pay12 (F := Ideal) (grid0.coords t) x4 x5 x6 x7 (ix2 ⟨16 + a.val, by omega⟩ q) = back b 1 (t.val * 1024 + a) q := by
  unfold k0_pay12
  pointwise [gated B]
  rw [← back_shift b (t.val * 1024) a 1 q (by omega)]
  congr 2; omega
include B in
theorem shift2 (a q : Fin 1024) : k0_pay13 (F := Ideal) (grid0.coords t) x4 x5 x6 x7 (ix2 ⟨16 + a.val, by omega⟩ q) = back b 2 (t.val * 1024 + a) q := by
  unfold k0_pay13
  pointwise [gated B]
  rw [← back_shift b (t.val * 1024) a 2 q (by omega)]
  congr 2; omega
include B in
theorem shift0 (a q : Fin 1024) : k0_pay11 (F := Ideal) (grid0.coords t) x4 x5 x6 x7 (ix2 ⟨16 + a.val, by omega⟩ q) = G b (t.val * 1024 + a) q := by
  rw [gated B, back, if_pos (by simp; omega)]
  congr 1; simp; omega

include B hg0 hg1 hg2 in
/-- The convolution and its transpose, at a row of the block. -/
theorem conv (a q : Fin 1024) : k0_pay14 (F := Ideal) (grid0.coords t) x4 x5 x6 x7 g2 g1 g0 (ix2 ⟨16 + a.val, by omega⟩ q) = U b w (t.val * 1024 + a) q := by
  unfold k0_pay14
  pointwise [shift0 B, shift1 B, shift2 B, hg0, hg1, hg2]
  rfl
include B hg0 hg1 hg2 in
theorem convT (a q : Fin 1024) : k0_pay16 (F := Ideal) (BitVec.ofNat 32 (grid0.coords t 0).val) x0 x2 x1 x3 g2 g1 g0 (ix2 a q) = E z b w (t.val * 1024 + a) q := by
  unfold k0_pay16
  pointwise [cotangent B, hg0, hg1, hg2]
  rw [show (a.val + 1040 - 1039) % 1040 = a + 1 by omega, show (a.val + 1040 - 1038) % 1040 = a + 2 by omega]
  rfl

include B hg0 hg1 hg2 in
theorem grads (y : S1024x3072.Idx) : View.canon (Val := Elt Ideal) (e := .bf16) (s := S1024x3072)
      [⟨Rect.unit ![0, 2048] ![1024, 1024] inb_S1024x3072_S1024x1024_0_2048, k0_pay1 (k0_pay9 (F := Ideal) x4) (k0_pay16 (BitVec.ofNat 32 (grid0.coords t 0).val) x0 x2 x1 x3 g2 g1 g0)⟩,
        ⟨Rect.unit ![0, 1024] ![1024, 1024] inb_S1024x3072_S1024x1024_0_1024, k0_pay18 (F := Ideal) (BitVec.ofNat 32 (grid0.coords t 0).val) (k0_pay10 x5) x0 x2 x1 x3 g2 g1 g0⟩,
        ⟨Rect.unit ![0, 0] ![1024, 1024] inb_S1024x3072_S1024x1024_0_0, k0_pay17 (F := Ideal) (k0_pay14 (grid0.coords t) x4 x5 x6 x7 g2 g1 g0) x0⟩] y
    = dbcu z b w (ix2 ⟨t.val * 1024 + (y 0).val, by have := lt_of_lt_of_eq t.isLt N_0; have := (y 0).isLt; simp at this; omega⟩ (y 1)) := by
  canon_tiles x h
  all_goals
    simp only [k0_pay1, k0_pay18, k0_pay17, k0_pay9, k0_pay10]
    obtain ⟨a, q, rfl⟩ : ∃ a q, x = ix2 a q := ⟨_, _, eq_ix2 x⟩
    pointwise [conv B hg0 hg1 hg2, convT B hg0 hg1 hg2, B.h0, B.h4, B.h5]
    pointwise at h0 h1
    unfold dbcu
    pointwise
    rw [h0, h1]
  · rw [if_neg (by omega), if_neg (by omega)]; congr 2 <;> omega
  · rw [if_neg (by omega), if_pos (by omega)]; congr 2 <;> omega
  · rw [if_pos (by omega)]

/-- A point's share of the taps' gradient. -/
def share (z : S8192x1024.Idx → EReal) (b : S8192x3072.Idx → EReal) (t : ℕ) (i : S3x1024.Idx) : EReal :=
  ∑ a : Fin 1024, D z b (t * 1024 + a) (i 1) * back b (2 - (i 0).val) (t * 1024 + a) (i 1)

include B in
theorem taps_first (y : S3x1024.Idx) : View.canon (Val := Elt Ideal) (e := .f32) (s := S3x1024)
      [⟨Rect.unit ![2, 0] ![1, 1024] inb_S3x1024_S1x1024_2_0, k0_pay5 (F := Ideal) (k0_pay11 (grid0.coords t) x4 x5 x6 x7) (k0_pay15 (BitVec.ofNat 32 (grid0.coords t 0).val) x0 x2 x1 x3)⟩,
        ⟨Rect.unit ![1, 0] ![1, 1024] inb_S3x1024_S1x1024_1_0, k0_pay4 (F := Ideal) (k0_pay12 (grid0.coords t) x4 x5 x6 x7) (k0_pay15 (BitVec.ofNat 32 (grid0.coords t 0).val) x0 x2 x1 x3)⟩,
        ⟨Rect.unit ![0, 0] ![1, 1024] inb_S3x1024_S1x1024_0_0, k0_pay3 (F := Ideal) (k0_pay13 (grid0.coords t) x4 x5 x6 x7) (k0_pay15 (BitVec.ofNat 32 (grid0.coords t 0).val) x0 x2 x1 x3)⟩] y
    = share z b t y := by
  canon_tiles x h
  all_goals
    simp only [k0_pay5, k0_pay4, k0_pay3, k0_pay2]
    obtain ⟨a, q, rfl⟩ : ∃ a q, x = ix2 a q := ⟨_, _, eq_ix2 x⟩
    pointwise [shift0 B, shift1 B, shift2 B, cotangent B]
    pointwise at h0 h1
    unfold share
    simp only [h0, h1, Nat.sub_self, Nat.sub_zero, Nat.reduceSub, back_zero]

include B in
theorem taps_next (acc : S3x1024.Idx → EReal) (y : S3x1024.Idx) : View.canon (Val := Elt Ideal) (e := .f32) (s := S3x1024)
      [⟨Rect.unit ![2, 0] ![1, 1024] inb_S3x1024_S1x1024_2_0, k0_pay8 (F := Ideal) (k0_pay11 (grid0.coords t) x4 x5 x6 x7) (k0_pay15 (BitVec.ofNat 32 (grid0.coords t 0).val) x0 x2 x1 x3)
          (View.ld (Val := Elt Ideal) (e' := .f32) acc (Rect.unit (s := S3x1024) ![2, 0] ![1, 1024] inb_S3x1024_S1x1024_2_0))⟩,
        ⟨Rect.unit ![1, 0] ![1, 1024] inb_S3x1024_S1x1024_1_0, k0_pay7 (F := Ideal) (k0_pay12 (grid0.coords t) x4 x5 x6 x7) (k0_pay15 (BitVec.ofNat 32 (grid0.coords t 0).val) x0 x2 x1 x3)
          (View.ld (Val := Elt Ideal) (e' := .f32) acc (Rect.unit (s := S3x1024) ![1, 0] ![1, 1024] inb_S3x1024_S1x1024_1_0))⟩,
        ⟨Rect.unit ![0, 0] ![1, 1024] inb_S3x1024_S1x1024_0_0, k0_pay6 (F := Ideal) (k0_pay13 (grid0.coords t) x4 x5 x6 x7) (k0_pay15 (BitVec.ofNat 32 (grid0.coords t 0).val) x0 x2 x1 x3)
          (View.ld (Val := Elt Ideal) (e' := .f32) acc (Rect.unit (s := S3x1024) ![0, 0] ![1, 1024] inb_S3x1024_S1x1024_0_0))⟩] y
    = acc y + share z b t y := by
  canon_tiles x h
  all_goals
    simp only [k0_pay8, k0_pay7, k0_pay6, k0_pay5, k0_pay4, k0_pay3, k0_pay2]
    obtain ⟨a, q, rfl⟩ : ∃ a q, x = ix2 a q := ⟨_, _, eq_ix2 x⟩
    pointwise [shift0 B, shift1 B, shift2 B, cotangent B]
    pointwise at h0 h1
    unfold share
    simp only [h0, h1, Nat.sub_self, Nat.sub_zero, Nat.reduceSub, back_zero]
    congr 2
    blk_ext [h0, h1]

end Body

variable (m : (ℓ : Loc nD τ sig) → Buf (Elt Ideal) ℓ) (c : Dev nD)

/-- The arguments. -/
abbrev Z : S8192x1024.Idx → EReal := m ((c : Thread nD τ).loc main_arg0)
abbrev B' : S8192x3072.Idx → EReal := m ((c : Thread nD τ).loc main_arg1)
abbrev W : S3x1024.Idx → EReal := m ((c : Thread nD τ).loc main_arg2)

abbrev X0 (t : Fin cfg0.N) : S1024x1024.Idx → EReal := iblk m c 0 t
abbrev X1 (t : Fin cfg0.N) : S16x1024.Idx → EReal := iblk m c 1 t
abbrev X2 (t : Fin cfg0.N) : S1024x1024.Idx → EReal := iblk m c 2 t
abbrev X3 (t : Fin cfg0.N) : S16x1024.Idx → EReal := iblk m c 3 t
abbrev X4 (t : Fin cfg0.N) : S1024x1024.Idx → EReal := iblk m c 4 t
abbrev X5 (t : Fin cfg0.N) : S1024x1024.Idx → EReal := iblk m c 5 t
abbrev X6 (t : Fin cfg0.N) : S16x1024.Idx → EReal := iblk m c 6 t
abbrev X7 (t : Fin cfg0.N) : S16x1024.Idx → EReal := iblk m c 7 t
abbrev X8 (t : Fin cfg0.N) : S3x1024.Idx → EReal := iblk m c 8 t

/-- Where each window's block stands at grid point `t`. -/
theorem idx : ∀ t : Fin grid0.N, win0_0.index t = ![t.val, 0] ∧ win0_1.index t = ![min ((t.val + 1) * 64) 511, 0] ∧ win0_2.index t = ![t.val, 0] ∧ win0_3.index t = ![min ((t.val + 1) * 64) 511, 0]
    ∧ win0_4.index t = ![t.val, 1] ∧ win0_5.index t = ![t.val, 2] ∧ win0_6.index t = ![t.val * 64 - 1, 1] ∧ win0_7.index t = ![t.val * 64 - 1, 2] ∧ win0_8.index t = ![0, 0]
    ∧ win0_9.index t = ![t.val, 0] ∧ win0_10.index t = ![0, 0] := by decide +kernel

theorem v0 (i : S8192x3072.Idx) : (V m c main_v0 : S8192x3072.Idx → EReal) i = B' m c i := by
  entry_read; pointwise
theorem blocks (t : Fin grid0.N) : Blocks (Z m c) (B' m c) (W m c) t (X0 m c t) (X1 m c t) (X2 m c t) (X3 m c t) (X4 m c t) (X5 m c t) (X6 m c t) (X7 m c t) (X8 m c t) := by
  obtain ⟨e0, e1, e2, e3, e4, e5, e6, e7, e8, -, -⟩ := idx t
  constructor <;> intro i
  · exact nat2_eq (Z m c) ((win0_0.blk t).view.emb i) _ _ (by blk_simp [e0]) (by blk_simp [e0])
  · exact nat2_eq (Z m c) ((win0_1.blk t).view.emb i) _ _ (by blk_simp [e1]) (by blk_simp [e1])
  · exact (v0 m c _).trans (nat2_eq (B' m c) ((win0_2.blk t).view.emb i) _ _ (by blk_simp [e2]) (by blk_simp [e2]))
  · exact (v0 m c _).trans (nat2_eq (B' m c) ((win0_3.blk t).view.emb i) _ _ (by blk_simp [e3]) (by blk_simp [e3]))
  · exact (v0 m c _).trans (nat2_eq (B' m c) ((win0_4.blk t).view.emb i) _ _ (by blk_simp [e4]) (by blk_simp [e4]))
  · exact (v0 m c _).trans (nat2_eq (B' m c) ((win0_5.blk t).view.emb i) _ _ (by blk_simp [e5]) (by blk_simp [e5]))
  · exact (v0 m c _).trans (nat2_eq (B' m c) ((win0_6.blk t).view.emb i) _ _ (by blk_simp [e6]) (by blk_simp [e6]))
  · exact (v0 m c _).trans (nat2_eq (B' m c) ((win0_7.blk t).view.emb i) _ _ (by blk_simp [e7]) (by blk_simp [e7]))
  · exact nat2_eq (W m c) ((win0_8.blk t).view.emb i) _ _ (by blk_simp [e8]) (by blk_simp [e8])

/-- What a point leaves in the gradient's block. -/
theorem outs_main (t : Fin cfg0.N) (y : S1024x3072.Idx) : ((outsAt0 m c t.val t.isLt).1 : S1024x3072.Idx → EReal) y
    = dbcu (Z m c) (B' m c) (W m c) (ix2 ⟨t.val * 1024 + (y 0).val, by have := lt_of_lt_of_eq t.isLt N_0; have := (y 0).isLt; simp at this; omega⟩ (y 1)) := by
  have B := blocks m c t
  have ht := lt_of_lt_of_eq t.isLt N_0
  by_cases h0 : t.val % 8 = 0
  · rw [outsAt0_A m c t h0 (by omega)]
    dsimp only
    frame_out
    refine grads B ?_ ?_ ?_ y <;> intro q <;> pointwise [B.h8]
  · rw [outsAt0_B m c t h0 (by omega)]
    dsimp only
    frame_out
    refine grads B ?_ ?_ ?_ y <;> intro q <;> pointwise [B.h8]

theorem outs_first (t : Fin cfg0.N) (h0 : t.val = 0) (y : S3x1024.Idx) : ((outsAt0 m c t.val t.isLt).2 : S3x1024.Idx → EReal) y = share (Z m c) (B' m c) t y := by
  have B := blocks m c t
  rw [outsAt0_A m c t (by omega) (by omega)]
  dsimp only
  frame_out
  exact taps_first B y
theorem outs_next (t : Fin cfg0.N) (h0 : t.val ≠ 0) (y : S3x1024.Idx) : ((outsAt0 m c t.val t.isLt).2 : S3x1024.Idx → EReal) y
    = ((outsAt0 m c (t.val - 1) (Nat.lt_of_le_of_lt (Nat.sub_le _ _) t.isLt)).2 : S3x1024.Idx → EReal) y + share (Z m c) (B' m c) t y := by
  have B := blocks m c t
  have ht := lt_of_lt_of_eq t.isLt N_0
  rw [outsAt0_B m c t (by omega) (by omega)]
  generalize (outsAt0 m c (t.val - 1) (Nat.lt_of_le_of_lt (Nat.sub_le _ _) t.isLt)).2 = acc
  dsimp only
  frame_out
  exact taps_next B acc y

theorem main_value : (dats m 0 c).arrAt 9 cfg0.N = dbcu (Z m c) (B' m c) (W m c) := by
  refine (dats m 0 c).arrAt_eq_of_covers 9 _ (by decide +kernel) fun t hf y => ?_
  have e := (idx t).2.2.2.2.2.2.2.2.2.1
  refine (congrFun (Value.flushed9 m c t) y).trans ?_
  refine (outs_main m c t _).trans ?_
  refine congrArg (dbcu (Z m c) (B' m c) (W m c)) ?_
  blk_ext [e]

theorem sum_blocks (f : ℕ → EReal) : ∑ t ∈ Finset.range 8, ∑ a : Fin 1024, f (t * 1024 + a) = ∑ r : Fin 8192, f r := by
  rw [← Fin.sum_univ_eq_sum_range (fun t => ∑ a : Fin 1024, f (t * 1024 + a)) 8]
  exact Fin.sum_univ_univ_mul_add 8 1024 f

theorem taps_value : (dats m 0 c).arrAt 10 cfg0.N = dw (Z m c) (B' m c) := by
  refine (dats m 0 c).arrAt_eq_of_after_last 10 t0_7 (by decide +kernel) _ fun j => ?_
  blk_simp
  rw [after0_10]
  refine (Pipeline.eq_sum_of_reset_step_apply_single (fun n h => ((outsAt0 m c n h).2 : S3x1024.Idx → EReal)) 8 (fun _ => 0) (fun t j => share (Z m c) (B' m c) t j)
    (fun t h j => ?_) (fun t h j => ?_) (by decide) t0_7 _).trans ?_
  · have ht := lt_of_lt_of_eq t.isLt N_0
    exact (outs_first m c t (by omega) j).trans (zero_add _).symm
  · exact outs_next m c t (by omega) j
  · rw [zero_add]
    exact sum_blocks fun n => D (Z m c) (B' m c) n (j 1) * back (B' m c) (2 - (j 0).val) n (j 1)

section Reference

open Cert.ConvRIdeal.Read

variable (z : S8192x1024.Idx → EReal) (b : S8192x3072.Idx → EReal) (w : S3x1024.Idx → EReal)

theorem r3 (r : Fin 8192) (q : Fin 1024) : (val_main_v3 (F := Ideal) b : S8192x1024.Idx → EReal) (ix2 r q) = G b r q := by
  simp only [val_main_v3_apply, val_main_v1_apply, val_main_v2_apply]
  pointwise
  unfold G
  rw [nat2_eq b _ r (1024 + q) rfl rfl, nat2_eq b _ r (2048 + q) rfl rfl]
theorem r30 (r : Fin 8192) (q : Fin 1024) : (val_main_v30 (F := Ideal) z b : S8192x1024.Idx → EReal) (ix2 r q) = D z b r q := by
  simp only [val_main_v30_apply, val_main_v0_apply]
  pointwise
  unfold D
  rw [nat2_eq b _ r q rfl rfl, mul_comm, nat2_ix2 z]
theorem r6 (r : Fin 8192) (q : Fin 1024) : (val_main_v6 (F := Ideal) b : S8192x1024.Idx → EReal) (ix2 r q) = back b 2 r q := by
  unfold val_main_v6 val_main_v5 val_main_v4 val_main_cst
  pointwise [r3]
  unfold back
  by_cases h : r.val < 2
  · rw [dif_pos h, if_neg (by omega)]
  · rw [dif_neg h, if_pos (by omega)]
theorem r15 (r : Fin 8192) (q : Fin 1024) : (val_main_v15 (F := Ideal) b : S8192x1024.Idx → EReal) (ix2 r q) = back b 1 r q := by
  unfold val_main_v15 val_main_v14 val_main_v13 val_main_cst_1
  pointwise [r3]
  unfold back
  by_cases h : r.val < 1
  · rw [dif_pos h, if_neg (by omega)]
  · rw [dif_neg h, if_pos (by omega)]
theorem r28 (r : Fin 8192) (q : Fin 1024) : (val_main_v28 (F := Ideal) b w : S8192x1024.Idx → EReal) (ix2 r q) = U b w r q := by
  unfold val_main_v28 val_main_v22 val_main_v12 val_main_v11 val_main_v10 val_main_v9 val_main_v8 val_main_v21 val_main_v20 val_main_v19 val_main_v18 val_main_v17 val_main_v27 val_main_v26 val_main_v25 val_main_v24 val_main_v23
  pointwise [r3, r6, r15]
  unfold U
  simp only [nat2_ix2 w]
  rw [add_comm, add_comm (back b 2 r q * _), ← add_assoc, mul_comm, mul_comm (back b 1 r q), mul_comm (back b 2 r q)]
  rfl
theorem r65 (r : Fin 8192) (q : Fin 1024) : (val_main_v65 (F := Ideal) z b w : S8192x1024.Idx → EReal) (ix2 r q) = E z b w r q := by
  unfold val_main_v65 val_main_v52 val_main_v64 val_main_v63 val_main_v57 val_main_v56 val_main_v51 val_main_v50 val_main_v44 val_main_v43 val_main_v36 val_main_v35 val_main_v10 val_main_v9 val_main_v8  val_main_v19 val_main_v18 val_main_v17 val_main_v25 val_main_v24 val_main_v23 val_main_cst_9 val_main_cst_13
  pointwise [r30]
  unfold E
  simp only [nat2_ix2 w]
  rw [mul_comm]
  congr 1
  · congr 1
    by_cases h : r.val < 8191
    · rw [dif_pos h, mul_comm, add_comm 1 r.val]; rfl
    · rw [dif_neg h, D_zero z b q (by omega), mul_zero]
  · by_cases h : r.val < 8190
    · rw [dif_pos h, mul_comm, add_comm 2 r.val]; rfl
    · rw [dif_neg h, D_zero z b q (by omega), mul_zero]

theorem reference_main : (val_main_v69 (F := Ideal) z b w : S8192x3072.Idx → EReal) = dbcu z b w := by
  funext i
  idx_vars i
  unfold val_main_v69 val_main_v68 val_main_v67 val_main_v66 val_main_v31 val_main_v2 val_main_v1
  pointwise [r65, r28]
  unfold dbcu
  pointwise
  by_cases h : i1.val < 1024
  · rw [dif_pos h, if_pos h, nat2_ix2 z]
  · rw [dif_neg h, if_neg h]
    by_cases h' : i1.val < 2048
    · rw [dif_pos (by omega), if_pos h', nat2_ix2 b]
      congr 2; pointwise; omega
    · rw [dif_neg (by omega), if_neg h', nat2_ix2 b, mul_comm]
      congr 2 <;> pointwise <;> omega
theorem reference_taps : (val_main_v61 (F := Ideal) z b : S3x1024.Idx → EReal) = dw z b := by
  funext i
  idx_vars i
  unfold val_main_v61 val_main_v48 val_main_v60 val_main_v47 val_main_v39 val_main_v59 val_main_v58 val_main_v55 val_main_v54 val_main_v53 val_main_v46 val_main_v45 val_main_v42 val_main_v41 val_main_v40 val_main_v38 val_main_v37 val_main_v34 val_main_v33 val_main_v32
    val_main_cst_3 val_main_cst_4 val_main_cst_5 val_main_cst_6 val_main_cst_7 val_main_cst_8 val_main_cst_10 val_main_cst_11 val_main_cst_12
  pointwise [r30, r15, r6, r3]
  unfold dw
  pointwise
  obtain h | h | h : i0.val = 0 ∨ i0.val = 1 ∨ i0.val = 2 := by omega
  all_goals
    simp [h, back_zero, mul_comm]

end Reference

/-- Kernel and reference agree. -/
theorem agree : Cert.algebraic_ConvKIdeal_ConvRIdeal := by
  intro m g m' g' _ hag
  refine ⟨fun c => dbcu (Z m c) (B' m c) (W m c), fun c => dw (Z m c) (B' m c), ?_, ?_⟩
  · refine (θ_run _ _ _).mono (fun r h c => ?_) (Value.run_blocks (F := Ideal) m g)
    exact ⟨(h c).1.trans (main_value m c), (h c).2.1.trans (taps_value m c), (h c).2.2⟩
  · refine (θ_run _ _ _).mono (fun r h c => ?_) (Cert.ConvRIdeal.Value.run (F := Ideal) m' g')
    refine ⟨(h c).1.trans ?_, (h c).2.1.trans ?_, (h c).2.2⟩
    · rw [Cert.ConvRIdeal.Read.val_main_v69_eq, (hag c).1, (hag c).2.1, (hag c).2.2]
      exact reference_main (Z m c) (B' m c) (W m c)
    · rw [(hag c).1, (hag c).2.1]
      exact (Cert.ConvRIdeal.Read.val_main_v61_eq _ _).trans (reference_taps (Z m c) (B' m c))

/-- The reference runs and leaves its arguments. -/
theorem reference_frame : Cert.quiescent_ConvRIdeal := fun m g _ =>
  (θ_run _ _ _).mono (fun r h => ⟨fun c => (h c).2.2, sem_eq_zero_of_no_sems (by decide) r.2⟩) (Cert.ConvRIdeal.Value.run (F := Ideal) m g)

end Cert.ConvProof
-- ==== Proof.Du.lean ====
/- The gradient of the squared ReLU, fused with the product that feeds it. -/
module

public import proofs.«01_k».proof.Defs
public import proofs.«01_k».proof.Proof.Gen.DuKIdeal.Value
public import proofs.«01_k».proof.Proof.Gen.DuRIdeal.Run
public import proofs.«01_k».proof.Proof.Gen.DuRIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.DuProof

open Idealize.ShloMosaic Idealize.ShloMosaic.TcCoe Idealize.SL.Sem
open Cert.DuKIdeal Cert.DuKIdeal.Gen

/-- The gradient with respect to the pre-activation, index by index. -/
def du (dy : S8192x1024.Idx → EReal) (u : S8192x4096.Idx → EReal) (w : S4096x1024.Idx → EReal) (i : S8192x4096.Idx) : EReal :=
  (∑ k : Fin 1024, dy (ix2 (i 0) k) * w (ix2 (i 1) k)) * (2 * max (u i) 0)

/-- Where each window's block stands at grid point `t`. -/
theorem idx : ∀ t : Fin grid0.N, win0_0.index t = ![t.val, 0] ∧ win0_1.index t = ![0, 0, 0] ∧ win0_2.index t = ![t.val, 0] ∧ win0_3.index t = ![t.val, 0] := by
  decide +kernel

variable (m : (ℓ : Loc nD τ sig) → Buf (Elt Ideal) ℓ) (c : Dev nD)

theorem two : (Ideal.ofBits .f32 0x40000000#32 : EReal) = 2 := by
  simp [Ideal.ofBits, Ideal.ieee, -EReal.coe_mul]; norm_num
  rfl

/-- The arguments. -/
abbrev DY : S8192x1024.Idx → EReal := m ((c : Thread nD τ).loc main_arg0)
abbrev U : S8192x4096.Idx → EReal := m ((c : Thread nD τ).loc main_arg1)
abbrev W : S4096x1024.Idx → EReal := m ((c : Thread nD τ).loc main_arg2)

/-- The three input blocks at a grid point. -/
abbrev B0 (t : Fin cfg0.N) : S512x1024.Idx → EReal := iblk m c 0 t
abbrev B1 (t : Fin cfg0.N) : S1x4096x1024.Idx → EReal := iblk m c 1 t
abbrev B2 (t : Fin cfg0.N) : S512x4096.Idx → EReal := iblk m c 2 t

/-- The slope, the cotangent and the weight as the host hands them to the kernel. -/
theorem v4 (i : S8192x4096.Idx) : (V m c main_v4 : S8192x4096.Idx → EReal) i = 2 * max (U m c i) 0 := by
  entry_read; pointwise; rw [two]
theorem v5 (i : S8192x1024.Idx) : (V m c main_v5 : S8192x1024.Idx → EReal) i = DY m c i := by
  entry_read; pointwise
theorem v7 (i : S1x4096x1024.Idx) : (V m c main_v7 : S1x4096x1024.Idx → EReal) i = W m c (ix2 (i 1) (i 2)) := by
  entry_read; pointwise

theorem b0 (t : Fin cfg0.N) (a : Fin 512) (k : Fin 1024) (r : Fin 8192) (h : r.val = t.val * 512 + a.val) : B0 m c t (ix2 a k) = DY m c (ix2 r k) := by
  obtain ⟨e0, e1, e2, e3⟩ := idx t
  have g : (win0_0.blk t).view.emb (ix2 a k) = ix2 r k := by blk_ext [e0, h]
  unfold B0; blk_simp [iblk]
  exact (congrArg (V m c main_v5 : S8192x1024.Idx → EReal) g).trans (v5 m c _)
theorem b1 (t : Fin cfg0.N) (b : Fin 4096) (k : Fin 1024) : B1 m c t (ix3 0 b k) = W m c (ix2 b k) := by
  obtain ⟨e0, e1, e2, e3⟩ := idx t
  have g : (win0_1.blk t).view.emb (ix3 0 b k) = ix3 0 b k := by blk_ext [e1]
  unfold B1; blk_simp [iblk]
  exact (congrArg (V m c main_v7 : S1x4096x1024.Idx → EReal) g).trans (v7 m c _)
theorem b2 (t : Fin cfg0.N) (a : Fin 512) (b : Fin 4096) (r : Fin 8192) (h : r.val = t.val * 512 + a.val) : B2 m c t (ix2 a b) = 2 * max (U m c (ix2 r b)) 0 := by
  obtain ⟨e0, e1, e2, e3⟩ := idx t
  have g : (win0_2.blk t).view.emb (ix2 a b) = ix2 r b := by blk_ext [e2, h]
  unfold B2; blk_simp [iblk]
  exact (congrArg (V m c main_v4 : S8192x4096.Idx → EReal) g).trans (v4 m c _)

/-- One element of the product and its slope, at row `a` of point `t`'s block and column `b`. -/
theorem point (t : Fin cfg0.N) (a : Fin 512) (b : Fin 4096) (i : S8192x4096.Idx) (h0 : (i 0).val = t.val * 512 + a.val) (h1 : (i 1).val = b.val) :
    (∑ k : Fin 1024, B0 m c t (ix2 a k) * B1 m c t (ix3 0 b k)) * B2 m c t (ix2 a b) = du (DY m c) (U m c) (W m c) i := by
  idx_vars i
  obtain rfl : i1 = b := Fin.ext h1
  have g := b0 m c t a
  simp only [b0 m c t a _ i0 h0, b1, b2 m c t a _ i0 h0]
  rfl

/-- What the body leaves in the output block, from the input blocks. -/
theorem body (x0 : S512x1024.Idx → EReal) (x1 : S1x4096x1024.Idx → EReal) (x2 : S512x4096.Idx → EReal) (y : S512x4096.Idx) :
    out0_3 (F := Ideal) x0 x1 x2 y = (∑ k : Fin 1024, x0 (ix2 (y 0) k) * x1 (ix3 0 (y 1) k)) * x2 y := by
  unfold_out out0_3
  canon_tiles x h
  all_goals
    unfold_payloads
    pointwise
    have e : y = ix2 (x 0) ⟨_, lt_of_eq_of_lt h1.symm (y 1).isLt⟩ := by blk_ext [h0, h1]
    rw [e]; rfl

theorem kernel_value : (dats m 0 c).arrAt 3 cfg0.N = du (DY m c) (U m c) (W m c) := by
  refine (dats m 0 c).arrAt_eq_of_covers 3 _ (by decide +kernel) fun t hf y => ?_
  blk_simp
  rw [after0_3]
  refine (body _ _ _ _).trans ?_
  have hy : (y : S512x4096.Idx) = ix2 (y 0) (y 1) := eq_ix2 _
  refine Eq.trans ?_ (point m c t (y 0) (y 1) _ ?_ ?_)
  · exact congrArg _ (congrArg (B2 m c t) hy)
  · blk_simp [(idx t).2.2.2]
  · blk_simp [(idx t).2.2.2]

/-- The reference's value. -/
theorem reference_value (dy : S8192x1024.Idx → EReal) (u : S8192x4096.Idx → EReal) (w : S4096x1024.Idx → EReal) :
    (Cert.DuRIdeal.Read.val_main_v12 (F := Ideal) dy u w : S8192x4096.Idx → EReal) = du dy u w := by
  funext i
  open Cert.DuRIdeal.Read in
  simp only [val_main_v12_apply, val_main_v11_apply, val_main_v10_apply, val_main_cst_2_apply, val_main_v9_apply, val_main_v8_apply, val_main_v6_apply, val_main_v5_apply, val_main_cst_1_apply,
    val_main_v2_apply, val_main_v1_apply, val_main_cst_apply, val_main_v0_apply, val_main_call0_v0_apply, val_main_call0_cst_apply]
  pointwise
  unfold du
  rw [two]
  split_ifs with h
  · congr 1
    refine Finset.sum_congr rfl fun k _ => ?_
    congr 1
    · exact congrArg dy (by blk_ext)
    · exact congrArg w (by blk_ext)
  · rw [max_eq_right (not_lt.mp h)]; simp

/-- Kernel and reference agree. -/
theorem agree : Cert.algebraic_DuKIdeal_DuRIdeal := by
  intro m g m' g' _ hag
  refine ⟨fun c => du (DY m c) (U m c) (W m c), ?_, ?_⟩
  · refine (θ_run _ _ _).mono (fun r h c => ?_) (Value.run_blocks (F := Ideal) m g)
    exact ⟨(h c).1.trans (kernel_value m c), (h c).2⟩
  · refine (θ_run _ _ _).mono (fun r h c => ?_) (Cert.DuRIdeal.Value.run (F := Ideal) m' g')
    refine ⟨(h c).1.trans ?_, (h c).2⟩
    rw [(hag c).1, (hag c).2.1, (hag c).2.2]
    exact (Cert.DuRIdeal.Read.val_main_v12_eq _ _ _).trans (reference_value (DY m c) (U m c) (W m c))

/-- The reference runs and leaves its arguments. -/
theorem reference_frame : Cert.quiescent_DuRIdeal := fun m g _ =>
  (θ_run _ _ _).mono (fun r h => ⟨fun c => (h c).2, sem_eq_zero_of_no_sems (by decide) r.2⟩) (Cert.DuRIdeal.Value.run (F := Ideal) m g)

end Cert.DuProof
-- ==== Proof.AttTables.lean ====
module

public import proofs.«01_k».proof.Proof.Gen.AttKIdeal.Skeleton
public import proofs.«01_k».proof.Proof.Gen.AttKIdeal.Launch
public import Idealize.ShloMosaic.Lib.Pipeline.FrameBody
public import Idealize.ShloMosaic.Lib.Pipeline.TableIdle
public import Idealize.ShloMosaic.Lib.Tactic
public import Idealize.ShloMosaic.Lib.WordCmp

/-!
# The gradient of attention: the two tables that name a step's query and key blocks
-/

@[expose] public section

set_option maxRecDepth 16384

noncomputable section

namespace Cert.AttProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttKIdeal Cert.AttKIdeal.Gen

variable {F : FTy → Type} [FloatOps F] [Named F]

local notation "𝕄" => MT nD τ sig Unit (Elt F) ℕ (UR sig nD τ) ℕ

/-- The table of query blocks and the table of key blocks, as the body reads them. -/
abbrev tb0 : Memref sig .tc .smem S10 .i32 := Memref.whole main_c
abbrev tb1 : Memref sig .tc .smem S10 .i32 := Memref.whole main_c_0
abbrev htb0 : tb0.IsWhole := Memref.isWhole_whole _
abbrev htb1 : tb1.IsWhole := Memref.isWhole_whole _

/-- A table's contents, and the half of it that the body holds. -/
abbrev TbBuf (c : Dev nD) {S : Shape} {e : EltTy} (M : Memref sig .tc .smem S e) : Type :=
  Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word a step reads from each table. -/
abbrev wq (c : Dev nD) (i : grid0.Coords) (t : TbBuf (F := F) c tb0) : Elt F .i32 :=
  View.readAt (Elt F) tb0.view (Rect.unit (s := S10) (k0_off1 i) S1.size (k0_off1_inb i)).toLoadRect t
    (Shape.Idx.first (numel1_S1.symm ▸ Nat.one_pos))
abbrev wk (c : Dev nD) (i : grid0.Coords) (t : TbBuf (F := F) c tb1) : Elt F .i32 :=
  View.readAt (Elt F) tb1.view (Rect.unit (s := S10) (k0_off1 i) S1.size (k0_off1_inb i)).toLoadRect t
    (Shape.Idx.first (numel1_S1.symm ▸ Nat.one_pos))

/-- What the two tables hold: the pairs of blocks on or below the diagonal, key block by key block. -/
def tabQ (c : Dev nD) : TbBuf (F := F) c tb0 := fun i => lit0 (S10.rowMajor i)
def tabK (c : Dev nD) : TbBuf (F := F) c tb1 := fun i => lit1 (S10.rowMajor i)

/-- The place of a step's words in the tables. -/
def st (t : Fin grid0.N) : Fin 10 := grid0.coords t 1

theorem place : ∀ t : Fin grid0.N,
    (S10.rowMajor ((Rect.unit (s := S10) (k0_off1 (grid0.coords t)) S1.size (k0_off1_inb _)).toLoadRect.idx
      (Shape.Idx.first (numel1_S1.symm ▸ Nat.one_pos)))).val = (st t).val := by decide +kernel

theorem wq_tab (c : Dev nD) (t : Fin grid0.N) : wq c (grid0.coords t) (tabQ (F := F) c) = lit0 (st t) :=
  congrArg lit0 (Fin.ext (place t))

theorem wk_tab (c : Dev nD) (t : Fin grid0.N) : wk c (grid0.coords t) (tabK (F := F) c) = lit1 (st t) :=
  congrArg lit1 (Fin.ext (place t))

theorem chk_lit : ∀ s : Fin 10, k0_chk1 (lit0 s) (lit1 s) := by decide +kernel

end Cert.AttProof

end
-- ==== Proof.AttRunA.lean ====
module

public import proofs.«01_k».proof.Proof.AttTables

/-!
# The gradient of attention: one grid step, the first of a head: the three results start from zero
-/

@[expose] public section

set_option maxRecDepth 16384

noncomputable section

namespace Cert.AttProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttKIdeal Cert.AttKIdeal.Gen

variable {F : FTy → Type} [FloatOps F] [Named F]

local notation "𝕄" => MT nD τ sig Unit (Elt F) ℕ (UR sig nD τ) ℕ

variable (c : Dev nD) (i : grid0.Coords)
variable (arg4 : Memref sig .tc .vmem S1x2048x256 .bf16) (harg4 : arg4.IsWhole)
variable (arg5 : Memref sig .tc .vmem S1x2048x256 .bf16) (harg5 : arg5.IsWhole)
variable (arg6 : Memref sig .tc .vmem S1x2048x128 .bf16) (harg6 : arg6.IsWhole)
variable (arg7 : Memref sig .tc .vmem S2048x128 .f32) (harg7 : arg7.IsWhole)
variable (arg8 : Memref sig .tc .vmem S1x1x2048 .f32) (harg8 : arg8.IsWhole)
variable (arg9 : Memref sig .tc .vmem S1x1x2048 .f32) (harg9 : arg9.IsWhole)
variable (arg10 : Memref sig .tc .vmem S2048x1 .i32) (harg10 : arg10.IsWhole)
variable (arg11 : Memref sig .tc .vmem S1x2048 .i32) (harg11 : arg11.IsWhole)
variable (arg12 : Memref sig .tc .vmem S1x8192x256 .f32) (harg12 : arg12.IsWhole)
variable (arg13 : Memref sig .tc .vmem S1x2048x256 .f32) (harg13 : arg13.IsWhole)
variable (arg14 : Memref sig .tc .vmem S1x2048x128 .f32) (harg14 : arg14.IsWhole)
variable (t0 : TbBuf (F := F) c tb0) (t1 : TbBuf (F := F) c tb1)
variable (x0 : Vec F S1x2048x256 .bf16)
variable (x1 : Vec F S1x2048x256 .bf16)
variable (x2 : Vec F S1x2048x128 .bf16)
variable (x3 : Vec F S2048x128 .f32)
variable (x4 : Vec F S1x1x2048 .f32)
variable (x5 : Vec F S1x1x2048 .f32)
variable (x6 : Vec F S2048x1 .i32)
variable (x7 : Vec F S1x2048 .i32)

set_option maxHeartbeats 4000000 in
/-- The step at staging buffers holding the eight input blocks: what it stores into the three results is found by
    running it. -/
def run_A (hchk : k0_chk1 (wq c i t0) (wk c i t1)) (h1 : k0_cond1 i = 1#1)
    (h2 : k0_cond2 (wq c i t0) (wk c i t1) = 1#1) (h3 : k0_cond3 (wq c i t0) (wk c i t1) = 1#1)
    (h4 : ¬ k0_cond4 (wq c i t0) (wk c i t1) = 1#1)  :
    Σ' (L12 : List (View.Piece (Elt F) S1x8192x256 .f32)) (L13 : List (View.Piece (Elt F) S1x2048x256 .f32)),
      { L14 : List (View.Piece (Elt F) S1x2048x128 .f32) // ∀ (E : Set ℕ) (K : PUnit → sProp 𝕄),
        iprop(tbPt c tb0 t0 ∗ tbPt c tb1 t1 ∗ owns (c : Thread nD τ) arg4 fullShare x0
          ∗ owns (c : Thread nD τ) arg5 fullShare x1 ∗ owns (c : Thread nD τ) arg6 fullShare x2
          ∗ owns (c : Thread nD τ) arg7 fullShare x3 ∗ owns (c : Thread nD τ) arg8 fullShare x4
          ∗ owns (c : Thread nD τ) arg9 fullShare x5 ∗ owns (c : Thread nD τ) arg10 fullShare x6
          ∗ owns (c : Thread nD τ) arg11 fullShare x7 ∗ (∃ d, owns (c : Thread nD τ) arg12 fullShare d)
          ∗ (∃ d, owns (c : Thread nD τ) arg13 fullShare d)
          ∗ (∃ d, owns (c : Thread nD τ) arg14 fullShare d)
          ∗ (iprop(tbPt c tb0 t0 ∗ tbPt c tb1 t1 ∗ owns (c : Thread nD τ) arg4 fullShare x0
            ∗ owns (c : Thread nD τ) arg5 fullShare x1 ∗ owns (c : Thread nD τ) arg6 fullShare x2
            ∗ owns (c : Thread nD τ) arg7 fullShare x3 ∗ owns (c : Thread nD τ) arg8 fullShare x4
            ∗ owns (c : Thread nD τ) arg9 fullShare x5 ∗ owns (c : Thread nD τ) arg10 fullShare x6
            ∗ owns (c : Thread nD τ) arg11 fullShare x7
            ∗ (∃ f, arg12.view.loc (c : Thread nD τ) ↦[arg12.view.set]{fullShare} arg12.view.writes (Elt F) f L12)
            ∗ (∃ f, arg13.view.loc (c : Thread nD τ) ↦[arg13.view.set]{fullShare} arg13.view.writes (Elt F) f L13)
            ∗ (∃ f, arg14.view.loc (c : Thread nD τ) ↦[arg14.view.set]{fullShare} arg14.view.writes (Elt F) f L14)) -∗ K ⟨⟩))
        ⊢ wp frame (wpE (defs₀ (F := F)) Variants.none c none) E
            (cc0_attn_bwd i tb0 htb0 tb1 htb1 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_attn_bwd_eq_skeleton]; unfold cc0_attn_bwd_skel
    simp only [k0_part27_eq_skeleton]
    unfold owns
    iintro ⟨T0, T1, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg4.eq_unread hf0; obtain rfl := harg5.eq_unread hf1; obtain rfl := harg6.eq_unread hf2
    obtain rfl := harg7.eq_unread hf3; obtain rfl := harg8.eq_unread hf4; obtain rfl := harg9.eq_unread hf5
    obtain rfl := harg10.eq_unread hf6; obtain rfl := harg11.eq_unread hf7
    sl_exec_parts (disch := first | (guard_target = k0_chk1 _ _; exact hchk) | (guard_target = k0_cond2 _ _ = _; exact h2) | (guard_target = k0_cond3 _ _ = _; exact h3) | (guard_target = ¬ (k0_cond4 _ _ = _); exact h4))
    sl_step
    iapply Hk
    isplitl [T0]; · iexact T0
    isplitl [T1]; · iexact T1
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]; · iexists _; iexact H8
    isplitl [H9]; · iexists _; iexact H9
    iexists _; iexact H10

end Cert.AttProof

end
-- ==== Proof.AttRunB.lean ====
module

public import proofs.«01_k».proof.Proof.AttTables

/-!
# The gradient of attention: one grid step, the later steps on the diagonal: the key and value gradients start from zero
-/

@[expose] public section

set_option maxRecDepth 16384

noncomputable section

namespace Cert.AttProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttKIdeal Cert.AttKIdeal.Gen

variable {F : FTy → Type} [FloatOps F] [Named F]

local notation "𝕄" => MT nD τ sig Unit (Elt F) ℕ (UR sig nD τ) ℕ

variable (c : Dev nD) (i : grid0.Coords)
variable (arg4 : Memref sig .tc .vmem S1x2048x256 .bf16) (harg4 : arg4.IsWhole)
variable (arg5 : Memref sig .tc .vmem S1x2048x256 .bf16) (harg5 : arg5.IsWhole)
variable (arg6 : Memref sig .tc .vmem S1x2048x128 .bf16) (harg6 : arg6.IsWhole)
variable (arg7 : Memref sig .tc .vmem S2048x128 .f32) (harg7 : arg7.IsWhole)
variable (arg8 : Memref sig .tc .vmem S1x1x2048 .f32) (harg8 : arg8.IsWhole)
variable (arg9 : Memref sig .tc .vmem S1x1x2048 .f32) (harg9 : arg9.IsWhole)
variable (arg10 : Memref sig .tc .vmem S2048x1 .i32) (harg10 : arg10.IsWhole)
variable (arg11 : Memref sig .tc .vmem S1x2048 .i32) (harg11 : arg11.IsWhole)
variable (arg12 : Memref sig .tc .vmem S1x8192x256 .f32) (harg12 : arg12.IsWhole)
variable (arg13 : Memref sig .tc .vmem S1x2048x256 .f32) (harg13 : arg13.IsWhole)
variable (arg14 : Memref sig .tc .vmem S1x2048x128 .f32) (harg14 : arg14.IsWhole)
variable (t0 : TbBuf (F := F) c tb0) (t1 : TbBuf (F := F) c tb1)
variable (x0 : Vec F S1x2048x256 .bf16)
variable (x1 : Vec F S1x2048x256 .bf16)
variable (x2 : Vec F S1x2048x128 .bf16)
variable (x3 : Vec F S2048x128 .f32)
variable (x4 : Vec F S1x1x2048 .f32)
variable (x5 : Vec F S1x1x2048 .f32)
variable (x6 : Vec F S2048x1 .i32)
variable (x7 : Vec F S1x2048 .i32)

set_option maxHeartbeats 4000000 in
/-- The step at staging buffers holding the eight input blocks: what it stores into the three results is found by
    running it. -/
def run_B (hchk : k0_chk1 (wq c i t0) (wk c i t1)) (h1 : ¬ k0_cond1 i = 1#1)
    (h2 : k0_cond2 (wq c i t0) (wk c i t1) = 1#1) (h3 : k0_cond3 (wq c i t0) (wk c i t1) = 1#1)
    (h4 : ¬ k0_cond4 (wq c i t0) (wk c i t1) = 1#1) (dq : Vec F S1x8192x256 .f32) :
    Σ' (L12 : List (View.Piece (Elt F) S1x8192x256 .f32)) (L13 : List (View.Piece (Elt F) S1x2048x256 .f32)),
      { L14 : List (View.Piece (Elt F) S1x2048x128 .f32) // ∀ (E : Set ℕ) (K : PUnit → sProp 𝕄),
        iprop(tbPt c tb0 t0 ∗ tbPt c tb1 t1 ∗ owns (c : Thread nD τ) arg4 fullShare x0
          ∗ owns (c : Thread nD τ) arg5 fullShare x1 ∗ owns (c : Thread nD τ) arg6 fullShare x2
          ∗ owns (c : Thread nD τ) arg7 fullShare x3 ∗ owns (c : Thread nD τ) arg8 fullShare x4
          ∗ owns (c : Thread nD τ) arg9 fullShare x5 ∗ owns (c : Thread nD τ) arg10 fullShare x6
          ∗ owns (c : Thread nD τ) arg11 fullShare x7 ∗ owns (c : Thread nD τ) arg12 fullShare dq
          ∗ (∃ d, owns (c : Thread nD τ) arg13 fullShare d)
          ∗ (∃ d, owns (c : Thread nD τ) arg14 fullShare d)
          ∗ (iprop(tbPt c tb0 t0 ∗ tbPt c tb1 t1 ∗ owns (c : Thread nD τ) arg4 fullShare x0
            ∗ owns (c : Thread nD τ) arg5 fullShare x1 ∗ owns (c : Thread nD τ) arg6 fullShare x2
            ∗ owns (c : Thread nD τ) arg7 fullShare x3 ∗ owns (c : Thread nD τ) arg8 fullShare x4
            ∗ owns (c : Thread nD τ) arg9 fullShare x5 ∗ owns (c : Thread nD τ) arg10 fullShare x6
            ∗ owns (c : Thread nD τ) arg11 fullShare x7
            ∗ (arg12.view.loc (c : Thread nD τ) ↦[arg12.view.set]{fullShare} arg12.view.writes (Elt F) (harg12.unread dq) L12)
            ∗ (∃ f, arg13.view.loc (c : Thread nD τ) ↦[arg13.view.set]{fullShare} arg13.view.writes (Elt F) f L13)
            ∗ (∃ f, arg14.view.loc (c : Thread nD τ) ↦[arg14.view.set]{fullShare} arg14.view.writes (Elt F) f L14)) -∗ K ⟨⟩))
        ⊢ wp frame (wpE (defs₀ (F := F)) Variants.none c none) E
            (cc0_attn_bwd i tb0 htb0 tb1 htb1 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_attn_bwd_eq_skeleton]; unfold cc0_attn_bwd_skel
    simp only [k0_part27_eq_skeleton]
    unfold owns
    iintro ⟨T0, T1, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg4.eq_unread hf0; obtain rfl := harg5.eq_unread hf1; obtain rfl := harg6.eq_unread hf2
    obtain rfl := harg7.eq_unread hf3; obtain rfl := harg8.eq_unread hf4; obtain rfl := harg9.eq_unread hf5
    obtain rfl := harg10.eq_unread hf6; obtain rfl := harg11.eq_unread hf7; obtain rfl := harg12.eq_unread hf8
    sl_exec_parts (disch := first | (guard_target = k0_chk1 _ _; exact hchk) | (guard_target = k0_cond2 _ _ = _; exact h2) | (guard_target = k0_cond3 _ _ = _; exact h3) | (guard_target = ¬ (k0_cond4 _ _ = _); exact h4))
    sl_step
    iapply Hk
    isplitl [T0]; · iexact T0
    isplitl [T1]; · iexact T1
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]; · iexact H8
    isplitl [H9]; · iexists _; iexact H9
    iexists _; iexact H10

end Cert.AttProof

end
-- ==== Proof.AttRunC.lean ====
module

public import proofs.«01_k».proof.Proof.AttTables

/-!
# The gradient of attention: one grid step, the steps off the diagonal: all three results are added to
-/

@[expose] public section

set_option maxRecDepth 16384

noncomputable section

namespace Cert.AttProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttKIdeal Cert.AttKIdeal.Gen

variable {F : FTy → Type} [FloatOps F] [Named F]

local notation "𝕄" => MT nD τ sig Unit (Elt F) ℕ (UR sig nD τ) ℕ

variable (c : Dev nD) (i : grid0.Coords)
variable (arg4 : Memref sig .tc .vmem S1x2048x256 .bf16) (harg4 : arg4.IsWhole)
variable (arg5 : Memref sig .tc .vmem S1x2048x256 .bf16) (harg5 : arg5.IsWhole)
variable (arg6 : Memref sig .tc .vmem S1x2048x128 .bf16) (harg6 : arg6.IsWhole)
variable (arg7 : Memref sig .tc .vmem S2048x128 .f32) (harg7 : arg7.IsWhole)
variable (arg8 : Memref sig .tc .vmem S1x1x2048 .f32) (harg8 : arg8.IsWhole)
variable (arg9 : Memref sig .tc .vmem S1x1x2048 .f32) (harg9 : arg9.IsWhole)
variable (arg10 : Memref sig .tc .vmem S2048x1 .i32) (harg10 : arg10.IsWhole)
variable (arg11 : Memref sig .tc .vmem S1x2048 .i32) (harg11 : arg11.IsWhole)
variable (arg12 : Memref sig .tc .vmem S1x8192x256 .f32) (harg12 : arg12.IsWhole)
variable (arg13 : Memref sig .tc .vmem S1x2048x256 .f32) (harg13 : arg13.IsWhole)
variable (arg14 : Memref sig .tc .vmem S1x2048x128 .f32) (harg14 : arg14.IsWhole)
variable (t0 : TbBuf (F := F) c tb0) (t1 : TbBuf (F := F) c tb1)
variable (x0 : Vec F S1x2048x256 .bf16)
variable (x1 : Vec F S1x2048x256 .bf16)
variable (x2 : Vec F S1x2048x128 .bf16)
variable (x3 : Vec F S2048x128 .f32)
variable (x4 : Vec F S1x1x2048 .f32)
variable (x5 : Vec F S1x1x2048 .f32)
variable (x6 : Vec F S2048x1 .i32)
variable (x7 : Vec F S1x2048 .i32)

set_option maxHeartbeats 4000000 in
/-- The step at staging buffers holding the eight input blocks: what it stores into the three results is found by
    running it. -/
def run_C (hchk : k0_chk1 (wq c i t0) (wk c i t1)) (h1 : ¬ k0_cond1 i = 1#1)
    (h2 : ¬ k0_cond2 (wq c i t0) (wk c i t1) = 1#1) (h3 : ¬ k0_cond3 (wq c i t0) (wk c i t1) = 1#1)
    (h4 : k0_cond4 (wq c i t0) (wk c i t1) = 1#1) (dq : Vec F S1x8192x256 .f32) (dk : Vec F S1x2048x256 .f32) (dv : Vec F S1x2048x128 .f32) :
    Σ' (L12 : List (View.Piece (Elt F) S1x8192x256 .f32)) (L13 : List (View.Piece (Elt F) S1x2048x256 .f32)),
      { L14 : List (View.Piece (Elt F) S1x2048x128 .f32) // ∀ (E : Set ℕ) (K : PUnit → sProp 𝕄),
        iprop(tbPt c tb0 t0 ∗ tbPt c tb1 t1 ∗ owns (c : Thread nD τ) arg4 fullShare x0
          ∗ owns (c : Thread nD τ) arg5 fullShare x1 ∗ owns (c : Thread nD τ) arg6 fullShare x2
          ∗ owns (c : Thread nD τ) arg7 fullShare x3 ∗ owns (c : Thread nD τ) arg8 fullShare x4
          ∗ owns (c : Thread nD τ) arg9 fullShare x5 ∗ owns (c : Thread nD τ) arg10 fullShare x6
          ∗ owns (c : Thread nD τ) arg11 fullShare x7 ∗ owns (c : Thread nD τ) arg12 fullShare dq
          ∗ owns (c : Thread nD τ) arg13 fullShare dk ∗ owns (c : Thread nD τ) arg14 fullShare dv
          ∗ (iprop(tbPt c tb0 t0 ∗ tbPt c tb1 t1 ∗ owns (c : Thread nD τ) arg4 fullShare x0
            ∗ owns (c : Thread nD τ) arg5 fullShare x1 ∗ owns (c : Thread nD τ) arg6 fullShare x2
            ∗ owns (c : Thread nD τ) arg7 fullShare x3 ∗ owns (c : Thread nD τ) arg8 fullShare x4
            ∗ owns (c : Thread nD τ) arg9 fullShare x5 ∗ owns (c : Thread nD τ) arg10 fullShare x6
            ∗ owns (c : Thread nD τ) arg11 fullShare x7
            ∗ (arg12.view.loc (c : Thread nD τ) ↦[arg12.view.set]{fullShare} arg12.view.writes (Elt F) (harg12.unread dq) L12)
            ∗ (arg13.view.loc (c : Thread nD τ) ↦[arg13.view.set]{fullShare} arg13.view.writes (Elt F) (harg13.unread dk) L13)
            ∗ (arg14.view.loc (c : Thread nD τ) ↦[arg14.view.set]{fullShare} arg14.view.writes (Elt F) (harg14.unread dv) L14)) -∗ K ⟨⟩))
        ⊢ wp frame (wpE (defs₀ (F := F)) Variants.none c none) E
            (cc0_attn_bwd i tb0 htb0 tb1 htb1 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_attn_bwd_eq_skeleton]; unfold cc0_attn_bwd_skel
    simp only [k0_part27_eq_skeleton]
    unfold owns
    iintro ⟨T0, T1, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg4.eq_unread hf0; obtain rfl := harg5.eq_unread hf1; obtain rfl := harg6.eq_unread hf2
    obtain rfl := harg7.eq_unread hf3; obtain rfl := harg8.eq_unread hf4; obtain rfl := harg9.eq_unread hf5
    obtain rfl := harg10.eq_unread hf6; obtain rfl := harg11.eq_unread hf7; obtain rfl := harg12.eq_unread hf8
    obtain rfl := harg13.eq_unread hf9; obtain rfl := harg14.eq_unread hf10
    sl_exec_parts (disch := first | (guard_target = k0_chk1 _ _; exact hchk) | (guard_target = ¬ (k0_cond2 _ _ = _); exact h2) | (guard_target = ¬ (k0_cond3 _ _ = _); exact h3) | (guard_target = k0_cond4 _ _ = _; exact h4))
    sl_step
    iapply Hk
    isplitl [T0]; · iexact T0
    isplitl [T1]; · iexact T1
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]; · iexact H8
    isplitl [H9]; · iexact H9
    iexact H10

end Cert.AttProof

end
-- ==== Proof.AttBase.lean ====
module

public import proofs.«01_k».proof.Proof.AttTables
public import Idealize.ShloMosaic.Lib.StableHlo.RunRead

/-!
# The gradient of attention: the region's arrays, tables and schedule
-/

@[expose] public section

set_option maxRecDepth 16384

noncomputable section

namespace Cert.AttProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttKIdeal Cert.AttKIdeal.Gen

variable {F : FTy → Type} [FloatOps F] [Named F]

local notation "𝕄" => MT nD τ sig Unit (Elt F) ℕ (UR sig nD τ) ℕ

variable (m : (ℓ : Loc nD τ sig) → Buf (Elt F) ℓ)

/-! ## Up to the region -/

/-- The host operations before the region, stretch by stretch. -/
abbrev hostOpss : List (List (HloOp τ sig (Elt F))) :=
  [hostOps0, hostOps0_1, hostOps0_2, hostOps0_3, hostOps0_4, hostOps0_5, hostOps0_6, hostOps0_7, hostOps0_8]

/-- The buffers as the region finds them. -/
abbrev V (c : Dev nD) (b : Ref sig .tc) : Buf (Elt F) ((c : Thread nD τ).loc b) :=
  StableHlo.after hostOpss.flatten (fun b => m (c, b)) b

set_option maxHeartbeats 1600000 in
theorem hostOpss_fresh : (hostOpss (F := F)).Forall fun ops => ops.Forall fun op => op.fresh = ∅ := by
  simp only [List.Forall]
  repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostOpss
    ⟨hostOps0_sub, hostOps0_1_sub, hostOps0_2_sub, hostOps0_3_sub, hostOps0_4_sub, hostOps0_5_sub, hostOps0_6_sub,
      hostOps0_7_sub, hostOps0_8_sub⟩ hostOpss_fresh main_chain

/-! ## The tables -/

def tables : pre0.Contents (Elt F) := fun
  | 0 => tabQ (F := F) (0 : Dev nD)
  | 1 => tabK (F := F) (0 : Dev nD)
  | ⟨_ + 2, h⟩ => absurd h (Nat.not_lt.2 (Nat.le_add_left _ _))

set_option maxHeartbeats 1600000 in
theorem ok : ok0 (tables (F := F)) := of_decide_eq_true (by sl_kernel_rfl)

abbrev adm : (pcfg0 (F := F)).Adm := ⟨tables, ok⟩
abbrev cfgT : Pipeline.Cfg sig Λ₀ := cfg0 (adm (F := F))

theorem PhiT_eq (c : Dev nD) : (Pipeline.ΦT pre0 (tables (F := F)) c : sProp 𝕄)
    = iprop(tbPt c tb0 (tabQ c) ∗ tbPt c tb1 (tabK c)) := by
  unfold Pipeline.ΦT Pipeline.prefHeld
  rw [BI.bigSep_eq_bigSepL_of_eq [(0 : Fin 2), 1] (by decide) (by decide)]
  obtain rfl : c = 0 := Subsingleton.elim _ _
  rfl

/-! ## The schedule -/

theorem live8 : ∀ t : Fin grid0.N, (cfgT (F := F)).idle 8 (grid0.coords t) = false := of_decide_eq_true (by sl_kernel_rfl)
theorem live9 : ∀ t : Fin grid0.N, (cfgT (F := F)).idle 9 (grid0.coords t) = false := of_decide_eq_true (by sl_kernel_rfl)
theorem live10 : ∀ t : Fin grid0.N, (cfgT (F := F)).idle 10 (grid0.coords t) = false := of_decide_eq_true (by sl_kernel_rfl)

/-- Results 9 and 10 are written back after the last step of each key block, result 8 after each head's last step. -/
theorem flush8 : ∀ t : Fin grid0.N, t.val % 10 ≠ 9 → ((cfgT (F := F)).win 8).flush t = false := of_decide_eq_true (by sl_kernel_rfl)
theorem flush9 : ∀ t : Fin grid0.N, lit0 (st t) ≠ 3#32 → ((cfgT (F := F)).win 9).flush t = false := of_decide_eq_true (by sl_kernel_rfl)
theorem flush10 : ∀ t : Fin grid0.N, lit0 (st t) ≠ 3#32 → ((cfgT (F := F)).win 10).flush t = false := of_decide_eq_true (by sl_kernel_rfl)

theorem fresh_of_live (w : Fin (cfgT (F := F)).W) (h : ∀ t : Fin grid0.N, (cfgT (F := F)).idle w (grid0.coords t) = false)
    (t : Fin grid0.N) (ht : t.val ≠ 0) (hf : ((cfgT (F := F)).win w).flush ⟨t.val - 1, Nat.lt_of_le_of_lt (Nat.sub_le _ _) t.isLt⟩ = false) :
    (cfgT (F := F)).fresh w t.val = false := by
  obtain ⟨n, hn⟩ := t
  cases n with
  | zero => exact absurd rfl ht
  | succ n => exact ((cfgT (F := F)).fresh_succ w n (Nat.lt_of_succ_lt hn)).trans (by
      rw [show ((cfgT (F := F)).win w).flush ⟨n, Nat.lt_of_succ_lt hn⟩ = false from hf,
        show (cfgT (F := F)).idle w ((cfgT (F := F)).grid.coords ⟨n, Nat.lt_of_succ_lt hn⟩) = false from h ⟨n, Nat.lt_of_succ_lt hn⟩]; rfl)

/-! ## The cases of the body's conditions -/

/-- The step starts a head; the step is on the diagonal. -/
abbrev Head (t : Fin grid0.N) : Prop := t.val % 10 = 0
abbrev Diag (t : Fin grid0.N) : Prop := lit0 (st t) = lit1 (st t)

theorem diag_of_head : ∀ t : Fin grid0.N, Head t → Diag t := by decide +kernel
theorem cond1_iff : ∀ t : Fin grid0.N, k0_cond1 (grid0.coords t) = 1#1 ↔ Head t := by decide +kernel
theorem cond2_iff : ∀ s : Fin 10, k0_cond2 (lit0 s) (lit1 s) = 1#1 ↔ lit0 s = lit1 s := by decide +kernel
theorem cond3_iff : ∀ s : Fin 10, k0_cond3 (lit0 s) (lit1 s) = 1#1 ↔ lit0 s = lit1 s := by decide +kernel
theorem cond4_iff : ∀ s : Fin 10, k0_cond4 (lit0 s) (lit1 s) = 1#1 ↔ ¬ lit0 s = lit1 s := by decide +kernel
theorem before_off : ∀ t : Fin grid0.N, ¬ Diag t → t.val ≠ 0 ∧
    lit0 (st ⟨t.val - 1, Nat.lt_of_le_of_lt (Nat.sub_le _ _) t.isLt⟩) ≠ 3#32 := by decide +kernel
theorem before_rest : ∀ t : Fin grid0.N, ¬ Head t → t.val ≠ 0 ∧ (t.val - 1) % 10 ≠ 9 := by decide +kernel

/-! ## What the region finds -/

theorem V_pre (c : Dev nD) (k : Fin 2) : V m c (pre0.ref k) = tables (F := F) k := by
  obtain rfl : c = 0 := Subsingleton.elim _ _
  fin_cases k
  · show V m 0 main_c = _; after_reads_simp; rfl
  · show V m 0 main_c_0 = _; after_reads_simp; rfl

theorem V_main_arg0 (c : Dev nD) : V m c main_arg0 = m ((c : Thread nD τ).loc main_arg0) := by after_reads_simp
theorem V_main_arg1 (c : Dev nD) : V m c main_arg1 = m ((c : Thread nD τ).loc main_arg1) := by after_reads_simp
theorem V_main_arg2 (c : Dev nD) : V m c main_arg2 = m ((c : Thread nD τ).loc main_arg2) := by after_reads_simp
theorem V_main_arg3 (c : Dev nD) : V m c main_arg3 = m ((c : Thread nD τ).loc main_arg3) := by after_reads_simp
theorem V_main_arg4 (c : Dev nD) : V m c main_arg4 = m ((c : Thread nD τ).loc main_arg4) := by after_reads_simp

end Cert.AttProof

end
-- ==== Proof.AttFrame.lean ====
module

public import proofs.«01_k».proof.Proof.AttRunA
public import proofs.«01_k».proof.Proof.AttRunB
public import proofs.«01_k».proof.Proof.AttRunC
public import proofs.«01_k».proof.Proof.AttBase
public import Idealize.ShloMosaic.Lib.Ring
public import Idealize.ShloMosaic.Lib.Quiescent

/-!
# The gradient of attention: the run of the whole kernel, and its frame
-/

@[expose] public section

set_option maxRecDepth 16384

noncomputable section

namespace Cert.AttProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttKIdeal Cert.AttKIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staged blocks -/

/-- A window's block at a step, of its array as the region finds it. -/
def iblk (c : Dev nD) (w : Fin (cfgT (F := F)).W) (t : Fin (cfgT (F := F)).N) :
    (((cfgT (F := F)).win w).xblock ((cfgT (F := F)).grid.coords t)).Idx → Elt F ((cfgT (F := F)).win w).elt :=
  (((cfgT (F := F)).win w).blk t).view.read (Elt F) (V m c (Pipeline.arrRef spec0 w))

abbrev ms0 (t : Fin grid0.N) : Memref sig .tc .vmem S1x2048x256 .bf16 := spec0_0.stage ((cfgT (F := F)).slots t 0)
abbrev hs0 (t : Fin grid0.N) : (ms0 (F := F) t).IsWhole := hstage0_0 (((cfgT (F := F)).slots t 0).cast nbuf0_0)
abbrev ms1 (t : Fin grid0.N) : Memref sig .tc .vmem S1x2048x256 .bf16 := spec0_1.stage ((cfgT (F := F)).slots t 1)
abbrev hs1 (t : Fin grid0.N) : (ms1 (F := F) t).IsWhole := hstage0_1 (((cfgT (F := F)).slots t 1).cast nbuf0_1)
abbrev ms2 (t : Fin grid0.N) : Memref sig .tc .vmem S1x2048x128 .bf16 := spec0_2.stage ((cfgT (F := F)).slots t 2)
abbrev hs2 (t : Fin grid0.N) : (ms2 (F := F) t).IsWhole := hstage0_2 (((cfgT (F := F)).slots t 2).cast nbuf0_2)
abbrev ms3 (t : Fin grid0.N) : Memref sig .tc .vmem S2048x128 .f32 := spec0_3.stage ((cfgT (F := F)).slots t 3)
abbrev hs3 (t : Fin grid0.N) : (ms3 (F := F) t).IsWhole := hstage0_3 (((cfgT (F := F)).slots t 3).cast nbuf0_3)
abbrev ms4 (t : Fin grid0.N) : Memref sig .tc .vmem S1x1x2048 .f32 := spec0_4.stage ((cfgT (F := F)).slots t 4)
abbrev hs4 (t : Fin grid0.N) : (ms4 (F := F) t).IsWhole := hstage0_4 (((cfgT (F := F)).slots t 4).cast nbuf0_4)
abbrev ms5 (t : Fin grid0.N) : Memref sig .tc .vmem S1x1x2048 .f32 := spec0_5.stage ((cfgT (F := F)).slots t 5)
abbrev hs5 (t : Fin grid0.N) : (ms5 (F := F) t).IsWhole := hstage0_5 (((cfgT (F := F)).slots t 5).cast nbuf0_5)
abbrev ms6 (t : Fin grid0.N) : Memref sig .tc .vmem S2048x1 .i32 := spec0_6.stage ((cfgT (F := F)).slots t 6)
abbrev hs6 (t : Fin grid0.N) : (ms6 (F := F) t).IsWhole := hstage0_6 (((cfgT (F := F)).slots t 6).cast nbuf0_6)
abbrev ms7 (t : Fin grid0.N) : Memref sig .tc .vmem S1x2048 .i32 := spec0_7.stage ((cfgT (F := F)).slots t 7)
abbrev hs7 (t : Fin grid0.N) : (ms7 (F := F) t).IsWhole := hstage0_7 (((cfgT (F := F)).slots t 7).cast nbuf0_7)
abbrev ms8 (t : Fin grid0.N) : Memref sig .tc .vmem S1x8192x256 .f32 := spec0_8.stage ((cfgT (F := F)).slots t 8)
abbrev hs8 (t : Fin grid0.N) : (ms8 (F := F) t).IsWhole := hstage0_8 (((cfgT (F := F)).slots t 8).cast nbuf0_8)
abbrev ms9 (t : Fin grid0.N) : Memref sig .tc .vmem S1x2048x256 .f32 := spec0_9.stage ((cfgT (F := F)).slots t 9)
abbrev hs9 (t : Fin grid0.N) : (ms9 (F := F) t).IsWhole := hstage0_9 (((cfgT (F := F)).slots t 9).cast nbuf0_9)
abbrev ms10 (t : Fin grid0.N) : Memref sig .tc .vmem S1x2048x128 .f32 := spec0_10.stage ((cfgT (F := F)).slots t 10)
abbrev hs10 (t : Fin grid0.N) : (ms10 (F := F) t).IsWhole := hstage0_10 (((cfgT (F := F)).slots t 10).cast nbuf0_10)

/-- The body as the pipeline calls it. -/
abbrev bodyAt (t : Fin grid0.N) := cc0_attn_bwd (F := F) (grid0.coords t) tb0 htb0 tb1 htb1 (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (ms9 (F := F) t) (hs9 (F := F) t) (ms10 (F := F) t) (hs10 (F := F) t)

/-! ## The conditions at a step -/

theorem chk (c : Dev nD) (t : Fin grid0.N) : k0_chk1 (wq c (grid0.coords t) (tabQ (F := F) c)) (wk c (grid0.coords t) (tabK (F := F) c)) := by
  rw [wq_tab, wk_tab]; exact chk_lit _
theorem c2 (c : Dev nD) (t : Fin grid0.N) :
    k0_cond2 (wq c (grid0.coords t) (tabQ (F := F) c)) (wk c (grid0.coords t) (tabK (F := F) c)) = 1#1 ↔ Diag t := by
  rw [wq_tab, wk_tab]; exact cond2_iff _
theorem c3 (c : Dev nD) (t : Fin grid0.N) :
    k0_cond3 (wq c (grid0.coords t) (tabQ (F := F) c)) (wk c (grid0.coords t) (tabK (F := F) c)) = 1#1 ↔ Diag t := by
  rw [wq_tab, wk_tab]; exact cond3_iff _
theorem c4 (c : Dev nD) (t : Fin grid0.N) :
    k0_cond4 (wq c (grid0.coords t) (tabQ (F := F) c)) (wk c (grid0.coords t) (tabK (F := F) c)) = 1#1 ↔ ¬ Diag t := by
  rw [wq_tab, wk_tab]; exact cond4_iff _

/-! ## What a step leaves -/

/-- The run of a step, in each of its cases. -/
abbrev atA (c : Dev nD) (t : Fin grid0.N) (h : Head t) := run_A (F := F) c (grid0.coords t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (ms9 (F := F) t) (hs9 (F := F) t) (ms10 (F := F) t) (hs10 (F := F) t) (tabQ c) (tabK c)
    (iblk m c 0 t) (iblk m c 1 t) (iblk m c 2 t) (iblk m c 3 t) (iblk m c 4 t) (iblk m c 5 t) (iblk m c 6 t) (iblk m c 7 t) (chk (F := F) c t)
    ((cond1_iff t).mpr h) ((c2 (F := F) c t).mpr (diag_of_head t h)) ((c3 (F := F) c t).mpr (diag_of_head t h)) (fun k => (c4 (F := F) c t).mp k (diag_of_head t h))
abbrev atB (c : Dev nD) (t : Fin grid0.N) (h : ¬ Head t) (d : Diag t) (dq : Vec F S1x8192x256 .f32) := run_B (F := F) c (grid0.coords t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (ms9 (F := F) t) (hs9 (F := F) t) (ms10 (F := F) t) (hs10 (F := F) t) (tabQ c) (tabK c)
    (iblk m c 0 t) (iblk m c 1 t) (iblk m c 2 t) (iblk m c 3 t) (iblk m c 4 t) (iblk m c 5 t) (iblk m c 6 t) (iblk m c 7 t) (chk (F := F) c t)
    (fun k => h ((cond1_iff t).mp k)) ((c2 (F := F) c t).mpr d) ((c3 (F := F) c t).mpr d) (fun k => (c4 (F := F) c t).mp k d) dq
abbrev atC (c : Dev nD) (t : Fin grid0.N) (d : ¬ Diag t) (dq : Vec F S1x8192x256 .f32) (dk : Vec F S1x2048x256 .f32)
    (dv : Vec F S1x2048x128 .f32) := run_C (F := F) c (grid0.coords t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (ms9 (F := F) t) (hs9 (F := F) t) (ms10 (F := F) t) (hs10 (F := F) t) (tabQ c) (tabK c)
    (iblk m c 0 t) (iblk m c 1 t) (iblk m c 2 t) (iblk m c 3 t) (iblk m c 4 t) (iblk m c 5 t) (iblk m c 6 t) (iblk m c 7 t) (chk (F := F) c t)
    (fun k => d (diag_of_head t ((cond1_iff t).mp k))) (fun k => d ((c2 (F := F) c t).mp k)) (fun k => d ((c3 (F := F) c t).mp k)) ((c4 (F := F) c t).mpr d) dq dk dv

/-- The three results a step leaves in their staging buffers. -/
abbrev Res : Type := Vec F S1x8192x256 .f32 × Vec F S1x2048x256 .f32 × Vec F S1x2048x128 .f32

def outA (c : Dev nD) (t : Fin grid0.N) (h : Head t) : Res (F := F) :=
  ((ms8 (F := F) t).view.read (Elt F) ((ms8 (F := F) t).view.writes (Elt F) (ms8 (F := F) t).view.junk (atA m c t h).1),
   (ms9 (F := F) t).view.read (Elt F) ((ms9 (F := F) t).view.writes (Elt F) (ms9 (F := F) t).view.junk (atA m c t h).2.1),
   (ms10 (F := F) t).view.read (Elt F) ((ms10 (F := F) t).view.writes (Elt F) (ms10 (F := F) t).view.junk (atA m c t h).2.2.1))
def outB (c : Dev nD) (t : Fin grid0.N) (h : ¬ Head t) (d : Diag t) (p : Res (F := F)) : Res (F := F) :=
  ((ms8 (F := F) t).view.read (Elt F) ((ms8 (F := F) t).view.writes (Elt F) ((hs8 (F := F) t).unread p.1) (atB m c t h d p.1).1),
   (ms9 (F := F) t).view.read (Elt F) ((ms9 (F := F) t).view.writes (Elt F) (ms9 (F := F) t).view.junk (atB m c t h d p.1).2.1),
   (ms10 (F := F) t).view.read (Elt F) ((ms10 (F := F) t).view.writes (Elt F) (ms10 (F := F) t).view.junk (atB m c t h d p.1).2.2.1))
def outC (c : Dev nD) (t : Fin grid0.N) (d : ¬ Diag t) (p : Res (F := F)) : Res (F := F) :=
  ((ms8 (F := F) t).view.read (Elt F) ((ms8 (F := F) t).view.writes (Elt F) ((hs8 (F := F) t).unread p.1) (atC m c t d p.1 p.2.1 p.2.2).1),
   (ms9 (F := F) t).view.read (Elt F) ((ms9 (F := F) t).view.writes (Elt F) ((hs9 (F := F) t).unread p.2.1) (atC m c t d p.1 p.2.1 p.2.2).2.1),
   (ms10 (F := F) t).view.read (Elt F) ((ms10 (F := F) t).view.writes (Elt F) ((hs10 (F := F) t).unread p.2.2) (atC m c t d p.1 p.2.1 p.2.2).2.2.1))

/-- The zero fills cover what the diagonal's stores do not. -/
theorem coverA8 (c : Dev nD) (t : Fin grid0.N) (h : Head t) : ∀ y, ∃ p ∈ (atA m c t h).1, y ∈ p.1.set :=
  View.cover_of_wholeMem _ (by sl_whole_mem)
theorem coverA9 (c : Dev nD) (t : Fin grid0.N) (h : Head t) : ∀ y, ∃ p ∈ (atA m c t h).2.1, y ∈ p.1.set :=
  View.cover_of_wholeMem _ (by sl_whole_mem)
theorem coverA10 (c : Dev nD) (t : Fin grid0.N) (h : Head t) : ∀ y, ∃ p ∈ (atA m c t h).2.2.1, y ∈ p.1.set :=
  View.cover_of_wholeMem _ (by sl_whole_mem)
theorem coverB9 (c : Dev nD) (t : Fin grid0.N) (h : ¬ Head t) (d : Diag t) (p : Res (F := F)) : ∀ y, ∃ q ∈ (atB m c t h d p.1).2.1, y ∈ q.1.set :=
  View.cover_of_wholeMem _ (by sl_whole_mem)
theorem coverB10 (c : Dev nD) (t : Fin grid0.N) (h : ¬ Head t) (d : Diag t) (p : Res (F := F)) : ∀ y, ∃ q ∈ (atB m c t h d p.1).2.2.1, y ∈ q.1.set :=
  View.cover_of_wholeMem _ (by sl_whole_mem)

/-- What the results' staging buffers hold after each step. -/
def outs (c : Dev nD) : (n : ℕ) → n < grid0.N → Res (F := F)
  | 0, hn => outA m c ⟨0, hn⟩ (Nat.zero_mod _)
  | n + 1, hn =>
    if h : Head ⟨n + 1, hn⟩ then outA m c ⟨n + 1, hn⟩ h
    else if d : Diag ⟨n + 1, hn⟩ then outB m c ⟨n + 1, hn⟩ h d (outs c n (Nat.lt_of_succ_lt hn))
    else outC m c ⟨n + 1, hn⟩ d (outs c n (Nat.lt_of_succ_lt hn))

/-- What the step before left. -/
abbrev prev (c : Dev nD) (t : Fin grid0.N) : Res (F := F) := outs m c (t.val - 1) (Nat.lt_of_le_of_lt (Nat.sub_le _ _) t.isLt)

theorem outs_A (c : Dev nD) (t : Fin grid0.N) (h : Head t) : outs m c t.val t.isLt = outA m c t h := by
  obtain ⟨n, hn⟩ := t
  cases n with
  | zero => exact rfl
  | succ n => exact dif_pos h
theorem outs_B (c : Dev nD) (t : Fin grid0.N) (h : ¬ Head t) (d : Diag t) : outs m c t.val t.isLt = outB m c t h d (prev m c t) := by
  obtain ⟨n, hn⟩ := t
  cases n with
  | zero => exact absurd (Nat.zero_mod _) h
  | succ n => exact (dif_neg h).trans (dif_pos d)
theorem outs_C (c : Dev nD) (t : Fin grid0.N) (d : ¬ Diag t) : outs m c t.val t.isLt = outC m c t d (prev m c t) := by
  have h : ¬ Head t := fun k => d (diag_of_head t k)
  obtain ⟨n, hn⟩ := t
  cases n with
  | zero => exact absurd (Nat.zero_mod _) h
  | succ n => exact (dif_neg h).trans (dif_neg d)

/-! ## The pipeline's proof data -/

def dats (_ : Fin 1) (c : Dev nD) : Dat τ (Elt F) Unit ℕ (UR sig nD τ) ℕ (cfgT (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).1
    | ⟨9, _⟩ => (outs m c t.val t.isLt).2.1
    | ⟨10, _⟩ => (outs m c t.val t.isLt).2.2
  Φ _ := iprop(Pipeline.ΦA spec0 c ∗ Pipeline.ΦT pre0 (tables (F := F)) c)
  q _ := fullShare
  owed _ := 0

theorem A_eq (c : Dev nD) (w : Fin (cfgT (F := F)).W) : (dats m 0 c).A w = V m c (Pipeline.arrRef spec0 w) := by
  dsimp only [dats]

theorem after_0 (c : Dev nD) (t : Fin grid0.N) : (dats m 0 c).after 0 t = iblk m c 0 t := by dsimp only [dats]; try rfl
theorem after_1 (c : Dev nD) (t : Fin grid0.N) : (dats m 0 c).after 1 t = iblk m c 1 t := by dsimp only [dats]; try rfl
theorem after_2 (c : Dev nD) (t : Fin grid0.N) : (dats m 0 c).after 2 t = iblk m c 2 t := by dsimp only [dats]; try rfl
theorem after_3 (c : Dev nD) (t : Fin grid0.N) : (dats m 0 c).after 3 t = iblk m c 3 t := by dsimp only [dats]; try rfl
theorem after_4 (c : Dev nD) (t : Fin grid0.N) : (dats m 0 c).after 4 t = iblk m c 4 t := by dsimp only [dats]; try rfl
theorem after_5 (c : Dev nD) (t : Fin grid0.N) : (dats m 0 c).after 5 t = iblk m c 5 t := by dsimp only [dats]; try rfl
theorem after_6 (c : Dev nD) (t : Fin grid0.N) : (dats m 0 c).after 6 t = iblk m c 6 t := by dsimp only [dats]; try rfl
theorem after_7 (c : Dev nD) (t : Fin grid0.N) : (dats m 0 c).after 7 t = iblk m c 7 t := by dsimp only [dats]; try rfl
theorem after_8 (c : Dev nD) (t : Fin grid0.N) : (dats m 0 c).after 8 t = (outs m c t.val t.isLt).1 := by dsimp only [dats]; try rfl
theorem after_9 (c : Dev nD) (t : Fin grid0.N) : (dats m 0 c).after 9 t = (outs m c t.val t.isLt).2.1 := by dsimp only [dats]; try rfl
theorem after_10 (c : Dev nD) (t : Fin grid0.N) : (dats m 0 c).after 10 t = (outs m c t.val t.isLt).2.2 := by dsimp only [dats]; try rfl

theorem before_0 (c : Dev nD) (t : Fin grid0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin grid0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin grid0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin grid0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin grid0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin grid0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin grid0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin grid0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-- Result 8's staging buffer at a step that keeps it holds what the step before left. -/
theorem before_8 (c : Dev nD) (t : Fin grid0.N) (h : ¬ Head t) (d) : (dats m 0 c).before 8 t d = (prev m c t).1 := by
  have hfr := fresh_of_live (F := F) 8 live8 t (before_rest t h).1 (flush8 _ (before_rest t h).2)
  rw [(dats m 0 c).before_out_traj 8 rfl (fun _ _ => rfl)
    (fun t _ hi _ => absurd ((live8 (F := F) t).symm.trans hi) Bool.false_ne_true) t.val t rfl d,
    if_neg (by rw [hfr]; exact Bool.false_ne_true)]
  exact after_8 m c _

/-- Result 9's staging buffer at a step that keeps it holds what the step before left. -/
theorem before_9 (c : Dev nD) (t : Fin grid0.N) (h : ¬ Diag t) (d) : (dats m 0 c).before 9 t d = (prev m c t).2.1 := by
  have hfr := fresh_of_live (F := F) 9 live9 t (before_off t h).1 (flush9 _ (before_off t h).2)
  rw [(dats m 0 c).before_out_traj 9 rfl (fun _ _ => rfl)
    (fun t _ hi _ => absurd ((live9 (F := F) t).symm.trans hi) Bool.false_ne_true) t.val t rfl d,
    if_neg (by rw [hfr]; exact Bool.false_ne_true)]
  exact after_9 m c _

/-- Result 10's staging buffer at a step that keeps it holds what the step before left. -/
theorem before_10 (c : Dev nD) (t : Fin grid0.N) (h : ¬ Diag t) (d) : (dats m 0 c).before 10 t d = (prev m c t).2.2 := by
  have hfr := fresh_of_live (F := F) 10 live10 t (before_off t h).1 (flush10 _ (before_off t h).2)
  rw [(dats m 0 c).before_out_traj 10 rfl (fun _ _ => rfl)
    (fun t _ hi _ => absurd ((live10 (F := F) t).symm.trans hi) Bool.false_ne_true) t.val t rfl d,
    if_neg (by rw [hfr]; exact Bool.false_ne_true)]
  exact after_10 m c _

/-! ## The body obligation -/

def bodyPre (c : Dev nD) (t : Fin grid0.N) : sProp 𝕄 :=
  iprop((dats m 0 c).Φ t.castSucc ∗ (dats m 0 c).owesAt () t.castSucc
    ∗ (∃ d, owns (c : Thread nD τ) (ms0 (F := F) t) fullShare ((dats m 0 c).before 0 t d))
    ∗ (∃ d, owns (c : Thread nD τ) (ms1 (F := F) t) fullShare ((dats m 0 c).before 1 t d))
    ∗ (∃ d, owns (c : Thread nD τ) (ms2 (F := F) t) fullShare ((dats m 0 c).before 2 t d))
    ∗ (∃ d, owns (c : Thread nD τ) (ms3 (F := F) t) fullShare ((dats m 0 c).before 3 t d))
    ∗ (∃ d, owns (c : Thread nD τ) (ms4 (F := F) t) fullShare ((dats m 0 c).before 4 t d))
    ∗ (∃ d, owns (c : Thread nD τ) (ms5 (F := F) t) fullShare ((dats m 0 c).before 5 t d))
    ∗ (∃ d, owns (c : Thread nD τ) (ms6 (F := F) t) fullShare ((dats m 0 c).before 6 t d))
    ∗ (∃ d, owns (c : Thread nD τ) (ms7 (F := F) t) fullShare ((dats m 0 c).before 7 t d))
    ∗ (∃ d, owns (c : Thread nD τ) (ms8 (F := F) t) fullShare ((dats m 0 c).before 8 t d))
    ∗ (∃ d, owns (c : Thread nD τ) (ms9 (F := F) t) fullShare ((dats m 0 c).before 9 t d))
    ∗ (∃ d, owns (c : Thread nD τ) (ms10 (F := F) t) fullShare ((dats m 0 c).before 10 t d)))

def bodyPost (c : Dev nD) (t : Fin grid0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves_0 (c : Dev nD) (t : Fin grid0.N) :
    (dats m 0 c).leavesExact 0 t = owns (c : Thread nD τ) (ms0 (F := F) t) fullShare (iblk m c 0 t) := by
  unfold Dat.leavesExact; rw [show (cfgT (F := F)).idle 0 ((cfgT (F := F)).grid.coords t) = false from rfl, after_0]; rfl
theorem leaves_1 (c : Dev nD) (t : Fin grid0.N) :
    (dats m 0 c).leavesExact 1 t = owns (c : Thread nD τ) (ms1 (F := F) t) fullShare (iblk m c 1 t) := by
  unfold Dat.leavesExact; rw [show (cfgT (F := F)).idle 1 ((cfgT (F := F)).grid.coords t) = false from rfl, after_1]; rfl
theorem leaves_2 (c : Dev nD) (t : Fin grid0.N) :
    (dats m 0 c).leavesExact 2 t = owns (c : Thread nD τ) (ms2 (F := F) t) fullShare (iblk m c 2 t) := by
  unfold Dat.leavesExact; rw [show (cfgT (F := F)).idle 2 ((cfgT (F := F)).grid.coords t) = false from rfl, after_2]; rfl
theorem leaves_3 (c : Dev nD) (t : Fin grid0.N) :
    (dats m 0 c).leavesExact 3 t = owns (c : Thread nD τ) (ms3 (F := F) t) fullShare (iblk m c 3 t) := by
  unfold Dat.leavesExact; rw [show (cfgT (F := F)).idle 3 ((cfgT (F := F)).grid.coords t) = false from rfl, after_3]; rfl
theorem leaves_4 (c : Dev nD) (t : Fin grid0.N) :
    (dats m 0 c).leavesExact 4 t = owns (c : Thread nD τ) (ms4 (F := F) t) fullShare (iblk m c 4 t) := by
  unfold Dat.leavesExact; rw [show (cfgT (F := F)).idle 4 ((cfgT (F := F)).grid.coords t) = false from rfl, after_4]; rfl
theorem leaves_5 (c : Dev nD) (t : Fin grid0.N) :
    (dats m 0 c).leavesExact 5 t = owns (c : Thread nD τ) (ms5 (F := F) t) fullShare (iblk m c 5 t) := by
  unfold Dat.leavesExact; rw [show (cfgT (F := F)).idle 5 ((cfgT (F := F)).grid.coords t) = false from rfl, after_5]; rfl
theorem leaves_6 (c : Dev nD) (t : Fin grid0.N) :
    (dats m 0 c).leavesExact 6 t = owns (c : Thread nD τ) (ms6 (F := F) t) fullShare (iblk m c 6 t) := by
  unfold Dat.leavesExact; rw [show (cfgT (F := F)).idle 6 ((cfgT (F := F)).grid.coords t) = false from rfl, after_6]; rfl
theorem leaves_7 (c : Dev nD) (t : Fin grid0.N) :
    (dats m 0 c).leavesExact 7 t = owns (c : Thread nD τ) (ms7 (F := F) t) fullShare (iblk m c 7 t) := by
  unfold Dat.leavesExact; rw [show (cfgT (F := F)).idle 7 ((cfgT (F := F)).grid.coords t) = false from rfl, after_7]; rfl
theorem leaves_8 (c : Dev nD) (t : Fin grid0.N) :
    (dats m 0 c).leavesExact 8 t = owns (c : Thread nD τ) (ms8 (F := F) t) fullShare ((outs m c t.val t.isLt).1) := by
  unfold Dat.leavesExact; rw [show (cfgT (F := F)).idle 8 ((cfgT (F := F)).grid.coords t) = false from live8 t, after_8]; rfl
theorem leaves_9 (c : Dev nD) (t : Fin grid0.N) :
    (dats m 0 c).leavesExact 9 t = owns (c : Thread nD τ) (ms9 (F := F) t) fullShare ((outs m c t.val t.isLt).2.1) := by
  unfold Dat.leavesExact; rw [show (cfgT (F := F)).idle 9 ((cfgT (F := F)).grid.coords t) = false from live9 t, after_9]; rfl
theorem leaves_10 (c : Dev nD) (t : Fin grid0.N) :
    (dats m 0 c).leavesExact 10 t = owns (c : Thread nD τ) (ms10 (F := F) t) fullShare ((outs m c t.val t.isLt).2.2) := by
  unfold Dat.leavesExact; rw [show (cfgT (F := F)).idle 10 ((cfgT (F := F)).grid.coords t) = false from live10 t, after_10]; rfl

set_option maxHeartbeats 4000000 in
theorem sound_body (c : Dev nD) (t : Fin grid0.N) :
    bodyPre m c t ⊢ wp frame (wpE (defs₀ (F := F)) Variants.none c none) Set.univ (bodyAt (F := F) t) (fun _ => bodyPost m c t) := by
  unfold bodyPre bodyPost bodyAt
  simp only [before_0, before_1, before_2, before_3, before_4, before_5, before_6, before_7]
  rw [leaves_0, leaves_1, leaves_2, leaves_3, leaves_4, leaves_5, leaves_6, leaves_7, leaves_8, leaves_9, leaves_10]
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.ΦA spec0 c ∗ Pipeline.ΦT pre0 (tables (F := F)) c) from rfl, PhiT_eq]
  by_cases h : Head t
  · rw [outs_A m c t h]; unfold outA; dsimp only
    iintro ⟨⟨HΦ, T0, T1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((atA m c t h).2.2.2 Set.univ _)
    isplitl [T0]; · iexact T0
    isplitl [T1]; · iexact T1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨T0, T1, H0, H1, H2, H3, H4, H5, H6, H7, ⟨%e8, H8⟩, ⟨%e9, H9⟩, ⟨%e10, H10⟩⟩
    isplitl [HΦ T0 T1]
    · isplitl [HΦ]; · iexact HΦ
      isplitl [T0]; · iexact T0
      iexact T1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverA8 m c t h)
    isplitl [H9]
    · unfold owns; iexists _; isplitr
      swap; · iexact H9
      ipureintro; exact View.read_writes_of_cover _ _ _ _ _ (coverA9 m c t h)
    unfold owns; iexists _; isplitr
    swap; · iexact H10
    ipureintro; exact View.read_writes_of_cover _ _ _ _ _ (coverA10 m c t h)
  by_cases d : Diag t
  · rw [outs_B m c t h d]; unfold outB; dsimp only; simp only [before_8 m c t h]
    iintro ⟨⟨HΦ, T0, T1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((atB m c t h d (prev m c t).1).2.2.2 Set.univ _)
    isplitl [T0]; · iexact T0
    isplitl [T1]; · iexact T1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iintro ⟨T0, T1, H0, H1, H2, H3, H4, H5, H6, H7, H8, ⟨%e9, H9⟩, ⟨%e10, H10⟩⟩
    isplitl [HΦ T0 T1]
    · isplitl [HΦ]; · iexact HΦ
      isplitl [T0]; · iexact T0
      iexact T1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; rfl
    isplitl [H9]
    · unfold owns; iexists _; isplitr
      swap; · iexact H9
      ipureintro; exact View.read_writes_of_cover _ _ _ _ _ (coverB9 m c t h d _)
    unfold owns; iexists _; isplitr
    swap; · iexact H10
    ipureintro; exact View.read_writes_of_cover _ _ _ _ _ (coverB10 m c t h d _)
  · rw [outs_C m c t d]; unfold outC; dsimp only; simp only [before_8 m c t h, before_9 m c t d, before_10 m c t d]
    iintro ⟨⟨HΦ, T0, T1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((atC m c t d (prev m c t).1 (prev m c t).2.1 (prev m c t).2.2).2.2.2 Set.univ _)
    isplitl [T0]; · iexact T0
    isplitl [T1]; · iexact T1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨T0, T1, H0, H1, H2, H3, H4, H5, H6, H7, H8, H9, H10⟩
    isplitl [HΦ T0 T1]
    · isplitl [HΦ]; · iexact HΦ
      isplitl [T0]; · iexact T0
      iexact T1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; rfl
    isplitl [H9]
    · unfold owns; iexists _; isplitr
      swap; · iexact H9
      ipureintro; rfl
    unfold owns; iexists _; isplitr
    swap; · iexact H10
    ipureintro; rfl

theorem defs₀_row (t : Fin grid0.N) :
    defs₀ (F := F) .tc (cfgT (F := F)).body ((cfgT (F := F)).bodyArgs t ((cfgT (F := F)).slots t)) = bodyAt (F := F) t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends, with each staged array as the proof data says, every other buffer as the region found it, and
    every counter at zero. -/
theorem run_main : θ_run defs (onTc (τ := τ) (main (F := F))) (s₀ m ρ)
    (fun r => Pipeline.FramePost (Pipeline.pin pcfgs fun _ => adm (F := F)) (dats m) (0 : Fin 1) (V m) r ∧ r.2.sem = fun _ => 0) :=
  Pipeline.θ_run_frameP (Q' := _) pcfgs (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

/-- What a run leaves of the arguments. -/
theorem kept (r : PUnit × MemSt nD τ sig (Elt F)) (h : Pipeline.FramePost (Pipeline.pin pcfgs fun _ => adm (F := F)) (dats m) (0 : Fin 1) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (show main_arg0 ∈ Pipeline.restRefs sig spec0 by decide)).trans (V_main_arg0 m c),
    ((h c).2 main_arg1 (show main_arg1 ∈ Pipeline.restRefs sig spec0 by decide)).trans (V_main_arg1 m c),
    ((h c).2 main_arg2 (show main_arg2 ∈ Pipeline.restRefs sig spec0 by decide)).trans (V_main_arg2 m c),
    ((h c).1 3).trans (((dats m 0 c).arrAt_in 3 rfl _).trans ((A_eq m c 3).trans (V_main_arg3 m c))),
    ((h c).2 main_arg4 (show main_arg4 ∈ Pipeline.restRefs sig spec0 by decide)).trans (V_main_arg4 m c)⟩

/-- The frame, over any numbers. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept m r h.1 c, h.2⟩) (run_main m ρ)

end Cert.AttProof

end
-- ==== Proof.AttFrames.lean ====
/- The attention gradient's frames as they are claimed, over float words and over the extended reals. -/
module

public import proofs.«01_k».proof.Proof.AttFrame
public import proofs.«01_k».proof.Proof.Gen.AttK
public import proofs.«01_k».proof.Defs

@[expose] public section

namespace Cert.AttProof
open Idealize.ShloMosaic
/-- Over float words a named constant is the word the program spells. -/
abbrev bitsNamed : Named Bits := ⟨fun _ _ {φ} bits => FloatOps.ofBits φ bits⟩
set_option maxHeartbeats 4000000 in
theorem frame_bits : @Cert.quiescent_AttK Cert.AttK.Gen.facts := fun m g _ =>
  letI := bitsNamed
  Eq.mp (by sl_kernel_rfl) (frame (F := Bits) m g)
theorem frame_ideal : @Cert.quiescent_AttKIdeal Cert.AttKIdeal.Gen.facts := fun m g _ => frame (F := Ideal) m g
theorem frame_pre [Cert.Pre_attn_ok.Facts] : @Cert.quiescent_AttKIdeal_pre_attn_ok Cert.AttKIdeal.Gen.facts _ := fun m g _ => frame (F := Ideal) m g
/-- The kernel's mask is the smallest number, and over the reals it stands for minus infinity. -/
theorem mask_named : Cert.preserves_AttK_AttKIdeal :=
  IdealRules.named_const.statement Cert.AttKIdeal.κ "mask" .f32 0xFF7FFFFF#32 ⊥ rfl
end Cert.AttProof

end
-- ==== Proof.AttPre.lean ====
/-
What the attention gradient's precondition says, element by element.
-/
module

public import proofs.«01_k».proof.Proof.Gen.Pre_attn_ok
public import Idealize.ShloMosaic.Lib.ReduceAll
public import Idealize.ShloMosaic.Lib.Affine
public import Idealize.ShloMosaic.Lib.Pointwise

@[expose] public section

set_option maxRecDepth 16384

noncomputable section

namespace Cert.AttReal
open Idealize.ShloMosaic
open Cert.Pre_attn_ok Cert.Pre_attn_ok.Facts

/-- A number of absolute value below infinity is a real. -/
theorem real_of_lt (x : EReal) (h : FloatOps.cmpf (F := Ideal) (φ := .f32) .olt (FloatOps.absf (F := Ideal) (φ := .f32) x) (Ideal.ofBits .f32 0x7F800000#32) = 1#1) : x = ((x.toReal : ℝ) : EReal) := by
  have e : (Ideal.ofBits .f32 0x7F800000#32 : EReal) = ⊤ := by simp [Ideal.ofBits, Ideal.ieee]
  rw [e] at h
  have l : max x (-x) < ⊤ := (Ideal.cmp_olt_eq_one _ _).1 h
  refine (EReal.coe_toReal (fun k => ?_) fun k => ?_).symm
  · rw [k] at l; simp at l
  · rw [k] at l; simp at l

variable [Facts]
variable (a0 a1 : FVec Ideal S8192x8x192 .f32) (a2 : FVec Ideal S8192x8x128 .f32) (a3 : FVec Ideal S8192x1024 .f32) (a4 : IVec S8192 32)

theorem split (h : fn (F := Ideal) a0 a1 a2 a3 a4 = fun _ => 1#1) :
    (∀ i, cmpf .olt (Host.absf a0) (broadcastInDim S8192x8x192 ![] bcast_S_S8192x8x192 (constant (F := Ideal) S_ .f32 0x7F800000#32)) i = 1#1) ∧
    (∀ i, cmpf .olt (Host.absf a1) (broadcastInDim S8192x8x192 ![] bcast_S_S8192x8x192 (constant (F := Ideal) S_ .f32 0x7F800000#32)) i = 1#1) ∧
    (∀ i, cmpf .olt (Host.absf a2) (broadcastInDim S8192x8x128 ![] bcast_S_S8192x8x128 (constant (F := Ideal) S_ .f32 0x7F800000#32)) i = 1#1) ∧
    (∀ i, cmpf .olt (Host.absf a3) (broadcastInDim S8192x1024 ![] bcast_S_S8192x1024 (constant (F := Ideal) S_ .f32 0x7F800000#32)) i = 1#1) ∧
    (∀ i, cmpi .sgt (extractStridedSlice S8191 ![1] a4 slices_S8192_S8191_1) (extractStridedSlice S8191 ![0] a4 slices_S8192_S8191_0) i = 1#1) := by
  have hz := congrFun h (fun a => a.elim0)
  obtain ⟨hz, e4⟩ := IntOp.andi_eq_one.1 hz
  obtain ⟨hz, e3⟩ := IntOp.andi_eq_one.1 hz
  obtain ⟨hz, e2⟩ := IntOp.andi_eq_one.1 hz
  obtain ⟨e0, e1⟩ := IntOp.andi_eq_one.1 hz
  haveI : Subsingleton S_.Idx := ⟨fun a b => funext fun d => d.elim0⟩
  exact ⟨Host.reduce_andi_all _ _ _ _ _ e0, Host.reduce_andi_all _ _ _ _ _ e1, Host.reduce_andi_all _ _ _ _ _ e2,
    Host.reduce_andi_all _ _ _ _ _ e3, Host.reduce_andi_all _ _ _ _ _ e4⟩

/-- Finite arguments are reals; positions grow with the rows. -/
theorem finite (h : fn (F := Ideal) a0 a1 a2 a3 a4 = fun _ => 1#1) :
    (∃ f : S8192x8x192.Idx → ℝ, a0 = fun i => (f i : EReal)) ∧ (∃ f : S8192x8x192.Idx → ℝ, a1 = fun i => (f i : EReal)) ∧
    (∃ f : S8192x8x128.Idx → ℝ, a2 = fun i => (f i : EReal)) ∧ (∃ f : S8192x1024.Idx → ℝ, a3 = fun i => (f i : EReal)) ∧
    ∀ i j : Fin 8192, IntOp.cmpi CmpIPredicate.sge (a4 (ix1 i)) (a4 (ix1 j)) = if j ≤ i then 1#1 else 0#1 := by
  obtain ⟨e0, e1, e2, e3, e4⟩ := split a0 a1 a2 a3 a4 h
  refine ⟨⟨fun i => (a0 i).toReal, funext fun i => real_of_lt (a0 i) ?_⟩, ⟨fun i => (a1 i).toReal, funext fun i => real_of_lt (a1 i) ?_⟩,
    ⟨fun i => (a2 i).toReal, funext fun i => real_of_lt (a2 i) ?_⟩, ⟨fun i => (a3 i).toReal, funext fun i => real_of_lt (a3 i) ?_⟩, ?_⟩
  · exact e0 i
  · exact e1 i
  · exact e2 i
  · exact e3 i
  · have mono : StrictMono fun i : Fin 8192 => (a4 (ix1 i)).toInt := by
      refine Fin.strictMono_iff_lt_succ.2 fun i => ?_
      have := IntOp.cmpi_sgt.1 (e4 (ix1 i))
      pointwise at this
      rw [show i.succ = (⟨1 + i.val, by omega⟩ : Fin 8192) from Fin.ext (Nat.add_comm _ _)]
      exact this
    intro i j
    by_cases c : j ≤ i
    · rw [if_pos c]; exact IntOp.cmpi_sge.2 (mono.monotone c)
    · rw [if_neg c]
      refine (BitVec.eq_zero_or_eq_one _).resolve_right fun k => ?_
      exact absurd (IntOp.cmpi_sge.1 k) (not_le.2 (mono (not_le.1 c)))
end Cert.AttReal
-- ==== Proof.AttReal.lean ====
/-
The attention gradient over the reals: scores, weights, their gradients, and the
reference's stages as these.
-/
module

public import proofs.«01_k».proof.Proof.Gen.AttRIdeal.Read
public import Idealize.ShloMosaic.Lib.Pipeline.ValueKit
public import Idealize.ShloMosaic.Lib.Pointwise

@[expose] public section

set_option maxRecDepth 16384

noncomputable section

namespace Cert.AttReal
open Idealize.ShloMosaic Idealize.ShloMosaic.TcCoe
open Cert.AttRIdeal Cert.AttRIdeal.Read

/-- The scale of the scores. -/
def σ : ℝ := (Ideal.ofBits .f32 1033096506#32 : EReal).toReal
theorem scale : (Ideal.ofBits .f32 1033096506#32 : EReal) = (σ : EReal) ∧ σ ≠ 0 := by
  have e : (Ideal.ofBits .f32 1033096506#32 : EReal) = ((9686330 / 2 ^ 27 : ℝ) : EReal) := by
    simp [Ideal.ofBits, Ideal.ieee, -EReal.coe_mul]; norm_num
  have g : σ = 9686330 / 2 ^ 27 := by rw [σ, e, EReal.toReal_coe]
  exact ⟨e.trans (by rw [g]), by rw [g]; norm_num⟩
theorem ninf : (Ideal.ofBits .f32 4286578688#32 : EReal) = ⊥ := by
  simp [Ideal.ofBits, Ideal.ieee]
theorem zero : (Ideal.ofBits .f32 0#32 : EReal) = 0 := by
  simp [Ideal.ofBits, Ideal.ieee]
theorem one : (Ideal.ofBits .f32 1065353216#32 : EReal) = ((1 : ℝ) : EReal) := by
  simp [Ideal.ofBits, Ideal.ieee, -EReal.coe_mul]; norm_num
theorem log_two : Ideal.log (Ideal.ofBits .f32 1073741824#32) = ((Real.log 2 : ℝ) : EReal) := by
  have e : (Ideal.ofBits .f32 1073741824#32 : EReal) = ((2 : ℝ) : EReal) := by
    simp [Ideal.ofBits, Ideal.ieee, -EReal.coe_mul]; norm_num
  rw [e, Ideal.log_coe, if_neg (by norm_num)]

theorem coe_sum {n : ℕ} (f : Fin n → ℝ) : (∑ x, (f x : EReal)) = ((∑ x, f x : ℝ) : EReal) := by
  induction n with
  | zero => rfl
  | succ n ih => rw [Fin.sum_univ_castSucc, Fin.sum_univ_castSucc, ih, EReal.coe_add]

theorem div_real {y : ℝ} (h : y ≠ 0) (x : ℝ) : Ideal.div (x : EReal) (y : EReal) = ((x / y : ℝ) : EReal) := by
  rw [Ideal.div_coe h, ← EReal.coe_mul, mul_one_div]

variable (q k : S8192x8x192.Idx → ℝ) (v : S8192x8x128.Idx → ℝ) (g : S8192x1024.Idx → ℝ) (p : S8192.Idx → BitVec 32)

/-- Column `x` of head `h` among all columns. -/
def col (h : Fin 8) (x : Fin 128) : Fin 1024 := ⟨h.val * 128 + x.val, by omega⟩

/-- The score of key row `j` for query row `i`, and the same masked. -/
def S (h : Fin 8) (i j : Fin 8192) : ℝ := (∑ x, q (ix3 i h x) * k (ix3 j h x)) * σ
def sc (h : Fin 8) (i j : Fin 8192) : EReal := if j ≤ i then (S q k h i j : EReal) else ⊥

/-- A row's largest score. -/
def M (h : Fin 8) (i : Fin 8192) : ℝ := (Finset.univ.fold max ⊥ (sc q k h i)).toReal
theorem fold_M (h : Fin 8) (i : Fin 8192) : Finset.univ.fold max ⊥ (sc q k h i) = (M q k h i : EReal) := by
  refine (EReal.coe_toReal ?_ ?_).symm
  · refine ne_of_lt ((Finset.fold_max_lt _).2 ⟨bot_lt_top, fun j _ => ?_⟩)
    unfold sc; split
    · exact EReal.coe_lt_top _
    · exact bot_lt_top
  · refine ne_of_gt ((Finset.lt_fold_max _).2 (Or.inr ⟨i, Finset.mem_univ _, ?_⟩))
    rw [sc, if_pos le_rfl]
    exact EReal.bot_lt_coe _

/-- The exponentials, their sum, the weights. -/
def E (h : Fin 8) (i j : Fin 8192) : ℝ := if j ≤ i then Real.exp (S q k h i j - M q k h i) else 0
def L (h : Fin 8) (i : Fin 8192) : ℝ := ∑ j, E q k h i j
def W (h : Fin 8) (i j : Fin 8192) : ℝ := E q k h i j / L q k h i
theorem L_pos (h : Fin 8) (i : Fin 8192) : 0 < L q k h i := by
  refine Finset.sum_pos' (fun j _ => ?_) ⟨i, Finset.mem_univ _, ?_⟩
  · unfold E; split
    · exact (Real.exp_pos _).le
    · exact le_rfl
  · rw [E, if_pos le_rfl]; exact Real.exp_pos _
theorem L_ne (h : Fin 8) (i : Fin 8192) : L q k h i ≠ 0 := (L_pos q k h i).ne'
theorem exp_sc (h : Fin 8) (i j : Fin 8192) : Ideal.exp (sc q k h i j - (M q k h i : EReal)) = (E q k h i j : EReal) := by
  unfold sc E; split
  · rw [← EReal.coe_sub, Ideal.exp_coe]
  · rw [EReal.bot_sub, Ideal.exp_bot]; rfl

/-- The gradients of the weights, and their mean under the weights. -/
def dW (h : Fin 8) (i j : Fin 8192) : ℝ := ∑ x, g (ix2 i (col h x)) * v (ix3 j h x)
def D (h : Fin 8) (i : Fin 8192) : ℝ := ∑ j, W q k h i j * dW v g h i j
/-- The gradient of the scores. -/
def dS (h : Fin 8) (i j : Fin 8192) : ℝ := W q k h i j * (dW v g h i j - D q k v g h i)

/-- The three results, of query and key columns below 192. -/
def gq (h : Fin 8) (i : Fin 8192) (x : Fin 192) : ℝ := ∑ j, dS q k v g h i j * k (ix3 j h x)
def gk (h : Fin 8) (j : Fin 8192) (x : Fin 192) : ℝ := (∑ i, dS q k v g h i j * q (ix3 i h x)) * (σ / Real.log 2)
def gv (h : Fin 8) (j : Fin 8192) (x : Fin 128) : ℝ := ∑ i, W q k h i j * g (ix2 i (col h x))

/-! ## The reference's stages -/

/-- The arguments among the extended reals. -/
abbrev up {s : Shape} (f : s.Idx → ℝ) : s.Idx → EReal := fun i => (f i : EReal)

variable (hp : ∀ i j : Fin 8192, IntOp.cmpi CmpIPredicate.sge (p (ix1 i)) (p (ix1 j)) = if j ≤ i then 1#1 else 0#1)
include hp

theorem r7 (h : Fin 8) (i j : Fin 8192) : (val_main_v8_1 (F := Ideal) p : S8x8192x8192.Idx → BitVec 1) (ix3 h i j) = if j ≤ i then 1#1 else 0#1 := by
  rw [← hp i j]
  unfold val_main_v8_1 val_main_v7 val_main_v6 val_main_v5 val_main_v4 val_main_v3
  pointwise
theorem r8 (h : Fin 8) (i j : Fin 8192) : (val_main_v8_0 (F := Ideal) (up q) (up k) p : S8x8192x8192.Idx → EReal) (ix3 h i j) = sc q k h i j := by
  unfold val_main_v8_0 val_main_v2 val_main_v1 val_main_v0 val_main_cst val_main_call0_v2 val_main_call0_v0 val_main_cst_0
  pointwise [r7 p hp]
  rw [scale.1, show (id (constant (F := Ideal) S_ .f32 4286578688#32) ix0 : EReal) = ⊥ from ninf]
  unfold sc S
  by_cases c : j ≤ i
  · rw [if_pos c, if_pos c]
    simp only [up, ← EReal.coe_mul, coe_sum]
    rfl
  · rw [if_neg c, if_neg c]; rfl
theorem r9 (h : Fin 8) (i : Fin 8192) : (val_main_v9 (F := Ideal) (up q) (up k) p : S8x8192.Idx → EReal) (ix2 h i) = (M q k h i : EReal) := by
  rw [← fold_M]
  unfold val_main_v9 val_main_cst_1
  pointwise [r8 q k p hp]
  rw [ninf]
theorem r16 (h : Fin 8) (i : Fin 8192) : (val_main_v16 (F := Ideal) (up q) (up k) p : S8x8192.Idx → EReal) (ix2 h i) = (M q k h i : EReal) := by
  rw [val_main_v16_apply, r9 q k p hp, val_main_v15_apply, val_main_cst_3_apply]
  generalize (M q k h i : EReal) = x
  exact (congrArg (max · x) ninf).trans (max_eq_right bot_le)
theorem r29 (h : Fin 8) (i j : Fin 8192) : (val_main_v29 (F := Ideal) (up q) (up k) p : S8x8192x8192.Idx → EReal) (ix3 h i j) = (E q k h i j : EReal) := by
  rw [← exp_sc]
  unfold val_main_v29 val_main_v28 val_main_v27 val_main_v26
  pointwise [r16 q k p hp, r8 q k p hp]
theorem r30 (h : Fin 8) (i : Fin 8192) : (val_main_v30 (F := Ideal) (up q) (up k) p : S8x8192.Idx → EReal) (ix2 h i) = (L q k h i : EReal) := by
  unfold val_main_v30 val_main_cst_9
  pointwise [r29 q k p hp]
  exact coe_sum _
theorem r31 (h : Fin 8) (i : Fin 8192) (z : Fin 1) : (val_main_v31 (F := Ideal) (up q) (up k) p : S8x8192x1.Idx → EReal) (ix3 h i z) = (L q k h i : EReal) := by
  unfold val_main_v31
  pointwise [r30 q k p hp]
theorem r33 (h : Fin 8) (i j : Fin 8192) : (val_main_v33 (F := Ideal) (up q) (up k) p : S8x8192x8192.Idx → EReal) (ix3 h i j) = (W q k h i j : EReal) := by
  unfold val_main_v33 val_main_v32
  pointwise [r29 q k p hp, r31 q k p hp]
  exact div_real (L_ne q k h i) _
theorem r36 (h : Fin 8) (i : Fin 8192) (z : Fin 1) : (val_main_v36 (F := Ideal) (up q) (up k) p : S8x8192x1.Idx → EReal) (ix3 h i z) = ((1 / (L q k h i * L q k h i) : ℝ) : EReal) := by
  unfold val_main_v36 val_main_v35 val_main_v34 val_main_cst_10
  pointwise [r31 q k p hp]
  rw [← EReal.coe_mul, ← EReal.coe_one]
  exact div_real (mul_ne_zero (L_ne q k h i) (L_ne q k h i)) _
omit hp in
theorem r41 (h : Fin 8) (x : Fin 128) (i : Fin 8192) : (val_main_v41 (F := Ideal) (up g) : S8x128x8192.Idx → EReal) (ix3 h x i) = (g (ix2 i (col h x)) : EReal) := by
  unfold val_main_v41 val_main_v40
  pointwise
  rfl
omit hp in
theorem r42 (h : Fin 8) (i j : Fin 8192) : (val_main_v42 (F := Ideal) (up v) (up g) : S8x8192x8192.Idx → EReal) (ix3 h i j) = (dW v g h i j : EReal) := by
  unfold val_main_v42
  pointwise [r41 g]
  simp only [up, ← EReal.coe_mul, coe_sum]
  rfl
theorem r47 (h : Fin 8) (i j : Fin 8192) : (val_main_v47 (F := Ideal) (up q) (up k) (up v) (up g) p : S8x8192x8192.Idx → EReal) (ix3 h i j) = ((dW v g h i j * (1 / (L q k h i * L q k h i)) * E q k h i j : ℝ) : EReal) := by
  unfold val_main_v47 val_main_v46 val_main_v45
  pointwise [r42 v g, r36 q k p hp, r29 q k p hp]
  simp only [← EReal.coe_mul]
theorem r50 (h : Fin 8) (i : Fin 8192) (z : Fin 1) : (val_main_v50 (F := Ideal) (up q) (up k) (up v) (up g) p : S8x8192x1.Idx → EReal) (ix3 h i z) = ((-(D q k v g h i / L q k h i) : ℝ) : EReal) := by
  unfold val_main_v50 val_main_v49 val_main_v48 val_main_cst_11
  pointwise [r47 q k v g p hp]
  rw [coe_sum, ← EReal.coe_neg]
  refine congrArg (fun x : ℝ => ((-x : ℝ) : EReal)) ?_
  rw [D, Finset.sum_div]
  refine Finset.sum_congr rfl fun j _ => ?_
  have := L_ne q k h i
  unfold W
  field_simp
theorem r55 (h : Fin 8) (i j : Fin 8192) : (val_main_v55 (F := Ideal) (up q) (up k) (up v) (up g) p : S8x8192x8192.Idx → EReal) (ix3 h i j) = ((dW v g h i j / L q k h i + -(D q k v g h i / L q k h i) : ℝ) : EReal) := by
  unfold val_main_v55 val_main_v54 val_main_v53 val_main_v52 val_main_v51 val_main_cst_12
  pointwise [r42 v g, r31 q k p hp, r50 q k v g p hp]
  rw [EReal.coe_add, ← div_real (L_ne q k h i), Fin.sum_univ_one]
theorem r57 (h : Fin 8) (i j : Fin 8192) : (val_main_v57 (F := Ideal) (up q) (up k) (up v) (up g) p : S8x8192x8192.Idx → EReal) (ix3 h i j) = (dS q k v g h i j : EReal) := by
  unfold val_main_v57 val_main_v56 val_main_call1_v0 val_main_call1_cst
  pointwise [r7 p hp, r55 q k v g p hp, r29 q k p hp]
  by_cases c : j ≤ i
  · rw [if_pos c, ← EReal.coe_mul]
    refine congrArg (fun x : ℝ => (x : EReal)) ?_
    have := L_ne q k h i
    unfold dS W
    field_simp
    try ring
  · rw [if_neg c]
    have : dS q k v g h i j = 0 := by rw [dS, W, E, if_neg c, zero_div, zero_mul]
    rw [this]
    first | rfl | exact zero
theorem r59 (h : Fin 8) (i j : Fin 8192) : (val_main_v59 (F := Ideal) (up q) (up k) (up v) (up g) p : S8x8192x8192.Idx → EReal) (ix3 h i j) = ((dS q k v g h i j * σ : ℝ) : EReal) := by
  unfold val_main_v59 val_main_v58 val_main_cst_13
  pointwise [r57 q k v g p hp]
  rw [EReal.coe_mul, ← scale.1]
  try rfl
theorem r66 (h : Fin 8) (i : Fin 8192) (x : Fin 192) : (val_main_v66 (F := Ideal) (up q) (up k) (up v) (up g) p : S8x8192x192.Idx → EReal) (ix3 h i x) = (gq q k v g h i x : EReal) := by
  unfold val_main_v66 val_main_v65 val_main_v64 val_main_v63 val_main_v62 val_main_cst_14
  pointwise [r59 q k v g p hp]
  simp only [up, ← EReal.coe_mul, coe_sum]
  rw [scale.1]
  refine (div_real scale.2 _).trans (congrArg (fun x : ℝ => (x : EReal)) ?_)
  rw [gq, Finset.sum_div]
  refine Finset.sum_congr rfl fun j _ => ?_
  have := scale.2
  field_simp
theorem r71 (h : Fin 8) (j : Fin 8192) (x : Fin 192) : (val_main_v71 (F := Ideal) (up q) (up k) (up v) (up g) p : S8x8192x192.Idx → EReal) (ix3 h j x) = (gk q k v g h j x : EReal) := by
  unfold val_main_v71 val_main_v70 val_main_v69 val_main_v68 val_main_v61 val_main_v60 val_main_cst_15
  pointwise [r59 q k v g p hp]
  simp only [up, ← EReal.coe_mul, coe_sum]
  rw [log_two]
  refine (div_real (Real.log_pos one_lt_two).ne' _).trans (congrArg (fun x : ℝ => (x : EReal)) ?_)
  rw [gk, Finset.sum_div, Finset.sum_mul]
  refine Finset.sum_congr rfl fun j _ => ?_
  ring
theorem r73 (h : Fin 8) (j : Fin 8192) (x : Fin 128) : (val_main_v73 (F := Ideal) (up q) (up k) (up g) p : S8x8192x128.Idx → EReal) (ix3 h j x) = (gv q k g h j x : EReal) := by
  unfold val_main_v73 val_main_v44 val_main_v43
  pointwise [r41 g, r33 q k p hp]
  simp only [← EReal.coe_mul, coe_sum]
  refine congrArg (fun x : ℝ => (x : EReal)) ?_
  exact Finset.sum_congr rfl fun i _ => mul_comm _ _
omit hp in
theorem pad_zero : FloatOps.sitofp (F := Ideal) FTy.f32 (val_main_c (F := Ideal) (Shape.Idx.first Gen.h_S_)) = (0 : EReal) := by
  rw [val_main_c_apply]
  show (((0#32 : BitVec 32).toInt : ℝ) : EReal) = 0
  simp
theorem r67 (h : Fin 8) (i : Fin 8192) (x : Fin 256) : (val_main_v67 (F := Ideal) (up q) (up k) (up v) (up g) p : S8x8192x256.Idx → EReal) (ix3 h i x) = if c : x.val < 192 then (gq q k v g h i ⟨x.val, c⟩ : EReal) else 0 := by
  unfold val_main_v67 val_main_call2_v0
  pointwise [r66 q k v g p hp]
  refine dite_congr rfl (fun _ => rfl) fun _ => ?_
  exact pad_zero
theorem r72 (h : Fin 8) (i : Fin 8192) (x : Fin 256) : (val_main_v72 (F := Ideal) (up q) (up k) (up v) (up g) p : S8x8192x256.Idx → EReal) (ix3 h i x) = if c : x.val < 192 then (gk q k v g h i ⟨x.val, c⟩ : EReal) else 0 := by
  unfold val_main_v72 val_main_call3_v0
  pointwise [r71 q k v g p hp]
  refine dite_congr rfl (fun _ => rfl) fun _ => ?_
  exact pad_zero
end Cert.AttReal
-- ==== Proof.AttAcc.lean ====
/- Stores that add a product to rows of a buffer, read at an index. -/
module

public import Idealize.ShloMosaic.Lib.Pipeline.ValueKit
public import Idealize.ShloMosaic.Lib.Pointwise
public import Idealize.ShloMosaic.Lib.VecWindow

@[expose] public section

noncomputable section

namespace Cert.AttProof

open Idealize.ShloMosaic Idealize.ShloMosaic.TcCoe

/-- A buffer with a product added to some of its rows. -/
def acc {A n D : ℕ} (X : (⟨3, ![1, A, D]⟩ : Shape).Idx → EReal) (o : ℕ) (M : (⟨2, ![n, D]⟩ : Shape).Idx → EReal) (y : (⟨3, ![1, A, D]⟩ : Shape).Idx) : EReal :=
  X y + if h : o ≤ (y 1).val ∧ (y 1).val < o + n then M (ix2 (⟨(y 1).val - o, by omega⟩ : Fin n) (⟨(y 2).val, (y 2).isLt⟩ : Fin D)) else 0

theorem acc_apply {A n D : ℕ} (X : (⟨3, ![1, A, D]⟩ : Shape).Idx → EReal) (o : ℕ) (M : (⟨2, ![n, D]⟩ : Shape).Idx → EReal) (a : Fin 1) (b : Fin A) (d : Fin D) :
    acc X o M (ix3 a b d) = X (ix3 a b d) + if h : o ≤ b.val ∧ b.val < o + n then M (ix2 (⟨b.val - o, by omega⟩ : Fin n) d) else 0 := rfl

theorem put_acc {A n D : ℕ} (X : (⟨3, ![1, A, D]⟩ : Shape).Idx → EReal) (off : Fin 3 → ℕ) (M : (⟨2, ![n, D]⟩ : Shape).Idx → EReal)
    (inb : ∀ a, off a + (![1, n, D] : Fin 3 → ℕ) a ≤ (⟨3, ![1, A, D]⟩ : Shape).size a) (h1) (h2) :
    VecWindow.put X off ![1, n, D] (shapeCast (⟨3, ![1, n, D]⟩ : Shape) (addf (F := Ideal) (φ := .f32) (shapeCast (⟨2, ![n, D]⟩ : Shape)
      (View.ld (Val := Elt Ideal) (e' := .f32) X (Rect.unit (s := (⟨3, ![1, A, D]⟩ : Shape)) off ![1, n, D] inb)) h1) M) h2)
      = acc X (off 1) M := by
  funext y
  have e0 : off 0 = 0 := by have := inb 0; simp at this; omega
  have e2 : off 2 = 0 := by have := inb 2; simp at this; omega
  obtain ⟨a, b, d, rfl⟩ : ∃ a b d, y = ix3 a b d := ⟨_, _, _, eq_ix3 y⟩
  have ha : a = 0 := Subsingleton.elim _ _
  subst ha
  rw [acc_apply]
  by_cases h : off 1 ≤ b.val ∧ b.val < off 1 + n
  · have H : ∀ a, off a ≤ ((ix3 0 b d : (⟨3, ![1, A, D]⟩ : Shape).Idx) a).val ∧ ((ix3 0 b d : (⟨3, ![1, A, D]⟩ : Shape).Idx) a).val < off a + (![1, n, D] : Fin 3 → ℕ) a := by
      intro a; fin_cases a
      · exact ⟨by simp [e0], by simp [e0]⟩
      · exact h
      · exact ⟨by simp [e2], by simpa [e2] using d.isLt⟩
    refine (dif_pos H).trans (Eq.trans ?_ (congrArg (X (ix3 0 b d) + ·) (dif_pos h).symm))
    have e : Rect.unitLocal (s := (⟨3, ![1, A, D]⟩ : Shape)) (off := off) (size := ![1, n, D]) (ix3 0 b d) H = (ix3 0 ⟨b.val - off 1, by omega⟩ d : (⟨3, ![1, n, D]⟩ : Shape).Idx) := by
      funext a; fin_cases a
      · exact Fin.ext (by simp [Rect.unitLocal, e0])
      · rfl
      · exact Fin.ext (by simp [Rect.unitLocal, e2])
    refine (congrArg (shapeCast (⟨3, ![1, n, D]⟩ : Shape) _ h2) e).trans ?_
    have e3 : (Shape.reshapeEquiv h2) (ix3 0 ⟨b.val - off 1, by omega⟩ d : (⟨3, ![1, n, D]⟩ : Shape).Idx) = (ix2 ⟨b.val - off 1, by omega⟩ d : (⟨2, ![n, D]⟩ : Shape).Idx) :=
      Shape.reshapeEquiv_eq_of_rowMajor _ (by
        rw [Shape.rowMajor_val_three, Shape.rowMajor_val_two]
        show (b.val - off 1) * D + d.val = (0 * n + (b.val - off 1)) * D + d.val
        rw [Nat.zero_mul, Nat.zero_add])
    have e4 : Shape.reshapeEquiv (s := (⟨3, ![1, n, D]⟩ : Shape)) h1 (ix2 ⟨b.val - off 1, by omega⟩ d : (⟨2, ![n, D]⟩ : Shape).Idx) = (ix3 0 ⟨b.val - off 1, by omega⟩ d : (⟨3, ![1, n, D]⟩ : Shape).Idx) := by
      rw [← e3, Shape.reshapeEquiv_reshapeEquiv, Shape.reshapeEquiv_self]
    refine (congrArg (addf (F := Ideal) (φ := .f32) (shapeCast (⟨2, ![n, D]⟩ : Shape) _ h1) M) e3).trans ?_
    refine congrArg (· + M _) ?_
    refine (congrArg (View.ld (Val := Elt Ideal) (e' := .f32) X (Rect.unit (s := (⟨3, ![1, A, D]⟩ : Shape)) off ![1, n, D] inb)) e4).trans ?_
    refine congrArg X ?_
    funext a; fin_cases a
    · exact Fin.ext (by show off 0 + 1 * 0 = 0; omega)
    · exact Fin.ext (by show off 1 + 1 * (b.val - off 1) = b.val; omega)
    · exact Fin.ext (by show off 2 + 1 * d.val = d.val; omega)
  · refine (dif_neg fun H => h (H 1)).trans ?_
    rw [dif_neg h, add_zero]

/-- A store over earlier ones puts its payload over what they leave. -/
theorem canon_put {s : Shape} {e : EltTy} {off size : Fin s.rank → ℕ} (inb : ∀ a, off a + size a ≤ s.size a) (w : (Rect.unit off size inb).shape.Idx → Elt Ideal e)
    (L : List (View.Piece (Elt Ideal) s e)) :
    View.canon (⟨Rect.unit off size inb, w⟩ :: L) = VecWindow.put (View.canon L) off size w := by
  funext y
  unfold VecWindow.put
  by_cases h : ∀ a, off a ≤ (y a).val ∧ (y a).val < off a + size a
  · rw [dif_pos h]
    have e : (Rect.unit off size inb).emb (Rect.unitLocal (s := s) (off := off) (size := size) y h) = y := funext fun a => Fin.ext (by
      show off a + 1 * ((y a).val - off a) = (y a).val
      have := h a; omega)
    exact (congrArg (View.canon _) e.symm).trans (View.canon_cons_emb _ w L _)
  · rw [dif_neg h]
    refine View.canon_cons_of_not_mem _ L ?_
    rw [Rect.mem_set_unit]; exact h

/-- A load of what the stores cover, through its box. -/
theorem readCov_ld {sig : RefSig} {κ : Kind} {sp : Space} {s : Shape} {e : EltTy} (v : View sig κ sp s e) (L : List (View.Piece (Elt Ideal) s e)) (r : Rect s) :
    v.readCov L r.toLoadRect = View.ld (View.canon L) r := View.readCov_eq_canon' v L _

section

variable {sig : RefSig} {κ : Kind} {sp : Space} {s : Shape} {e : EltTy}

/-- The same store over any contents. -/
theorem writes_put (v : View sig κ sp s e) (f : v.ty.Contents (Elt Ideal)) {off size : Fin s.rank → ℕ} (inb : ∀ a, off a + size a ≤ s.size a)
    (w : (Rect.unit off size inb).shape.Idx → Elt Ideal e) (L : List (View.Piece (Elt Ideal) s e)) :
    v.read (Elt Ideal) (v.writes (Elt Ideal) f (⟨Rect.unit off size inb, w⟩ :: L)) = VecWindow.put (v.read (Elt Ideal) (v.writes (Elt Ideal) f L)) off size w :=
  View.read_writes_cons_put v f inb w L rfl

/-- A load of what stores left, and a load of a block. -/
theorem readAt_writes (v : View sig κ sp s e) (f : v.ty.Contents (Elt Ideal)) (L : List (View.Piece (Elt Ideal) s e)) (r : Rect s) :
    v.readAt (Elt Ideal) r.toLoadRect (v.writes (Elt Ideal) f L) = View.ld (v.read (Elt Ideal) (v.writes (Elt Ideal) f L)) r := rfl
theorem readAt_block {m : Memref sig κ sp s e} (h : m.IsWhole) (x : s.Idx → Elt Ideal e) (r : Rect s) :
    m.view.readAt (Elt Ideal) r.toLoadRect (h.unread x) = View.ld x r := by
  rw [View.readAt_eq_ld, h.read_unread]

end

/-- Eight products over 256 rows each are one over 2048. -/
theorem sum8 (z : EReal) (f : Fin 2048 → EReal) :
    z + (∑ x : Fin 256, f ⟨x.val, by omega⟩) + (∑ x : Fin 256, f ⟨256 + x.val, by omega⟩) + (∑ x : Fin 256, f ⟨512 + x.val, by omega⟩)
      + (∑ x : Fin 256, f ⟨768 + x.val, by omega⟩) + (∑ x : Fin 256, f ⟨1024 + x.val, by omega⟩) + (∑ x : Fin 256, f ⟨1280 + x.val, by omega⟩)
      + (∑ x : Fin 256, f ⟨1536 + x.val, by omega⟩) + (∑ x : Fin 256, f ⟨1792 + x.val, by omega⟩) = z + ∑ r : Fin 2048, f r := by
  have e : ∑ r : Fin 2048, f r = ∑ k : Fin 8, ∑ x : Fin 256, f ⟨k.val * 256 + x.val, by omega⟩ := by
    rw [← Fintype.sum_prod_type']
    exact (Fintype.sum_equiv (finProdFinEquiv (m := 8) (n := 256)) (fun p => f ⟨p.1.val * 256 + p.2.val, by omega⟩) (fun r : Fin (8 * 256) => f r)
      fun p => congrArg f (Fin.ext (by
        show p.1.val * 256 + p.2.val = (finProdFinEquiv p).val
        rw [finProdFinEquiv_apply_val]; omega))).symm
  rw [e, Fin.sum_univ_eight]
  simp only [add_assoc]
  simp

/-- The same where a product over some rows is left out, those it would find zero. -/
theorem sum8_prefix (j : Fin 2048) (f : Fin 2048 → EReal) (hf : ∀ r, r < j → f r = 0) :
    (if h : j.val < 256 then ∑ x : Fin 256, f ⟨x.val, by omega⟩ else 0)
      + (if h : j.val < 512 then ∑ x : Fin 256, f ⟨256 + x.val, by omega⟩ else 0)
      + (if h : j.val < 768 then ∑ x : Fin 256, f ⟨512 + x.val, by omega⟩ else 0)
      + (if h : j.val < 1024 then ∑ x : Fin 256, f ⟨768 + x.val, by omega⟩ else 0)
      + (if h : j.val < 1280 then ∑ x : Fin 256, f ⟨1024 + x.val, by omega⟩ else 0)
      + (if h : j.val < 1536 then ∑ x : Fin 256, f ⟨1280 + x.val, by omega⟩ else 0)
      + (if h : j.val < 1792 then ∑ x : Fin 256, f ⟨1536 + x.val, by omega⟩ else 0)
      + (∑ x : Fin 256, f ⟨1792 + x.val, by omega⟩) = ∑ r : Fin 2048, f r := by
  have drop : ∀ (n : ℕ) (g : Fin 256 → Fin 2048) (hg : ∀ x, (g x).val < n),
      (if h : j.val < n then ∑ x, f (g x) else 0) = ∑ x, f (g x) := fun n g hg => by
    by_cases h : j.val < n
    · rw [dif_pos h]
    · rw [dif_neg h]
      exact (Finset.sum_eq_zero fun x _ => hf _ (Fin.lt_def.2 (lt_of_lt_of_le (hg x) (not_lt.1 h)))).symm
  have e := sum8 0 f
  rw [zero_add, zero_add] at e
  rw [← e]
  rw [drop 256 (fun x => ⟨x.val, by omega⟩) fun x => by show x.val < 256; omega]
  rw [drop 512 (fun x => ⟨256 + x.val, by omega⟩) fun x => by show 256 + x.val < 512; omega]
  rw [drop 768 (fun x => ⟨512 + x.val, by omega⟩) fun x => by show 512 + x.val < 768; omega]
  rw [drop 1024 (fun x => ⟨768 + x.val, by omega⟩) fun x => by show 768 + x.val < 1024; omega]
  rw [drop 1280 (fun x => ⟨1024 + x.val, by omega⟩) fun x => by show 1024 + x.val < 1280; omega]
  rw [drop 1536 (fun x => ⟨1280 + x.val, by omega⟩) fun x => by show 1280 + x.val < 1536; omega]
  rw [drop 1792 (fun x => ⟨1536 + x.val, by omega⟩) fun x => by show 1536 + x.val < 1792; omega]

/-- A sum over the first entries is the whole sum where the rest is zero. -/
theorem sum_prefix {n : ℕ} (hn : n ≤ 2048) (f : Fin 2048 → EReal) (hf : ∀ j : Fin 2048, n ≤ j.val → f j = 0) :
    ∑ x : Fin n, f ⟨x.val, by omega⟩ = ∑ j : Fin 2048, f j := by
  refine Fintype.sum_of_injective (fun x : Fin n => (⟨x.val, by omega⟩ : Fin 2048)) (fun x y h => Fin.ext (Fin.mk.inj h)) _ _ (fun j hj => hf j ?_) fun _ => rfl
  by_contra h
  exact hj ⟨⟨j.val, not_le.1 h⟩, rfl⟩

/-- One more piece of rows of a block. -/
theorem acc_step (z : EReal) (B R n o : ℕ) (G : Fin 2048 → EReal) (hn : n + 256 ≤ 2048) (ho : o = B + n) (M : o ≤ R ∧ R < o + 256 → EReal)
    (e : ∀ h, M h = G ⟨n + (R - o), by omega⟩) :
    (z + if h : B ≤ R ∧ R < B + n then G ⟨R - B, by omega⟩ else 0) + (if h : o ≤ R ∧ R < o + 256 then M h else 0)
      = z + if h : B ≤ R ∧ R < B + (n + 256) then G ⟨R - B, by omega⟩ else 0 := by
  subst ho
  by_cases h : B + n ≤ R ∧ R < B + n + 256
  · rw [dif_pos h, dif_neg (by omega), dif_pos (by omega), add_zero, e]
    exact congrArg (z + G ·) (Fin.ext (by show n + (R - (B + n)) = R - B; omega))
  · rw [dif_neg h, add_zero]
    by_cases h' : B ≤ R ∧ R < B + n
    · rw [dif_pos h', dif_pos (by omega)]
    · rw [dif_neg h', dif_neg (by omega)]

/-- Eight pieces of 256 rows, one after another, are the block's 2048 rows. -/
theorem acc8 (z : EReal) (B R : ℕ) (G : Fin 2048 → EReal) (o0 o1 o2 o3 o4 o5 o6 o7 : ℕ)
    (h0 : o0 = B + 0) (h1 : o1 = B + 256) (h2 : o2 = B + 512) (h3 : o3 = B + 768) (h4 : o4 = B + 1024) (h5 : o5 = B + 1280) (h6 : o6 = B + 1536) (h7 : o7 = B + 1792)
    (M0 : o0 ≤ R ∧ R < o0 + 256 → EReal) (e0 : ∀ h, M0 h = G ⟨R - o0, by omega⟩)
    (M1 : o1 ≤ R ∧ R < o1 + 256 → EReal) (e1 : ∀ h, M1 h = G ⟨256 + (R - o1), by omega⟩)
    (M2 : o2 ≤ R ∧ R < o2 + 256 → EReal) (e2 : ∀ h, M2 h = G ⟨512 + (R - o2), by omega⟩)
    (M3 : o3 ≤ R ∧ R < o3 + 256 → EReal) (e3 : ∀ h, M3 h = G ⟨768 + (R - o3), by omega⟩)
    (M4 : o4 ≤ R ∧ R < o4 + 256 → EReal) (e4 : ∀ h, M4 h = G ⟨1024 + (R - o4), by omega⟩)
    (M5 : o5 ≤ R ∧ R < o5 + 256 → EReal) (e5 : ∀ h, M5 h = G ⟨1280 + (R - o5), by omega⟩)
    (M6 : o6 ≤ R ∧ R < o6 + 256 → EReal) (e6 : ∀ h, M6 h = G ⟨1536 + (R - o6), by omega⟩)
    (M7 : o7 ≤ R ∧ R < o7 + 256 → EReal) (e7 : ∀ h, M7 h = G ⟨1792 + (R - o7), by omega⟩) :
    z + (if h : o0 ≤ R ∧ R < o0 + 256 then M0 h else 0) + (if h : o1 ≤ R ∧ R < o1 + 256 then M1 h else 0) + (if h : o2 ≤ R ∧ R < o2 + 256 then M2 h else 0) + (if h : o3 ≤ R ∧ R < o3 + 256 then M3 h else 0) + (if h : o4 ≤ R ∧ R < o4 + 256 then M4 h else 0) + (if h : o5 ≤ R ∧ R < o5 + 256 then M5 h else 0) + (if h : o6 ≤ R ∧ R < o6 + 256 then M6 h else 0) + (if h : o7 ≤ R ∧ R < o7 + 256 then M7 h else 0)
      = z + if h : B ≤ R ∧ R < B + 2048 then G ⟨R - B, by omega⟩ else 0 := by
  refine (congrArg (· + _) ?_).trans (acc_step z B R 1792 o7 G (by omega) h7 M7 e7)
  refine (congrArg (· + _) ?_).trans (acc_step z B R 1536 o6 G (by omega) h6 M6 e6)
  refine (congrArg (· + _) ?_).trans (acc_step z B R 1280 o5 G (by omega) h5 M5 e5)
  refine (congrArg (· + _) ?_).trans (acc_step z B R 1024 o4 G (by omega) h4 M4 e4)
  refine (congrArg (· + _) ?_).trans (acc_step z B R 768 o3 G (by omega) h3 M3 e3)
  refine (congrArg (· + _) ?_).trans (acc_step z B R 512 o2 G (by omega) h2 M2 e2)
  refine (congrArg (· + _) ?_).trans (acc_step z B R 256 o1 G (by omega) h1 M1 e1)
  refine (congrArg (· + _) ?_).trans (acc_step z B R 0 o0 G (by omega) h0 M0 fun h => (e0 h).trans (congrArg G (Fin.ext (Nat.zero_add _).symm)))
  rw [dif_neg (by omega), add_zero]

/-- The same on a result that starts here. -/
theorem acc8z (B R : ℕ) (G : Fin 2048 → EReal) (o0 o1 o2 o3 o4 o5 o6 o7 : ℕ)
    (h0 : o0 = B + 0) (h1 : o1 = B + 256) (h2 : o2 = B + 512) (h3 : o3 = B + 768) (h4 : o4 = B + 1024) (h5 : o5 = B + 1280) (h6 : o6 = B + 1536) (h7 : o7 = B + 1792)
    (M0 : o0 ≤ R ∧ R < o0 + 256 → EReal) (e0 : ∀ h, M0 h = G ⟨R - o0, by omega⟩)
    (M1 : o1 ≤ R ∧ R < o1 + 256 → EReal) (e1 : ∀ h, M1 h = G ⟨256 + (R - o1), by omega⟩)
    (M2 : o2 ≤ R ∧ R < o2 + 256 → EReal) (e2 : ∀ h, M2 h = G ⟨512 + (R - o2), by omega⟩)
    (M3 : o3 ≤ R ∧ R < o3 + 256 → EReal) (e3 : ∀ h, M3 h = G ⟨768 + (R - o3), by omega⟩)
    (M4 : o4 ≤ R ∧ R < o4 + 256 → EReal) (e4 : ∀ h, M4 h = G ⟨1024 + (R - o4), by omega⟩)
    (M5 : o5 ≤ R ∧ R < o5 + 256 → EReal) (e5 : ∀ h, M5 h = G ⟨1280 + (R - o5), by omega⟩)
    (M6 : o6 ≤ R ∧ R < o6 + 256 → EReal) (e6 : ∀ h, M6 h = G ⟨1536 + (R - o6), by omega⟩)
    (M7 : o7 ≤ R ∧ R < o7 + 256 → EReal) (e7 : ∀ h, M7 h = G ⟨1792 + (R - o7), by omega⟩) :
    (if h : o0 ≤ R ∧ R < o0 + 256 then M0 h else 0) + (if h : o1 ≤ R ∧ R < o1 + 256 then M1 h else 0) + (if h : o2 ≤ R ∧ R < o2 + 256 then M2 h else 0) + (if h : o3 ≤ R ∧ R < o3 + 256 then M3 h else 0) + (if h : o4 ≤ R ∧ R < o4 + 256 then M4 h else 0) + (if h : o5 ≤ R ∧ R < o5 + 256 then M5 h else 0) + (if h : o6 ≤ R ∧ R < o6 + 256 then M6 h else 0) + (if h : o7 ≤ R ∧ R < o7 + 256 then M7 h else 0)
      = if h : B ≤ R ∧ R < B + 2048 then G ⟨R - B, by omega⟩ else 0 := by
  have e := acc8 0 B R G o0 o1 o2 o3 o4 o5 o6 o7 h0 h1 h2 h3 h4 h5 h6 h7 M0 e0 M1 e1 M2 e2 M3 e3 M4 e4 M5 e5 M6 e6 M7 e7
  rwa [zero_add, zero_add] at e

end Cert.AttProof

end
-- ==== Proof.AttStep.lean ====
/-
What one step of the attention gradient adds to its three results, over the extended
reals.  `wt` is the weight of query row `r` and key row `j` inside a block, `wtm` the
same under the position mask, `gr` the gradient of the weight.  A step on the diagonal
computes only the products that can be nonzero; where the mask makes the others zero,
its sums are the whole ones.
-/
module

public import proofs.«01_k».proof.Proof.AttRunA
public import proofs.«01_k».proof.Proof.AttRunB
public import proofs.«01_k».proof.Proof.AttRunC
public import proofs.«01_k».proof.Proof.AttAcc
public import Idealize.ShloMosaic.Lib.Pipeline.ValueKit
public import Idealize.ShloMosaic.Lib.Pointwise
public import Idealize.ShloMosaic.Lib.VecWindow
public import Idealize.ShloMosaic.Lib.Claim

@[expose] public section

set_option maxRecDepth 16384

noncomputable section

namespace Cert.AttProof
open Idealize.ShloMosaic Idealize.ShloMosaic.TcCoe
open Cert.AttKIdeal Cert.AttKIdeal.Gen

variable (c : Dev nD) (i : grid0.Coords)
variable (arg4 : Memref sig .tc .vmem S1x2048x256 .bf16) (harg4 : arg4.IsWhole)
variable (arg5 : Memref sig .tc .vmem S1x2048x256 .bf16) (harg5 : arg5.IsWhole)
variable (arg6 : Memref sig .tc .vmem S1x2048x128 .bf16) (harg6 : arg6.IsWhole)
variable (arg7 : Memref sig .tc .vmem S2048x128 .f32) (harg7 : arg7.IsWhole)
variable (arg8 : Memref sig .tc .vmem S1x1x2048 .f32) (harg8 : arg8.IsWhole)
variable (arg9 : Memref sig .tc .vmem S1x1x2048 .f32) (harg9 : arg9.IsWhole)
variable (arg10 : Memref sig .tc .vmem S2048x1 .i32) (harg10 : arg10.IsWhole)
variable (arg11 : Memref sig .tc .vmem S1x2048 .i32) (harg11 : arg11.IsWhole)
variable (arg12 : Memref sig .tc .vmem S1x8192x256 .f32) (harg12 : arg12.IsWhole)
variable (arg13 : Memref sig .tc .vmem S1x2048x256 .f32) (harg13 : arg13.IsWhole)
variable (arg14 : Memref sig .tc .vmem S1x2048x128 .f32) (harg14 : arg14.IsWhole)
variable (t0 : TbBuf (F := Ideal) c tb0) (t1 : TbBuf (F := Ideal) c tb1)
variable (x0 : Vec Ideal S1x2048x256 .bf16)
variable (x1 : Vec Ideal S1x2048x256 .bf16)
variable (x2 : Vec Ideal S1x2048x128 .bf16)
variable (x3 : Vec Ideal S2048x128 .f32)
variable (x4 : Vec Ideal S1x1x2048 .f32)
variable (x5 : Vec Ideal S1x1x2048 .f32)
variable (x6 : Vec Ideal S2048x1 .i32)
variable (x7 : Vec Ideal S1x2048 .i32)

/-- The weight of key row `j` for query row `r`. -/
def wt (j r : Fin 2048) : EReal :=
  FloatOps.exp2 (F := Ideal) (φ := .f32) ((∑ k, x1 (ix3 0 j k) * x0 (ix3 0 r k)) - x4 (ix3 0 0 r) : EReal)

/-- The same under the mask. -/
def wtm (j r : Fin 2048) : EReal :=
  FloatOps.exp2 (F := Ideal) (φ := .f32) (Scalar.select (IntOp.cmpi CmpIPredicate.sge (x7 (ix2 0 r)) (x6 (ix2 j 0)))
    (∑ k, x1 (ix3 0 j k) * x0 (ix3 0 r k) : EReal) (Named.named (F := Ideal) (φ := .f32) κ "mask" 4286578687#32) - x4 (ix3 0 0 r) : EReal)

/-- The gradient of the weight. -/
def gr (j r : Fin 2048) : EReal := (∑ k, x2 (ix3 0 j k) * x3 (ix2 r k)) - x5 (ix3 0 0 r)

/-- A row's place among the rows of all blocks: the eight stretches of block `Q` in order. -/
abbrev Stretch (R : BitVec 32 → ℕ) (Q : ℕ) : Prop :=
  R 0#32 = Q * 2048 + 0 ∧ R 256#32 = Q * 2048 + 256 ∧ R 512#32 = Q * 2048 + 512 ∧ R 768#32 = Q * 2048 + 768 ∧
    R 1024#32 = Q * 2048 + 1024 ∧ R 1280#32 = Q * 2048 + 1280 ∧ R 1536#32 = Q * 2048 + 1536 ∧ R 1792#32 = Q * 2048 + 1792

set_option maxHeartbeats 4000000 in
/-- The first step of a head: the results start here. -/
theorem step_A (hchk : k0_chk1 (wq c i t0) (wk c i t1)) (h1 : k0_cond1 i = 1#1) (h2 : k0_cond2 (wq c i t0) (wk c i t1) = 1#1) (h3 : k0_cond3 (wq c i t0) (wk c i t1) = 1#1) (h4 : ¬ k0_cond4 (wq c i t0) (wk c i t1) = 1#1)
     (Rw : BitVec 32 → ℕ) (Q : ℕ) (hR : Stretch Rw Q) (hQ : ∀ o, k0_off2 (wq c i t0) o 1 = Rw o)
    (hv : ∀ j r, r < j → wtm x0 x1 x4 x6 x7 j r = 0) :
    (∀ (R : Fin 8192) (d : Fin 256), (arg12.view.read (Elt Ideal) (arg12.view.writes (Elt Ideal) arg12.view.junk
        (run_A c i arg4 harg4 arg5 harg5 arg6 harg6 arg7 harg7 arg8 harg8 arg9 harg9 arg10 harg10 arg11 harg11 arg12 harg12 arg13 harg13 arg14 harg14 t0 t1 x0 x1 x2 x3 x4 x5 x6 x7 hchk h1 h2 h3 h4 ).1) : S1x8192x256.Idx → EReal) (ix3 0 R d)
      = if h : Q * 2048 ≤ R.val ∧ R.val < Q * 2048 + 2048 then
          ∑ j, wtm x0 x1 x4 x6 x7 j ⟨R.val - Q * 2048, by omega⟩ * gr x2 x3 x5 j ⟨R.val - Q * 2048, by omega⟩ * x1 (ix3 0 j d) else 0) ∧
    (∀ (j : Fin 2048) (d : Fin 256), (arg13.view.read (Elt Ideal) (arg13.view.writes (Elt Ideal) arg13.view.junk
        (run_A c i arg4 harg4 arg5 harg5 arg6 harg6 arg7 harg7 arg8 harg8 arg9 harg9 arg10 harg10 arg11 harg11 arg12 harg12 arg13 harg13 arg14 harg14 t0 t1 x0 x1 x2 x3 x4 x5 x6 x7 hchk h1 h2 h3 h4 ).2.1) : S1x2048x256.Idx → EReal) (ix3 0 j d)
      = ∑ r, wtm x0 x1 x4 x6 x7 j r * gr x2 x3 x5 j r * x0 (ix3 0 r d)) ∧
    ∀ (j : Fin 2048) (d : Fin 128), (arg14.view.read (Elt Ideal) (arg14.view.writes (Elt Ideal) arg14.view.junk
        (run_A c i arg4 harg4 arg5 harg5 arg6 harg6 arg7 harg7 arg8 harg8 arg9 harg9 arg10 harg10 arg11 harg11 arg12 harg12 arg13 harg13 arg14 harg14 t0 t1 x0 x1 x2 x3 x4 x5 x6 x7 hchk h1 h2 h3 h4 ).2.2.1) : S1x2048x128.Idx → EReal) (ix3 0 j d)
      = ∑ r, wtm x0 x1 x4 x6 x7 j r * x3 (ix2 r d) := by
  obtain ⟨q0, q1, q2, q3, q4, q5, q6, q7⟩ := hR
  refine ⟨fun R d => ?_, fun j d => ?_, fun j d => ?_⟩ <;> frame_open <;> dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166]
  · rw [View.read_writes_junk_eq_canon]
    refine (congrFun (canon_put _ _ _) _).trans ?_
    simp (disch := decide) only [View.read_writes_junk_eq_canon, View.canon_cons_unit_lit', writes_put, View.writes_nil, canon_put, View.ld_unit_lit', readCov_ld, put_acc, readAt_writes, readAt_block, Memref.IsWhole.read_unread]
    simp only [wq] at hQ
    simp only [hQ]
    pointwise [acc_apply]
    exact acc8z (Q * 2048) R.val (fun r => ∑ j, wtm x0 x1 x4 x6 x7 j r * gr x2 x3 x5 j r * x1 (ix3 0 j d)) _ _ _ _ _ _ _ _ q0 q1 q2 q3 q4 q5 q6 q7
      _ (fun h => sum_prefix (n := 256) (by decide) (fun j => wtm x0 x1 x4 x6 x7 j ⟨R.val - Rw 0#32, by omega⟩ * gr x2 x3 x5 j ⟨R.val - Rw 0#32, by omega⟩ * x1 (ix3 0 j d)) fun j hj => by
        rw [hv _ _ (Fin.lt_def.2 (by show R.val - Rw 0#32 < j.val; omega)), zero_mul, zero_mul])
      _ (fun h => sum_prefix (n := 512) (by decide) (fun j => wtm x0 x1 x4 x6 x7 j ⟨256 + (R.val - Rw 256#32), by omega⟩ * gr x2 x3 x5 j ⟨256 + (R.val - Rw 256#32), by omega⟩ * x1 (ix3 0 j d)) fun j hj => by
        rw [hv _ _ (Fin.lt_def.2 (by show 256 + (R.val - Rw 256#32) < j.val; omega)), zero_mul, zero_mul])
      _ (fun h => sum_prefix (n := 768) (by decide) (fun j => wtm x0 x1 x4 x6 x7 j ⟨512 + (R.val - Rw 512#32), by omega⟩ * gr x2 x3 x5 j ⟨512 + (R.val - Rw 512#32), by omega⟩ * x1 (ix3 0 j d)) fun j hj => by
        rw [hv _ _ (Fin.lt_def.2 (by show 512 + (R.val - Rw 512#32) < j.val; omega)), zero_mul, zero_mul])
      _ (fun h => sum_prefix (n := 1024) (by decide) (fun j => wtm x0 x1 x4 x6 x7 j ⟨768 + (R.val - Rw 768#32), by omega⟩ * gr x2 x3 x5 j ⟨768 + (R.val - Rw 768#32), by omega⟩ * x1 (ix3 0 j d)) fun j hj => by
        rw [hv _ _ (Fin.lt_def.2 (by show 768 + (R.val - Rw 768#32) < j.val; omega)), zero_mul, zero_mul])
      _ (fun h => sum_prefix (n := 1280) (by decide) (fun j => wtm x0 x1 x4 x6 x7 j ⟨1024 + (R.val - Rw 1024#32), by omega⟩ * gr x2 x3 x5 j ⟨1024 + (R.val - Rw 1024#32), by omega⟩ * x1 (ix3 0 j d)) fun j hj => by
        rw [hv _ _ (Fin.lt_def.2 (by show 1024 + (R.val - Rw 1024#32) < j.val; omega)), zero_mul, zero_mul])
      _ (fun h => sum_prefix (n := 1536) (by decide) (fun j => wtm x0 x1 x4 x6 x7 j ⟨1280 + (R.val - Rw 1280#32), by omega⟩ * gr x2 x3 x5 j ⟨1280 + (R.val - Rw 1280#32), by omega⟩ * x1 (ix3 0 j d)) fun j hj => by
        rw [hv _ _ (Fin.lt_def.2 (by show 1280 + (R.val - Rw 1280#32) < j.val; omega)), zero_mul, zero_mul])
      _ (fun h => sum_prefix (n := 1792) (by decide) (fun j => wtm x0 x1 x4 x6 x7 j ⟨1536 + (R.val - Rw 1536#32), by omega⟩ * gr x2 x3 x5 j ⟨1536 + (R.val - Rw 1536#32), by omega⟩ * x1 (ix3 0 j d)) fun j hj => by
        rw [hv _ _ (Fin.lt_def.2 (by show 1536 + (R.val - Rw 1536#32) < j.val; omega)), zero_mul, zero_mul])
      _ (fun _ => rfl)
  · skip
    simp (disch := decide) only [View.read_writes_junk_eq_canon, View.canon_cons_unit_lit', writes_put, View.writes_nil, canon_put, View.ld_unit_lit', readCov_ld, put_acc, readAt_writes, readAt_block, Memref.IsWhole.read_unread]
    pointwise [acc_apply]
    exact sum8_prefix j (fun r => wtm x0 x1 x4 x6 x7 j r * gr x2 x3 x5 j r * x0 (ix3 0 r d)) fun r h => by rw [hv j r h, zero_mul, zero_mul]
  · skip
    simp (disch := decide) only [View.read_writes_junk_eq_canon, View.canon_cons_unit_lit', writes_put, View.writes_nil, canon_put, View.ld_unit_lit', readCov_ld, put_acc, readAt_writes, readAt_block, Memref.IsWhole.read_unread]
    pointwise [acc_apply]
    exact sum8_prefix j (fun r => wtm x0 x1 x4 x6 x7 j r * x3 (ix2 r d)) fun r h => by rw [hv j r h, zero_mul]

set_option maxHeartbeats 4000000 in
/-- A later step on the diagonal: the query result goes on, the others start. -/
theorem step_B (hchk : k0_chk1 (wq c i t0) (wk c i t1)) (h1 : ¬ k0_cond1 i = 1#1) (h2 : k0_cond2 (wq c i t0) (wk c i t1) = 1#1) (h3 : k0_cond3 (wq c i t0) (wk c i t1) = 1#1) (h4 : ¬ k0_cond4 (wq c i t0) (wk c i t1) = 1#1)
    (dq : Vec Ideal S1x8192x256 .f32) (Rw : BitVec 32 → ℕ) (Q : ℕ) (hR : Stretch Rw Q) (hQ : ∀ o, k0_off2 (wq c i t0) o 1 = Rw o)
    (hv : ∀ j r, r < j → wtm x0 x1 x4 x6 x7 j r = 0) :
    (∀ (R : Fin 8192) (d : Fin 256), (arg12.view.read (Elt Ideal) (arg12.view.writes (Elt Ideal) (harg12.unread dq)
        (run_B c i arg4 harg4 arg5 harg5 arg6 harg6 arg7 harg7 arg8 harg8 arg9 harg9 arg10 harg10 arg11 harg11 arg12 harg12 arg13 harg13 arg14 harg14 t0 t1 x0 x1 x2 x3 x4 x5 x6 x7 hchk h1 h2 h3 h4 dq).1) : S1x8192x256.Idx → EReal) (ix3 0 R d)
      = dq (ix3 0 R d) + if h : Q * 2048 ≤ R.val ∧ R.val < Q * 2048 + 2048 then
          ∑ j, wtm x0 x1 x4 x6 x7 j ⟨R.val - Q * 2048, by omega⟩ * gr x2 x3 x5 j ⟨R.val - Q * 2048, by omega⟩ * x1 (ix3 0 j d) else 0) ∧
    (∀ (j : Fin 2048) (d : Fin 256), (arg13.view.read (Elt Ideal) (arg13.view.writes (Elt Ideal) arg13.view.junk
        (run_B c i arg4 harg4 arg5 harg5 arg6 harg6 arg7 harg7 arg8 harg8 arg9 harg9 arg10 harg10 arg11 harg11 arg12 harg12 arg13 harg13 arg14 harg14 t0 t1 x0 x1 x2 x3 x4 x5 x6 x7 hchk h1 h2 h3 h4 dq).2.1) : S1x2048x256.Idx → EReal) (ix3 0 j d)
      = ∑ r, wtm x0 x1 x4 x6 x7 j r * gr x2 x3 x5 j r * x0 (ix3 0 r d)) ∧
    ∀ (j : Fin 2048) (d : Fin 128), (arg14.view.read (Elt Ideal) (arg14.view.writes (Elt Ideal) arg14.view.junk
        (run_B c i arg4 harg4 arg5 harg5 arg6 harg6 arg7 harg7 arg8 harg8 arg9 harg9 arg10 harg10 arg11 harg11 arg12 harg12 arg13 harg13 arg14 harg14 t0 t1 x0 x1 x2 x3 x4 x5 x6 x7 hchk h1 h2 h3 h4 dq).2.2.1) : S1x2048x128.Idx → EReal) (ix3 0 j d)
      = ∑ r, wtm x0 x1 x4 x6 x7 j r * x3 (ix2 r d) := by
  obtain ⟨q0, q1, q2, q3, q4, q5, q6, q7⟩ := hR
  refine ⟨fun R d => ?_, fun j d => ?_, fun j d => ?_⟩ <;> frame_open <;> dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166]
  · refine (congrFun (writes_put _ _ _ _ _) _).trans ?_
    simp (disch := decide) only [View.read_writes_junk_eq_canon, View.canon_cons_unit_lit', writes_put, View.writes_nil, canon_put, View.ld_unit_lit', readCov_ld, put_acc, readAt_writes, readAt_block, Memref.IsWhole.read_unread]
    simp only [wq] at hQ
    simp only [hQ]
    pointwise [acc_apply]
    exact acc8 _ (Q * 2048) R.val (fun r => ∑ j, wtm x0 x1 x4 x6 x7 j r * gr x2 x3 x5 j r * x1 (ix3 0 j d)) _ _ _ _ _ _ _ _ q0 q1 q2 q3 q4 q5 q6 q7
      _ (fun h => sum_prefix (n := 256) (by decide) (fun j => wtm x0 x1 x4 x6 x7 j ⟨R.val - Rw 0#32, by omega⟩ * gr x2 x3 x5 j ⟨R.val - Rw 0#32, by omega⟩ * x1 (ix3 0 j d)) fun j hj => by
        rw [hv _ _ (Fin.lt_def.2 (by show R.val - Rw 0#32 < j.val; omega)), zero_mul, zero_mul])
      _ (fun h => sum_prefix (n := 512) (by decide) (fun j => wtm x0 x1 x4 x6 x7 j ⟨256 + (R.val - Rw 256#32), by omega⟩ * gr x2 x3 x5 j ⟨256 + (R.val - Rw 256#32), by omega⟩ * x1 (ix3 0 j d)) fun j hj => by
        rw [hv _ _ (Fin.lt_def.2 (by show 256 + (R.val - Rw 256#32) < j.val; omega)), zero_mul, zero_mul])
      _ (fun h => sum_prefix (n := 768) (by decide) (fun j => wtm x0 x1 x4 x6 x7 j ⟨512 + (R.val - Rw 512#32), by omega⟩ * gr x2 x3 x5 j ⟨512 + (R.val - Rw 512#32), by omega⟩ * x1 (ix3 0 j d)) fun j hj => by
        rw [hv _ _ (Fin.lt_def.2 (by show 512 + (R.val - Rw 512#32) < j.val; omega)), zero_mul, zero_mul])
      _ (fun h => sum_prefix (n := 1024) (by decide) (fun j => wtm x0 x1 x4 x6 x7 j ⟨768 + (R.val - Rw 768#32), by omega⟩ * gr x2 x3 x5 j ⟨768 + (R.val - Rw 768#32), by omega⟩ * x1 (ix3 0 j d)) fun j hj => by
        rw [hv _ _ (Fin.lt_def.2 (by show 768 + (R.val - Rw 768#32) < j.val; omega)), zero_mul, zero_mul])
      _ (fun h => sum_prefix (n := 1280) (by decide) (fun j => wtm x0 x1 x4 x6 x7 j ⟨1024 + (R.val - Rw 1024#32), by omega⟩ * gr x2 x3 x5 j ⟨1024 + (R.val - Rw 1024#32), by omega⟩ * x1 (ix3 0 j d)) fun j hj => by
        rw [hv _ _ (Fin.lt_def.2 (by show 1024 + (R.val - Rw 1024#32) < j.val; omega)), zero_mul, zero_mul])
      _ (fun h => sum_prefix (n := 1536) (by decide) (fun j => wtm x0 x1 x4 x6 x7 j ⟨1280 + (R.val - Rw 1280#32), by omega⟩ * gr x2 x3 x5 j ⟨1280 + (R.val - Rw 1280#32), by omega⟩ * x1 (ix3 0 j d)) fun j hj => by
        rw [hv _ _ (Fin.lt_def.2 (by show 1280 + (R.val - Rw 1280#32) < j.val; omega)), zero_mul, zero_mul])
      _ (fun h => sum_prefix (n := 1792) (by decide) (fun j => wtm x0 x1 x4 x6 x7 j ⟨1536 + (R.val - Rw 1536#32), by omega⟩ * gr x2 x3 x5 j ⟨1536 + (R.val - Rw 1536#32), by omega⟩ * x1 (ix3 0 j d)) fun j hj => by
        rw [hv _ _ (Fin.lt_def.2 (by show 1536 + (R.val - Rw 1536#32) < j.val; omega)), zero_mul, zero_mul])
      _ (fun _ => rfl)
  · skip
    simp (disch := decide) only [View.read_writes_junk_eq_canon, View.canon_cons_unit_lit', writes_put, View.writes_nil, canon_put, View.ld_unit_lit', readCov_ld, put_acc, readAt_writes, readAt_block, Memref.IsWhole.read_unread]
    pointwise [acc_apply]
    exact sum8_prefix j (fun r => wtm x0 x1 x4 x6 x7 j r * gr x2 x3 x5 j r * x0 (ix3 0 r d)) fun r h => by rw [hv j r h, zero_mul, zero_mul]
  · skip
    simp (disch := decide) only [View.read_writes_junk_eq_canon, View.canon_cons_unit_lit', writes_put, View.writes_nil, canon_put, View.ld_unit_lit', readCov_ld, put_acc, readAt_writes, readAt_block, Memref.IsWhole.read_unread]
    pointwise [acc_apply]
    exact sum8_prefix j (fun r => wtm x0 x1 x4 x6 x7 j r * x3 (ix2 r d)) fun r h => by rw [hv j r h, zero_mul]

set_option maxHeartbeats 4000000 in
/-- A step off the diagonal: all three results go on. -/
theorem step_C (hchk : k0_chk1 (wq c i t0) (wk c i t1)) (h1 : ¬ k0_cond1 i = 1#1) (h2 : ¬ k0_cond2 (wq c i t0) (wk c i t1) = 1#1) (h3 : ¬ k0_cond3 (wq c i t0) (wk c i t1) = 1#1) (h4 : k0_cond4 (wq c i t0) (wk c i t1) = 1#1)
    (dq : Vec Ideal S1x8192x256 .f32) (dk : Vec Ideal S1x2048x256 .f32) (dv : Vec Ideal S1x2048x128 .f32) (Rw : BitVec 32 → ℕ) (Q : ℕ) (hR : Stretch Rw Q) (hQ : ∀ o, k0_off3 (wq c i t0) o 1 = Rw o) :
    (∀ (R : Fin 8192) (d : Fin 256), (arg12.view.read (Elt Ideal) (arg12.view.writes (Elt Ideal) (harg12.unread dq)
        (run_C c i arg4 harg4 arg5 harg5 arg6 harg6 arg7 harg7 arg8 harg8 arg9 harg9 arg10 harg10 arg11 harg11 arg12 harg12 arg13 harg13 arg14 harg14 t0 t1 x0 x1 x2 x3 x4 x5 x6 x7 hchk h1 h2 h3 h4 dq dk dv).1) : S1x8192x256.Idx → EReal) (ix3 0 R d)
      = dq (ix3 0 R d) + if h : Q * 2048 ≤ R.val ∧ R.val < Q * 2048 + 2048 then
          ∑ j, wt x0 x1 x4 j ⟨R.val - Q * 2048, by omega⟩ * gr x2 x3 x5 j ⟨R.val - Q * 2048, by omega⟩ * x1 (ix3 0 j d) else 0) ∧
    (∀ (j : Fin 2048) (d : Fin 256), (arg13.view.read (Elt Ideal) (arg13.view.writes (Elt Ideal) (harg13.unread dk)
        (run_C c i arg4 harg4 arg5 harg5 arg6 harg6 arg7 harg7 arg8 harg8 arg9 harg9 arg10 harg10 arg11 harg11 arg12 harg12 arg13 harg13 arg14 harg14 t0 t1 x0 x1 x2 x3 x4 x5 x6 x7 hchk h1 h2 h3 h4 dq dk dv).2.1) : S1x2048x256.Idx → EReal) (ix3 0 j d)
      = dk (ix3 0 j d) + ∑ r, wt x0 x1 x4 j r * gr x2 x3 x5 j r * x0 (ix3 0 r d)) ∧
    ∀ (j : Fin 2048) (d : Fin 128), (arg14.view.read (Elt Ideal) (arg14.view.writes (Elt Ideal) (harg14.unread dv)
        (run_C c i arg4 harg4 arg5 harg5 arg6 harg6 arg7 harg7 arg8 harg8 arg9 harg9 arg10 harg10 arg11 harg11 arg12 harg12 arg13 harg13 arg14 harg14 t0 t1 x0 x1 x2 x3 x4 x5 x6 x7 hchk h1 h2 h3 h4 dq dk dv).2.2.1) : S1x2048x128.Idx → EReal) (ix3 0 j d)
      = dv (ix3 0 j d) + ∑ r, wt x0 x1 x4 j r * x3 (ix2 r d) := by
  obtain ⟨q0, q1, q2, q3, q4, q5, q6, q7⟩ := hR
  refine ⟨fun R d => ?_, fun j d => ?_, fun j d => ?_⟩ <;> frame_open <;> dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166]
  · refine (congrFun (writes_put _ _ _ _ _) _).trans ?_
    simp (disch := decide) only [View.read_writes_junk_eq_canon, View.canon_cons_unit_lit', writes_put, View.writes_nil, canon_put, View.ld_unit_lit', readCov_ld, put_acc, readAt_writes, readAt_block, Memref.IsWhole.read_unread]
    simp only [wq] at hQ
    simp only [hQ]
    pointwise [acc_apply]
    exact acc8 _ (Q * 2048) R.val (fun r => ∑ j, wt x0 x1 x4 j r * gr x2 x3 x5 j r * x1 (ix3 0 j d)) _ _ _ _ _ _ _ _ q0 q1 q2 q3 q4 q5 q6 q7
      _ (fun _ => rfl) _ (fun _ => rfl) _ (fun _ => rfl) _ (fun _ => rfl) _ (fun _ => rfl) _ (fun _ => rfl) _ (fun _ => rfl) _ (fun _ => rfl)
  · refine (congrFun (View.read_writes_full _ _ _ _ _) _).trans ?_
    simp (disch := decide) only [View.read_writes_junk_eq_canon, View.canon_cons_unit_lit', View.readCov_unit_lit', View.readCov_cons_unit_lit', writes_put, View.writes_nil, canon_put, View.ld_unit_lit', readCov_ld, put_acc, readAt_writes, readAt_block, Memref.IsWhole.read_unread]
    pointwise [acc_apply]
    exact sum8 _ (fun r => wt x0 x1 x4 j r * gr x2 x3 x5 j r * x0 (ix3 0 r d))
  · refine (congrFun (View.read_writes_full _ _ _ _ _) _).trans ?_
    simp (disch := decide) only [View.read_writes_junk_eq_canon, View.canon_cons_unit_lit', View.readCov_unit_lit', View.readCov_cons_unit_lit', writes_put, View.writes_nil, canon_put, View.ld_unit_lit', readCov_ld, put_acc, readAt_writes, readAt_block, Memref.IsWhole.read_unread]
    pointwise [acc_apply]
    exact sum8 _ (fun r => wt x0 x1 x4 j r * x3 (ix2 r d))

end Cert.AttProof

end
-- ==== Proof.AttValue.lean ====
/-
The three results of the attention gradient's kernel call as sums over all rows, from the
arrays the host hands to it.
-/
module

public import proofs.«01_k».proof.Proof.AttStep
public import proofs.«01_k».proof.Proof.AttFrame

@[expose] public section

set_option maxRecDepth 16384

noncomputable section

namespace Cert.AttProof
open Idealize.ShloMosaic Idealize.ShloMosaic.TcCoe
open Cert.AttKIdeal Cert.AttKIdeal.Gen

/-- The head, and the row blocks of the queries and of the keys, of a step. -/
def hd (t : Fin grid0.N) : Fin 8 := ⟨t.val / 10, by have := t.isLt; change t.val < 80 at this; omega⟩
def bq (t : Fin grid0.N) : ℕ := (lit0 (st t)).toNat
def bk (t : Fin grid0.N) : ℕ := (lit1 (st t)).toNat

/-- Where each window's block stands at a step. -/
theorem idx : ∀ t : Fin grid0.N,
    ((cfgT (F := Ideal)).win 0).index t = ![(hd t).val, bq t, 0] ∧ ((cfgT (F := Ideal)).win 1).index t = ![(hd t).val, bk t, 0] ∧
    ((cfgT (F := Ideal)).win 2).index t = ![(hd t).val, bk t, 0] ∧ ((cfgT (F := Ideal)).win 3).index t = ![bq t, (hd t).val] ∧
    ((cfgT (F := Ideal)).win 4).index t = ![(hd t).val, 0, bq t] ∧ ((cfgT (F := Ideal)).win 5).index t = ![(hd t).val, 0, bq t] ∧
    ((cfgT (F := Ideal)).win 6).index t = ![bk t, 0] ∧ ((cfgT (F := Ideal)).win 7).index t = ![0, bq t] ∧
    ((cfgT (F := Ideal)).win 8).index t = ![(hd t).val, 0, 0] ∧ ((cfgT (F := Ideal)).win 9).index t = ![(hd t).val, bk t, 0] ∧
    ((cfgT (F := Ideal)).win 10).index t = ![(hd t).val, bk t, 0] := of_decide_eq_true (by sl_kernel_rfl)

/-- The blocks a step comes from. -/
theorem steps : ∀ t : Fin grid0.N, bq t < 4 ∧ bk t < 4 ∧ bk t ≤ bq t ∧ (Diag t ↔ bq t = bk t) ∧ (Head t → bq t = 0) ∧
    (t.val % 10 = 9 → bq t = 3 ∧ bk t = 3) := by decide +kernel
theorem steps_B : ∀ t : Fin grid0.N, ¬ Head t → Diag t → ∃ h : t.val - 1 < grid0.N, hd ⟨t.val - 1, h⟩ = hd t ∧ bq ⟨t.val - 1, h⟩ = 3 ∧ bk t = bk ⟨t.val - 1, h⟩ + 1 := by
  decide +kernel
theorem steps_C : ∀ t : Fin grid0.N, ¬ Diag t → ∃ h : t.val - 1 < grid0.N, hd ⟨t.val - 1, h⟩ = hd t ∧ bk ⟨t.val - 1, h⟩ = bk t ∧ bq t = bq ⟨t.val - 1, h⟩ + 1 := by
  decide +kernel

/-- Where the rows of query block `q` start, as the kernel computes it. -/
theorem stretch2 : ∀ t : Fin grid0.N, Stretch (fun o => k0_off2 (lit0 (st t)) o 1) (bq t) := by decide +kernel
theorem stretch3 : ∀ t : Fin grid0.N, Stretch (fun o => k0_off3 (lit0 (st t)) o 1) (bq t) := by decide +kernel

variable (m : (ℓ : Loc nD τ sig) → Buf (Elt Ideal) ℓ) (c : Dev nD)

/-- The arrays the host hands to the kernel. -/
abbrev Qp : S8x8192x256.Idx → EReal := V m c main_v50
abbrev Kp : S8x8192x256.Idx → EReal := V m c main_v53
abbrev Vp : S8x8192x128.Idx → EReal := V m c main_v55
abbrev Do : S8192x1024.Idx → EReal := V m c main_arg3
abbrev Ls : S8x1x8192.Idx → EReal := V m c main_v58
abbrev De : S8x1x8192.Idx → EReal := V m c main_v59
abbrev Pk : S8192x1.Idx → BitVec 32 := V m c main_v60
abbrev Pq : S1x8192.Idx → BitVec 32 := V m c main_v61

/-- The blocks a step reads. -/
abbrev X0 (t : Fin grid0.N) : S1x2048x256.Idx → EReal := iblk m c 0 t
abbrev X1 (t : Fin grid0.N) : S1x2048x256.Idx → EReal := iblk m c 1 t
abbrev X2 (t : Fin grid0.N) : S1x2048x128.Idx → EReal := iblk m c 2 t
abbrev X3 (t : Fin grid0.N) : S2048x128.Idx → EReal := iblk m c 3 t
abbrev X4 (t : Fin grid0.N) : S1x1x2048.Idx → EReal := iblk m c 4 t
abbrev X5 (t : Fin grid0.N) : S1x1x2048.Idx → EReal := iblk m c 5 t
abbrev X6 (t : Fin grid0.N) : S2048x1.Idx → BitVec 32 := iblk m c 6 t
abbrev X7 (t : Fin grid0.N) : S1x2048.Idx → BitVec 32 := iblk m c 7 t

/-- Row `r` of the query block, row `j` of the key block, among all rows; column `k` of the head among all columns. -/
def rowQ (t : Fin grid0.N) (r : Fin 2048) : Fin 8192 := ⟨bq t * 2048 + r.val, by have := (steps t).1; omega⟩
def rowK (t : Fin grid0.N) (r : Fin 2048) : Fin 8192 := ⟨bk t * 2048 + r.val, by have := (steps t).2.1; omega⟩
def colH (h : Fin 8) (k : Fin 128) : Fin 1024 := ⟨h.val * 128 + k.val, by omega⟩

variable (t : Fin grid0.N)
theorem x0_eq (r : Fin 2048) (k : Fin 256) : X0 m c t (ix3 0 r k) = Qp m c (ix3 (hd t) (rowQ t r) k) := by
  have g : (((cfgT (F := Ideal)).win 0).blk t).view.emb (ix3 0 r k) = ix3 (hd t) (rowQ t r) k := by blk_ext [(idx t).1, rowQ]
  unfold X0
  blk_simp [iblk]
  exact congrArg (Qp m c) g
theorem x1_eq (j : Fin 2048) (k : Fin 256) : X1 m c t (ix3 0 j k) = Kp m c (ix3 (hd t) (rowK t j) k) := by
  have g : (((cfgT (F := Ideal)).win 1).blk t).view.emb (ix3 0 j k) = ix3 (hd t) (rowK t j) k := by blk_ext [(idx t).2.1, rowK]
  unfold X1
  blk_simp [iblk]
  exact congrArg (Kp m c) g
theorem x2_eq (j : Fin 2048) (k : Fin 128) : X2 m c t (ix3 0 j k) = Vp m c (ix3 (hd t) (rowK t j) k) := by
  have g : (((cfgT (F := Ideal)).win 2).blk t).view.emb (ix3 0 j k) = ix3 (hd t) (rowK t j) k := by blk_ext [(idx t).2.2.1, rowK]
  unfold X2
  blk_simp [iblk]
  exact congrArg (Vp m c) g
theorem x3_eq (r : Fin 2048) (k : Fin 128) : X3 m c t (ix2 r k) = Do m c (ix2 (rowQ t r) (colH (hd t) k)) := by
  have g : (((cfgT (F := Ideal)).win 3).blk t).view.emb (ix2 r k) = ix2 (rowQ t r) (colH (hd t) k) := by blk_ext [(idx t).2.2.2.1, rowQ, colH]
  unfold X3
  blk_simp [iblk]
  exact congrArg (Do m c) g
theorem x4_eq (r : Fin 2048) : X4 m c t (ix3 0 0 r) = Ls m c (ix3 (hd t) 0 (rowQ t r)) := by
  have g : (((cfgT (F := Ideal)).win 4).blk t).view.emb (ix3 0 0 r) = ix3 (hd t) 0 (rowQ t r) := by blk_ext [(idx t).2.2.2.2.1, rowQ]
  unfold X4
  blk_simp [iblk]
  exact congrArg (Ls m c) g
theorem x5_eq (r : Fin 2048) : X5 m c t (ix3 0 0 r) = De m c (ix3 (hd t) 0 (rowQ t r)) := by
  have g : (((cfgT (F := Ideal)).win 5).blk t).view.emb (ix3 0 0 r) = ix3 (hd t) 0 (rowQ t r) := by blk_ext [(idx t).2.2.2.2.2.1, rowQ]
  unfold X5
  blk_simp [iblk]
  exact congrArg (De m c) g
theorem x6_eq (j : Fin 2048) : X6 m c t (ix2 j 0) = Pk m c (ix2 (rowK t j) 0) := by
  have g : (((cfgT (F := Ideal)).win 6).blk t).view.emb (ix2 j 0) = ix2 (rowK t j) 0 := by blk_ext [(idx t).2.2.2.2.2.2.1, rowK]
  unfold X6
  blk_simp [iblk]
  exact congrArg (Pk m c) g
theorem x7_eq (r : Fin 2048) : X7 m c t (ix2 0 r) = Pq m c (ix2 0 (rowQ t r)) := by
  have g : (((cfgT (F := Ideal)).win 7).blk t).view.emb (ix2 0 r) = ix2 0 (rowQ t r) := by blk_ext [(idx t).2.2.2.2.2.2.2.1, rowQ]
  unfold X7
  blk_simp [iblk]
  exact congrArg (Pq m c) g

/-- The masked score's weight. -/
theorem mask_zero (L : EReal) : FloatOps.exp2 (F := Ideal) (φ := .f32) ((Named.named (F := Ideal) (φ := .f32) κ "mask" 4286578687#32 : EReal) - L) = (0 : EReal) := by
  have e : (Named.named (F := Ideal) (φ := .f32) κ "mask" 4286578687#32 : EReal) = ⊥ := rfl
  rw [e, EReal.bot_sub]
  exact Ideal.exp2_bot

/-! ## The gradient's terms -/

/-- The attention weight of key row `J` for query row `I`: zero above the diagonal. -/
def P (h : Fin 8) (I J : Fin 8192) : EReal :=
  if J ≤ I then FloatOps.exp2 (F := Ideal) (φ := .f32) ((∑ k, Kp m c (ix3 h J k) * Qp m c (ix3 h I k)) - Ls m c (ix3 h 0 I) : EReal) else 0

/-- The gradient of the score. -/
def G (h : Fin 8) (I J : Fin 8192) : EReal :=
  P m c h I J * ((∑ k, Vp m c (ix3 h J k) * Do m c (ix2 I (colH h k))) - De m c (ix3 h 0 I))

/-- The terms of the three results. -/
def Tq (h : Fin 8) (I : Fin 8192) (d : Fin 256) (J : Fin 8192) : EReal := G m c h I J * Kp m c (ix3 h J d)
def Tk (h : Fin 8) (J : Fin 8192) (d : Fin 256) (I : Fin 8192) : EReal := G m c h I J * Qp m c (ix3 h I d)
def Tv (h : Fin 8) (J : Fin 8192) (d : Fin 128) (I : Fin 8192) : EReal := P m c h I J * Do m c (ix2 I (colH h d))

theorem P_zero {h : Fin 8} {I J : Fin 8192} (l : I < J) : P m c h I J = 0 := if_neg (not_le.2 l)
theorem Tq_zero {h : Fin 8} {I J : Fin 8192} (d : Fin 256) (l : I < J) : Tq m c h I d J = 0 := by rw [Tq, G, P_zero m c l, zero_mul, zero_mul]
theorem Tk_zero {h : Fin 8} {I J : Fin 8192} (d : Fin 256) (l : I < J) : Tk m c h J d I = 0 := by rw [Tk, G, P_zero m c l, zero_mul, zero_mul]
theorem Tv_zero {h : Fin 8} {I J : Fin 8192} (d : Fin 128) (l : I < J) : Tv m c h J d I = 0 := by rw [Tv, P_zero m c l, zero_mul]

/-- The sum of a family over row block `q`. -/
def blockSum (f : Fin 8192 → EReal) (q : ℕ) : EReal := ∑ j : Fin 2048, if h : q * 2048 + j.val < 8192 then f ⟨q * 2048 + j.val, h⟩ else 0

theorem blockSum_eq (f : Fin 8192 → EReal) (q : ℕ) (g : Fin 2048 → Fin 8192) (hg : ∀ j, (g j).val = q * 2048 + j.val) : blockSum f q = ∑ j, f (g j) :=
  Finset.sum_congr rfl fun j _ => by
    rw [dif_pos (by rw [← hg]; exact (g j).isLt)]
    exact congrArg f (Fin.ext (hg j).symm)
theorem blockSum_zero (f : Fin 8192 → EReal) (q : ℕ) (hf : ∀ J : Fin 8192, q * 2048 ≤ J.val → J.val < q * 2048 + 2048 → f J = 0) : blockSum f q = 0 :=
  Finset.sum_eq_zero fun j _ => by
    split
    · exact hf _ (Nat.le_add_right _ _) (Nat.add_lt_add_left j.isLt _)
    · rfl
theorem blockSum_all (f : Fin 8192 → EReal) : ∑ q ∈ Finset.range 4, blockSum f q = ∑ J, f J := by
  have e := Fin.sum_univ_univ_mul_add 4 2048 fun n => if h : n < 8192 then f ⟨n, h⟩ else 0
  rw [Finset.sum_range]
  refine e.trans ?_
  exact Finset.sum_congr rfl fun J _ => dif_pos J.isLt

variable (hp : ∀ I J : Fin 8192, IntOp.cmpi CmpIPredicate.sge (Pq m c (ix2 0 I)) (Pk m c (ix2 J 0)) = if J ≤ I then 1#1 else 0#1)
include hp

/-- A step's weights are the ones above: on the diagonal by the mask, off it because every key row comes first. -/
theorem wtm_eq (t : Fin grid0.N) (j r : Fin 2048) : wtm (X0 m c t) (X1 m c t) (X4 m c t) (X6 m c t) (X7 m c t) j r = P m c (hd t) (rowQ t r) (rowK t j) := by
  rw [wtm, P, x7_eq, x6_eq, hp, x4_eq]
  simp only [x0_eq, x1_eq]
  by_cases l : rowK t j ≤ rowQ t r
  · rw [if_pos l, if_pos l]; rfl
  · rw [if_neg l, if_neg l]
    exact mask_zero _

/-- Off the diagonal every key row comes before every query row. -/
theorem wt_eq (t : Fin grid0.N) (l : ¬ Diag t) (j r : Fin 2048) : wt (X0 m c t) (X1 m c t) (X4 m c t) j r = P m c (hd t) (rowQ t r) (rowK t j) := by
  obtain ⟨a, b, g, e, -⟩ := steps t
  have n : bk t ≠ bq t := fun h => l (e.2 h.symm)
  rw [wt, P, x4_eq, if_pos (Fin.le_def.2 (by show bk t * 2048 + j.val ≤ bq t * 2048 + r.val; have := j.isLt; omega))]
  simp only [x0_eq, x1_eq]
omit hp in
theorem gr_eq (t : Fin grid0.N) (j r : Fin 2048) : gr (X2 m c t) (X3 m c t) (X5 m c t) j r
    = (∑ k, Vp m c (ix3 (hd t) (rowK t j) k) * Do m c (ix2 (rowQ t r) (colH (hd t) k))) - De m c (ix3 (hd t) 0 (rowQ t r)) := by
  rw [gr, x5_eq]
  simp only [x2_eq, x3_eq]

/-- The products of one step, as sums over its row blocks: `w` the step's weights. -/
theorem parts (t : Fin grid0.N) (w : Fin 2048 → Fin 2048 → EReal) (hw : ∀ j r, w j r = P m c (hd t) (rowQ t r) (rowK t j)) :
    (∀ (R : Fin 8192) (d : Fin 256), (if h : bq t * 2048 ≤ R.val ∧ R.val < bq t * 2048 + 2048 then
        ∑ j, w j ⟨R.val - bq t * 2048, by omega⟩ * gr (X2 m c t) (X3 m c t) (X5 m c t) j ⟨R.val - bq t * 2048, by omega⟩ * X1 m c t (ix3 0 j d) else 0)
      = if R.val / 2048 = bq t then blockSum (Tq m c (hd t) R d) (bk t) else 0) ∧
    (∀ (j : Fin 2048) (d : Fin 256), (∑ r, w j r * gr (X2 m c t) (X3 m c t) (X5 m c t) j r * X0 m c t (ix3 0 r d)) = blockSum (Tk m c (hd t) (rowK t j) d) (bq t)) ∧
    ∀ (j : Fin 2048) (d : Fin 128), (∑ r, w j r * X3 m c t (ix2 r d)) = blockSum (Tv m c (hd t) (rowK t j) d) (bq t) := by
  refine ⟨fun R d => ?_, fun j d => ?_, fun j d => ?_⟩
  · by_cases h : bq t * 2048 ≤ R.val ∧ R.val < bq t * 2048 + 2048
    · rw [dif_pos h, if_pos (by omega), blockSum_eq _ _ (rowK t) fun j => rfl]
      have e : rowQ t ⟨R.val - bq t * 2048, by omega⟩ = R := Fin.ext (by show bq t * 2048 + (R.val - bq t * 2048) = R.val; omega)
      simp only [hw, gr_eq, x1_eq, e, Tq, G]
    · rw [dif_neg h, if_neg (by omega)]
  · rw [blockSum_eq _ _ (rowQ t) fun j => rfl]
    simp only [hw, gr_eq, x0_eq, Tk, G]
  · rw [blockSum_eq _ _ (rowQ t) fun j => rfl]
    simp only [hw, x3_eq, Tv]

/-- How many blocks of key rows have reached row `R` of the query's gradient after a step; those that hold nothing for it count. -/
def done (t : Fin grid0.N) (R : Fin 8192) : ℕ := if R.val / 2048 ≤ bq t then bk t + 1 else bk t

/-- The three results after a step. -/
def Inv (t : Fin grid0.N) : Prop :=
  (∀ R d, ((outs m c t.val t.isLt).1 : S1x8192x256.Idx → EReal) (ix3 0 R d) = ∑ q ∈ Finset.range (done t R), blockSum (Tq m c (hd t) R d) q) ∧
  (∀ j d, ((outs m c t.val t.isLt).2.1 : S1x2048x256.Idx → EReal) (ix3 0 j d) = ∑ q ∈ Finset.range (bq t + 1), blockSum (Tk m c (hd t) (rowK t j) d) q) ∧
  ∀ j d, ((outs m c t.val t.isLt).2.2 : S1x2048x128.Idx → EReal) (ix3 0 j d) = ∑ q ∈ Finset.range (bq t + 1), blockSum (Tv m c (hd t) (rowK t j) d) q

omit hp in
/-- Row blocks before the key's hold nothing for it. -/
theorem before_key (f : Fin 8192 → Fin 8192 → EReal) (hf : ∀ I J, I < J → f J I = 0) (J : Fin 8192) (q : ℕ) (hJ : q * 2048 ≤ J.val) :
    ∑ q' ∈ Finset.range (q + 1), blockSum (f J) q' = blockSum (f J) q := by
  rw [Finset.sum_range_succ, Finset.sum_eq_zero fun q' h => ?_, zero_add]
  have := Finset.mem_range.1 h
  exact blockSum_zero _ _ fun I _ l => hf I J (Fin.lt_def.2 (by omega))
omit hp in
/-- Key blocks after the query's hold nothing for it. -/
theorem after_query (h : Fin 8) (R : Fin 8192) (d : Fin 256) (q : ℕ) (hq : R.val / 2048 < q) : blockSum (Tq m c h R d) q = 0 :=
  blockSum_zero _ _ fun J l _ => Tq_zero m c d (Fin.lt_def.2 (by omega))

theorem start_kv (t : Fin grid0.N) (d : Diag t) :
    (∀ j d, blockSum (Tk m c (hd t) (rowK t j) d) (bq t) = ∑ q ∈ Finset.range (bq t + 1), blockSum (Tk m c (hd t) (rowK t j) d) q) ∧
    ∀ j d, blockSum (Tv m c (hd t) (rowK t j) d) (bq t) = ∑ q ∈ Finset.range (bq t + 1), blockSum (Tv m c (hd t) (rowK t j) d) q := by
  have e : bq t = bk t := (steps t).2.2.2.1.1 d
  exact ⟨fun j d => (before_key (fun J => Tk m c (hd t) J d) (fun I J l => Tk_zero m c d l) _ _ (by rw [e]; exact Nat.le_add_right _ _)).symm,
    fun j d => (before_key (fun J => Tv m c (hd t) J d) (fun I J l => Tv_zero m c d l) _ _ (by rw [e]; exact Nat.le_add_right _ _)).symm⟩

omit hp in
theorem off2 (t : Fin grid0.N) (o : BitVec 32) : k0_off2 (wq c (grid0.coords t) (tabQ (F := Ideal) c)) o 1 = k0_off2 (lit0 (st t)) o 1 := by rw [wq_tab]
omit hp in
theorem off3 (t : Fin grid0.N) (o : BitVec 32) : k0_off3 (wq c (grid0.coords t) (tabQ (F := Ideal) c)) o 1 = k0_off3 (lit0 (st t)) o 1 := by rw [wq_tab]

/-- The mask leaves nothing above the diagonal of a diagonal block. -/
theorem wtm_zero (t : Fin grid0.N) (d : Diag t) (j r : Fin 2048) (l : r < j) : wtm (X0 m c t) (X1 m c t) (X4 m c t) (X6 m c t) (X7 m c t) j r = 0 := by
  rw [wtm_eq m c hp]
  exact P_zero m c (Fin.lt_def.2 (by show bq t * 2048 + r.val < bk t * 2048 + j.val; rw [(steps t).2.2.2.1.1 d]; exact Nat.add_lt_add_left l _))

theorem inv_A (t : Fin grid0.N) (h : Head t) : Inv m c t := by
  have d := diag_of_head t h
  obtain ⟨pq, pk, pv⟩ := parts m c hp t _ (wtm_eq m c hp t)
  obtain ⟨sk, sv⟩ := start_kv m c hp t d
  have S := step_A c (grid0.coords t) (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) (ms6 (F := Ideal) t) (hs6 (F := Ideal) t) (ms7 (F := Ideal) t) (hs7 (F := Ideal) t)
    (ms8 (F := Ideal) t) (hs8 (F := Ideal) t) (ms9 (F := Ideal) t) (hs9 (F := Ideal) t) (ms10 (F := Ideal) t) (hs10 (F := Ideal) t) (tabQ c) (tabK c) (X0 m c t) (X1 m c t) (X2 m c t) (X3 m c t) (X4 m c t) (X5 m c t) (X6 m c t) (X7 m c t)
    (chk (F := Ideal) c t) ((cond1_iff t).2 h) ((c2 (F := Ideal) c t).2 d) ((c3 (F := Ideal) c t).2 d) (fun k => ((c4 (F := Ideal) c t).1 k) d) _ (bq t) (stretch2 t) (off2 c t) (wtm_zero m c hp t d)
  rw [Inv, outs_A m c t h]
  unfold outA
  refine ⟨fun R dd => (S.1 R dd).trans ?_, fun j dd => (S.2.1 j dd).trans ?_, fun j dd => (S.2.2 j dd).trans ?_⟩
  · rw [pq, done]
    have z : bq t = 0 := (steps t).2.2.2.2.1 h
    have z' : bk t = 0 := ((steps t).2.2.2.1.1 d).symm.trans z
    rw [z, z']
    by_cases e : R.val / 2048 = 0
    · rw [if_pos e, if_pos (le_of_eq e), Finset.sum_range_one]
    · rw [if_neg e, if_neg (by omega), Finset.sum_range_zero]
  · exact (pk j dd).trans (sk j dd)
  · exact (pv j dd).trans (sv j dd)

theorem inv_B (t : Fin grid0.N) (h : ¬ Head t) (d : Diag t) (ih : ∀ l : t.val - 1 < grid0.N, Inv m c ⟨t.val - 1, l⟩) : Inv m c t := by
  obtain ⟨l, eh, eq, ek⟩ := steps_B t h d
  obtain ⟨iq, -⟩ := ih l
  obtain ⟨pq, pk, pv⟩ := parts m c hp t _ (wtm_eq m c hp t)
  obtain ⟨sk, sv⟩ := start_kv m c hp t d
  have S := step_B c (grid0.coords t) (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) (ms6 (F := Ideal) t) (hs6 (F := Ideal) t) (ms7 (F := Ideal) t) (hs7 (F := Ideal) t)
    (ms8 (F := Ideal) t) (hs8 (F := Ideal) t) (ms9 (F := Ideal) t) (hs9 (F := Ideal) t) (ms10 (F := Ideal) t) (hs10 (F := Ideal) t) (tabQ c) (tabK c) (X0 m c t) (X1 m c t) (X2 m c t) (X3 m c t) (X4 m c t) (X5 m c t) (X6 m c t) (X7 m c t)
    (chk (F := Ideal) c t) (fun k => h ((cond1_iff t).1 k)) ((c2 (F := Ideal) c t).2 d) ((c3 (F := Ideal) c t).2 d) (fun k => ((c4 (F := Ideal) c t).1 k) d) (prev m c t).1 _ (bq t) (stretch2 t) (off2 c t) (wtm_zero m c hp t d)
  rw [Inv, outs_B m c t h d]
  unfold outB
  refine ⟨fun R dd => (S.1 R dd).trans ?_, fun j dd => (S.2.1 j dd).trans ?_, fun j dd => (S.2.2 j dd).trans ?_⟩
  · rw [pq, iq, eh, done, done, eq, if_pos (by have := R.isLt; omega), ← ek, ← (steps t).2.2.2.1.1 d]
    by_cases e : R.val / 2048 ≤ bq t
    · rw [if_pos e, Finset.sum_range_succ]
      by_cases e' : R.val / 2048 = bq t
      · rw [if_pos e']
      · rw [if_neg e', after_query m c _ _ _ _ (by omega)]
    · rw [if_neg e, if_neg (by omega), add_zero]
  · exact (pk j dd).trans (sk j dd)
  · exact (pv j dd).trans (sv j dd)

theorem inv_C (t : Fin grid0.N) (d : ¬ Diag t) (ih : ∀ l : t.val - 1 < grid0.N, Inv m c ⟨t.val - 1, l⟩) : Inv m c t := by
  have h : ¬ Head t := fun k => d (diag_of_head t k)
  obtain ⟨l, eh, ek, eq⟩ := steps_C t d
  obtain ⟨iq, ik, iv⟩ := ih l
  have er : ∀ j, rowK ⟨t.val - 1, l⟩ j = rowK t j := fun j => Fin.ext (by show bk _ * 2048 + j.val = bk t * 2048 + j.val; rw [ek])
  obtain ⟨pq, pk, pv⟩ := parts m c hp t _ (wt_eq m c hp t d)
  have S := step_C c (grid0.coords t) (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) (ms6 (F := Ideal) t) (hs6 (F := Ideal) t) (ms7 (F := Ideal) t) (hs7 (F := Ideal) t)
    (ms8 (F := Ideal) t) (hs8 (F := Ideal) t) (ms9 (F := Ideal) t) (hs9 (F := Ideal) t) (ms10 (F := Ideal) t) (hs10 (F := Ideal) t) (tabQ c) (tabK c) (X0 m c t) (X1 m c t) (X2 m c t) (X3 m c t) (X4 m c t) (X5 m c t) (X6 m c t) (X7 m c t)
    (chk (F := Ideal) c t) (fun k => h ((cond1_iff t).1 k)) (fun k => d ((c2 (F := Ideal) c t).1 k)) (fun k => d ((c3 (F := Ideal) c t).1 k)) ((c4 (F := Ideal) c t).2 d) (prev m c t).1 (prev m c t).2.1 (prev m c t).2.2 _ (bq t) (stretch3 t) (off3 c t)
  rw [Inv, outs_C m c t d]
  unfold outC
  refine ⟨fun R dd => (S.1 R dd).trans ?_, fun j dd => (S.2.1 j dd).trans ?_, fun j dd => (S.2.2 j dd).trans ?_⟩
  · rw [pq, iq, eh, done, done, ek]
    by_cases e : R.val / 2048 ≤ bq ⟨t.val - 1, l⟩
    · rw [if_pos e, if_pos (show R.val / 2048 ≤ bq t by omega), if_neg (show ¬ R.val / 2048 = bq t by omega), add_zero]
    · rw [if_neg e]
      by_cases e' : R.val / 2048 = bq t
      · rw [if_pos e', if_pos (show R.val / 2048 ≤ bq t by omega), Finset.sum_range_succ]
      · rw [if_neg e', if_neg (show ¬ R.val / 2048 ≤ bq t by omega), add_zero]
  · rw [ik, pk, er, eh, eq, Finset.sum_range_succ _ (bq ⟨t.val - 1, l⟩ + 1)]
  · rw [iv, pv, er, eh, eq, Finset.sum_range_succ _ (bq ⟨t.val - 1, l⟩ + 1)]

theorem inv : ∀ t : Fin grid0.N, Inv m c t := by
  rintro ⟨n, hn⟩
  induction n with
  | zero => exact inv_A m c hp _ (Nat.zero_mod _)
  | succ n ih =>
    by_cases h : Head ⟨n + 1, hn⟩
    · exact inv_A m c hp _ h
    · by_cases d : Diag ⟨n + 1, hn⟩
      · exact inv_B m c hp _ h d fun l => ih l
      · exact inv_C m c hp _ d fun l => ih l

/-! ## The result arrays -/

/-- The three gradients: of the queries, the keys and the values. -/
def gradQ : S8x8192x256.Idx → EReal := fun i => ∑ J, Tq m c (i 0) (i 1) (i 2) J
def gradK : S8x8192x256.Idx → EReal := fun i => ∑ I, Tk m c (i 0) (i 1) (i 2) I
def gradV : S8x8192x128.Idx → EReal := fun i => ∑ I, Tv m c (i 0) (i 1) (i 2) I

theorem dq_value : (dats m 0 c).arrAt 8 (cfgT (F := Ideal)).N = gradQ m c := by
  refine (dats m 0 c).arrAt_eq_of_covers 8 (gradQ m c) (of_decide_eq_true (by sl_kernel_rfl)) fun t hf y => ?_
  blk_simp
  rw [after_8]
  have h9 : t.val % 10 = 9 := by
    by_contra k
    rw [flush8 t k] at hf
    exact Bool.noConfusion hf
  obtain ⟨eq, ek⟩ := (steps t).2.2.2.2.2 h9
  obtain ⟨a, r, d, rfl⟩ : ∃ a r d, (y : S1x8192x256.Idx) = ix3 a r d := ⟨_, _, _, eq_ix3 _⟩
  obtain rfl : a = 0 := Subsingleton.elim _ _
  refine ((inv m c hp t).1 r d).trans ?_
  rw [done, if_pos (by rw [eq]; have := r.isLt; omega), ek, blockSum_all]
  have g : (((cfgT (F := Ideal)).win 8).blk t).view.emb (ix3 0 r d) = ix3 (hd t) r d := by blk_ext [(idx t).2.2.2.2.2.2.2.2.1]
  exact (congrArg (gradQ m c) g).symm

theorem dk_value : (dats m 0 c).arrAt 9 (cfgT (F := Ideal)).N = gradK m c := by
  refine (dats m 0 c).arrAt_eq_of_covers 9 (gradK m c) (of_decide_eq_true (by sl_kernel_rfl)) fun t hf y => ?_
  blk_simp
  rw [after_9]
  have h3 : bq t = 3 := by
    by_contra k
    rw [flush9 t fun e => k (congrArg BitVec.toNat e)] at hf
    exact Bool.noConfusion hf
  obtain ⟨a, j, d, rfl⟩ : ∃ a j d, (y : S1x2048x256.Idx) = ix3 a j d := ⟨_, _, _, eq_ix3 _⟩
  obtain rfl : a = 0 := Subsingleton.elim _ _
  refine ((inv m c hp t).2.1 j d).trans ?_
  rw [h3, blockSum_all]
  have g : (((cfgT (F := Ideal)).win 9).blk t).view.emb (ix3 0 j d) = ix3 (hd t) (rowK t j) d := by blk_ext [(idx t).2.2.2.2.2.2.2.2.2.1, rowK]
  exact (congrArg (gradK m c) g).symm

theorem dv_value : (dats m 0 c).arrAt 10 (cfgT (F := Ideal)).N = gradV m c := by
  refine (dats m 0 c).arrAt_eq_of_covers 10 (gradV m c) (of_decide_eq_true (by sl_kernel_rfl)) fun t hf y => ?_
  blk_simp
  rw [after_10]
  have h3 : bq t = 3 := by
    by_contra k
    rw [flush10 t fun e => k (congrArg BitVec.toNat e)] at hf
    exact Bool.noConfusion hf
  obtain ⟨a, j, d, rfl⟩ : ∃ a j d, (y : S1x2048x128.Idx) = ix3 a j d := ⟨_, _, _, eq_ix3 _⟩
  obtain rfl : a = 0 := Subsingleton.elim _ _
  refine ((inv m c hp t).2.2 j d).trans ?_
  rw [h3, blockSum_all]
  have g : (((cfgT (F := Ideal)).win 10).blk t).view.emb (ix3 0 j d) = ix3 (hd t) (rowK t j) d := by blk_ext [(idx t).2.2.2.2.2.2.2.2.2.2, rowK]
  exact (congrArg (gradV m c) g).symm

end Cert.AttProof

end
-- ==== Proof.AttHost.lean ====
/-
The arrays the host hands to the attention gradient's kernel call, over the reals.
-/
module

public import proofs.«01_k».proof.Proof.AttReal
public import proofs.«01_k».proof.Proof.AttValue
public import Idealize.ShloMosaic.Lib.StableHlo.ReadAt

@[expose] public section

set_option maxRecDepth 16384

noncomputable section

namespace Cert.AttProof
open Idealize.ShloMosaic Idealize.ShloMosaic.TcCoe
open Cert.AttKIdeal Cert.AttKIdeal.Gen
open Cert.AttRIdeal.Read Cert.AttReal

/-- The rows' log-sums and the rows' sums of `do · o`, as the host computes them. -/
def lse (a0 a1 : (⟨S8192x8x192, .f32⟩ : BufTy).Contents (Elt Ideal)) (a4 : (⟨S8192, .i32⟩ : BufTy).Contents (Elt Ideal)) : (⟨S8x8192, .f32⟩ : BufTy).Contents (Elt Ideal) :=
  addf (F := Ideal) (val_main_v9 (F := Ideal) a0 a1 a4) (Host.log (Host.reduceAdd (Host.exp (subf (val_main_v8_0 (F := Ideal) a0 a1 a4)
    (broadcastInDim S8x8192x8192 ![0, 1, 2] bcast_S8x8192x1_S8x8192x8192_0_1_2
      (broadcastInDim S8x8192x1 ![0, 1] bcast_S8x8192_S8x8192x1_0_1 (val_main_v9 (F := Ideal) a0 a1 a4)))))
    (constant S_ .f32 0#32) reducesTo_S8x8192x8192_S8x8192_d2 h_S_))
def delta (a0 a1 : (⟨S8192x8x192, .f32⟩ : BufTy).Contents (Elt Ideal)) (a2 : (⟨S8192x8x128, .f32⟩ : BufTy).Contents (Elt Ideal))
    (a3 : (⟨S8192x1024, .f32⟩ : BufTy).Contents (Elt Ideal)) (a4 : (⟨S8192, .i32⟩ : BufTy).Contents (Elt Ideal)) : (⟨S8x8192, .f32⟩ : BufTy).Contents (Elt Ideal) :=
  transpose S8x8192 [1, 0] (Host.reduceAdd (F := Ideal) (mulf (val_main_v38 (F := Ideal) a0 a1 a2 a4) (val_main_v40 (F := Ideal) a3))
    (constant S_ .f32 0#32) reducesTo_S8192x8x128_S8192x8_d2 h_S_) transposes_S8192x8_S8x8192_1_0

section Host
variable (m : (ℓ : Loc nD τ sig) → Buf (Elt Ideal) ℓ) (c : Dev nD)
abbrev A0 : (⟨S8192x8x192, .f32⟩ : BufTy).Contents (Elt Ideal) := m (c.tc.loc main_arg0)
abbrev A1 : (⟨S8192x8x192, .f32⟩ : BufTy).Contents (Elt Ideal) := m (c.tc.loc main_arg1)
abbrev A2 : (⟨S8192x8x128, .f32⟩ : BufTy).Contents (Elt Ideal) := m (c.tc.loc main_arg2)
abbrev A3 : (⟨S8192x1024, .f32⟩ : BufTy).Contents (Elt Ideal) := m (c.tc.loc main_arg3)
abbrev A4 : (⟨S8192, .i32⟩ : BufTy).Contents (Elt Ideal) := m (c.tc.loc main_arg4)

theorem host_Do : Do m c = A3 m c := by
  unfold Do V
  after_reads_simp
theorem host_Pq (i : Fin 8192) : Pq m c (ix2 0 i) = A4 m c (ix1 i) := by
  unfold Pq V
  after_reads_at
theorem host_Pk (i : Fin 8192) : Pk m c (ix2 i 0) = A4 m c (ix1 i) := by
  unfold Pk V
  after_reads_at
theorem host_Qp (h : Fin 8) (i : Fin 8192) (x : Fin 256) : Qp m c (ix3 h i x) =
    if w : x.val < 192 then Ideal.div (A0 m c (ix3 i h ⟨x.val, w⟩) * Ideal.ofBits .f32 1033096506#32) (Ideal.log (Ideal.ofBits .f32 1073741824#32))
    else FloatOps.sitofp (F := Ideal) .f32 (0#32 : BitVec 32) := by
  unfold Qp V
  after_reads_at
theorem host_Kp (h : Fin 8) (i : Fin 8192) (x : Fin 256) : Kp m c (ix3 h i x) =
    if w : x.val < 192 then A1 m c (ix3 i h ⟨x.val, w⟩) else FloatOps.sitofp (F := Ideal) .f32 (0#32 : BitVec 32) := by
  unfold Kp V
  after_reads_at
theorem host_Vp (h : Fin 8) (i : Fin 8192) (x : Fin 128) : Vp m c (ix3 h i x) = A2 m c (ix3 i h x) := by
  unfold Vp V
  after_reads_at
theorem host_Ls : Ls m c = broadcastInDim S8x1x8192 ![0, 2] bcast_S8x8192_S8x1x8192_0_2
    (Host.divf (lse (A0 m c) (A1 m c) (A4 m c)) (broadcastInDim S8x8192 ![] bcast_S_S8x8192 (Host.log (constant (F := Ideal) S_ .f32 1073741824#32)))) := by
  unfold Ls V
  after_reads_simp
  simp -implicitDefEqProofs only [StableHlo.TRef.toBuf, StableHlo.TRef.ofBuf, cast_cast, cast_eq]
  rfl
theorem host_De : De m c = broadcastInDim S8x1x8192 ![0, 2] bcast_S8x8192_S8x1x8192_0_2
    (delta (A0 m c) (A1 m c) (A2 m c) (A3 m c) (A4 m c)) := by
  unfold De V
  after_reads_simp
  simp -implicitDefEqProofs only [StableHlo.TRef.toBuf, StableHlo.TRef.ofBuf, cast_cast, cast_eq]
  rfl
end Host

/-! ## Over the reals -/

section Real
variable (q k : S8192x8x192.Idx → ℝ) (v : S8192x8x128.Idx → ℝ) (g : S8192x1024.Idx → ℝ) (p : S8192.Idx → BitVec 32)
variable (hp : ∀ i j : Fin 8192, IntOp.cmpi CmpIPredicate.sge (p (ix1 i)) (p (ix1 j)) = if j ≤ i then 1#1 else 0#1)

theorem lse_row (x8 : (⟨S8x8192x8192, .f32⟩ : BufTy).Contents (Elt Ideal)) (x9 : (⟨S8x8192, .f32⟩ : BufTy).Contents (Elt Ideal)) (h : Fin 8) (i : Fin 8192)
    (s : Fin 8192 → EReal) (a : EReal) (e8 : ∀ j, (x8 (ix3 h i j) : EReal) = s j) (e9 : (x9 (ix2 h i) : EReal) = a) :
    (addf (F := Ideal) x9 (Host.log (Host.reduceAdd (Host.exp (subf x8
      (broadcastInDim S8x8192x8192 ![0, 1, 2] bcast_S8x8192x1_S8x8192x8192_0_1_2
        (broadcastInDim S8x8192x1 ![0, 1] bcast_S8x8192_S8x8192x1_0_1 x9))))
      (constant S_ .f32 0#32) reducesTo_S8x8192x8192_S8x8192_d2 h_S_)) : S8x8192.Idx → EReal) (ix2 h i) = a + Ideal.log (∑ j, Ideal.exp (s j - a)) := by
  subst e9
  obtain rfl : (fun j => (x8 (ix3 h i j) : EReal)) = s := funext e8
  pointwise
include hp in
theorem lse_at (h : Fin 8) (i : Fin 8192) : (lse (up q) (up k) p : S8x8192.Idx → EReal) (ix2 h i) = ((M q k h i + Real.log (L q k h i) : ℝ) : EReal) := by
  refine (lse_row _ _ h i _ _ (r8 q k p hp h i) (r9 q k p hp h i)).trans ?_
  simp only [exp_sc]
  rw [coe_sum, EReal.coe_add, Ideal.log_coe, if_neg]
  · rfl
  · exact not_le.2 (L_pos q k h i)
include hp in
theorem r38 (i : Fin 8192) (h : Fin 8) (x : Fin 128) : (val_main_v38 (F := Ideal) (up q) (up k) (up v) p : S8192x8x128.Idx → EReal) (ix3 i h x) =
    ((∑ j, v (ix3 j h x) * W q k h i j : ℝ) : EReal) := by
  unfold val_main_v38 val_main_v37
  pointwise [r33 q k p hp]
  simp only [up, ← EReal.coe_mul, coe_sum]
include hp in
theorem delta_at (h : Fin 8) (i : Fin 8192) : (delta (up q) (up k) (up v) (up g) p : S8x8192.Idx → EReal) (ix2 h i) = (D q k v g h i : EReal) := by
  unfold delta val_main_v40
  pointwise [r38 q k v p hp]
  simp only [up, ← EReal.coe_mul, coe_sum]
  refine congrArg (fun x : ℝ => (x : EReal)) ?_
  simp only [D, dW, Finset.mul_sum, Finset.sum_mul]
  rw [Finset.sum_comm]
  refine Finset.sum_congr rfl fun j _ => Finset.sum_congr rfl fun x _ => ?_
  show v (ix3 j h x) * W q k h i j * g (ix2 i (col h x)) = _
  ring

/-- The columns of queries and keys padded by zeros. -/
def qz (h : Fin 8) (i : Fin 8192) (x : Fin 256) : ℝ := if w : x.val < 192 then q (ix3 i h ⟨x.val, w⟩) * σ / Real.log 2 else 0
def kz (h : Fin 8) (j : Fin 8192) (x : Fin 256) : ℝ := if w : x.val < 192 then k (ix3 j h ⟨x.val, w⟩) else 0

theorem sum_z (h : Fin 8) (i j : Fin 8192) : ∑ x, kz k h j x * qz q h i x = S q k h i j / Real.log 2 := by
  refine (Fin.sum_univ_add (a := 192) (b := 64) fun x : Fin 256 => kz k h j x * qz q h i x).trans ?_
  rw [S, Finset.sum_mul, Finset.sum_div]
  rw [show (∑ x : Fin 64, kz k h j (Fin.natAdd 192 x) * qz q h i (Fin.natAdd 192 x)) = 0 from
    Finset.sum_eq_zero fun x _ => by rw [kz, dif_neg (by simp), zero_mul], add_zero]
  refine Finset.sum_congr rfl fun x _ => ?_
  have w : (Fin.castAdd 64 x : Fin 256).val < 192 := x.isLt
  rw [kz, dif_pos w, qz, dif_pos w]
  show k (ix3 j h x) * (q (ix3 i h x) * σ / Real.log 2) = _
  ring

theorem exp2_W (h : Fin 8) (i j : Fin 8192) (c : j ≤ i) :
    FloatOps.exp2 (F := Ideal) (φ := .f32) (((S q k h i j / Real.log 2 : ℝ) : EReal) - (((M q k h i + Real.log (L q k h i)) / Real.log 2 : ℝ) : EReal)) = (W q k h i j : EReal) := by
  rw [← EReal.coe_sub]
  refine (Ideal.exp2_coe _).trans (congrArg (fun x : ℝ => (x : EReal)) ?_)
  show (2 : ℝ) ^ (_ : ℝ) = _
  rw [W, E, if_pos c, Real.rpow_def_of_pos two_pos, ← sub_div, mul_div_cancel₀ _ (Real.log_pos one_lt_two).ne',
    ← sub_sub, Real.exp_sub, Real.exp_log (L_pos q k h i)]
end Real

section Match
variable (m : (ℓ : Loc nD τ sig) → Buf (Elt Ideal) ℓ) (c : Dev nD)
variable (q k : S8192x8x192.Idx → ℝ) (v : S8192x8x128.Idx → ℝ) (g : S8192x1024.Idx → ℝ) (p : S8192.Idx → BitVec 32)
variable (hp : ∀ i j : Fin 8192, IntOp.cmpi CmpIPredicate.sge (p (ix1 i)) (p (ix1 j)) = if j ≤ i then 1#1 else 0#1)
variable (h0 : A0 m c = up q) (h1 : A1 m c = up k) (h2 : A2 m c = up v) (h3 : A3 m c = up g) (h4 : A4 m c = p)

theorem zero_word : FloatOps.sitofp (F := Ideal) .f32 (0#32 : BitVec 32) = ((0 : ℝ) : EReal) := by
  show (((0#32 : BitVec 32).toInt : ℝ) : EReal) = _
  simp
include h0 in
theorem Qp_at (h : Fin 8) (i : Fin 8192) (x : Fin 256) : Qp m c (ix3 h i x) = (qz q h i x : EReal) := by
  rw [host_Qp, h0, qz]
  split
  · rw [scale.1, log_two, ← EReal.coe_mul, div_real (Real.log_pos one_lt_two).ne']
  · exact zero_word
include h1 in
theorem Kp_at (h : Fin 8) (i : Fin 8192) (x : Fin 256) : Kp m c (ix3 h i x) = (kz k h i x : EReal) := by
  rw [host_Kp, h1, kz]
  split
  · rfl
  · exact zero_word
include h2 in
theorem Vp_at (h : Fin 8) (i : Fin 8192) (x : Fin 128) : Vp m c (ix3 h i x) = (v (ix3 i h x) : EReal) := by
  rw [host_Vp, h2]
include h3 in
theorem Do_at (i : Fin 8192) (x : Fin 1024) : Do m c (ix2 i x) = (g (ix2 i x) : EReal) := by
  rw [host_Do, h3]
include h0 h1 h4 hp in
theorem Ls_at (h : Fin 8) (i : Fin 8192) : Ls m c (ix3 h 0 i) = (((M q k h i + Real.log (L q k h i)) / Real.log 2 : ℝ) : EReal) := by
  rw [host_Ls, h0, h1, h4]
  pointwise [lse_at q k p hp]
  rw [log_two, div_real (Real.log_pos one_lt_two).ne']
include h0 h1 h2 h3 h4 hp in
theorem De_at (h : Fin 8) (i : Fin 8192) : De m c (ix3 h 0 i) = (D q k v g h i : EReal) := by
  rw [host_De, h0, h1, h2, h3, h4]
  pointwise [delta_at q k v g p hp]
include h0 h1 h4 hp in
theorem P_at (h : Fin 8) (i j : Fin 8192) : P m c h i j = (W q k h i j : EReal) := by
  unfold P
  by_cases w : j ≤ i
  · rw [if_pos w, Ls_at m c q k p hp h0 h1 h4, ← exp2_W q k h i j w, ← sum_z]
    simp only [Qp_at m c q h0, Kp_at m c k h1, ← EReal.coe_mul, coe_sum]
  · rw [if_neg w, W, E, if_neg w, zero_div]; rfl
include h0 h1 h2 h3 h4 hp in
theorem G_at (h : Fin 8) (i j : Fin 8192) : G m c h i j = (dS q k v g h i j : EReal) := by
  unfold G
  rw [P_at m c q k p hp h0 h1 h4, De_at m c q k v g p hp h0 h1 h2 h3 h4]
  simp only [Vp_at m c v h2, Do_at m c g h3, ← EReal.coe_mul, coe_sum, ← EReal.coe_sub]
  refine congrArg (fun x : ℝ => (x : EReal)) ?_
  rw [dS, dW]
  exact congrArg (fun x => W q k h i j * (x - _)) (Finset.sum_congr rfl fun x _ => mul_comm _ _)

/-- A sum against a padded column. -/
theorem pad_sum (f : Fin 8192 → ℝ) (u : Fin 8192 → Fin 192 → ℝ) (x : Fin 256) :
    (∑ j, ((f j : ℝ) : EReal) * ((if w : x.val < 192 then u j ⟨x.val, w⟩ else 0 : ℝ) : EReal)) =
      if w : x.val < 192 then ((∑ j, f j * u j ⟨x.val, w⟩ : ℝ) : EReal) else 0 := by
  simp only [← EReal.coe_mul]
  rw [coe_sum]
  split
  · rfl
  · simp

include h0 h1 h2 h3 h4 hp in
theorem gradQ_eq : gradQ m c = (val_main_v67 (F := Ideal) (up q) (up k) (up v) (up g) p : S8x8192x256.Idx → EReal) := by
  funext y
  obtain ⟨h, i, x, rfl⟩ : ∃ (h : Fin 8) (i : Fin 8192) (x : Fin 256), y = ix3 h i x := ⟨_, _, _, eq_ix3 y⟩
  rw [r67 q k v g p hp]
  show ∑ j, Tq m c h i x j = _
  simp only [Tq, G_at m c q k v g p hp h0 h1 h2 h3 h4, Kp_at m c k h1, kz]
  exact pad_sum (fun j => dS q k v g h i j) (fun j x => k (ix3 j h x)) x
include h0 h1 h2 h3 h4 hp in
theorem gradK_eq : gradK m c = (val_main_v72 (F := Ideal) (up q) (up k) (up v) (up g) p : S8x8192x256.Idx → EReal) := by
  funext y
  obtain ⟨h, j, x, rfl⟩ : ∃ (h : Fin 8) (j : Fin 8192) (x : Fin 256), y = ix3 h j x := ⟨_, _, _, eq_ix3 y⟩
  rw [r72 q k v g p hp]
  show ∑ i, Tk m c h j x i = _
  simp only [Tk, G_at m c q k v g p hp h0 h1 h2 h3 h4, Qp_at m c q h0, qz]
  refine (pad_sum (fun i => dS q k v g h i j) (fun i x => q (ix3 i h x) * σ / Real.log 2) x).trans
    (dite_congr rfl (fun w => congrArg (fun x : ℝ => (x : EReal)) ?_) fun _ => rfl)
  rw [gk, Finset.sum_mul]
  exact Finset.sum_congr rfl fun i _ => by ring
include h0 h1 h3 h4 hp in
theorem gradV_eq : gradV m c = (val_main_v73 (F := Ideal) (up q) (up k) (up g) p : S8x8192x128.Idx → EReal) := by
  funext y
  obtain ⟨h, j, x, rfl⟩ : ∃ (h : Fin 8) (j : Fin 8192) (x : Fin 128), y = ix3 h j x := ⟨_, _, _, eq_ix3 y⟩
  rw [r73 q k g p hp]
  show ∑ i, Tv m c h j x i = _
  simp only [Tv, P_at m c q k p hp h0 h1 h4, Do_at m c g h3, ← EReal.coe_mul, coe_sum]
  rfl
end Match
end Cert.AttProof
-- ==== Proof.AttAgree.lean ====
/-
The attention gradient: its frames, and its three results as those of the reference.
-/
module

public import proofs.«01_k».proof.Defs
public import proofs.«01_k».proof.Proof.AttPre
public import proofs.«01_k».proof.Proof.AttHost
public import proofs.«01_k».proof.Proof.Gen.AttRIdeal.Run

@[expose] public section

set_option maxRecDepth 16384

noncomputable section

namespace Cert.AttProof
open Idealize.ShloMosaic Idealize.ShloMosaic.TcCoe Idealize.SL.Sem
open Cert.AttKIdeal Cert.AttKIdeal.Gen
open Cert.AttReal

theorem reference_frame : Cert.quiescent_AttRIdeal := fun m g _ =>
  (θ_run _ _ _).mono (fun r h => ⟨fun c => (h c).2.2.2, sem_eq_zero_of_no_sems (by decide) r.2⟩) (Cert.AttRIdeal.Value.run (F := Ideal) m g)
theorem reference_frame_pre [Cert.Pre_attn_ok.Facts] : Cert.quiescent_AttRIdeal_pre_attn_ok := fun m g _ => reference_frame m g trivial

section Results
variable (m : (ℓ : Loc nD τ sig) → Buf (Elt Ideal) ℓ) (c : Dev nD)
variable (q k : S8192x8x192.Idx → ℝ) (v : S8192x8x128.Idx → ℝ) (g : S8192x1024.Idx → ℝ) (p : S8192.Idx → BitVec 32)
variable (hp : ∀ i j : Fin 8192, IntOp.cmpi CmpIPredicate.sge (p (ix1 i)) (p (ix1 j)) = if j ≤ i then 1#1 else 0#1)
variable (h0 : A0 m c = up q) (h1 : A1 m c = up k) (h2 : A2 m c = up v) (h3 : A3 m c = up g) (h4 : A4 m c = p)

include hp h4 in
theorem rows (I J : Fin 8192) : IntOp.cmpi CmpIPredicate.sge (Pq m c (ix2 0 I)) (Pk m c (ix2 J 0)) = if J ≤ I then 1#1 else 0#1 := by
  rw [host_Pq, host_Pk, h4]; exact hp I J
include hp h0 h1 h2 h3 h4
theorem q_result : (dats m 0 c).arrAt 8 (cfgT (F := Ideal)).N = Cert.AttRIdeal.Read.val_main_v67 (F := Ideal) (A0 m c) (A1 m c) (A2 m c) (A3 m c) (A4 m c) := by
  rw [dq_value m c (rows m c p hp h4), gradQ_eq m c q k v g p hp h0 h1 h2 h3 h4, h0, h1, h2, h3, h4]
theorem k_result : (dats m 0 c).arrAt 9 (cfgT (F := Ideal)).N = Cert.AttRIdeal.Read.val_main_v72 (F := Ideal) (A0 m c) (A1 m c) (A2 m c) (A3 m c) (A4 m c) := by
  rw [dk_value m c (rows m c p hp h4), gradK_eq m c q k v g p hp h0 h1 h2 h3 h4, h0, h1, h2, h3, h4]
omit h2 in
theorem v_result : (dats m 0 c).arrAt 10 (cfgT (F := Ideal)).N = Cert.AttRIdeal.Read.val_main_v73 (F := Ideal) (A0 m c) (A1 m c) (A3 m c) (A4 m c) := by
  rw [dv_value m c (rows m c p hp h4), gradV_eq m c q k g p hp h0 h1 h3 h4, h0, h1, h3, h4]
end Results

set_option maxHeartbeats 2000000 in
/-- Kernel and reference agree. -/
theorem agree : Cert.algebraic_AttKIdeal_AttRIdeal_pre_attn_ok := by
  intro m g m' g' pre hag
  refine ⟨fun c => (dats m 0 c).arrAt 8 (cfgT (F := Ideal)).N, fun c => (dats m 0 c).arrAt 9 (cfgT (F := Ideal)).N,
    fun c => (dats m 0 c).arrAt 10 (cfgT (F := Ideal)).N, ?_, ?_⟩
  · refine (θ_run _ _ _).mono (fun r h c => ?_) (run_main (F := Ideal) m g)
    exact ⟨(h.1 c).1 8, (h.1 c).1 9, (h.1 c).1 10, kept m r h.1 c⟩
  · refine (θ_run _ _ _).mono (fun r h c => ?_) (Cert.AttRIdeal.Value.run (F := Ideal) m' g')
    obtain ⟨⟨q, h0⟩, ⟨k, h1⟩, ⟨v, h2⟩, ⟨d, h3⟩, hp⟩ := finite _ _ _ _ _ (pre c)
    obtain ⟨e0, e1, e2, e3, e4⟩ := hag c
    refine ⟨(h c).1.trans ?_, (h c).2.1.trans ?_, (h c).2.2.1.trans ?_, (h c).2.2.2⟩
    · rw [Cert.AttRIdeal.Read.val_main_v67_eq, e0, e1, e2, e3, e4]
      exact (q_result m c q k v d _ hp h0 h1 h2 h3 rfl).symm
    · rw [Cert.AttRIdeal.Read.val_main_v72_eq, e0, e1, e2, e3, e4]
      exact (k_result m c q k v d _ hp h0 h1 h2 h3 rfl).symm
    · rw [Cert.AttRIdeal.Read.val_main_v73_eq, e0, e1, e3, e4]
      exact (v_result m c q k d _ hp h0 h1 h3 rfl).symm
end Cert.AttProof
-- ==== Proof.Norm.lean ====
/- The gradient of the norm: its value, and the kernel's arithmetic of one block, whatever product feeds it. -/
module

public import proofs.«01_k».proof.Proof.Gen.RmsKIdeal.Value
public import proofs.«01_k».proof.Proof.AttReal
public import Idealize.ShloMosaic.Lib.Pipeline.ValueKit
public import Idealize.ShloMosaic.Lib.Pointwise

@[expose] public section

set_option maxRecDepth 16384

noncomputable section

namespace Cert.Norm

open Idealize.ShloMosaic
open Cert.RmsKIdeal Cert.RmsKIdeal.Gen
open Cert.AttReal (coe_sum div_real)

theorem width : (Ideal.ofBits .f32 0x44800000#32 : EReal) = ((1024 : ℝ) : EReal) := by
  simp [Ideal.ofBits, Ideal.ieee, -EReal.coe_mul]; norm_num
theorem minus_half : (Ideal.ofBits .f32 0xBF000000#32 : EReal) = ((-1 / 2 : ℝ) : EReal) := by
  simp [Ideal.ofBits, Ideal.ieee, -EReal.coe_mul, -EReal.coe_neg]; norm_num
/-- What keeps the root away from zero. -/
def ε : ℝ := (Ideal.ofBits .f32 0x358637BD#32 : EReal).toReal
theorem eps : (Ideal.ofBits .f32 0x358637BD#32 : EReal) = (ε : EReal) ∧ 0 < ε := by
  have e : (Ideal.ofBits .f32 0x358637BD#32 : EReal) = ((8796093 / 2 ^ 43 : ℝ) : EReal) := by
    simp [Ideal.ofBits, Ideal.ieee, -EReal.coe_mul]; norm_num
  have g : ε = 8796093 / 2 ^ 43 := by rw [ε, e, EReal.toReal_coe]
  exact ⟨e.trans (by rw [g]), by rw [g]; norm_num⟩
theorem rsqrt_real {y : ℝ} (h : 0 < y) : Ideal.rsqrt (y : EReal) = (((Real.sqrt y)⁻¹ : ℝ) : EReal) := by
  rw [Ideal.rsqrt_coe, if_neg (not_lt.2 h.le), if_neg h.ne']

section Values

variable (p : Fin 8192 → Fin 1024 → ℝ) (x : S8192x1024.Idx → ℝ) (g : S1024.Idx → ℝ) (d : S8192x1024.Idx → EReal)

/-- The mean square of a row, and its inverse root. -/
def ms (r : Fin 8192) : ℝ := (∑ q : Fin 1024, x (ix2 r q) * x (ix2 r q)) / 1024 + ε
def inv (r : Fin 8192) : ℝ := (Real.sqrt (ms x r))⁻¹
theorem ms_pos (r : Fin 8192) : 0 < ms x r :=
  add_pos_of_nonneg_of_pos (div_nonneg (Finset.sum_nonneg fun q _ => mul_self_nonneg _) (by norm_num)) eps.2
theorem inv_sq (r : Fin 8192) : inv x r * inv x r = (ms x r)⁻¹ := by
  rw [inv, ← mul_inv, Real.mul_self_sqrt (ms_pos x r).le]
/-- The gradient through the norm, and that of its scale. -/
def along (r : Fin 8192) : ℝ := ∑ q : Fin 1024, p r q * g (ix1 q) * (x (ix2 r q) * inv x r)
def dnorm (r : Fin 8192) (q : Fin 1024) : ℝ := inv x r * (p r q * g (ix1 q) - x (ix2 r q) * inv x r * (along p x g r / 1024))
def dres (i : S8192x1024.Idx) : EReal := d i + (dnorm p x g (i 0) (i 1) : EReal)
def dg (i : S1x1024.Idx) : EReal := ((∑ r : Fin 8192, p r (i 1) * (x (ix2 r (i 1)) * inv x r) : ℝ) : EReal)

/-- The same, as the derivative of the inverse root has it. -/
theorem dnorm_eq (r : Fin 8192) (q : Fin 1024) : p r q * g (ix1 q) * inv x r + (x (ix2 r q) * ((∑ q : Fin 1024, x (ix2 r q) * (p r q * g (ix1 q))) * (-1 / 2 * (inv x r / ms x r)) / 1024) + (∑ q : Fin 1024, x (ix2 r q) * (p r q * g (ix1 q))) * (-1 / 2 * (inv x r / ms x r)) / 1024 * x (ix2 r q))
    = dnorm p x g r q := by
  have e : along p x g r = (∑ q : Fin 1024, x (ix2 r q) * (p r q * g (ix1 q))) * inv x r := by
    rw [Finset.sum_mul]
    exact Finset.sum_congr rfl fun q _ => by ring
  have n := (ms_pos x r).ne'
  have k : inv x r * inv x r * ms x r = 1 := by rw [inv_sq]; field_simp
  rw [dnorm, e, div_eq_mul_inv (inv x r), ← inv_sq]
  ring

end Values

/-- A row's share of the scale's gradient. -/
def line (p : Fin 8192 → Fin 1024 → ℝ) (x : S8192x1024.Idx → ℝ) (q : Fin 1024) (n : ℕ) : ℝ :=
  if h : n < 8192 then p ⟨n, h⟩ q * (x (ix2 ⟨n, h⟩ q) * inv x ⟨n, h⟩) else 0

theorem sum_lines (p : Fin 8192 → Fin 1024 → ℝ) (x : S8192x1024.Idx → ℝ) (j : S1x1024.Idx) :
    ∑ t ∈ Finset.range 16, ((∑ a : Fin 512, line p x (j 1) (t * 512 + a.val) : ℝ) : EReal) = dg p x j := by
  rw [← Fin.sum_univ_eq_sum_range (fun t => ((∑ a : Fin 512, line p x (j 1) (t * 512 + a.val) : ℝ) : EReal)) 16, coe_sum]
  unfold dg
  refine congrArg _ ((Fin.sum_univ_univ_mul_add 16 512 (line p x (j 1))).trans ?_)
  exact Finset.sum_congr rfl fun r _ => dif_pos r.isLt

section Block

variable {x2 x4 : S512x1024.Idx → EReal} {x3 : S1x1024.Idx → EReal} {x g : Fin 1024 → ℝ} {a : Fin 512} (h2 : ∀ q, x2 (ix2 a q) = (x q : EReal))

include h2 in
theorem inv_at : k0_pay6 (F := Ideal) x2 (ix2 a 0) = (((Real.sqrt ((∑ q, x q * x q) / 1024 + ε))⁻¹ : ℝ) : EReal) := by
  unfold k0_pay6
  pointwise [h2]
  rw [width, eps.1]
  simp only [← EReal.coe_mul, coe_sum]
  rw [div_real (by norm_num), ← EReal.coe_add]
  exact rsqrt_real (add_pos_of_nonneg_of_pos (div_nonneg (Finset.sum_nonneg fun q _ => mul_self_nonneg _) (by norm_num)) eps.2)
include h2 in
theorem hat_at (q : Fin 1024) : k0_pay7 (F := Ideal) x2 (ix2 a q) = ((x q * (Real.sqrt ((∑ q, x q * x q) / 1024 + ε))⁻¹ : ℝ) : EReal) := by
  unfold k0_pay7
  pointwise [h2, inv_at h2]
  rw [← EReal.coe_mul]
theorem grad_at (v : S512x1024.Idx → EReal) (r : S512x1.Idx → EReal) (z d : S512x1024.Idx → EReal) (y : S1x1024.Idx → EReal) (a : Fin 512) {p s g : Fin 1024 → ℝ} {i : ℝ}
    (hv : ∀ q, v (ix2 a q) = (p q : EReal)) (hr : r (ix2 a 0) = (i : EReal)) (hz : ∀ q, z (ix2 a q) = (s q : EReal)) (hy : ∀ q, y (ix2 0 q) = (g q : EReal)) (q : Fin 1024) :
    k0_pay1 (F := Ideal) v r z y d (ix2 a q) = d (ix2 a q) + ((i * (p q * g q - s q * ((∑ q, p q * g q * s q) / 1024)) : ℝ) : EReal) := by
  unfold k0_pay1
  pointwise [hv, hr, hz, hy]
  rw [width]
  simp only [← EReal.coe_mul, coe_sum]
  rw [div_real (by norm_num), ← EReal.coe_mul, ← EReal.coe_sub, ← EReal.coe_mul]
theorem cast_at (v : S512x1024.Idx → EReal) (r : S512x1.Idx → EReal) (z d : S512x1024.Idx → EReal) (y : S1x1024.Idx → EReal) (i : S512x1024.Idx) :
    k0_pay2 (F := Ideal) v r z y d i = k0_pay1 (F := Ideal) v r z y d i := by
  unfold k0_pay2
  pointwise
theorem scale_at (x3 : S1x1024.Idx → EReal) (q : Fin 1024) : k0_pay8 (F := Ideal) x3 (ix2 0 q) = x3 (ix2 0 q) := by
  unfold k0_pay8
  pointwise
theorem next_at (v z : S1x1024.Idx → EReal) (i : S1x1024.Idx) : k0_pay3 (F := Ideal) v z i = z i + v i := by
  unfold k0_pay3
  pointwise

end Block

/-- The gradient's block, at one element. -/
theorem dres_pay {v x2 x4 : S512x1024.Idx → EReal} {x3 : S1x1024.Idx → EReal} {p : Fin 8192 → Fin 1024 → ℝ} {x : S8192x1024.Idx → ℝ} {g : S1024.Idx → ℝ} {d : S8192x1024.Idx → EReal}
    {a : Fin 512} {r : Fin 8192} (hv : ∀ q, v (ix2 a q) = (p r q : EReal)) (h2 : ∀ q, x2 (ix2 a q) = (x (ix2 r q) : EReal)) (h3 : ∀ q, x3 (ix2 0 q) = (g (ix1 q) : EReal))
    (q : Fin 1024) (h4 : x4 (ix2 a q) = d (ix2 r q)) :
    k0_pay1 (F := Ideal) v (k0_pay6 x2) (k0_pay7 x2) (k0_pay8 x3) x4 (ix2 a q) = dres p x g d (ix2 r q) := by
  rw [grad_at _ _ _ _ _ a hv (inv_at h2) (hat_at h2) (fun q => (scale_at x3 q).trans (h3 q)), h4]
  rfl

end Cert.Norm
-- ==== Proof.Rms.lean ====
/- The gradient of the norm, fused with the product that feeds it. -/
module

public import proofs.«01_k».proof.Defs
public import proofs.«01_k».proof.Proof.Gen.Pre_rms_ok
public import proofs.«01_k».proof.Proof.Gen.RmsKIdeal.Value
public import proofs.«01_k».proof.Proof.Gen.RmsRIdeal.Run
public import proofs.«01_k».proof.Proof.Gen.RmsRIdeal.Read
public import proofs.«01_k».proof.Proof.AttPre
public import proofs.«01_k».proof.Proof.AttReal
public import proofs.«01_k».proof.Proof.Norm
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.RmsPre

open Idealize.ShloMosaic
open Cert.Pre_rms_ok Cert.Pre_rms_ok.Facts
open Cert.AttReal (real_of_lt)

variable [Facts] (a0 : FVec Ideal S8192x4096 .f32) (a1 : FVec Ideal S1024x4096 .f32) (a2 : FVec Ideal S8192x1024 .f32) (a3 : FVec Ideal S1024 .f32) (a4 : FVec Ideal S8192x1024 .f32)

/-- What the precondition says, element by element. -/
theorem split (h : fn (F := Ideal) a0 a1 a2 a3 a4 = fun _ => 1#1) :
    (∀ i, cmpf .olt (Host.absf a0) (broadcastInDim S8192x4096 ![] bcast_S_S8192x4096 (constant (F := Ideal) S_ .f32 0x7F800000#32)) i = 1#1) ∧
    (∀ i, cmpf .olt (Host.absf a1) (broadcastInDim S1024x4096 ![] bcast_S_S1024x4096 (constant (F := Ideal) S_ .f32 0x7F800000#32)) i = 1#1) ∧
    (∀ i, cmpf .olt (Host.absf a2) (broadcastInDim S8192x1024 ![] bcast_S_S8192x1024 (constant (F := Ideal) S_ .f32 0x7F800000#32)) i = 1#1) ∧
    (∀ i, cmpf .olt (Host.absf a3) (broadcastInDim S1024 ![] bcast_S_S1024 (constant (F := Ideal) S_ .f32 0x7F800000#32)) i = 1#1) := by
  have hz := congrFun h (fun a => a.elim0)
  obtain ⟨hz, e3⟩ := IntOp.andi_eq_one.1 hz
  obtain ⟨hz, e2⟩ := IntOp.andi_eq_one.1 hz
  obtain ⟨e0, e1⟩ := IntOp.andi_eq_one.1 hz
  haveI : Subsingleton S_.Idx := ⟨fun a b => funext fun d => d.elim0⟩
  exact ⟨Host.reduce_andi_all _ _ _ _ _ e0, Host.reduce_andi_all _ _ _ _ _ e1, Host.reduce_andi_all _ _ _ _ _ e2, Host.reduce_andi_all _ _ _ _ _ e3⟩

theorem finite (h : fn (F := Ideal) a0 a1 a2 a3 a4 = fun _ => 1#1) :
    (∃ f : S8192x4096.Idx → ℝ, a0 = fun i => (f i : EReal)) ∧ (∃ f : S1024x4096.Idx → ℝ, a1 = fun i => (f i : EReal)) ∧
    (∃ f : S8192x1024.Idx → ℝ, a2 = fun i => (f i : EReal)) ∧ (∃ f : S1024.Idx → ℝ, a3 = fun i => (f i : EReal)) := by
  obtain ⟨e0, e1, e2, e3⟩ := split a0 a1 a2 a3 a4 h
  refine ⟨⟨fun i => (a0 i).toReal, funext fun i => real_of_lt (a0 i) ?_⟩, ⟨fun i => (a1 i).toReal, funext fun i => real_of_lt (a1 i) ?_⟩,
    ⟨fun i => (a2 i).toReal, funext fun i => real_of_lt (a2 i) ?_⟩, ⟨fun i => (a3 i).toReal, funext fun i => real_of_lt (a3 i) ?_⟩⟩
  · exact e0 i
  · exact e1 i
  · exact e2 i
  · exact e3 i

end Cert.RmsPre

namespace Cert.RmsProof

open Idealize.ShloMosaic Idealize.ShloMosaic.TcCoe Idealize.SL.Sem
open Cert.RmsKIdeal Cert.RmsKIdeal.Gen
open Cert.AttReal (coe_sum div_real zero)
open Cert.Norm

/-- The product. -/
def P (u : S8192x4096.Idx → ℝ) (w : S1024x4096.Idx → ℝ) (r : Fin 8192) (q : Fin 1024) : ℝ := ∑ k : Fin 4096, u (ix2 r k) * w (ix2 q k)

section Reference

open Cert.RmsRIdeal.Read
open Cert.AttReal (up)

variable (u : S8192x4096.Idx → ℝ) (w : S1024x4096.Idx → ℝ) (x : S8192x1024.Idx → ℝ) (g : S1024.Idx → ℝ) (d : S8192x1024.Idx → EReal)

theorem r6 (r : Fin 8192) : (val_main_v6 (F := Ideal) (up x) : Cert.RmsRIdeal.S8192x1.Idx → EReal) (ix2 r 0) = (ms x r : EReal) := by
  unfold val_main_v6 val_main_v5 val_main_v4 val_main_v3 val_main_v2 val_main_v1 val_main_v0 val_main_cst val_main_cst_0 val_main_cst_1
  pointwise
  rw [width, eps.1]
  simp only [up, ← EReal.coe_mul, coe_sum]
  rw [div_real (by norm_num), ← EReal.coe_add]
  rfl
theorem r7 (r : Fin 8192) : (val_main_v7 (F := Ideal) (up x) : Cert.RmsRIdeal.S8192x1.Idx → EReal) (ix2 r 0) = (inv x r : EReal) := by
  unfold val_main_v7
  pointwise [r6]
  exact rsqrt_real (ms_pos x r)
theorem r10 (r : Fin 8192) : (val_main_v10 (F := Ideal) (up x) : Cert.RmsRIdeal.S8192x1.Idx → EReal) (ix2 r 0) = ((-1 / 2 * (inv x r / ms x r) : ℝ) : EReal) := by
  unfold val_main_v10 val_main_v9 val_main_v8 val_main_cst_2
  pointwise [r6, r7]
  rw [minus_half, div_real (ms_pos x r).ne', ← EReal.coe_mul]
theorem r12 (r : Fin 8192) (q : Fin 1024) : (val_main_v12 (F := Ideal) (up x) : S8192x1024.Idx → EReal) (ix2 r q) = ((x (ix2 r q) * inv x r : ℝ) : EReal) := by
  unfold val_main_v12 val_main_v11
  pointwise [r7]
  simp only [up, ← EReal.coe_mul]
theorem r17 (r : Fin 8192) (q : Fin 1024) : (val_main_v17 (F := Ideal) (up u) (up w) : S8192x1024.Idx → EReal) (ix2 r q) = (P u w r q : EReal) := by
  unfold val_main_v17
  pointwise
  simp only [up, ← EReal.coe_mul, coe_sum]
  rfl
theorem r40 (q : Fin 1024) : (val_main_v40 (F := Ideal) (up u) (up w) (up x) : S1x1024.Idx → EReal) (ix2 0 q) = dg (P u w) x (ix2 0 q) := by
  unfold val_main_v40 val_main_v23 val_main_v20 val_main_v19 val_main_v18 val_main_cst_3 val_main_cst_4
  pointwise [r12, r17]
  simp only [Fin.sum_univ_one, ← EReal.coe_mul, coe_sum]
  unfold dg
  refine congrArg _ (Finset.sum_congr rfl fun r _ => mul_comm _ _)
theorem r22 (r : Fin 8192) (q : Fin 1024) : (val_main_v22 (F := Ideal) (up u) (up w) (up g) : S8192x1024.Idx → EReal) (ix2 r q) = ((P u w r q * g (ix1 q) : ℝ) : EReal) := by
  unfold val_main_v22 val_main_v21 val_main_v13
  pointwise [r17]
  simp only [up, ← EReal.coe_mul]
theorem r34 (r : Fin 8192) (q : Fin 1024) : (val_main_v34 (F := Ideal) (up u) (up w) (up x) (up g) : S8192x1024.Idx → EReal) (ix2 r q)
    = (((∑ p : Fin 1024, x (ix2 r p) * (P u w r p * g (ix1 p))) * (-1 / 2 * (inv x r / ms x r)) / 1024 : ℝ) : EReal) := by
  unfold val_main_v34 val_main_v33 val_main_v32 val_main_v31 val_main_v30 val_main_v26 val_main_v25 val_main_v24 val_main_cst_5 val_main_cst_6 val_main_cst_7
  pointwise [r22, r10]
  rw [width]
  simp only [Fin.sum_univ_one, up, ← EReal.coe_mul, coe_sum]
  rw [r10, ← EReal.coe_mul, div_real (by norm_num)]
theorem r38 (r : Fin 8192) (q : Fin 1024) : (val_main_v38 (F := Ideal) (up u) (up w) (up x) (up g) d : S8192x1024.Idx → EReal) (ix2 r q) = dres (P u w) x g d (ix2 r q) := by
  unfold val_main_v38 val_main_v37 val_main_v36 val_main_v35 val_main_v29 val_main_v28 val_main_v27
  pointwise [r22, r34, r7]
  simp only [up, ← EReal.coe_mul]
  rw [add_assoc, add_assoc, ← EReal.coe_add, ← EReal.coe_add]
  refine congrArg (fun y : ℝ => d (ix2 r q) + (y : EReal)) ?_
  show _ = dnorm (P u w) x g r q
  exact dnorm_eq (P u w) x g r q

end Reference

section Body

variable (x0 : S512x4096.Idx → EReal) (x1 : S8x1024x512.Idx → EReal) (x2 x4 : S512x1024.Idx → EReal) (x3 : S1x1024.Idx → EReal)

/-- The product, in eight groups of columns, and the scale's gradient of the block. -/
def prod : S512x1024.Idx → EReal := k0_pay5 (F := Ideal)
    (k0_pay4 (F := Ideal) (View.ld (Val := Elt Ideal) (e' := .bf16) x0 (Rect.unit (s := S512x4096) ![0, 0] ![512, 512] inb_S512x4096_S512x512_0_0))
      (View.ld (Val := Elt Ideal) (e' := .bf16) x1 (Rect.unit (s := S8x1024x512) ![0, 0, 0] ![1, 1024, 512] inb_S8x1024x512_S1x1024x512_0_0_0))
      (View.ld (Val := Elt Ideal) (e' := .bf16) x0 (Rect.unit (s := S512x4096) ![0, 512] ![512, 512] inb_S512x4096_S512x512_0_512))
      (View.ld (Val := Elt Ideal) (e' := .bf16) x1 (Rect.unit (s := S8x1024x512) ![1, 0, 0] ![1, 1024, 512] inb_S8x1024x512_S1x1024x512_1_0_0))
      (View.ld (Val := Elt Ideal) (e' := .bf16) x0 (Rect.unit (s := S512x4096) ![0, 1024] ![512, 512] inb_S512x4096_S512x512_0_1024))
      (View.ld (Val := Elt Ideal) (e' := .bf16) x1 (Rect.unit (s := S8x1024x512) ![2, 0, 0] ![1, 1024, 512] inb_S8x1024x512_S1x1024x512_2_0_0))
      (View.ld (Val := Elt Ideal) (e' := .bf16) x0 (Rect.unit (s := S512x4096) ![0, 1536] ![512, 512] inb_S512x4096_S512x512_0_1536))
      (View.ld (Val := Elt Ideal) (e' := .bf16) x1 (Rect.unit (s := S8x1024x512) ![3, 0, 0] ![1, 1024, 512] inb_S8x1024x512_S1x1024x512_3_0_0))
      (View.ld (Val := Elt Ideal) (e' := .bf16) x0 (Rect.unit (s := S512x4096) ![0, 2048] ![512, 512] inb_S512x4096_S512x512_0_2048))
      (View.ld (Val := Elt Ideal) (e' := .bf16) x1 (Rect.unit (s := S8x1024x512) ![4, 0, 0] ![1, 1024, 512] inb_S8x1024x512_S1x1024x512_4_0_0)))
    (View.ld (Val := Elt Ideal) (e' := .bf16) x0 (Rect.unit (s := S512x4096) ![0, 2560] ![512, 512] inb_S512x4096_S512x512_0_2560))
    (View.ld (Val := Elt Ideal) (e' := .bf16) x1 (Rect.unit (s := S8x1024x512) ![5, 0, 0] ![1, 1024, 512] inb_S8x1024x512_S1x1024x512_5_0_0))
    (View.ld (Val := Elt Ideal) (e' := .bf16) x0 (Rect.unit (s := S512x4096) ![0, 3072] ![512, 512] inb_S512x4096_S512x512_0_3072))
    (View.ld (Val := Elt Ideal) (e' := .bf16) x1 (Rect.unit (s := S8x1024x512) ![6, 0, 0] ![1, 1024, 512] inb_S8x1024x512_S1x1024x512_6_0_0))
    (View.ld (Val := Elt Ideal) (e' := .bf16) x0 (Rect.unit (s := S512x4096) ![0, 3584] ![512, 512] inb_S512x4096_S512x512_0_3584))
    (View.ld (Val := Elt Ideal) (e' := .bf16) x1 (Rect.unit (s := S8x1024x512) ![7, 0, 0] ![1, 1024, 512] inb_S8x1024x512_S1x1024x512_7_0_0))
def part9 : S1x1024.Idx → EReal := k0_pay9 (F := Ideal)
    (k0_pay4 (F := Ideal) (View.ld (Val := Elt Ideal) (e' := .bf16) x0 (Rect.unit (s := S512x4096) ![0, 0] ![512, 512] inb_S512x4096_S512x512_0_0))
      (View.ld (Val := Elt Ideal) (e' := .bf16) x1 (Rect.unit (s := S8x1024x512) ![0, 0, 0] ![1, 1024, 512] inb_S8x1024x512_S1x1024x512_0_0_0))
      (View.ld (Val := Elt Ideal) (e' := .bf16) x0 (Rect.unit (s := S512x4096) ![0, 512] ![512, 512] inb_S512x4096_S512x512_0_512))
      (View.ld (Val := Elt Ideal) (e' := .bf16) x1 (Rect.unit (s := S8x1024x512) ![1, 0, 0] ![1, 1024, 512] inb_S8x1024x512_S1x1024x512_1_0_0))
      (View.ld (Val := Elt Ideal) (e' := .bf16) x0 (Rect.unit (s := S512x4096) ![0, 1024] ![512, 512] inb_S512x4096_S512x512_0_1024))
      (View.ld (Val := Elt Ideal) (e' := .bf16) x1 (Rect.unit (s := S8x1024x512) ![2, 0, 0] ![1, 1024, 512] inb_S8x1024x512_S1x1024x512_2_0_0))
      (View.ld (Val := Elt Ideal) (e' := .bf16) x0 (Rect.unit (s := S512x4096) ![0, 1536] ![512, 512] inb_S512x4096_S512x512_0_1536))
      (View.ld (Val := Elt Ideal) (e' := .bf16) x1 (Rect.unit (s := S8x1024x512) ![3, 0, 0] ![1, 1024, 512] inb_S8x1024x512_S1x1024x512_3_0_0))
      (View.ld (Val := Elt Ideal) (e' := .bf16) x0 (Rect.unit (s := S512x4096) ![0, 2048] ![512, 512] inb_S512x4096_S512x512_0_2048))
      (View.ld (Val := Elt Ideal) (e' := .bf16) x1 (Rect.unit (s := S8x1024x512) ![4, 0, 0] ![1, 1024, 512] inb_S8x1024x512_S1x1024x512_4_0_0)))
    (View.ld (Val := Elt Ideal) (e' := .bf16) x0 (Rect.unit (s := S512x4096) ![0, 2560] ![512, 512] inb_S512x4096_S512x512_0_2560))
    (View.ld (Val := Elt Ideal) (e' := .bf16) x1 (Rect.unit (s := S8x1024x512) ![5, 0, 0] ![1, 1024, 512] inb_S8x1024x512_S1x1024x512_5_0_0))
    (View.ld (Val := Elt Ideal) (e' := .bf16) x0 (Rect.unit (s := S512x4096) ![0, 3072] ![512, 512] inb_S512x4096_S512x512_0_3072))
    (View.ld (Val := Elt Ideal) (e' := .bf16) x1 (Rect.unit (s := S8x1024x512) ![6, 0, 0] ![1, 1024, 512] inb_S8x1024x512_S1x1024x512_6_0_0))
    (View.ld (Val := Elt Ideal) (e' := .bf16) x0 (Rect.unit (s := S512x4096) ![0, 3584] ![512, 512] inb_S512x4096_S512x512_0_3584))
    (View.ld (Val := Elt Ideal) (e' := .bf16) x1 (Rect.unit (s := S8x1024x512) ![7, 0, 0] ![1, 1024, 512] inb_S8x1024x512_S1x1024x512_7_0_0)) x2

/-- A row of the arguments, real, and its blocks. -/
structure Row (u : Fin 4096 → ℝ) (w : Fin 1024 → Fin 4096 → ℝ) (x g : Fin 1024 → ℝ) (a : Fin 512) : Prop where
  h0 : ∀ k, x0 (ix2 a k) = (u k : EReal)
  h1 : ∀ (b : Fin 8) (q : Fin 1024) (k : Fin 512), x1 (ix3 b q k) = (w q ⟨b.val * 512 + k.val, by omega⟩ : EReal)
  h2 : ∀ q, x2 (ix2 a q) = (x q : EReal)
  h3 : ∀ q, x3 (ix2 0 q) = (g q : EReal)

variable {x0 x1 x2 x3} {u : Fin 4096 → ℝ} {w : Fin 1024 → Fin 4096 → ℝ} {x g : Fin 1024 → ℝ} {a : Fin 512} (B : Row x0 x1 x2 x3 u w x g a)

/-- A term of a product of 4096, by its number. -/
def term (u v : Fin 4096 → ℝ) (n : ℕ) : ℝ := if h : n < 4096 then u ⟨n, h⟩ * v ⟨n, h⟩ else 0
theorem term_at (u v : Fin 4096 → ℝ) (k : Fin 4096) : term u v k.val = u k * v k := dif_pos k.isLt

include B in
theorem prod_at (q : Fin 1024) : prod x0 x1 (ix2 a q) = ((∑ k, u k * w q k : ℝ) : EReal) := by
  unfold prod k0_pay5 k0_pay4
  pointwise [B.h0, B.h1]
  simp only [← EReal.coe_mul, coe_sum, ← EReal.coe_add]
  refine congrArg _ (Eq.symm ?_)
  refine (Finset.sum_congr rfl fun k _ => (term_at u (w q) k).symm).trans ((Fin.sum_univ_univ_mul_add 8 512 (term u (w q))).symm.trans ?_)
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    exact Finset.sum_congr rfl fun k _ => (dif_pos (by simp; omega)).trans (by simp)
theorem part9_at (q : Fin 1024) : part9 x0 x1 x2 (ix2 0 q) = ∑ a : Fin 512, prod x0 x1 (ix2 a q) * k0_pay7 (F := Ideal) x2 (ix2 a q) := by
  unfold part9 k0_pay9
  pointwise
  rfl
end Body

variable (m : (ℓ : Loc nD τ sig) → Buf (Elt Ideal) ℓ) (c : Dev nD)

/-- The arguments. -/
abbrev A0 : S8192x4096.Idx → EReal := m ((c : Thread nD τ).loc main_arg0)
abbrev A1 : S1024x4096.Idx → EReal := m ((c : Thread nD τ).loc main_arg1)
abbrev A2 : S8192x1024.Idx → EReal := m ((c : Thread nD τ).loc main_arg2)
abbrev A3 : S1024.Idx → EReal := m ((c : Thread nD τ).loc main_arg3)
abbrev A4 : S8192x1024.Idx → EReal := m ((c : Thread nD τ).loc main_arg4)

/-- The input blocks at a grid point. -/
abbrev B0 (t : Fin cfg0.N) : S512x4096.Idx → EReal := iblk m c 0 t
abbrev B1 (t : Fin cfg0.N) : S8x1024x512.Idx → EReal := iblk m c 1 t
abbrev B2 (t : Fin cfg0.N) : S512x1024.Idx → EReal := iblk m c 2 t
abbrev B3 (t : Fin cfg0.N) : S1x1024.Idx → EReal := iblk m c 3 t
abbrev B4 (t : Fin cfg0.N) : S512x1024.Idx → EReal := iblk m c 4 t

/-- Where each window's block stands at grid point `t`. -/
theorem idx : ∀ t : Fin grid0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] := by
  decide +kernel

theorem v3 (i : S8192x4096.Idx) : (V m c main_v3 : S8192x4096.Idx → EReal) i = A0 m c i := by
  entry_read; pointwise
theorem v2 (a : Fin 8) (q : Fin 1024) (k : Fin 512) : (V m c main_v2 : S8x1024x512.Idx → EReal) (ix3 a q k) = A1 m c (ix2 q ⟨a.val * 512 + k.val, by omega⟩) := by
  entry_read; pointwise
theorem v4 (q : Fin 1024) : (V m c main_v4 : S1x1024.Idx → EReal) (ix2 0 q) = A3 m c (ix1 q) := by
  entry_read; pointwise

theorem b0 (t : Fin cfg0.N) (a : Fin 512) (k : Fin 4096) (r : Fin 8192) (h : r.val = t.val * 512 + a.val) : B0 m c t (ix2 a k) = A0 m c (ix2 r k) := by
  have g : (win0_0.blk t).view.emb (ix2 a k) = ix2 r k := by blk_ext [(idx t).1, h]
  unfold B0; blk_simp [iblk]
  exact (congrArg (V m c main_v3 : S8192x4096.Idx → EReal) g).trans (v3 m c _)
theorem b1 (t : Fin cfg0.N) (b : Fin 8) (q : Fin 1024) (k : Fin 512) : B1 m c t (ix3 b q k) = A1 m c (ix2 q ⟨b.val * 512 + k.val, by omega⟩) := by
  have g : (win0_1.blk t).view.emb (ix3 b q k) = ix3 b q k := by blk_ext [(idx t).2.1]
  unfold B1; blk_simp [iblk]
  exact (congrArg (V m c main_v2 : S8x1024x512.Idx → EReal) g).trans (v2 m c _ _ _)
theorem b2 (t : Fin cfg0.N) (a : Fin 512) (q : Fin 1024) (r : Fin 8192) (h : r.val = t.val * 512 + a.val) : B2 m c t (ix2 a q) = A2 m c (ix2 r q) := by
  have g : (win0_2.blk t).view.emb (ix2 a q) = ix2 r q := by blk_ext [(idx t).2.2.1, h]
  unfold B2; blk_simp [iblk]
  exact congrArg (A2 m c) g
theorem b3 (t : Fin cfg0.N) (q : Fin 1024) : B3 m c t (ix2 0 q) = A3 m c (ix1 q) := by
  have g : (win0_3.blk t).view.emb (ix2 0 q) = ix2 0 q := by blk_ext [(idx t).2.2.2.1]
  unfold B3; blk_simp [iblk]
  exact (congrArg (V m c main_v4 : S1x1024.Idx → EReal) g).trans (v4 m c _)
theorem b4 (t : Fin cfg0.N) (a : Fin 512) (q : Fin 1024) (r : Fin 8192) (h : r.val = t.val * 512 + a.val) : B4 m c t (ix2 a q) = A4 m c (ix2 r q) := by
  have g : (win0_4.blk t).view.emb (ix2 a q) = ix2 r q := by blk_ext [(idx t).2.2.2.2.1, h]
  unfold B4; blk_simp [iblk]
  exact congrArg (A4 m c) g

/-- What a point leaves in each output block. -/
theorem outs_x (t : Fin cfg0.N) (y : S512x1024.Idx) : ((outsAt0 m c t.val t.isLt).1 : S512x1024.Idx → EReal) y
    = k0_pay1 (F := Ideal) (prod (B0 m c t) (B1 m c t)) (k0_pay6 (B2 m c t)) (k0_pay7 (B2 m c t)) (k0_pay8 (B3 m c t)) (B4 m c t) y := by
  have ht := lt_of_lt_of_eq t.isLt N_0
  unfold prod
  by_cases h0 : t.val % 16 = 0
  · rw [outsAt0_A m c t h0 (by omega)]
    dsimp only
    frame_out
  · rw [outsAt0_B m c t h0 (by omega)]
    dsimp only
    frame_out
theorem outs_b (t : Fin cfg0.N) (y : S512x1024.Idx) : ((outsAt0 m c t.val t.isLt).2.1 : S512x1024.Idx → EReal) y
    = k0_pay2 (F := Ideal) (prod (B0 m c t) (B1 m c t)) (k0_pay6 (B2 m c t)) (k0_pay7 (B2 m c t)) (k0_pay8 (B3 m c t)) (B4 m c t) y := by
  have ht := lt_of_lt_of_eq t.isLt N_0
  unfold prod
  by_cases h0 : t.val % 16 = 0
  · rw [outsAt0_A m c t h0 (by omega)]
    dsimp only
    frame_out
  · rw [outsAt0_B m c t h0 (by omega)]
    dsimp only
    frame_out
theorem outs_first (t : Fin cfg0.N) (h0 : t.val = 0) (y : S1x1024.Idx) : ((outsAt0 m c t.val t.isLt).2.2 : S1x1024.Idx → EReal) y = part9 (B0 m c t) (B1 m c t) (B2 m c t) y := by
  unfold part9
  rw [outsAt0_A m c t (by omega) (by omega)]
  dsimp only
  frame_out
theorem outs_next (t : Fin cfg0.N) (h0 : t.val ≠ 0) (y : S1x1024.Idx) : ((outsAt0 m c t.val t.isLt).2.2 : S1x1024.Idx → EReal) y
    = ((outsAt0 m c (t.val - 1) (Nat.lt_of_le_of_lt (Nat.sub_le _ _) t.isLt)).2.2 : S1x1024.Idx → EReal) y + part9 (B0 m c t) (B1 m c t) (B2 m c t) y := by
  have ht := lt_of_lt_of_eq t.isLt N_0
  unfold part9
  rw [outsAt0_B m c t (by omega) (by omega)]
  generalize (outsAt0 m c (t.val - 1) (Nat.lt_of_le_of_lt (Nat.sub_le _ _) t.isLt)).2.2 = acc
  dsimp only
  frame_out
  exact next_at _ _ _

section Real

variable {u : S8192x4096.Idx → ℝ} {w : S1024x4096.Idx → ℝ} {x : S8192x1024.Idx → ℝ} {g : S1024.Idx → ℝ}
  (e0 : A0 m c = fun i => (u i : EReal)) (e1 : A1 m c = fun i => (w i : EReal)) (e2 : A2 m c = fun i => (x i : EReal)) (e3 : A3 m c = fun i => (g i : EReal))

include e0 e1 e2 e3 in
theorem row_real (t : Fin cfg0.N) (a : Fin 512) (r : Fin 8192) (h : r.val = t.val * 512 + a.val) :
    Row (B0 m c t) (B1 m c t) (B2 m c t) (B3 m c t) (fun k => u (ix2 r k)) (fun q k => w (ix2 q k)) (fun q => x (ix2 r q)) (fun q => g (ix1 q)) a where
  h0 k := (b0 m c t a k r h).trans (congrFun e0 _)
  h1 b q k := (b1 m c t b q k).trans (congrFun e1 _)
  h2 q := (b2 m c t a q r h).trans (congrFun e2 _)
  h3 q := (b3 m c t q).trans (congrFun e3 _)

include e0 e1 e2 e3 in
theorem dres_at (t : Fin cfg0.N) (y : S512x1024.Idx) (j : S8192x1024.Idx) (h0 : (j 0).val = t.val * 512 + (y 0).val) (h1 : (j 1).val = (y 1).val) :
    k0_pay1 (F := Ideal) (prod (B0 m c t) (B1 m c t)) (k0_pay6 (B2 m c t)) (k0_pay7 (B2 m c t)) (k0_pay8 (B3 m c t)) (B4 m c t) y = dres (P u w) x g (A4 m c) j := by
  obtain ⟨a, q, rfl⟩ : ∃ a q, y = ix2 a q := ⟨_, _, eq_ix2 y⟩
  obtain ⟨r, p, rfl⟩ : ∃ r p, j = ix2 r p := ⟨_, _, eq_ix2 j⟩
  obtain rfl : p = q := Fin.ext h1
  have B := row_real m c e0 e1 e2 e3 t a r h0
  exact dres_pay (prod_at B) B.h2 B.h3 p (b4 m c t a p r h0)

include e0 e1 e2 e3 in
theorem dres_value : (dats m 0 c).arrAt 5 cfg0.N = dres (P u w) x g (A4 m c) := by
  refine (dats m 0 c).arrAt_eq_of_covers 5 _ (by decide +kernel) fun t hf y => ?_
  refine (congrFun (Value.flushed5 m c t) y).trans ?_
  refine (outs_x m c t _).trans (dres_at m c e0 e1 e2 e3 t _ _ ?_ ?_)
  · blk_simp [(idx t).2.2.2.2.2.1]
  · blk_simp [(idx t).2.2.2.2.2.1]
include e0 e1 e2 e3 in
theorem dresb_value : (dats m 0 c).arrAt 6 cfg0.N = dres (P u w) x g (A4 m c) := by
  refine (dats m 0 c).arrAt_eq_of_covers 6 _ (by decide +kernel) fun t hf y => ?_
  refine (congrFun (Value.flushed6 m c t) y).trans ?_
  refine (outs_b m c t _).trans ((cast_at _ _ _ _ _ _).trans (dres_at m c e0 e1 e2 e3 t _ _ ?_ ?_))
  · blk_simp [(idx t).2.2.2.2.2.2.1]
  · blk_simp [(idx t).2.2.2.2.2.2.1]

include e0 e1 e2 e3 in
theorem part_at (t : Fin cfg0.N) (q : Fin 1024) : part9 (B0 m c t) (B1 m c t) (B2 m c t) (ix2 0 q) = ((∑ a : Fin 512, line (P u w) x q (t.val * 512 + a.val) : ℝ) : EReal) := by
  rw [part9_at, ← coe_sum]
  refine Finset.sum_congr rfl fun a _ => ?_
  have h : t.val * 512 + a.val < 8192 := by have := lt_of_lt_of_eq t.isLt N_0; omega
  have B := row_real m c e0 e1 e2 e3 t a ⟨_, h⟩ rfl
  rw [prod_at B, hat_at B.h2, line, dif_pos h, ← EReal.coe_mul]
  rfl

include e0 e1 e2 e3 in
theorem dg_value : (dats m 0 c).arrAt 7 cfg0.N = dg (P u w) x := by
  refine (dats m 0 c).arrAt_eq_of_after_last 7 t0_15 (by decide +kernel) _ fun j => ?_
  blk_simp
  rw [after0_7]
  refine (Pipeline.eq_sum_of_reset_step_apply_single (fun n h => ((outsAt0 m c n h).2.2 : S1x1024.Idx → EReal)) 16 (fun _ => 0)
    (fun t j => ((∑ a : Fin 512, line (P u w) x (j 1) (t * 512 + a.val) : ℝ) : EReal))
    (fun t h j => ?_) (fun t h j => ?_) (by decide) t0_15 _).trans ?_
  · have ht := lt_of_lt_of_eq t.isLt N_0
    obtain ⟨z, q, rfl⟩ : ∃ z q, j = ix2 z q := ⟨_, _, eq_ix2 j⟩
    obtain rfl : z = 0 := Subsingleton.elim _ _
    exact ((outs_first m c t (by omega) _).trans (part_at m c e0 e1 e2 e3 t q)).trans (zero_add _).symm
  · obtain ⟨z, q, rfl⟩ : ∃ z q, j = ix2 z q := ⟨_, _, eq_ix2 j⟩
    obtain rfl : z = 0 := Subsingleton.elim _ _
    exact (outs_next m c t (by omega) _).trans (congrArg (_ + ·) (part_at m c e0 e1 e2 e3 t q))
  · rw [zero_add]
    exact sum_lines (P u w) x j

end Real

theorem dres_result (u : S8192x4096.Idx → ℝ) (w : S1024x4096.Idx → ℝ) (x : S8192x1024.Idx → ℝ) (g : S1024.Idx → ℝ)
    (a0 : S8192x4096.Idx → EReal) (a1 : S1024x4096.Idx → EReal) (a2 : S8192x1024.Idx → EReal) (a3 : S1024.Idx → EReal) (d : S8192x1024.Idx → EReal)
    (h0 : a0 = fun i => (u i : EReal)) (h1 : a1 = fun i => (w i : EReal)) (h2 : a2 = fun i => (x i : EReal)) (h3 : a3 = fun i => (g i : EReal)) :
    Cert.RmsRIdeal.Read.val_main_v38 (F := Ideal) a0 a1 a2 a3 d = dres (P u w) x g d := by
  subst h0 h1 h2 h3
  exact funext fun i => (congrArg _ (eq_ix2 i)).trans ((r38 u w x g d (i 0) (i 1)).trans (congrArg _ (eq_ix2 i).symm))
theorem dg_result (u : S8192x4096.Idx → ℝ) (w : S1024x4096.Idx → ℝ) (x : S8192x1024.Idx → ℝ)
    (a0 : S8192x4096.Idx → EReal) (a1 : S1024x4096.Idx → EReal) (a2 : S8192x1024.Idx → EReal)
    (h0 : a0 = fun i => (u i : EReal)) (h1 : a1 = fun i => (w i : EReal)) (h2 : a2 = fun i => (x i : EReal)) :
    Cert.RmsRIdeal.Read.val_main_v40 (F := Ideal) a0 a1 a2 = dg (P u w) x := by
  subst h0 h1 h2
  refine funext fun i => ?_
  obtain ⟨z, q, rfl⟩ : ∃ z q, i = ix2 z q := ⟨_, _, eq_ix2 i⟩
  obtain rfl : z = 0 := Subsingleton.elim _ _
  exact r40 u w x q

/-- Kernel and reference agree. -/
theorem agree : Cert.algebraic_RmsKIdeal_RmsRIdeal_pre_rms_ok := by
  intro m g m' g' pre hag
  refine ⟨fun c => (dats m 0 c).arrAt 5 cfg0.N, fun c => (dats m 0 c).arrAt 6 cfg0.N, fun c => (dats m 0 c).arrAt 7 cfg0.N, ?_, ?_⟩
  · exact (θ_run _ _ _).mono (fun r h c => h c) (Value.run_blocks (F := Ideal) m g)
  · refine (θ_run _ _ _).mono (fun r h c => ?_) (Cert.RmsRIdeal.Value.run (F := Ideal) m' g')
    obtain ⟨⟨u, h0⟩, ⟨w, h1⟩, ⟨x, h2⟩, ⟨y, h3⟩⟩ := Cert.RmsPre.finite _ _ _ _ _ (pre c)
    obtain ⟨e0, e1, e2, e3, e4⟩ := hag c
    refine ⟨(h c).1.trans ?_, (h c).2.1.trans ?_, (h c).2.2.1.trans ?_, (h c).2.2.2⟩
    · rw [Cert.RmsRIdeal.Read.val_main_v38_eq, e0, e1, e2, e3, e4]
      exact (dres_result u w x y _ _ _ _ _ h0 h1 h2 h3).trans (dres_value m c h0 h1 h2 h3).symm
    · rw [Cert.RmsRIdeal.Read.val_main_v39_eq, e0, e1, e2, e3, e4]
      exact (dres_result u w x y _ _ _ _ _ h0 h1 h2 h3).trans (dresb_value m c h0 h1 h2 h3).symm
    · rw [Cert.RmsRIdeal.Read.val_main_v40_eq, e0, e1, e2]
      exact (dg_result u w x _ _ _ h0 h1 h2).trans (dg_value m c h0 h1 h2 h3).symm

/-- The reference runs and leaves its arguments. -/
theorem reference_frame : Cert.quiescent_RmsRIdeal := fun m g _ =>
  (θ_run _ _ _).mono (fun r h => ⟨fun c => (h c).2.2.2, sem_eq_zero_of_no_sems (by decide) r.2⟩) (Cert.RmsRIdeal.Value.run (F := Ideal) m g)
theorem reference_frame_pre : Cert.quiescent_RmsRIdeal_pre_rms_ok := fun m g _ => reference_frame m g trivial

end Cert.RmsProof
-- ==== Proof.RmsC.lean ====
/- The gradient of the norm ahead of the convolution mixer, fused with the product that feeds it. -/
module

public import proofs.«01_k».proof.Defs
public import proofs.«01_k».proof.Proof.Gen.Pre_rms_ok_conv
public import proofs.«01_k».proof.Proof.Gen.RmsCKIdeal.Value
public import proofs.«01_k».proof.Proof.Gen.RmsCRIdeal.Run
public import proofs.«01_k».proof.Proof.Gen.RmsCRIdeal.Read
public import proofs.«01_k».proof.Proof.AttPre
public import proofs.«01_k».proof.Proof.AttReal
public import proofs.«01_k».proof.Proof.Rms
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.RmsCPre

open Idealize.ShloMosaic
open Cert.Pre_rms_ok_conv Cert.Pre_rms_ok_conv.Facts
open Cert.AttReal (real_of_lt)

variable [Facts] (a0 : FVec Ideal S8192x3072 .f32) (a1 : FVec Ideal S1024x3072 .f32) (a2 : FVec Ideal S8192x1024 .f32) (a3 : FVec Ideal S1024 .f32) (a4 : FVec Ideal S8192x1024 .f32)

/-- What the precondition says, element by element. -/
theorem split (h : fn (F := Ideal) a0 a1 a2 a3 a4 = fun _ => 1#1) :
    (∀ i, cmpf .olt (Host.absf a0) (broadcastInDim S8192x3072 ![] bcast_S_S8192x3072 (constant (F := Ideal) S_ .f32 0x7F800000#32)) i = 1#1) ∧
    (∀ i, cmpf .olt (Host.absf a1) (broadcastInDim S1024x3072 ![] bcast_S_S1024x3072 (constant (F := Ideal) S_ .f32 0x7F800000#32)) i = 1#1) ∧
    (∀ i, cmpf .olt (Host.absf a2) (broadcastInDim S8192x1024 ![] bcast_S_S8192x1024 (constant (F := Ideal) S_ .f32 0x7F800000#32)) i = 1#1) ∧
    (∀ i, cmpf .olt (Host.absf a3) (broadcastInDim S1024 ![] bcast_S_S1024 (constant (F := Ideal) S_ .f32 0x7F800000#32)) i = 1#1) := by
  have hz := congrFun h (fun a => a.elim0)
  obtain ⟨hz, e3⟩ := IntOp.andi_eq_one.1 hz
  obtain ⟨hz, e2⟩ := IntOp.andi_eq_one.1 hz
  obtain ⟨e0, e1⟩ := IntOp.andi_eq_one.1 hz
  haveI : Subsingleton S_.Idx := ⟨fun a b => funext fun d => d.elim0⟩
  exact ⟨Host.reduce_andi_all _ _ _ _ _ e0, Host.reduce_andi_all _ _ _ _ _ e1, Host.reduce_andi_all _ _ _ _ _ e2, Host.reduce_andi_all _ _ _ _ _ e3⟩

theorem finite (h : fn (F := Ideal) a0 a1 a2 a3 a4 = fun _ => 1#1) :
    (∃ f : S8192x3072.Idx → ℝ, a0 = fun i => (f i : EReal)) ∧ (∃ f : S1024x3072.Idx → ℝ, a1 = fun i => (f i : EReal)) ∧
    (∃ f : S8192x1024.Idx → ℝ, a2 = fun i => (f i : EReal)) ∧ (∃ f : S1024.Idx → ℝ, a3 = fun i => (f i : EReal)) := by
  obtain ⟨e0, e1, e2, e3⟩ := split a0 a1 a2 a3 a4 h
  refine ⟨⟨fun i => (a0 i).toReal, funext fun i => real_of_lt (a0 i) ?_⟩, ⟨fun i => (a1 i).toReal, funext fun i => real_of_lt (a1 i) ?_⟩,
    ⟨fun i => (a2 i).toReal, funext fun i => real_of_lt (a2 i) ?_⟩, ⟨fun i => (a3 i).toReal, funext fun i => real_of_lt (a3 i) ?_⟩⟩
  · exact e0 i
  · exact e1 i
  · exact e2 i
  · exact e3 i

end Cert.RmsCPre

namespace Cert.RmsCProof

open Idealize.ShloMosaic Idealize.ShloMosaic.TcCoe Idealize.SL.Sem
open Cert.RmsCKIdeal Cert.RmsCKIdeal.Gen
open Cert.AttReal (coe_sum div_real zero)
open Cert.Norm

/-- The product. -/
def P (u : S8192x3072.Idx → ℝ) (w : S1024x3072.Idx → ℝ) (r : Fin 8192) (q : Fin 1024) : ℝ := ∑ k : Fin 3072, u (ix2 r k) * w (ix2 q k)

section Reference

open Cert.RmsCRIdeal.Read
open Cert.AttReal (up)

variable (u : S8192x3072.Idx → ℝ) (w : S1024x3072.Idx → ℝ) (x : S8192x1024.Idx → ℝ) (g : S1024.Idx → ℝ) (d : S8192x1024.Idx → EReal)

theorem r6 (r : Fin 8192) : (val_main_v6 (F := Ideal) (up x) : Cert.RmsCRIdeal.S8192x1.Idx → EReal) (ix2 r 0) = (ms x r : EReal) := Cert.RmsProof.r6 x r
theorem r7 (r : Fin 8192) : (val_main_v7 (F := Ideal) (up x) : Cert.RmsCRIdeal.S8192x1.Idx → EReal) (ix2 r 0) = (inv x r : EReal) := Cert.RmsProof.r7 x r
theorem r10 (r : Fin 8192) : (val_main_v10 (F := Ideal) (up x) : Cert.RmsCRIdeal.S8192x1.Idx → EReal) (ix2 r 0) = ((-1 / 2 * (inv x r / ms x r) : ℝ) : EReal) := Cert.RmsProof.r10 x r
theorem r12 (r : Fin 8192) (q : Fin 1024) : (val_main_v12 (F := Ideal) (up x) : S8192x1024.Idx → EReal) (ix2 r q) = ((x (ix2 r q) * inv x r : ℝ) : EReal) := Cert.RmsProof.r12 x r q
theorem r17 (r : Fin 8192) (q : Fin 1024) : (val_main_v17 (F := Ideal) (up u) (up w) : S8192x1024.Idx → EReal) (ix2 r q) = (P u w r q : EReal) := by
  unfold val_main_v17
  pointwise
  simp only [up, ← EReal.coe_mul, coe_sum]
  rfl
theorem r40 (q : Fin 1024) : (val_main_v40 (F := Ideal) (up u) (up w) (up x) : S1x1024.Idx → EReal) (ix2 0 q) = dg (P u w) x (ix2 0 q) := by
  unfold val_main_v40 val_main_v23 val_main_v20 val_main_v19 val_main_v18 val_main_cst_3 val_main_cst_4
  pointwise [r12, r17]
  simp only [Fin.sum_univ_one, ← EReal.coe_mul, coe_sum]
  unfold dg
  refine congrArg _ (Finset.sum_congr rfl fun r _ => mul_comm _ _)
theorem r22 (r : Fin 8192) (q : Fin 1024) : (val_main_v22 (F := Ideal) (up u) (up w) (up g) : S8192x1024.Idx → EReal) (ix2 r q) = ((P u w r q * g (ix1 q) : ℝ) : EReal) := by
  unfold val_main_v22 val_main_v21 val_main_v13
  pointwise [r17]
  simp only [up, ← EReal.coe_mul]
theorem r34 (r : Fin 8192) (q : Fin 1024) : (val_main_v34 (F := Ideal) (up u) (up w) (up x) (up g) : S8192x1024.Idx → EReal) (ix2 r q)
    = (((∑ p : Fin 1024, x (ix2 r p) * (P u w r p * g (ix1 p))) * (-1 / 2 * (inv x r / ms x r)) / 1024 : ℝ) : EReal) := by
  unfold val_main_v34 val_main_v33 val_main_v32 val_main_v31 val_main_v30 val_main_v26 val_main_v25 val_main_v24 val_main_cst_5 val_main_cst_6 val_main_cst_7
  pointwise [r22, r10]
  rw [width]
  simp only [Fin.sum_univ_one, up, ← EReal.coe_mul, coe_sum]
  rw [r10, ← EReal.coe_mul, div_real (by norm_num)]
theorem r38 (r : Fin 8192) (q : Fin 1024) : (val_main_v38 (F := Ideal) (up u) (up w) (up x) (up g) d : S8192x1024.Idx → EReal) (ix2 r q) = dres (P u w) x g d (ix2 r q) := by
  unfold val_main_v38 val_main_v37 val_main_v36 val_main_v35 val_main_v29 val_main_v28 val_main_v27
  pointwise [r22, r34, r7]
  simp only [up, ← EReal.coe_mul]
  rw [add_assoc, add_assoc, ← EReal.coe_add, ← EReal.coe_add]
  refine congrArg (fun y : ℝ => d (ix2 r q) + (y : EReal)) ?_
  show _ = dnorm (P u w) x g r q
  exact dnorm_eq (P u w) x g r q

end Reference

section Body

variable (x0 : S512x3072.Idx → EReal) (x1 : S8x1024x384.Idx → EReal) (x2 x4 : S512x1024.Idx → EReal) (x3 : S1x1024.Idx → EReal)

/-- The product, in eight groups of columns, and the scale's gradient of the block. -/
def prod : S512x1024.Idx → EReal := k0_pay5 (F := Ideal)
    (k0_pay4 (F := Ideal) (View.ld (Val := Elt Ideal) (e' := .bf16) x0 (Rect.unit (s := S512x3072) ![0, 0] ![512, 384] inb_S512x3072_S512x384_0_0))
      (View.ld (Val := Elt Ideal) (e' := .bf16) x1 (Rect.unit (s := S8x1024x384) ![0, 0, 0] ![1, 1024, 384] inb_S8x1024x384_S1x1024x384_0_0_0))
      (View.ld (Val := Elt Ideal) (e' := .bf16) x0 (Rect.unit (s := S512x3072) ![0, 384] ![512, 384] inb_S512x3072_S512x384_0_384))
      (View.ld (Val := Elt Ideal) (e' := .bf16) x1 (Rect.unit (s := S8x1024x384) ![1, 0, 0] ![1, 1024, 384] inb_S8x1024x384_S1x1024x384_1_0_0))
      (View.ld (Val := Elt Ideal) (e' := .bf16) x0 (Rect.unit (s := S512x3072) ![0, 768] ![512, 384] inb_S512x3072_S512x384_0_768))
      (View.ld (Val := Elt Ideal) (e' := .bf16) x1 (Rect.unit (s := S8x1024x384) ![2, 0, 0] ![1, 1024, 384] inb_S8x1024x384_S1x1024x384_2_0_0))
      (View.ld (Val := Elt Ideal) (e' := .bf16) x0 (Rect.unit (s := S512x3072) ![0, 1152] ![512, 384] inb_S512x3072_S512x384_0_1152))
      (View.ld (Val := Elt Ideal) (e' := .bf16) x1 (Rect.unit (s := S8x1024x384) ![3, 0, 0] ![1, 1024, 384] inb_S8x1024x384_S1x1024x384_3_0_0))
      (View.ld (Val := Elt Ideal) (e' := .bf16) x0 (Rect.unit (s := S512x3072) ![0, 1536] ![512, 384] inb_S512x3072_S512x384_0_1536))
      (View.ld (Val := Elt Ideal) (e' := .bf16) x1 (Rect.unit (s := S8x1024x384) ![4, 0, 0] ![1, 1024, 384] inb_S8x1024x384_S1x1024x384_4_0_0)))
    (View.ld (Val := Elt Ideal) (e' := .bf16) x0 (Rect.unit (s := S512x3072) ![0, 1920] ![512, 384] inb_S512x3072_S512x384_0_1920))
    (View.ld (Val := Elt Ideal) (e' := .bf16) x1 (Rect.unit (s := S8x1024x384) ![5, 0, 0] ![1, 1024, 384] inb_S8x1024x384_S1x1024x384_5_0_0))
    (View.ld (Val := Elt Ideal) (e' := .bf16) x0 (Rect.unit (s := S512x3072) ![0, 2304] ![512, 384] inb_S512x3072_S512x384_0_2304))
    (View.ld (Val := Elt Ideal) (e' := .bf16) x1 (Rect.unit (s := S8x1024x384) ![6, 0, 0] ![1, 1024, 384] inb_S8x1024x384_S1x1024x384_6_0_0))
    (View.ld (Val := Elt Ideal) (e' := .bf16) x0 (Rect.unit (s := S512x3072) ![0, 2688] ![512, 384] inb_S512x3072_S512x384_0_2688))
    (View.ld (Val := Elt Ideal) (e' := .bf16) x1 (Rect.unit (s := S8x1024x384) ![7, 0, 0] ![1, 1024, 384] inb_S8x1024x384_S1x1024x384_7_0_0))
def part9 : S1x1024.Idx → EReal := k0_pay9 (F := Ideal)
    (k0_pay4 (F := Ideal) (View.ld (Val := Elt Ideal) (e' := .bf16) x0 (Rect.unit (s := S512x3072) ![0, 0] ![512, 384] inb_S512x3072_S512x384_0_0))
      (View.ld (Val := Elt Ideal) (e' := .bf16) x1 (Rect.unit (s := S8x1024x384) ![0, 0, 0] ![1, 1024, 384] inb_S8x1024x384_S1x1024x384_0_0_0))
      (View.ld (Val := Elt Ideal) (e' := .bf16) x0 (Rect.unit (s := S512x3072) ![0, 384] ![512, 384] inb_S512x3072_S512x384_0_384))
      (View.ld (Val := Elt Ideal) (e' := .bf16) x1 (Rect.unit (s := S8x1024x384) ![1, 0, 0] ![1, 1024, 384] inb_S8x1024x384_S1x1024x384_1_0_0))
      (View.ld (Val := Elt Ideal) (e' := .bf16) x0 (Rect.unit (s := S512x3072) ![0, 768] ![512, 384] inb_S512x3072_S512x384_0_768))
      (View.ld (Val := Elt Ideal) (e' := .bf16) x1 (Rect.unit (s := S8x1024x384) ![2, 0, 0] ![1, 1024, 384] inb_S8x1024x384_S1x1024x384_2_0_0))
      (View.ld (Val := Elt Ideal) (e' := .bf16) x0 (Rect.unit (s := S512x3072) ![0, 1152] ![512, 384] inb_S512x3072_S512x384_0_1152))
      (View.ld (Val := Elt Ideal) (e' := .bf16) x1 (Rect.unit (s := S8x1024x384) ![3, 0, 0] ![1, 1024, 384] inb_S8x1024x384_S1x1024x384_3_0_0))
      (View.ld (Val := Elt Ideal) (e' := .bf16) x0 (Rect.unit (s := S512x3072) ![0, 1536] ![512, 384] inb_S512x3072_S512x384_0_1536))
      (View.ld (Val := Elt Ideal) (e' := .bf16) x1 (Rect.unit (s := S8x1024x384) ![4, 0, 0] ![1, 1024, 384] inb_S8x1024x384_S1x1024x384_4_0_0)))
    (View.ld (Val := Elt Ideal) (e' := .bf16) x0 (Rect.unit (s := S512x3072) ![0, 1920] ![512, 384] inb_S512x3072_S512x384_0_1920))
    (View.ld (Val := Elt Ideal) (e' := .bf16) x1 (Rect.unit (s := S8x1024x384) ![5, 0, 0] ![1, 1024, 384] inb_S8x1024x384_S1x1024x384_5_0_0))
    (View.ld (Val := Elt Ideal) (e' := .bf16) x0 (Rect.unit (s := S512x3072) ![0, 2304] ![512, 384] inb_S512x3072_S512x384_0_2304))
    (View.ld (Val := Elt Ideal) (e' := .bf16) x1 (Rect.unit (s := S8x1024x384) ![6, 0, 0] ![1, 1024, 384] inb_S8x1024x384_S1x1024x384_6_0_0))
    (View.ld (Val := Elt Ideal) (e' := .bf16) x0 (Rect.unit (s := S512x3072) ![0, 2688] ![512, 384] inb_S512x3072_S512x384_0_2688))
    (View.ld (Val := Elt Ideal) (e' := .bf16) x1 (Rect.unit (s := S8x1024x384) ![7, 0, 0] ![1, 1024, 384] inb_S8x1024x384_S1x1024x384_7_0_0)) x2

/-- A row of the arguments, real, and its blocks. -/
structure Row (u : Fin 3072 → ℝ) (w : Fin 1024 → Fin 3072 → ℝ) (x g : Fin 1024 → ℝ) (a : Fin 512) : Prop where
  h0 : ∀ k, x0 (ix2 a k) = (u k : EReal)
  h1 : ∀ (b : Fin 8) (q : Fin 1024) (k : Fin 384), x1 (ix3 b q k) = (w q ⟨b.val * 384 + k.val, by omega⟩ : EReal)
  h2 : ∀ q, x2 (ix2 a q) = (x q : EReal)
  h3 : ∀ q, x3 (ix2 0 q) = (g q : EReal)

variable {x0 x1 x2 x3} {u : Fin 3072 → ℝ} {w : Fin 1024 → Fin 3072 → ℝ} {x g : Fin 1024 → ℝ} {a : Fin 512} (B : Row x0 x1 x2 x3 u w x g a)

/-- A term of a product of 3072, by its number. -/
def term (u v : Fin 3072 → ℝ) (n : ℕ) : ℝ := if h : n < 3072 then u ⟨n, h⟩ * v ⟨n, h⟩ else 0
theorem term_at (u v : Fin 3072 → ℝ) (k : Fin 3072) : term u v k.val = u k * v k := dif_pos k.isLt

include B in
theorem prod_at (q : Fin 1024) : prod x0 x1 (ix2 a q) = ((∑ k, u k * w q k : ℝ) : EReal) := by
  unfold prod k0_pay5 k0_pay4
  pointwise [B.h0, B.h1]
  simp only [← EReal.coe_mul, coe_sum, ← EReal.coe_add]
  refine congrArg _ (Eq.symm ?_)
  refine (Finset.sum_congr rfl fun k _ => (term_at u (w q) k).symm).trans ((Fin.sum_univ_univ_mul_add 8 384 (term u (w q))).symm.trans ?_)
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    exact Finset.sum_congr rfl fun k _ => (dif_pos (by simp; omega)).trans (by simp)
theorem part9_at (q : Fin 1024) : part9 x0 x1 x2 (ix2 0 q) = ∑ a : Fin 512, prod x0 x1 (ix2 a q) * Cert.RmsKIdeal.Gen.k0_pay7 (F := Ideal) x2 (ix2 a q) := by
  unfold part9 k0_pay9
  pointwise
  rfl
end Body

variable (m : (ℓ : Loc nD τ sig) → Buf (Elt Ideal) ℓ) (c : Dev nD)

/-- The arguments. -/
abbrev A0 : S8192x3072.Idx → EReal := m ((c : Thread nD τ).loc main_arg0)
abbrev A1 : S1024x3072.Idx → EReal := m ((c : Thread nD τ).loc main_arg1)
abbrev A2 : S8192x1024.Idx → EReal := m ((c : Thread nD τ).loc main_arg2)
abbrev A3 : S1024.Idx → EReal := m ((c : Thread nD τ).loc main_arg3)
abbrev A4 : S8192x1024.Idx → EReal := m ((c : Thread nD τ).loc main_arg4)

/-- The input blocks at a grid point. -/
abbrev B0 (t : Fin cfg0.N) : S512x3072.Idx → EReal := iblk m c 0 t
abbrev B1 (t : Fin cfg0.N) : S8x1024x384.Idx → EReal := iblk m c 1 t
abbrev B2 (t : Fin cfg0.N) : S512x1024.Idx → EReal := iblk m c 2 t
abbrev B3 (t : Fin cfg0.N) : S1x1024.Idx → EReal := iblk m c 3 t
abbrev B4 (t : Fin cfg0.N) : S512x1024.Idx → EReal := iblk m c 4 t

/-- Where each window's block stands at grid point `t`. -/
theorem idx : ∀ t : Fin grid0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] := by
  decide +kernel

theorem v3 (i : S8192x3072.Idx) : (V m c main_v3 : S8192x3072.Idx → EReal) i = A0 m c i := by
  entry_read; pointwise
theorem v2 (a : Fin 8) (q : Fin 1024) (k : Fin 384) : (V m c main_v2 : S8x1024x384.Idx → EReal) (ix3 a q k) = A1 m c (ix2 q ⟨a.val * 384 + k.val, by omega⟩) := by
  entry_read; pointwise
theorem v4 (q : Fin 1024) : (V m c main_v4 : S1x1024.Idx → EReal) (ix2 0 q) = A3 m c (ix1 q) := by
  entry_read; pointwise

theorem b0 (t : Fin cfg0.N) (a : Fin 512) (k : Fin 3072) (r : Fin 8192) (h : r.val = t.val * 512 + a.val) : B0 m c t (ix2 a k) = A0 m c (ix2 r k) := by
  have g : (win0_0.blk t).view.emb (ix2 a k) = ix2 r k := by blk_ext [(idx t).1, h]
  unfold B0; blk_simp [iblk]
  exact (congrArg (V m c main_v3 : S8192x3072.Idx → EReal) g).trans (v3 m c _)
theorem b1 (t : Fin cfg0.N) (b : Fin 8) (q : Fin 1024) (k : Fin 384) : B1 m c t (ix3 b q k) = A1 m c (ix2 q ⟨b.val * 384 + k.val, by omega⟩) := by
  have g : (win0_1.blk t).view.emb (ix3 b q k) = ix3 b q k := by blk_ext [(idx t).2.1]
  unfold B1; blk_simp [iblk]
  exact (congrArg (V m c main_v2 : S8x1024x384.Idx → EReal) g).trans (v2 m c _ _ _)
theorem b2 (t : Fin cfg0.N) (a : Fin 512) (q : Fin 1024) (r : Fin 8192) (h : r.val = t.val * 512 + a.val) : B2 m c t (ix2 a q) = A2 m c (ix2 r q) := by
  have g : (win0_2.blk t).view.emb (ix2 a q) = ix2 r q := by blk_ext [(idx t).2.2.1, h]
  unfold B2; blk_simp [iblk]
  exact congrArg (A2 m c) g
theorem b3 (t : Fin cfg0.N) (q : Fin 1024) : B3 m c t (ix2 0 q) = A3 m c (ix1 q) := by
  have g : (win0_3.blk t).view.emb (ix2 0 q) = ix2 0 q := by blk_ext [(idx t).2.2.2.1]
  unfold B3; blk_simp [iblk]
  exact (congrArg (V m c main_v4 : S1x1024.Idx → EReal) g).trans (v4 m c _)
theorem b4 (t : Fin cfg0.N) (a : Fin 512) (q : Fin 1024) (r : Fin 8192) (h : r.val = t.val * 512 + a.val) : B4 m c t (ix2 a q) = A4 m c (ix2 r q) := by
  have g : (win0_4.blk t).view.emb (ix2 a q) = ix2 r q := by blk_ext [(idx t).2.2.2.2.1, h]
  unfold B4; blk_simp [iblk]
  exact congrArg (A4 m c) g

/-- What a point leaves in each output block. -/
theorem outs_x (t : Fin cfg0.N) (y : S512x1024.Idx) : ((outsAt0 m c t.val t.isLt).1 : S512x1024.Idx → EReal) y
    = k0_pay1 (F := Ideal) (prod (B0 m c t) (B1 m c t)) (k0_pay6 (B2 m c t)) (k0_pay7 (B2 m c t)) (k0_pay8 (B3 m c t)) (B4 m c t) y := by
  have ht := lt_of_lt_of_eq t.isLt N_0
  unfold prod
  by_cases h0 : t.val % 16 = 0
  · rw [outsAt0_A m c t h0 (by omega)]
    dsimp only
    frame_out
  · rw [outsAt0_B m c t h0 (by omega)]
    dsimp only
    frame_out
theorem outs_b (t : Fin cfg0.N) (y : S512x1024.Idx) : ((outsAt0 m c t.val t.isLt).2.1 : S512x1024.Idx → EReal) y
    = k0_pay2 (F := Ideal) (prod (B0 m c t) (B1 m c t)) (k0_pay6 (B2 m c t)) (k0_pay7 (B2 m c t)) (k0_pay8 (B3 m c t)) (B4 m c t) y := by
  have ht := lt_of_lt_of_eq t.isLt N_0
  unfold prod
  by_cases h0 : t.val % 16 = 0
  · rw [outsAt0_A m c t h0 (by omega)]
    dsimp only
    frame_out
  · rw [outsAt0_B m c t h0 (by omega)]
    dsimp only
    frame_out
theorem outs_first (t : Fin cfg0.N) (h0 : t.val = 0) (y : S1x1024.Idx) : ((outsAt0 m c t.val t.isLt).2.2 : S1x1024.Idx → EReal) y = part9 (B0 m c t) (B1 m c t) (B2 m c t) y := by
  unfold part9
  rw [outsAt0_A m c t (by omega) (by omega)]
  dsimp only
  frame_out
theorem outs_next (t : Fin cfg0.N) (h0 : t.val ≠ 0) (y : S1x1024.Idx) : ((outsAt0 m c t.val t.isLt).2.2 : S1x1024.Idx → EReal) y
    = ((outsAt0 m c (t.val - 1) (Nat.lt_of_le_of_lt (Nat.sub_le _ _) t.isLt)).2.2 : S1x1024.Idx → EReal) y + part9 (B0 m c t) (B1 m c t) (B2 m c t) y := by
  have ht := lt_of_lt_of_eq t.isLt N_0
  unfold part9
  rw [outsAt0_B m c t (by omega) (by omega)]
  generalize (outsAt0 m c (t.val - 1) (Nat.lt_of_le_of_lt (Nat.sub_le _ _) t.isLt)).2.2 = acc
  dsimp only
  frame_out
  exact next_at _ _ _

section Real

variable {u : S8192x3072.Idx → ℝ} {w : S1024x3072.Idx → ℝ} {x : S8192x1024.Idx → ℝ} {g : S1024.Idx → ℝ}
  (e0 : A0 m c = fun i => (u i : EReal)) (e1 : A1 m c = fun i => (w i : EReal)) (e2 : A2 m c = fun i => (x i : EReal)) (e3 : A3 m c = fun i => (g i : EReal))

include e0 e1 e2 e3 in
theorem row_real (t : Fin cfg0.N) (a : Fin 512) (r : Fin 8192) (h : r.val = t.val * 512 + a.val) :
    Row (B0 m c t) (B1 m c t) (B2 m c t) (B3 m c t) (fun k => u (ix2 r k)) (fun q k => w (ix2 q k)) (fun q => x (ix2 r q)) (fun q => g (ix1 q)) a where
  h0 k := (b0 m c t a k r h).trans (congrFun e0 _)
  h1 b q k := (b1 m c t b q k).trans (congrFun e1 _)
  h2 q := (b2 m c t a q r h).trans (congrFun e2 _)
  h3 q := (b3 m c t q).trans (congrFun e3 _)

include e0 e1 e2 e3 in
theorem dres_at (t : Fin cfg0.N) (y : S512x1024.Idx) (j : S8192x1024.Idx) (h0 : (j 0).val = t.val * 512 + (y 0).val) (h1 : (j 1).val = (y 1).val) :
    k0_pay1 (F := Ideal) (prod (B0 m c t) (B1 m c t)) (k0_pay6 (B2 m c t)) (k0_pay7 (B2 m c t)) (k0_pay8 (B3 m c t)) (B4 m c t) y = dres (P u w) x g (A4 m c) j := by
  obtain ⟨a, q, rfl⟩ : ∃ a q, y = ix2 a q := ⟨_, _, eq_ix2 y⟩
  obtain ⟨r, p, rfl⟩ : ∃ r p, j = ix2 r p := ⟨_, _, eq_ix2 j⟩
  obtain rfl : p = q := Fin.ext h1
  have B := row_real m c e0 e1 e2 e3 t a r h0
  exact dres_pay (prod_at B) B.h2 B.h3 p (b4 m c t a p r h0)

include e0 e1 e2 e3 in
theorem dres_value : (dats m 0 c).arrAt 5 cfg0.N = dres (P u w) x g (A4 m c) := by
  refine (dats m 0 c).arrAt_eq_of_covers 5 _ (by decide +kernel) fun t hf y => ?_
  refine (congrFun (Value.flushed5 m c t) y).trans ?_
  refine (outs_x m c t _).trans (dres_at m c e0 e1 e2 e3 t _ _ ?_ ?_)
  · blk_simp [(idx t).2.2.2.2.2.1]
  · blk_simp [(idx t).2.2.2.2.2.1]
include e0 e1 e2 e3 in
theorem dresb_value : (dats m 0 c).arrAt 6 cfg0.N = dres (P u w) x g (A4 m c) := by
  refine (dats m 0 c).arrAt_eq_of_covers 6 _ (by decide +kernel) fun t hf y => ?_
  refine (congrFun (Value.flushed6 m c t) y).trans ?_
  refine (outs_b m c t _).trans ((cast_at _ _ _ _ _ _).trans (dres_at m c e0 e1 e2 e3 t _ _ ?_ ?_))
  · blk_simp [(idx t).2.2.2.2.2.2.1]
  · blk_simp [(idx t).2.2.2.2.2.2.1]

include e0 e1 e2 e3 in
theorem part_at (t : Fin cfg0.N) (q : Fin 1024) : part9 (B0 m c t) (B1 m c t) (B2 m c t) (ix2 0 q) = ((∑ a : Fin 512, line (P u w) x q (t.val * 512 + a.val) : ℝ) : EReal) := by
  rw [part9_at, ← coe_sum]
  refine Finset.sum_congr rfl fun a _ => ?_
  have h : t.val * 512 + a.val < 8192 := by have := lt_of_lt_of_eq t.isLt N_0; omega
  have B := row_real m c e0 e1 e2 e3 t a ⟨_, h⟩ rfl
  rw [prod_at B, hat_at B.h2, line, dif_pos h, ← EReal.coe_mul]
  rfl

include e0 e1 e2 e3 in
theorem dg_value : (dats m 0 c).arrAt 7 cfg0.N = dg (P u w) x := by
  refine (dats m 0 c).arrAt_eq_of_after_last 7 t0_15 (by decide +kernel) _ fun j => ?_
  blk_simp
  rw [after0_7]
  refine (Pipeline.eq_sum_of_reset_step_apply_single (fun n h => ((outsAt0 m c n h).2.2 : S1x1024.Idx → EReal)) 16 (fun _ => 0)
    (fun t j => ((∑ a : Fin 512, line (P u w) x (j 1) (t * 512 + a.val) : ℝ) : EReal))
    (fun t h j => ?_) (fun t h j => ?_) (by decide) t0_15 _).trans ?_
  · have ht := lt_of_lt_of_eq t.isLt N_0
    obtain ⟨z, q, rfl⟩ : ∃ z q, j = ix2 z q := ⟨_, _, eq_ix2 j⟩
    obtain rfl : z = 0 := Subsingleton.elim _ _
    exact ((outs_first m c t (by omega) _).trans (part_at m c e0 e1 e2 e3 t q)).trans (zero_add _).symm
  · obtain ⟨z, q, rfl⟩ : ∃ z q, j = ix2 z q := ⟨_, _, eq_ix2 j⟩
    obtain rfl : z = 0 := Subsingleton.elim _ _
    exact (outs_next m c t (by omega) _).trans (congrArg (_ + ·) (part_at m c e0 e1 e2 e3 t q))
  · rw [zero_add]
    exact sum_lines (P u w) x j

end Real

theorem dres_result (u : S8192x3072.Idx → ℝ) (w : S1024x3072.Idx → ℝ) (x : S8192x1024.Idx → ℝ) (g : S1024.Idx → ℝ)
    (a0 : S8192x3072.Idx → EReal) (a1 : S1024x3072.Idx → EReal) (a2 : S8192x1024.Idx → EReal) (a3 : S1024.Idx → EReal) (d : S8192x1024.Idx → EReal)
    (h0 : a0 = fun i => (u i : EReal)) (h1 : a1 = fun i => (w i : EReal)) (h2 : a2 = fun i => (x i : EReal)) (h3 : a3 = fun i => (g i : EReal)) :
    Cert.RmsCRIdeal.Read.val_main_v38 (F := Ideal) a0 a1 a2 a3 d = dres (P u w) x g d := by
  subst h0 h1 h2 h3
  exact funext fun i => (congrArg _ (eq_ix2 i)).trans ((r38 u w x g d (i 0) (i 1)).trans (congrArg _ (eq_ix2 i).symm))
theorem dg_result (u : S8192x3072.Idx → ℝ) (w : S1024x3072.Idx → ℝ) (x : S8192x1024.Idx → ℝ)
    (a0 : S8192x3072.Idx → EReal) (a1 : S1024x3072.Idx → EReal) (a2 : S8192x1024.Idx → EReal)
    (h0 : a0 = fun i => (u i : EReal)) (h1 : a1 = fun i => (w i : EReal)) (h2 : a2 = fun i => (x i : EReal)) :
    Cert.RmsCRIdeal.Read.val_main_v40 (F := Ideal) a0 a1 a2 = dg (P u w) x := by
  subst h0 h1 h2
  refine funext fun i => ?_
  obtain ⟨z, q, rfl⟩ : ∃ z q, i = ix2 z q := ⟨_, _, eq_ix2 i⟩
  obtain rfl : z = 0 := Subsingleton.elim _ _
  exact r40 u w x q

/-- Kernel and reference agree. -/
theorem agree : Cert.algebraic_RmsCKIdeal_RmsCRIdeal_pre_rms_ok_conv := by
  intro m g m' g' pre hag
  refine ⟨fun c => (dats m 0 c).arrAt 5 cfg0.N, fun c => (dats m 0 c).arrAt 6 cfg0.N, fun c => (dats m 0 c).arrAt 7 cfg0.N, ?_, ?_⟩
  · exact (θ_run _ _ _).mono (fun r h c => h c) (Value.run_blocks (F := Ideal) m g)
  · refine (θ_run _ _ _).mono (fun r h c => ?_) (Cert.RmsCRIdeal.Value.run (F := Ideal) m' g')
    obtain ⟨⟨u, h0⟩, ⟨w, h1⟩, ⟨x, h2⟩, ⟨y, h3⟩⟩ := Cert.RmsCPre.finite _ _ _ _ _ (pre c)
    obtain ⟨e0, e1, e2, e3, e4⟩ := hag c
    refine ⟨(h c).1.trans ?_, (h c).2.1.trans ?_, (h c).2.2.1.trans ?_, (h c).2.2.2⟩
    · rw [Cert.RmsCRIdeal.Read.val_main_v38_eq, e0, e1, e2, e3, e4]
      exact (dres_result u w x y _ _ _ _ _ h0 h1 h2 h3).trans (dres_value m c h0 h1 h2 h3).symm
    · rw [Cert.RmsCRIdeal.Read.val_main_v39_eq, e0, e1, e2, e3, e4]
      exact (dres_result u w x y _ _ _ _ _ h0 h1 h2 h3).trans (dresb_value m c h0 h1 h2 h3).symm
    · rw [Cert.RmsCRIdeal.Read.val_main_v40_eq, e0, e1, e2]
      exact (dg_result u w x _ _ _ h0 h1 h2).trans (dg_value m c h0 h1 h2 h3).symm

/-- The reference runs and leaves its arguments. -/
theorem reference_frame : Cert.quiescent_RmsCRIdeal := fun m g _ =>
  (θ_run _ _ _).mono (fun r h => ⟨fun c => (h c).2.2.2, sem_eq_zero_of_no_sems (by decide) r.2⟩) (Cert.RmsCRIdeal.Value.run (F := Ideal) m g)
theorem reference_frame_pre : Cert.quiescent_RmsCRIdeal_pre_rms_ok_conv := fun m g _ => reference_frame m g trivial

end Cert.RmsCProof
-- ==== Proof.RmsD.lean ====
/- The gradient of the norm ahead of attention, fused with the product that feeds it. -/
module

public import proofs.«01_k».proof.Defs
public import proofs.«01_k».proof.Proof.Gen.Pre_rms_ok_down
public import proofs.«01_k».proof.Proof.Gen.RmsDKIdeal.Value
public import proofs.«01_k».proof.Proof.Gen.RmsDRIdeal.Run
public import proofs.«01_k».proof.Proof.Gen.RmsDRIdeal.Read
public import proofs.«01_k».proof.Proof.AttPre
public import proofs.«01_k».proof.Proof.AttReal
public import proofs.«01_k».proof.Proof.Rms
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.Quiescent

@[expose] public section

set_option maxRecDepth 16384

noncomputable section

namespace Cert.RmsDPre

open Idealize.ShloMosaic
open Cert.Pre_rms_ok_down Cert.Pre_rms_ok_down.Facts
open Cert.AttReal (real_of_lt)

variable [Facts] (a0 : FVec Ideal S8192x448 .f32) (a1 : FVec Ideal S1024x448 .f32) (a2 : FVec Ideal S8192x1024 .f32) (a3 : FVec Ideal S1024 .f32) (a4 : FVec Ideal S8192x1024 .f32)

/-- What the precondition says, element by element. -/
theorem split (h : fn (F := Ideal) a0 a1 a2 a3 a4 = fun _ => 1#1) :
    (∀ i, cmpf .olt (Host.absf a0) (broadcastInDim S8192x448 ![] bcast_S_S8192x448 (constant (F := Ideal) S_ .f32 0x7F800000#32)) i = 1#1) ∧
    (∀ i, cmpf .olt (Host.absf a1) (broadcastInDim S1024x448 ![] bcast_S_S1024x448 (constant (F := Ideal) S_ .f32 0x7F800000#32)) i = 1#1) ∧
    (∀ i, cmpf .olt (Host.absf a2) (broadcastInDim S8192x1024 ![] bcast_S_S8192x1024 (constant (F := Ideal) S_ .f32 0x7F800000#32)) i = 1#1) ∧
    (∀ i, cmpf .olt (Host.absf a3) (broadcastInDim S1024 ![] bcast_S_S1024 (constant (F := Ideal) S_ .f32 0x7F800000#32)) i = 1#1) := by
  have hz := congrFun h (fun a => a.elim0)
  obtain ⟨hz, e3⟩ := IntOp.andi_eq_one.1 hz
  obtain ⟨hz, e2⟩ := IntOp.andi_eq_one.1 hz
  obtain ⟨e0, e1⟩ := IntOp.andi_eq_one.1 hz
  haveI : Subsingleton S_.Idx := ⟨fun a b => funext fun d => d.elim0⟩
  exact ⟨Host.reduce_andi_all _ _ _ _ _ e0, Host.reduce_andi_all _ _ _ _ _ e1, Host.reduce_andi_all _ _ _ _ _ e2, Host.reduce_andi_all _ _ _ _ _ e3⟩

theorem finite (h : fn (F := Ideal) a0 a1 a2 a3 a4 = fun _ => 1#1) :
    (∃ f : S8192x448.Idx → ℝ, a0 = fun i => (f i : EReal)) ∧ (∃ f : S1024x448.Idx → ℝ, a1 = fun i => (f i : EReal)) ∧
    (∃ f : S8192x1024.Idx → ℝ, a2 = fun i => (f i : EReal)) ∧ (∃ f : S1024.Idx → ℝ, a3 = fun i => (f i : EReal)) := by
  obtain ⟨e0, e1, e2, e3⟩ := split a0 a1 a2 a3 a4 h
  refine ⟨⟨fun i => (a0 i).toReal, funext fun i => real_of_lt (a0 i) ?_⟩, ⟨fun i => (a1 i).toReal, funext fun i => real_of_lt (a1 i) ?_⟩,
    ⟨fun i => (a2 i).toReal, funext fun i => real_of_lt (a2 i) ?_⟩, ⟨fun i => (a3 i).toReal, funext fun i => real_of_lt (a3 i) ?_⟩⟩
  · exact e0 i
  · exact e1 i
  · exact e2 i
  · exact e3 i

end Cert.RmsDPre

namespace Cert.RmsDProof

open Idealize.ShloMosaic Idealize.ShloMosaic.TcCoe Idealize.SL.Sem
open Cert.RmsDKIdeal Cert.RmsDKIdeal.Gen
open Cert.AttReal (coe_sum div_real zero)
open Cert.Norm

/-- The product. -/
def P (u : S8192x448.Idx → ℝ) (w : S1024x448.Idx → ℝ) (r : Fin 8192) (q : Fin 1024) : ℝ := ∑ k : Fin 448, u (ix2 r k) * w (ix2 q k)

section Reference

open Cert.RmsDRIdeal.Read
open Cert.AttReal (up)

variable (u : S8192x448.Idx → ℝ) (w : S1024x448.Idx → ℝ) (x : S8192x1024.Idx → ℝ) (g : S1024.Idx → ℝ) (d : S8192x1024.Idx → EReal)

theorem r6 (r : Fin 8192) : (val_main_v6 (F := Ideal) (up x) : Cert.RmsDRIdeal.S8192x1.Idx → EReal) (ix2 r 0) = (ms x r : EReal) := Cert.RmsProof.r6 x r
theorem r7 (r : Fin 8192) : (val_main_v7 (F := Ideal) (up x) : Cert.RmsDRIdeal.S8192x1.Idx → EReal) (ix2 r 0) = (inv x r : EReal) := Cert.RmsProof.r7 x r
theorem r10 (r : Fin 8192) : (val_main_v10 (F := Ideal) (up x) : Cert.RmsDRIdeal.S8192x1.Idx → EReal) (ix2 r 0) = ((-1 / 2 * (inv x r / ms x r) : ℝ) : EReal) := Cert.RmsProof.r10 x r
theorem r12 (r : Fin 8192) (q : Fin 1024) : (val_main_v12 (F := Ideal) (up x) : S8192x1024.Idx → EReal) (ix2 r q) = ((x (ix2 r q) * inv x r : ℝ) : EReal) := Cert.RmsProof.r12 x r q
theorem r17 (r : Fin 8192) (q : Fin 1024) : (val_main_v17 (F := Ideal) (up u) (up w) : S8192x1024.Idx → EReal) (ix2 r q) = (P u w r q : EReal) := by
  unfold val_main_v17
  pointwise
  simp only [up, ← EReal.coe_mul, coe_sum]
  rfl
theorem r40 (q : Fin 1024) : (val_main_v40 (F := Ideal) (up u) (up w) (up x) : S1x1024.Idx → EReal) (ix2 0 q) = dg (P u w) x (ix2 0 q) := by
  unfold val_main_v40 val_main_v23 val_main_v20 val_main_v19 val_main_v18 val_main_cst_3 val_main_cst_4
  pointwise [r12, r17]
  simp only [Fin.sum_univ_one, ← EReal.coe_mul, coe_sum]
  unfold dg
  refine congrArg _ (Finset.sum_congr rfl fun r _ => mul_comm _ _)
theorem r22 (r : Fin 8192) (q : Fin 1024) : (val_main_v22 (F := Ideal) (up u) (up w) (up g) : S8192x1024.Idx → EReal) (ix2 r q) = ((P u w r q * g (ix1 q) : ℝ) : EReal) := by
  unfold val_main_v22 val_main_v21 val_main_v13
  pointwise [r17]
  simp only [up, ← EReal.coe_mul]
theorem r34 (r : Fin 8192) (q : Fin 1024) : (val_main_v34 (F := Ideal) (up u) (up w) (up x) (up g) : S8192x1024.Idx → EReal) (ix2 r q)
    = (((∑ p : Fin 1024, x (ix2 r p) * (P u w r p * g (ix1 p))) * (-1 / 2 * (inv x r / ms x r)) / 1024 : ℝ) : EReal) := by
  unfold val_main_v34 val_main_v33 val_main_v32 val_main_v31 val_main_v30 val_main_v26 val_main_v25 val_main_v24 val_main_cst_5 val_main_cst_6 val_main_cst_7
  pointwise [r22, r10]
  rw [width]
  simp only [Fin.sum_univ_one, up, ← EReal.coe_mul, coe_sum]
  rw [r10, ← EReal.coe_mul, div_real (by norm_num)]
theorem r38 (r : Fin 8192) (q : Fin 1024) : (val_main_v38 (F := Ideal) (up u) (up w) (up x) (up g) d : S8192x1024.Idx → EReal) (ix2 r q) = dres (P u w) x g d (ix2 r q) := by
  unfold val_main_v38 val_main_v37 val_main_v36 val_main_v35 val_main_v29 val_main_v28 val_main_v27
  pointwise [r22, r34, r7]
  simp only [up, ← EReal.coe_mul]
  rw [add_assoc, add_assoc, ← EReal.coe_add, ← EReal.coe_add]
  refine congrArg (fun y : ℝ => d (ix2 r q) + (y : EReal)) ?_
  show _ = dnorm (P u w) x g r q
  exact dnorm_eq (P u w) x g r q

end Reference

section Body

variable (x0 : S512x512.Idx → EReal) (x1 : S1x1024x512.Idx → EReal) (x2 x4 : S512x1024.Idx → EReal) (x3 : S1x1024.Idx → EReal)

/-- A row of the arguments, real, and its blocks, padded by zeros. -/
structure Row (u : Fin 448 → ℝ) (w : Fin 1024 → Fin 448 → ℝ) (x g : Fin 1024 → ℝ) (a : Fin 512) : Prop where
  h0 : ∀ k, x0 (ix2 a k) = ((if h : k.val < 448 then u ⟨k.val, h⟩ else 0 : ℝ) : EReal)
  h1 : ∀ (q : Fin 1024) (k : Fin 512), x1 (ix3 0 q k) = ((if h : k.val < 448 then w q ⟨k.val, h⟩ else 0 : ℝ) : EReal)
  h2 : ∀ q, x2 (ix2 a q) = (x q : EReal)
  h3 : ∀ q, x3 (ix2 0 q) = (g q : EReal)

variable {x0 x1 x2 x3} {u : Fin 448 → ℝ} {w : Fin 1024 → Fin 448 → ℝ} {x g : Fin 1024 → ℝ} {a : Fin 512} (B : Row x0 x1 x2 x3 u w x g a)

include B in
theorem prod_at (q : Fin 1024) : k0_pay2 (F := Ideal) x0 x1 (ix2 a q) = ((∑ k, u k * w q k : ℝ) : EReal) := by
  unfold k0_pay2
  pointwise [B.h0, B.h1]
  simp only [← EReal.coe_mul, coe_sum]
  simp
theorem part5_at (q : Fin 1024) : k0_pay5 (F := Ideal) x0 x1 x2 (ix2 0 q) = ∑ a : Fin 512, k0_pay2 (F := Ideal) x0 x1 (ix2 a q) * Cert.RmsKIdeal.Gen.k0_pay7 (F := Ideal) x2 (ix2 a q) := by
  unfold k0_pay5
  pointwise
  rfl

end Body

variable (m : (ℓ : Loc nD τ sig) → Buf (Elt Ideal) ℓ) (c : Dev nD)

/-- The arguments. -/
abbrev A0 : S8192x448.Idx → EReal := m ((c : Thread nD τ).loc main_arg0)
abbrev A1 : S1024x448.Idx → EReal := m ((c : Thread nD τ).loc main_arg1)
abbrev A2 : S8192x1024.Idx → EReal := m ((c : Thread nD τ).loc main_arg2)
abbrev A3 : S1024.Idx → EReal := m ((c : Thread nD τ).loc main_arg3)
abbrev A4 : S8192x1024.Idx → EReal := m ((c : Thread nD τ).loc main_arg4)

/-- The input blocks at a grid point. -/
abbrev B0 (t : Fin cfg0.N) : S512x512.Idx → EReal := iblk m c 0 t
abbrev B1 (t : Fin cfg0.N) : S1x1024x512.Idx → EReal := iblk m c 1 t
abbrev B2 (t : Fin cfg0.N) : S512x1024.Idx → EReal := iblk m c 2 t
abbrev B3 (t : Fin cfg0.N) : S1x1024.Idx → EReal := iblk m c 3 t
abbrev B4 (t : Fin cfg0.N) : S512x1024.Idx → EReal := iblk m c 4 t

/-- Where each window's block stands at grid point `t`. -/
theorem idx : ∀ t : Fin grid0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] := by
  decide +kernel

theorem pad_zero (φ : FTy) : (FloatOps.sitofp (F := Ideal) φ (0#32 : BitVec 32) : EReal) = 0 := by
  simp [FloatOps.sitofp]
/-- The padded arrays. -/
theorem v3 (r : Fin 8192) (k : Fin 512) : (V m c main_v3 : S8192x512.Idx → EReal) (ix2 r k) = if h : k.val < 448 then A0 m c (ix2 r ⟨k.val, h⟩) else 0 := by
  refine Eq.trans (b := if h : k.val < 448 then A0 m c (ix2 r ⟨k.val, h⟩) else FloatOps.sitofp (F := Ideal) .f32 (0#32 : BitVec 32)) ?_ (by simp [pad_zero])
  unfold V
  after_reads_at
theorem v2 (q : Fin 1024) (k : Fin 512) : (V m c main_v2 : S1x1024x512.Idx → EReal) (ix3 0 q k) = if h : k.val < 448 then A1 m c (ix2 q ⟨k.val, h⟩) else 0 := by
  refine Eq.trans (b := if h : k.val < 448 then A1 m c (ix2 q ⟨k.val, h⟩) else FloatOps.sitofp (F := Ideal) .bf16 (0#32 : BitVec 32)) ?_ (by simp [pad_zero])
  unfold V
  after_reads_at
theorem v4 (q : Fin 1024) : (V m c main_v4 : S1x1024.Idx → EReal) (ix2 0 q) = A3 m c (ix1 q) := by
  unfold V
  after_reads_at

theorem b0 (t : Fin cfg0.N) (a : Fin 512) (k : Fin 512) (r : Fin 8192) (h : r.val = t.val * 512 + a.val) :
    B0 m c t (ix2 a k) = if h : k.val < 448 then A0 m c (ix2 r ⟨k.val, h⟩) else 0 := by
  have g : (win0_0.blk t).view.emb (ix2 a k) = ix2 r k := by blk_ext [(idx t).1, h]
  unfold B0; blk_simp [iblk]
  exact (congrArg (V m c main_v3 : S8192x512.Idx → EReal) g).trans (v3 m c _ _)
theorem b1 (t : Fin cfg0.N) (q : Fin 1024) (k : Fin 512) : B1 m c t (ix3 0 q k) = if h : k.val < 448 then A1 m c (ix2 q ⟨k.val, h⟩) else 0 := by
  have g : (win0_1.blk t).view.emb (ix3 0 q k) = ix3 0 q k := by blk_ext [(idx t).2.1]
  unfold B1; blk_simp [iblk]
  exact (congrArg (V m c main_v2 : S1x1024x512.Idx → EReal) g).trans (v2 m c _ _)
theorem b2 (t : Fin cfg0.N) (a : Fin 512) (q : Fin 1024) (r : Fin 8192) (h : r.val = t.val * 512 + a.val) : B2 m c t (ix2 a q) = A2 m c (ix2 r q) := by
  have g : (win0_2.blk t).view.emb (ix2 a q) = ix2 r q := by blk_ext [(idx t).2.2.1, h]
  unfold B2; blk_simp [iblk]
  exact congrArg (A2 m c) g
theorem b3 (t : Fin cfg0.N) (q : Fin 1024) : B3 m c t (ix2 0 q) = A3 m c (ix1 q) := by
  have g : (win0_3.blk t).view.emb (ix2 0 q) = ix2 0 q := by blk_ext [(idx t).2.2.2.1]
  unfold B3; blk_simp [iblk]
  exact (congrArg (V m c main_v4 : S1x1024.Idx → EReal) g).trans (v4 m c _)
theorem b4 (t : Fin cfg0.N) (a : Fin 512) (q : Fin 1024) (r : Fin 8192) (h : r.val = t.val * 512 + a.val) : B4 m c t (ix2 a q) = A4 m c (ix2 r q) := by
  have g : (win0_4.blk t).view.emb (ix2 a q) = ix2 r q := by blk_ext [(idx t).2.2.2.2.1, h]
  unfold B4; blk_simp [iblk]
  exact congrArg (A4 m c) g

/-- What a point leaves in each output block. -/
theorem outs_x (t : Fin cfg0.N) (y : S512x1024.Idx) : ((outsAt0 m c t.val t.isLt).1 : S512x1024.Idx → EReal) y
    = Cert.RmsKIdeal.Gen.k0_pay1 (F := Ideal) (k0_pay2 (F := Ideal) (B0 m c t) (B1 m c t)) (Cert.RmsKIdeal.Gen.k0_pay6 (B2 m c t)) (Cert.RmsKIdeal.Gen.k0_pay7 (B2 m c t)) (Cert.RmsKIdeal.Gen.k0_pay8 (B3 m c t)) (B4 m c t) y := by
  have ht := lt_of_lt_of_eq t.isLt N_0
  by_cases h0 : t.val % 16 = 0
  · rw [outsAt0_A m c t h0 (by omega)]
    dsimp only
    frame_out
    rfl
  · rw [outsAt0_B m c t h0 (by omega)]
    dsimp only
    frame_out
    rfl
theorem outs_b (t : Fin cfg0.N) (y : S512x1024.Idx) : ((outsAt0 m c t.val t.isLt).2.1 : S512x1024.Idx → EReal) y
    = Cert.RmsKIdeal.Gen.k0_pay2 (F := Ideal) (k0_pay2 (F := Ideal) (B0 m c t) (B1 m c t)) (Cert.RmsKIdeal.Gen.k0_pay6 (B2 m c t)) (Cert.RmsKIdeal.Gen.k0_pay7 (B2 m c t)) (Cert.RmsKIdeal.Gen.k0_pay8 (B3 m c t)) (B4 m c t) y := by
  have ht := lt_of_lt_of_eq t.isLt N_0
  by_cases h0 : t.val % 16 = 0
  · rw [outsAt0_A m c t h0 (by omega)]
    dsimp only
    frame_out
    rfl
  · rw [outsAt0_B m c t h0 (by omega)]
    dsimp only
    frame_out
    rfl
theorem outs_first (t : Fin cfg0.N) (h0 : t.val = 0) (y : S1x1024.Idx) : ((outsAt0 m c t.val t.isLt).2.2 : S1x1024.Idx → EReal) y = k0_pay5 (F := Ideal) (B0 m c t) (B1 m c t) (B2 m c t) y := by
  rw [outsAt0_A m c t (by omega) (by omega)]
  dsimp only
  frame_out
theorem outs_next (t : Fin cfg0.N) (h0 : t.val ≠ 0) (y : S1x1024.Idx) : ((outsAt0 m c t.val t.isLt).2.2 : S1x1024.Idx → EReal) y
    = ((outsAt0 m c (t.val - 1) (Nat.lt_of_le_of_lt (Nat.sub_le _ _) t.isLt)).2.2 : S1x1024.Idx → EReal) y + k0_pay5 (F := Ideal) (B0 m c t) (B1 m c t) (B2 m c t) y := by
  have ht := lt_of_lt_of_eq t.isLt N_0
  rw [outsAt0_B m c t (by omega) (by omega)]
  generalize (outsAt0 m c (t.val - 1) (Nat.lt_of_le_of_lt (Nat.sub_le _ _) t.isLt)).2.2 = acc
  dsimp only
  frame_out
  exact next_at _ _ _

section Real

variable {u : S8192x448.Idx → ℝ} {w : S1024x448.Idx → ℝ} {x : S8192x1024.Idx → ℝ} {g : S1024.Idx → ℝ}
  (e0 : A0 m c = fun i => (u i : EReal)) (e1 : A1 m c = fun i => (w i : EReal)) (e2 : A2 m c = fun i => (x i : EReal)) (e3 : A3 m c = fun i => (g i : EReal))

include e0 e1 e2 e3 in
theorem row_real (t : Fin cfg0.N) (a : Fin 512) (r : Fin 8192) (h : r.val = t.val * 512 + a.val) :
    Row (B0 m c t) (B1 m c t) (B2 m c t) (B3 m c t) (fun k => u (ix2 r k)) (fun q k => w (ix2 q k)) (fun q => x (ix2 r q)) (fun q => g (ix1 q)) a where
  h0 k := (b0 m c t a k r h).trans (by split <;> simp [e0])
  h1 q k := (b1 m c t q k).trans (by split <;> simp [e1])
  h2 q := (b2 m c t a q r h).trans (congrFun e2 _)
  h3 q := (b3 m c t q).trans (congrFun e3 _)

include e0 e1 e2 e3 in
theorem dres_at (t : Fin cfg0.N) (y : S512x1024.Idx) (j : S8192x1024.Idx) (h0 : (j 0).val = t.val * 512 + (y 0).val) (h1 : (j 1).val = (y 1).val) :
    Cert.RmsKIdeal.Gen.k0_pay1 (F := Ideal) (k0_pay2 (F := Ideal) (B0 m c t) (B1 m c t)) (Cert.RmsKIdeal.Gen.k0_pay6 (B2 m c t)) (Cert.RmsKIdeal.Gen.k0_pay7 (B2 m c t)) (Cert.RmsKIdeal.Gen.k0_pay8 (B3 m c t)) (B4 m c t) y = dres (P u w) x g (A4 m c) j := by
  obtain ⟨a, q, rfl⟩ : ∃ a q, y = ix2 a q := ⟨_, _, eq_ix2 y⟩
  obtain ⟨r, p, rfl⟩ : ∃ r p, j = ix2 r p := ⟨_, _, eq_ix2 j⟩
  obtain rfl : p = q := Fin.ext h1
  have B := row_real m c e0 e1 e2 e3 t a r h0
  exact dres_pay (prod_at B) B.h2 B.h3 p (b4 m c t a p r h0)

include e0 e1 e2 e3 in
theorem dres_value : (dats m 0 c).arrAt 5 cfg0.N = dres (P u w) x g (A4 m c) := by
  refine (dats m 0 c).arrAt_eq_of_covers 5 _ (by decide +kernel) fun t hf y => ?_
  refine (congrFun (Value.flushed5 m c t) y).trans ?_
  refine (outs_x m c t _).trans (dres_at m c e0 e1 e2 e3 t _ _ ?_ ?_)
  · blk_simp [(idx t).2.2.2.2.2.1]
  · blk_simp [(idx t).2.2.2.2.2.1]
include e0 e1 e2 e3 in
theorem dresb_value : (dats m 0 c).arrAt 6 cfg0.N = dres (P u w) x g (A4 m c) := by
  refine (dats m 0 c).arrAt_eq_of_covers 6 _ (by decide +kernel) fun t hf y => ?_
  refine (congrFun (Value.flushed6 m c t) y).trans ?_
  refine (outs_b m c t _).trans ((cast_at _ _ _ _ _ _).trans (dres_at m c e0 e1 e2 e3 t _ _ ?_ ?_))
  · blk_simp [(idx t).2.2.2.2.2.2.1]
  · blk_simp [(idx t).2.2.2.2.2.2.1]

include e0 e1 e2 e3 in
theorem part_at (t : Fin cfg0.N) (q : Fin 1024) : k0_pay5 (F := Ideal) (B0 m c t) (B1 m c t) (B2 m c t) (ix2 0 q) = ((∑ a : Fin 512, line (P u w) x q (t.val * 512 + a.val) : ℝ) : EReal) := by
  rw [part5_at, ← coe_sum]
  refine Finset.sum_congr rfl fun a _ => ?_
  have h : t.val * 512 + a.val < 8192 := by have := lt_of_lt_of_eq t.isLt N_0; omega
  have B := row_real m c e0 e1 e2 e3 t a ⟨_, h⟩ rfl
  rw [prod_at B, hat_at B.h2, line, dif_pos h, ← EReal.coe_mul]
  rfl

include e0 e1 e2 e3 in
theorem dg_value : (dats m 0 c).arrAt 7 cfg0.N = dg (P u w) x := by
  refine (dats m 0 c).arrAt_eq_of_after_last 7 t0_15 (by decide +kernel) _ fun j => ?_
  blk_simp
  rw [after0_7]
  refine (Pipeline.eq_sum_of_reset_step_apply_single (fun n h => ((outsAt0 m c n h).2.2 : S1x1024.Idx → EReal)) 16 (fun _ => 0)
    (fun t j => ((∑ a : Fin 512, line (P u w) x (j 1) (t * 512 + a.val) : ℝ) : EReal))
    (fun t h j => ?_) (fun t h j => ?_) (by decide) t0_15 _).trans ?_
  · have ht := lt_of_lt_of_eq t.isLt N_0
    obtain ⟨z, q, rfl⟩ : ∃ z q, j = ix2 z q := ⟨_, _, eq_ix2 j⟩
    obtain rfl : z = 0 := Subsingleton.elim _ _
    exact ((outs_first m c t (by omega) _).trans (part_at m c e0 e1 e2 e3 t q)).trans (zero_add _).symm
  · obtain ⟨z, q, rfl⟩ : ∃ z q, j = ix2 z q := ⟨_, _, eq_ix2 j⟩
    obtain rfl : z = 0 := Subsingleton.elim _ _
    exact (outs_next m c t (by omega) _).trans (congrArg (_ + ·) (part_at m c e0 e1 e2 e3 t q))
  · rw [zero_add]
    exact sum_lines (P u w) x j

end Real

theorem dres_result (u : S8192x448.Idx → ℝ) (w : S1024x448.Idx → ℝ) (x : S8192x1024.Idx → ℝ) (g : S1024.Idx → ℝ)
    (a0 : S8192x448.Idx → EReal) (a1 : S1024x448.Idx → EReal) (a2 : S8192x1024.Idx → EReal) (a3 : S1024.Idx → EReal) (d : S8192x1024.Idx → EReal)
    (h0 : a0 = fun i => (u i : EReal)) (h1 : a1 = fun i => (w i : EReal)) (h2 : a2 = fun i => (x i : EReal)) (h3 : a3 = fun i => (g i : EReal)) :
    Cert.RmsDRIdeal.Read.val_main_v38 (F := Ideal) a0 a1 a2 a3 d = dres (P u w) x g d := by
  subst h0 h1 h2 h3
  exact funext fun i => (congrArg _ (eq_ix2 i)).trans ((r38 u w x g d (i 0) (i 1)).trans (congrArg _ (eq_ix2 i).symm))
theorem dg_result (u : S8192x448.Idx → ℝ) (w : S1024x448.Idx → ℝ) (x : S8192x1024.Idx → ℝ)
    (a0 : S8192x448.Idx → EReal) (a1 : S1024x448.Idx → EReal) (a2 : S8192x1024.Idx → EReal)
    (h0 : a0 = fun i => (u i : EReal)) (h1 : a1 = fun i => (w i : EReal)) (h2 : a2 = fun i => (x i : EReal)) :
    Cert.RmsDRIdeal.Read.val_main_v40 (F := Ideal) a0 a1 a2 = dg (P u w) x := by
  subst h0 h1 h2
  refine funext fun i => ?_
  obtain ⟨z, q, rfl⟩ : ∃ z q, i = ix2 z q := ⟨_, _, eq_ix2 i⟩
  obtain rfl : z = 0 := Subsingleton.elim _ _
  exact r40 u w x q

/-- Kernel and reference agree. -/
theorem agree : Cert.algebraic_RmsDKIdeal_RmsDRIdeal_pre_rms_ok_down := by
  intro m g m' g' pre hag
  refine ⟨fun c => (dats m 0 c).arrAt 5 cfg0.N, fun c => (dats m 0 c).arrAt 6 cfg0.N, fun c => (dats m 0 c).arrAt 7 cfg0.N, ?_, ?_⟩
  · exact (θ_run _ _ _).mono (fun r h c => h c) (Value.run_blocks (F := Ideal) m g)
  · refine (θ_run _ _ _).mono (fun r h c => ?_) (Cert.RmsDRIdeal.Value.run (F := Ideal) m' g')
    obtain ⟨⟨u, h0⟩, ⟨w, h1⟩, ⟨x, h2⟩, ⟨y, h3⟩⟩ := Cert.RmsDPre.finite _ _ _ _ _ (pre c)
    obtain ⟨e0, e1, e2, e3, e4⟩ := hag c
    refine ⟨(h c).1.trans ?_, (h c).2.1.trans ?_, (h c).2.2.1.trans ?_, (h c).2.2.2⟩
    · rw [Cert.RmsDRIdeal.Read.val_main_v38_eq, e0, e1, e2, e3, e4]
      exact (dres_result u w x y _ _ _ _ _ h0 h1 h2 h3).trans (dres_value m c h0 h1 h2 h3).symm
    · rw [Cert.RmsDRIdeal.Read.val_main_v39_eq, e0, e1, e2, e3, e4]
      exact (dres_result u w x y _ _ _ _ _ h0 h1 h2 h3).trans (dresb_value m c h0 h1 h2 h3).symm
    · rw [Cert.RmsDRIdeal.Read.val_main_v40_eq, e0, e1, e2]
      exact (dg_result u w x _ _ _ h0 h1 h2).trans (dg_value m c h0 h1 h2 h3).symm

/-- The reference runs and leaves its arguments. -/
theorem reference_frame : Cert.quiescent_RmsDRIdeal := fun m g _ =>
  (θ_run _ _ _).mono (fun r h => ⟨fun c => (h c).2.2.2, sem_eq_zero_of_no_sems (by decide) r.2⟩) (Cert.RmsDRIdeal.Value.run (F := Ideal) m g)
theorem reference_frame_pre : Cert.quiescent_RmsDRIdeal_pre_rms_ok_down := fun m g _ => reference_frame m g trivial

end Cert.RmsDProof
-- ==== Proof.Loss.lean ====
/- The loss and its gradient, fused with the product that feeds them. -/
module

public import proofs.«01_k».proof.Defs
public import proofs.«01_k».proof.Proof.Gen.LossKIdeal.Value
public import proofs.«01_k».proof.Proof.Gen.LossRIdeal.Run
public import proofs.«01_k».proof.Proof.Gen.LossRIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.LossProof

open Idealize.ShloMosaic Idealize.ShloMosaic.TcCoe Idealize.SL.Sem
open Cert.LossKIdeal Cert.LossKIdeal.Gen

theorem zero : (Ideal.ofBits .f32 0x00000000#32 : EReal) = 0 := by
  simp [Ideal.ofBits, Ideal.ieee]
theorem two : (Ideal.ofBits .f32 0x40000000#32 : EReal) = ((2 : ℝ) : EReal) := by
  simp [Ideal.ofBits, Ideal.ieee, -EReal.coe_mul]; norm_num
theorem width : (Ideal.ofBits .f32 0x44800000#32 : EReal) = ((1024 : ℝ) : EReal) := by
  simp [Ideal.ofBits, Ideal.ieee, -EReal.coe_mul]; norm_num
theorem half : (Ideal.ofBits .f32 0x3F000000#32 : EReal) = ((1 / 2 : ℝ) : EReal) := by
  simp [Ideal.ofBits, Ideal.ieee, -EReal.coe_mul]; norm_num
theorem share : (Ideal.ofBits .f32 0x3A000000#32 : EReal) = ((1 / 2048 : ℝ) : EReal) := by
  simp [Ideal.ofBits, Ideal.ieee, -EReal.coe_mul]; norm_num

section Values

variable (a : S8192x4096.Idx → EReal) (w : S4096x1024.Idx → EReal) (e t : S8192x1024.Idx → EReal)

/-- How far the layer's output is from the target. -/
def err (r : Fin 8192) (q : Fin 1024) : EReal := e (ix2 r q) + (∑ k : Fin 4096, a (ix2 r k) * w (ix2 k q)) - t (ix2 r q)
/-- The sum of the squares, and the gradient with respect to the output. -/
def sq : EReal := ∑ r : Fin 8192, ∑ q : Fin 1024, err a w e t r q * err a w e t r q
def dy (i : S8192x1024.Idx) : EReal := err a w e t (i 0) (i 1) * ((1 / 1024 : ℝ) : EReal)

theorem square_nonneg (x : EReal) : 0 ≤ x * x := by
  rcases le_total 0 x with h | h
  · exact EReal.mul_nonneg h h
  · exact EReal.mul_nonneg_iff.2 (Or.inr ⟨h, h⟩)

/-- A real factor leaves a sum of squares. -/
theorem sum_mul {n : ℕ} (f : Fin n → EReal) (h : ∀ x, 0 ≤ f x) (c : EReal) : ∑ x, f x * c = (∑ x, f x) * c := by
  induction n with
  | zero => simp
  | succ n ih =>
    rw [Fin.sum_univ_castSucc, Fin.sum_univ_castSucc, ih _ fun x => h _,
      EReal.right_distrib_of_nonneg (Finset.sum_nonneg fun x _ => h _) (h _)]

end Values

section Reference

open Cert.LossRIdeal.Read

variable (a : S8192x4096.Idx → EReal) (w : S4096x1024.Idx → EReal) (e t : S8192x1024.Idx → EReal)

theorem r2 (r : Fin 8192) (q : Fin 1024) : (val_main_v2 (F := Ideal) a w e t : S8192x1024.Idx → EReal) (ix2 r q) = err a w e t r q := by
  unfold val_main_v2 val_main_v1 val_main_v0
  pointwise
  rfl
theorem r16 (r : Fin 8192) (q : Fin 1024) : (val_main_v16 (F := Ideal) a w e t : S8192x1024.Idx → EReal) (ix2 r q) = dy a w e t (ix2 r q) := by
  unfold val_main_v16 val_main_v15 val_main_v14 val_main_v13 val_main_v12 val_main_v11 val_main_v5 val_main_v4 val_main_cst val_main_cst_4 val_main_cst_5 val_main_cst_6
  pointwise [r2]
  rw [two, width, half, Ideal.div_coe (by norm_num), ← EReal.coe_mul, ← mul_assoc, ← EReal.coe_mul, mul_comm]
  unfold dy
  rw [show (1 / 2 * (1 / 1024) * 2 : ℝ) = 1 / 1024 by norm_num]
  rfl
theorem r6 (r : Fin 8192) : (val_main_v6 (F := Ideal) a w e t : Cert.LossRIdeal.S8192.Idx → EReal) (ix1 r) = ∑ q : Fin 1024, err a w e t r q * err a w e t r q := by
  unfold val_main_v6 val_main_v3 val_main_cst_0
  pointwise [r2]
theorem r18 (i : S1x128.Idx) : (val_main_v18 (F := Ideal) a w e t : S1x128.Idx → EReal) i = sq a w e t := by
  unfold val_main_v18 val_main_v17 val_main_v10 val_main_v9 val_main_v8 val_main_v7 val_main_cst_1 val_main_cst_2 val_main_cst_3 val_main_cst_7
  pointwise [r6]
  rw [half, share, width]
  simp only [Ideal.div_coe (show (1024 : ℝ) ≠ 0 by norm_num), Ideal.div_coe (show (1 / 2048 : ℝ) ≠ 0 by norm_num)]
  rw [sum_mul _ fun r => Finset.sum_nonneg fun q _ => square_nonneg _]
  unfold sq
  generalize (∑ r, ∑ q, err a w e t r q * err a w e t r q : EReal) = x
  rw [mul_comm x, ← mul_assoc, ← EReal.coe_mul]
  rw [mul_right_comm, ← EReal.coe_mul, show (1 / 2 * (1 / 1024) * (1 / (1 / 2048)) : ℝ) = 1 by norm_num, EReal.coe_one, one_mul]

end Reference

section Body

variable (x0 : S512x1024.Idx → EReal) (x1 : S512x4096.Idx → EReal) (x2 : S4096x1024.Idx → EReal) (x3 : S512x1024.Idx → EReal)

theorem p1 (r : Fin 512) (q : Fin 1024) : k0_pay1 (F := Ideal) x0 x1 x2 x3 (ix2 r q) = x0 (ix2 r q) + (∑ k : Fin 4096, x1 (ix2 r k) * x2 (ix2 k q)) - x3 (ix2 r q) := by
  unfold_payloads
  pointwise
theorem p2 (r : Fin 512) (q : Fin 1024) : k0_pay2 (F := Ideal) x0 x1 x2 x3 (ix2 r q) = k0_pay1 (F := Ideal) x0 x1 x2 x3 (ix2 r q) * ((1 / 1024 : ℝ) : EReal) := by
  unfold k0_pay2
  pointwise
  rw [width, Ideal.div_coe (by norm_num)]
theorem p3 (r : Fin 512) (q : Fin 1024) : k0_pay3 (F := Ideal) x0 x1 x2 x3 (ix2 r q) = k0_pay2 (F := Ideal) x0 x1 x2 x3 (ix2 r q) := by
  unfold k0_pay3
  pointwise
theorem p4 (i : S1x128.Idx) : k0_pay4 (F := Ideal) x0 x1 x2 x3 i = ∑ r : Fin 512, ∑ q : Fin 1024, k0_pay1 (F := Ideal) x0 x1 x2 x3 (ix2 r q) * k0_pay1 (F := Ideal) x0 x1 x2 x3 (ix2 r q) := by
  unfold k0_pay4
  pointwise
theorem p5 (z : S1x128.Idx → EReal) (i : S1x128.Idx) : k0_pay5 (F := Ideal) x0 x1 x2 x3 z i = z i + k0_pay4 (F := Ideal) x0 x1 x2 x3 i := by
  unfold k0_pay5
  pointwise

end Body

variable (m : (ℓ : Loc nD τ sig) → Buf (Elt Ideal) ℓ) (c : Dev nD)

/-- The arguments. -/
abbrev A0 : S8192x4096.Idx → EReal := m ((c : Thread nD τ).loc main_arg0)
abbrev A1 : S4096x1024.Idx → EReal := m ((c : Thread nD τ).loc main_arg1)
abbrev A2 : S8192x1024.Idx → EReal := m ((c : Thread nD τ).loc main_arg2)
abbrev A3 : S8192x1024.Idx → EReal := m ((c : Thread nD τ).loc main_arg3)

/-- The input blocks at a grid point. -/
abbrev B0 (t : Fin cfg0.N) : S512x4096.Idx → EReal := iblk m c 0 t
abbrev B1 (t : Fin cfg0.N) : S4096x1024.Idx → EReal := iblk m c 1 t
abbrev B2 (t : Fin cfg0.N) : S512x1024.Idx → EReal := iblk m c 2 t
abbrev B3 (t : Fin cfg0.N) : S512x1024.Idx → EReal := iblk m c 3 t

/-- Where each window's block stands at grid point `t`. -/
theorem idx : ∀ t : Fin grid0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] := by
  decide +kernel

theorem v0 (i : S8192x4096.Idx) : (V m c main_v0 : S8192x4096.Idx → EReal) i = A0 m c i := by
  entry_read; pointwise
theorem v1 (i : S4096x1024.Idx) : (V m c main_v1 : S4096x1024.Idx → EReal) i = A1 m c i := by
  entry_read; pointwise

theorem b0 (t : Fin cfg0.N) (a : Fin 512) (k : Fin 4096) (r : Fin 8192) (h : r.val = t.val * 512 + a.val) : B0 m c t (ix2 a k) = A0 m c (ix2 r k) := by
  have g : (win0_0.blk t).view.emb (ix2 a k) = ix2 r k := by blk_ext [(idx t).1, h]
  unfold B0; blk_simp [iblk]
  exact (congrArg (V m c main_v0 : S8192x4096.Idx → EReal) g).trans (v0 m c _)
theorem b1 (t : Fin cfg0.N) (k : Fin 4096) (q : Fin 1024) : B1 m c t (ix2 k q) = A1 m c (ix2 k q) := by
  have g : (win0_1.blk t).view.emb (ix2 k q) = ix2 k q := by blk_ext [(idx t).2.1]
  unfold B1; blk_simp [iblk]
  exact (congrArg (V m c main_v1 : S4096x1024.Idx → EReal) g).trans (v1 m c _)
theorem b2 (t : Fin cfg0.N) (a : Fin 512) (q : Fin 1024) (r : Fin 8192) (h : r.val = t.val * 512 + a.val) : B2 m c t (ix2 a q) = A2 m c (ix2 r q) := by
  have g : (win0_2.blk t).view.emb (ix2 a q) = ix2 r q := by blk_ext [(idx t).2.2.1, h]
  unfold B2; blk_simp [iblk]
  exact congrArg (A2 m c) g
theorem b3 (t : Fin cfg0.N) (a : Fin 512) (q : Fin 1024) (r : Fin 8192) (h : r.val = t.val * 512 + a.val) : B3 m c t (ix2 a q) = A3 m c (ix2 r q) := by
  have g : (win0_3.blk t).view.emb (ix2 a q) = ix2 r q := by blk_ext [(idx t).2.2.2.1, h]
  unfold B3; blk_simp [iblk]
  exact congrArg (A3 m c) g

/-- The row of the whole array at row `a` of point `t`'s block. -/
def row (t : Fin cfg0.N) (a : Fin 512) : Fin 8192 := ⟨t.val * 512 + a.val, by have := lt_of_lt_of_eq t.isLt N_0; omega⟩

theorem err_at (t : Fin cfg0.N) (a : Fin 512) (q : Fin 1024) :
    k0_pay1 (F := Ideal) (B2 m c t) (B0 m c t) (B1 m c t) (B3 m c t) (ix2 a q) = err (A0 m c) (A1 m c) (A2 m c) (A3 m c) (row t a) q := by
  rw [p1]
  simp only [b0 m c t a _ (row t a) rfl, b1, b2 m c t a _ (row t a) rfl, b3 m c t a _ (row t a) rfl]
  rfl

/-- A point's share of the sum of squares. -/
def part (n : ℕ) : EReal := if h : n < 16 then ∑ a : Fin 512, ∑ q : Fin 1024, err (A0 m c) (A1 m c) (A2 m c) (A3 m c) ⟨n * 512 + a.val, by omega⟩ q * err (A0 m c) (A1 m c) (A2 m c) (A3 m c) ⟨n * 512 + a.val, by omega⟩ q else 0

theorem part_at (t : Fin cfg0.N) (i : S1x128.Idx) : k0_pay4 (F := Ideal) (B2 m c t) (B0 m c t) (B1 m c t) (B3 m c t) i = part m c t.val := by
  rw [p4, part, dif_pos (lt_of_lt_of_eq t.isLt N_0)]
  simp only [err_at]
  rfl

/-- What a point leaves in each output block. -/
theorem outs_dy (t : Fin cfg0.N) (y : S512x1024.Idx) : ((outsAt0 m c t.val t.isLt).2.1 : S512x1024.Idx → EReal) y
    = k0_pay2 (F := Ideal) (B2 m c t) (B0 m c t) (B1 m c t) (B3 m c t) y := by
  have ht := lt_of_lt_of_eq t.isLt N_0
  by_cases h0 : t.val % 16 = 0
  · rw [outsAt0_A m c t h0 (by omega)]
    dsimp only
    frame_out
  · rw [outsAt0_B m c t h0 (by omega)]
    dsimp only
    frame_out
theorem outs_dyb (t : Fin cfg0.N) (y : S512x1024.Idx) : ((outsAt0 m c t.val t.isLt).2.2 : S512x1024.Idx → EReal) y
    = k0_pay3 (F := Ideal) (B2 m c t) (B0 m c t) (B1 m c t) (B3 m c t) y := by
  have ht := lt_of_lt_of_eq t.isLt N_0
  by_cases h0 : t.val % 16 = 0
  · rw [outsAt0_A m c t h0 (by omega)]
    dsimp only
    frame_out
  · rw [outsAt0_B m c t h0 (by omega)]
    dsimp only
    frame_out
theorem outs_first (t : Fin cfg0.N) (h0 : t.val = 0) (y : S1x128.Idx) : ((outsAt0 m c t.val t.isLt).1 : S1x128.Idx → EReal) y = part m c t.val := by
  rw [outsAt0_A m c t (by omega) (by omega)]
  dsimp only
  frame_out
  exact part_at m c t y
theorem outs_next (t : Fin cfg0.N) (h0 : t.val ≠ 0) (y : S1x128.Idx) : ((outsAt0 m c t.val t.isLt).1 : S1x128.Idx → EReal) y
    = ((outsAt0 m c (t.val - 1) (Nat.lt_of_le_of_lt (Nat.sub_le _ _) t.isLt)).1 : S1x128.Idx → EReal) y + part m c t.val := by
  have ht := lt_of_lt_of_eq t.isLt N_0
  rw [outsAt0_B m c t (by omega) (by omega)]
  generalize (outsAt0 m c (t.val - 1) (Nat.lt_of_le_of_lt (Nat.sub_le _ _) t.isLt)).1 = acc
  dsimp only
  frame_out
  exact (p5 _ _ _ _ _ _).trans (congrArg (acc y + ·) (part_at m c t y))

theorem at_row (t : Fin cfg0.N) (y : S512x1024.Idx) (f : S8192x1024.Idx → EReal) (j : S8192x1024.Idx) (h0 : (j 0).val = t.val * 512 + (y 0).val) (h1 : (j 1).val = (y 1).val) :
    f (ix2 (row t (y 0)) (y 1)) = f j := congrArg f (by blk_ext [row, h0, h1])

theorem dy_at (t : Fin cfg0.N) (y : S512x1024.Idx) : k0_pay2 (F := Ideal) (B2 m c t) (B0 m c t) (B1 m c t) (B3 m c t) y = dy (A0 m c) (A1 m c) (A2 m c) (A3 m c) (ix2 (row t (y 0)) (y 1)) := by
  obtain ⟨a, q, rfl⟩ : ∃ a q, y = ix2 a q := ⟨_, _, eq_ix2 y⟩
  rw [p2, err_at]
  rfl
theorem dyb_at (t : Fin cfg0.N) (y : S512x1024.Idx) : k0_pay3 (F := Ideal) (B2 m c t) (B0 m c t) (B1 m c t) (B3 m c t) y = dy (A0 m c) (A1 m c) (A2 m c) (A3 m c) (ix2 (row t (y 0)) (y 1)) := by
  rw [← dy_at m c t y]
  obtain ⟨a, q, rfl⟩ : ∃ a q, y = ix2 a q := ⟨_, _, eq_ix2 y⟩
  exact p3 _ _ _ _ a q

theorem dy_value : (dats m 0 c).arrAt 5 cfg0.N = dy (A0 m c) (A1 m c) (A2 m c) (A3 m c) := by
  refine (dats m 0 c).arrAt_eq_of_covers 5 _ (by decide +kernel) fun t hf y => ?_
  refine (congrFun (Value.flushed5 m c t) y).trans ?_
  refine (outs_dy m c t _).trans ((dy_at m c t _).trans (at_row t _ _ _ ?_ ?_))
  · blk_simp [(idx t).2.2.2.2.2.1]
  · blk_simp [(idx t).2.2.2.2.2.1]
theorem dyb_value : (dats m 0 c).arrAt 6 cfg0.N = dy (A0 m c) (A1 m c) (A2 m c) (A3 m c) := by
  refine (dats m 0 c).arrAt_eq_of_covers 6 _ (by decide +kernel) fun t hf y => ?_
  refine (congrFun (Value.flushed6 m c t) y).trans ?_
  refine (outs_dyb m c t _).trans ((dyb_at m c t _).trans (at_row t _ _ _ ?_ ?_))
  · blk_simp [(idx t).2.2.2.2.2.2]
  · blk_simp [(idx t).2.2.2.2.2.2]

/-- A row's sum of squares. -/
def line (n : ℕ) : EReal := if h : n < 8192 then ∑ q : Fin 1024, err (A0 m c) (A1 m c) (A2 m c) (A3 m c) ⟨n, h⟩ q * err (A0 m c) (A1 m c) (A2 m c) (A3 m c) ⟨n, h⟩ q else 0

theorem sum_parts : ∑ n ∈ Finset.range 16, part m c n = sq (A0 m c) (A1 m c) (A2 m c) (A3 m c) := by
  rw [← Fin.sum_univ_eq_sum_range (part m c) 16]
  unfold sq
  refine Eq.trans ?_ ((Fin.sum_univ_univ_mul_add 16 512 (line m c)).trans ?_)
  · refine Finset.sum_congr rfl fun n _ => ?_
    rw [part, dif_pos n.isLt]
    refine Finset.sum_congr rfl fun a _ => ?_
    have h : n.val * 512 + a.val < 8192 := by omega
    rw [line, dif_pos h]
  · exact Finset.sum_congr rfl fun r _ => by rw [line, dif_pos r.isLt]

theorem sq_value : (dats m 0 c).arrAt 4 cfg0.N = fun _ => sq (A0 m c) (A1 m c) (A2 m c) (A3 m c) := by
  refine (dats m 0 c).arrAt_eq_of_after_last 4 t0_15 (by decide +kernel) _ fun j => ?_
  blk_simp
  rw [after0_4]
  refine (Pipeline.eq_sum_of_reset_step_apply_single (fun n h => ((outsAt0 m c n h).1 : S1x128.Idx → EReal)) 16 (fun _ => 0) (fun t _ => part m c t)
    (fun t h j => ?_) (fun t h j => ?_) (by decide) t0_15 _).trans ?_
  · have ht := lt_of_lt_of_eq t.isLt N_0
    exact (outs_first m c t (by omega) j).trans (zero_add _).symm
  · exact outs_next m c t (by omega) j
  · rw [zero_add]
    exact sum_parts m c

/-- Kernel and reference agree. -/
theorem agree : Cert.algebraic_LossKIdeal_LossRIdeal := by
  intro m g m' g' _ hag
  refine ⟨fun c _ => sq (A0 m c) (A1 m c) (A2 m c) (A3 m c), fun c => dy (A0 m c) (A1 m c) (A2 m c) (A3 m c), fun c => dy (A0 m c) (A1 m c) (A2 m c) (A3 m c), ?_, ?_⟩
  · refine (θ_run _ _ _).mono (fun r h c => ?_) (Value.run_blocks (F := Ideal) m g)
    exact ⟨(h c).1.trans (sq_value m c), (h c).2.1.trans (dy_value m c), (h c).2.2.1.trans (dyb_value m c), (h c).2.2.2⟩
  · refine (θ_run _ _ _).mono (fun r h c => ?_) (Cert.LossRIdeal.Value.run (F := Ideal) m' g')
    refine ⟨(h c).1.trans ?_, (h c).2.1.trans ?_, (h c).2.2.1.trans ?_, (h c).2.2.2⟩
    · rw [Cert.LossRIdeal.Read.val_main_v18_eq, (hag c).1, (hag c).2.1, (hag c).2.2.1, (hag c).2.2.2]
      exact funext fun i => r18 _ _ _ _ i
    · rw [Cert.LossRIdeal.Read.val_main_v16_eq, (hag c).1, (hag c).2.1, (hag c).2.2.1, (hag c).2.2.2]
      exact funext fun i => (congrArg _ (eq_ix2 i)).trans ((r16 _ _ _ _ (i 0) (i 1)).trans (congrArg _ (eq_ix2 i).symm))
    · rw [Cert.LossRIdeal.Read.val_main_v19_eq, (hag c).1, (hag c).2.1, (hag c).2.2.1, (hag c).2.2.2]
      exact funext fun i => (congrArg _ (eq_ix2 i)).trans ((r16 _ _ _ _ (i 0) (i 1)).trans (congrArg _ (eq_ix2 i).symm))

/-- The reference runs and leaves its arguments. -/
theorem reference_frame : Cert.quiescent_LossRIdeal := fun m g _ =>
  (θ_run _ _ _).mono (fun r h => ⟨fun c => (h c).2.2.2, sem_eq_zero_of_no_sems (by decide) r.2⟩) (Cert.LossRIdeal.Value.run (F := Ideal) m g)

end Cert.LossProof
-- ==== Proof.Delta.lean ====
/- The cotangent of attention's output and each head's row sums of it times the output. -/
module

public import proofs.«01_k».proof.Defs
public import proofs.«01_k».proof.Proof.Gen.DeltaKIdeal.Value
public import proofs.«01_k».proof.Proof.Gen.DeltaRIdeal.Run
public import proofs.«01_k».proof.Proof.Gen.DeltaRIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.DeltaProof

open Idealize.ShloMosaic Idealize.ShloMosaic.TcCoe Idealize.SL.Sem
open Cert.DeltaKIdeal Cert.DeltaKIdeal.Gen

section Values

variable (dy : S8192x1024.Idx → EReal) (w : S1024x1024.Idx → EReal) (o : S8192x1024.Idx → EReal)

/-- The cotangent of attention's output. -/
def dout (i : S8192x1024.Idx) : EReal := ∑ k : Fin 1024, dy (ix2 (i 0) k) * w (ix2 (i 1) k)
/-- Column `x` of head `h` among all columns. -/
def col (h : Fin 8) (x : Fin 128) : Fin 1024 := ⟨h.val * 128 + x.val, by omega⟩
/-- Each head's row sums. -/
def delta (i : S8x1x8192.Idx) : EReal := ∑ x : Fin 128, o (ix2 (i 2) (col (i 0) x)) * dout dy w (ix2 (i 2) (col (i 0) x))

end Values

section Reference

open Cert.DeltaRIdeal.Read

variable (dy : S8192x1024.Idx → EReal) (w : S1024x1024.Idx → EReal) (o : S8192x1024.Idx → EReal)

theorem r1 (r : Fin 8192) (q : Fin 1024) : (val_main_v1 (F := Ideal) dy w : S8192x1024.Idx → EReal) (ix2 r q) = dout dy w (ix2 r q) := by
  unfold val_main_v1
  pointwise
  rfl
theorem r6 (h : Fin 8) (r : Fin 8192) : (val_main_v6 (F := Ideal) dy w o : S8x1x8192.Idx → EReal) (ix3 h 0 r) = delta dy w o (ix3 h 0 r) := by
  unfold val_main_v6 val_main_v5 val_main_v4 val_main_v3 val_main_v2 val_main_cst
  pointwise [r1]
  rfl

end Reference

section Body

variable (x0 : S1024x1024.Idx → EReal) (x1 : S1x1024x1024.Idx → EReal) (x2 : S1024x1024.Idx → EReal)

theorem p3 (r q : Fin 1024) : k0_pay3 (F := Ideal) x0 x1 (ix2 r q) = ∑ k : Fin 1024, x0 (ix2 r k) * x1 (ix3 0 q k) := by
  unfold k0_pay3
  pointwise
theorem body3 (r q : Fin 1024) : out0_3 (F := Ideal) x0 x1 x2 (ix2 r q) = ∑ k : Fin 1024, x0 (ix2 r k) * x1 (ix3 0 q k) := by
  unfold_out out0_3
  canon_tiles x h
  all_goals
    obtain ⟨a, b, rfl⟩ : ∃ a b, x = ix2 a b := ⟨_, _, eq_ix2 x⟩
    obtain rfl : r = a := Fin.ext h0
    obtain rfl : q = b := Fin.ext h1
    unfold_payloads
    pointwise
theorem body4 (h : Fin 8) (r : Fin 1024) : out0_4 (F := Ideal) x0 x1 x2 (ix3 h 0 r) = ∑ x : Fin 128, x2 (ix2 r (col h x)) * k0_pay3 (F := Ideal) x0 x1 (ix2 r (col h x)) := by
  unfold_out out0_4
  canon_tiles x g
  all_goals
    obtain ⟨a, b, k, rfl⟩ : ∃ a b k, x = ix3 a b k := ⟨_, _, _, eq_ix3 x⟩
    obtain rfl : r = k := Fin.ext g2
    unfold_payloads
    pointwise
    pointwise at g0
    simp only [col, g0, Nat.reduceMul, zero_add]
end Body

variable (m : (ℓ : Loc nD τ sig) → Buf (Elt Ideal) ℓ) (c : Dev nD)

/-- The arguments. -/
abbrev A0 : S8192x1024.Idx → EReal := m ((c : Thread nD τ).loc main_arg0)
abbrev A1 : S1024x1024.Idx → EReal := m ((c : Thread nD τ).loc main_arg1)
abbrev A2 : S8192x1024.Idx → EReal := m ((c : Thread nD τ).loc main_arg2)

/-- The input blocks at a grid point. -/
abbrev B0 (t : Fin cfg0.N) : S1024x1024.Idx → EReal := iblk m c 0 t
abbrev B1 (t : Fin cfg0.N) : S1x1024x1024.Idx → EReal := iblk m c 1 t
abbrev B2 (t : Fin cfg0.N) : S1024x1024.Idx → EReal := iblk m c 2 t

/-- Where each window's block stands at grid point `t`. -/
theorem idx : ∀ t : Fin grid0.N, win0_0.index t = ![t.val, 0] ∧ win0_1.index t = ![0, 0, 0] ∧ win0_2.index t = ![t.val, 0] ∧ win0_3.index t = ![t.val, 0] ∧ win0_4.index t = ![0, 0, t.val] := by
  decide +kernel

theorem v0 (i : S8192x1024.Idx) : (V m c main_v0 : S8192x1024.Idx → EReal) i = A0 m c i := by
  entry_read; pointwise
theorem v2 (i : S1x1024x1024.Idx) : (V m c main_v2 : S1x1024x1024.Idx → EReal) i = A1 m c (ix2 (i 1) (i 2)) := by
  entry_read; pointwise

theorem b0 (t : Fin cfg0.N) (a : Fin 1024) (k : Fin 1024) (r : Fin 8192) (h : r.val = t.val * 1024 + a.val) : B0 m c t (ix2 a k) = A0 m c (ix2 r k) := by
  have g : (win0_0.blk t).view.emb (ix2 a k) = ix2 r k := by blk_ext [(idx t).1, h]
  unfold B0; blk_simp [iblk]
  exact (congrArg (V m c main_v0 : S8192x1024.Idx → EReal) g).trans (v0 m c _)
theorem b1 (t : Fin cfg0.N) (q k : Fin 1024) : B1 m c t (ix3 0 q k) = A1 m c (ix2 q k) := by
  have g : (win0_1.blk t).view.emb (ix3 0 q k) = ix3 0 q k := by blk_ext [(idx t).2.1]
  unfold B1; blk_simp [iblk]
  exact (congrArg (V m c main_v2 : S1x1024x1024.Idx → EReal) g).trans (v2 m c _)
theorem b2 (t : Fin cfg0.N) (a : Fin 1024) (q : Fin 1024) (r : Fin 8192) (h : r.val = t.val * 1024 + a.val) : B2 m c t (ix2 a q) = A2 m c (ix2 r q) := by
  have g : (win0_2.blk t).view.emb (ix2 a q) = ix2 r q := by blk_ext [(idx t).2.2.1, h]
  unfold B2; blk_simp [iblk]
  exact congrArg (A2 m c) g

theorem dout_at (t : Fin cfg0.N) (y : S1024x1024.Idx) (j : S8192x1024.Idx) (h0 : (j 0).val = t.val * 1024 + (y 0).val) (h1 : (j 1).val = (y 1).val) :
    out0_3 (F := Ideal) (B0 m c t) (B1 m c t) (B2 m c t) y = dout (A0 m c) (A1 m c) j := by
  obtain ⟨a, q, rfl⟩ : ∃ a q, y = ix2 a q := ⟨_, _, eq_ix2 y⟩
  obtain ⟨r, p, rfl⟩ : ∃ r p, j = ix2 r p := ⟨_, _, eq_ix2 j⟩
  obtain rfl : p = q := Fin.ext h1
  rw [body3]
  simp only [b0 m c t a _ r h0, b1]
  rfl
theorem delta_at (t : Fin cfg0.N) (y : S8x1x1024.Idx) (j : S8x1x8192.Idx) (h0 : (j 0).val = (y 0).val) (h2 : (j 2).val = t.val * 1024 + (y 2).val) :
    out0_4 (F := Ideal) (B0 m c t) (B1 m c t) (B2 m c t) y = delta (A0 m c) (A1 m c) (A2 m c) j := by
  obtain ⟨h, z, a, rfl⟩ : ∃ h z a, y = ix3 h z a := ⟨_, _, _, eq_ix3 y⟩
  obtain ⟨h', z', r, rfl⟩ : ∃ h z r, j = ix3 h z r := ⟨_, _, _, eq_ix3 j⟩
  obtain rfl : h' = h := Fin.ext h0
  obtain rfl : z = 0 := Subsingleton.elim _ _
  rw [body4]
  simp only [p3, b0 m c t a _ r h2, b1, b2 m c t a _ r h2]
  rfl

theorem dout_value : (dats m 0 c).arrAt 3 cfg0.N = dout (A0 m c) (A1 m c) := by
  refine (dats m 0 c).arrAt_eq_of_covers 3 _ (by decide +kernel) fun t hf y => ?_
  blk_simp
  rw [after0_3]
  refine dout_at m c t _ _ ?_ ?_
  · blk_simp [(idx t).2.2.2.1]
  · blk_simp [(idx t).2.2.2.1]
theorem delta_value : (dats m 0 c).arrAt 4 cfg0.N = delta (A0 m c) (A1 m c) (A2 m c) := by
  refine (dats m 0 c).arrAt_eq_of_covers 4 _ (by decide +kernel) fun t hf y => ?_
  blk_simp
  rw [after0_4]
  refine delta_at m c t _ _ ?_ ?_
  · blk_simp [(idx t).2.2.2.2]
  · blk_simp [(idx t).2.2.2.2]

/-- Kernel and reference agree. -/
theorem agree : Cert.algebraic_DeltaKIdeal_DeltaRIdeal := by
  intro m g m' g' _ hag
  refine ⟨fun c => dout (A0 m c) (A1 m c), fun c => delta (A0 m c) (A1 m c) (A2 m c), ?_, ?_⟩
  · refine (θ_run _ _ _).mono (fun r h c => ?_) (Value.run_blocks (F := Ideal) m g)
    exact ⟨(h c).1.trans (dout_value m c), (h c).2.1.trans (delta_value m c), (h c).2.2⟩
  · refine (θ_run _ _ _).mono (fun r h c => ?_) (Cert.DeltaRIdeal.Value.run (F := Ideal) m' g')
    refine ⟨(h c).1.trans ?_, (h c).2.1.trans ?_, (h c).2.2⟩
    · rw [Cert.DeltaRIdeal.Read.val_main_v1_eq, (hag c).1, (hag c).2.1]
      exact funext fun i => (congrArg _ (eq_ix2 i)).trans ((r1 _ _ (i 0) (i 1)).trans (congrArg _ (eq_ix2 i).symm))
    · rw [Cert.DeltaRIdeal.Read.val_main_v6_eq, (hag c).1, (hag c).2.1, (hag c).2.2]
      refine funext fun i => ?_
      obtain ⟨h, z, r, rfl⟩ : ∃ h z r, i = ix3 h z r := ⟨_, _, _, eq_ix3 i⟩
      obtain rfl : z = 0 := Subsingleton.elim _ _
      exact r6 _ _ _ h r

/-- The reference runs and leaves its arguments. -/
theorem reference_frame : Cert.quiescent_DeltaRIdeal := fun m g _ =>
  (θ_run _ _ _).mono (fun r h => ⟨fun c => (h c).2.2, sem_eq_zero_of_no_sems (by decide) r.2⟩) (Cert.DeltaRIdeal.Value.run (F := Ideal) m g)

end Cert.DeltaProof
-- ==== Proof.Gate.lean ====
/- The gated short convolution, forward. -/
module

public import proofs.«01_k».proof.Defs
public import proofs.«01_k».proof.Proof.Gen.GateKIdeal.Value
public import proofs.«01_k».proof.Proof.Gen.GateRIdeal.Run
public import proofs.«01_k».proof.Proof.Gen.GateRIdeal.Read
public import proofs.«01_k».proof.Proof.Conv
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.GateProof

open Idealize.ShloMosaic Idealize.ShloMosaic.TcCoe Idealize.SL.Sem
open Cert.GateKIdeal Cert.GateKIdeal.Gen Cert.Rows
open Cert.ConvProof (G back U Blocks)

/-- The gated convolution of the rows. -/
def gate (b : S8192x3072.Idx → EReal) (w : S3x1024.Idx → EReal) (i : S8192x1024.Idx) : EReal := nat2 b (i 0) (i 1) * U b w (i 0) (i 1)

section Reference

open Cert.GateRIdeal.Read

variable (b : S8192x3072.Idx → EReal) (w : S3x1024.Idx → EReal)

theorem r26 (r : Fin 8192) (q : Fin 1024) : (val_main_v26 (F := Ideal) b w : S8192x1024.Idx → EReal) (ix2 r q) = U b w r q := Cert.ConvProof.r28 b w r q
theorem r28 (i : S8192x1024.Idx) : (val_main_v28 (F := Ideal) b w : S8192x1024.Idx → EReal) i = gate b w i := by
  obtain ⟨r, q, rfl⟩ : ∃ r q, i = ix2 r q := ⟨_, _, eq_ix2 i⟩
  unfold val_main_v28 val_main_v27 val_main_v0
  pointwise [r26]
  unfold gate
  rw [nat2_eq b _ r q rfl rfl]
  rfl

end Reference

/-- A block of the result. -/
theorem body {z : S8192x1024.Idx → EReal} {b : S8192x3072.Idx → EReal} {w : S3x1024.Idx → EReal} {t : Fin grid0.N} {y0 x0 x1 x2 : S1024x1024.Idx → EReal} {y1 y3 x3 x4 : S16x1024.Idx → EReal} {x5 : S3x1024.Idx → EReal}
    (B : Blocks z b w t y0 y1 x0 y3 x1 x2 x3 x4 x5) (y : S1024x1024.Idx) :
    out0_6 (F := Ideal) (grid0.coords t) x0 x1 x2 x3 x4 x5 y = gate b w (ix2 ⟨t.val * 1024 + (y 0).val, by have := lt_of_lt_of_eq t.isLt N_0; have := (y 0).isLt; simp at this; omega⟩ (y 1)) := by
  unfold out0_6
  canon_tiles x h
  obtain ⟨a, q, rfl⟩ : ∃ a q, x = ix2 a q := ⟨_, _, eq_ix2 x⟩
  pointwise at h0 h1
  have e (g0 g1 g2 : S1x1024.Idx → EReal) (hg0 : ∀ q : Fin 1024, g0 (ix2 0 q) = nat2 w 0 q) (hg1 : ∀ q : Fin 1024, g1 (ix2 0 q) = nat2 w 1 q) (hg2 : ∀ q : Fin 1024, g2 (ix2 0 q) = nat2 w 2 q) :
      k0_pay2 (F := Ideal) (grid0.coords t) x3 x1 x4 x2 g2 g1 g0 (ix2 ⟨16 + a.val, by omega⟩ q) = U b w (t.val * 1024 + a) q := Cert.ConvProof.conv B hg0 hg1 hg2 a q
  unfold k0_pay1 k0_pay3
  have l3 : View.ld (Val := Elt Ideal) (e' := .bf16) x3 r0_0 = x3 := funext fun i => by pointwise
  have l4 : View.ld (Val := Elt Ideal) (e' := .bf16) x4 r0_0 = x4 := funext fun i => by pointwise
  have l1 : View.ld (Val := Elt Ideal) (e' := .bf16) x1 r0_1 = x1 := funext fun i => by pointwise
  have l2 : View.ld (Val := Elt Ideal) (e' := .bf16) x2 r0_1 = x2 := funext fun i => by pointwise
  rw [l1, l2, l3, l4]
  pointwise [B.h2]
  rw [e _ _ _ (fun q => by pointwise [B.h8]) (fun q => by pointwise [B.h8]) (fun q => by pointwise [B.h8])]
  unfold gate
  pointwise
  rw [h0, h1]

variable (m : (ℓ : Loc nD τ sig) → Buf (Elt Ideal) ℓ) (c : Dev nD)

/-- The arguments. -/
abbrev A0 : S8192x3072.Idx → EReal := m ((c : Thread nD τ).loc main_arg0)
abbrev A1 : S3x1024.Idx → EReal := m ((c : Thread nD τ).loc main_arg1)

/-- Where each window's block stands at grid point `t`. -/
theorem idx : ∀ t : Fin grid0.N, win0_0.index t = ![t.val, 0] ∧ win0_1.index t = ![t.val, 1] ∧ win0_2.index t = ![t.val, 2] ∧ win0_3.index t = ![t.val * 64 - 1, 1]
    ∧ win0_4.index t = ![t.val * 64 - 1, 2] ∧ win0_5.index t = ![0, 0] ∧ win0_6.index t = ![t.val, 0] := by decide +kernel

theorem v0 (i : S8192x3072.Idx) : (V m c main_v0 : S8192x3072.Idx → EReal) i = A0 m c i := by
  entry_read; pointwise
/-- The blocks are those of the gradient's kernel; no cotangent is read. -/
theorem blocks (t : Fin grid0.N) : Blocks (fun _ => 0) (A0 m c) (A1 m c) t (fun i => nat2 (A := 8192) (B := 1024) (fun _ => 0) (t.val * 1024 + (i 0).val) (i 1))
    (fun i => nat2 (A := 8192) (B := 1024) (fun _ => 0) (min ((t.val + 1) * 64) 511 * 16 + (i 0).val) (i 1)) (iblk m c 0 t) (fun i => nat2 (A0 m c) (min ((t.val + 1) * 64) 511 * 16 + (i 0).val) (i 1))
    (iblk m c 1 t) (iblk m c 2 t) (iblk m c 3 t) (iblk m c 4 t) (iblk m c 5 t) := by
  obtain ⟨e0, e1, e2, e3, e4, e5, -⟩ := idx t
  constructor <;> intro i
  · rfl
  · rfl
  · exact (v0 m c _).trans (nat2_eq (A0 m c) ((win0_0.blk t).view.emb i) _ _ (by blk_simp [e0]) (by blk_simp [e0]))
  · rfl
  · exact (v0 m c _).trans (nat2_eq (A0 m c) ((win0_1.blk t).view.emb i) _ _ (by blk_simp [e1]) (by blk_simp [e1]))
  · exact (v0 m c _).trans (nat2_eq (A0 m c) ((win0_2.blk t).view.emb i) _ _ (by blk_simp [e2]) (by blk_simp [e2]))
  · exact (v0 m c _).trans (nat2_eq (A0 m c) ((win0_3.blk t).view.emb i) _ _ (by blk_simp [e3]) (by blk_simp [e3]))
  · exact (v0 m c _).trans (nat2_eq (A0 m c) ((win0_4.blk t).view.emb i) _ _ (by blk_simp [e4]) (by blk_simp [e4]))
  · exact nat2_eq (A1 m c) ((win0_5.blk t).view.emb i) _ _ (by blk_simp [e5]) (by blk_simp [e5])

theorem value : (dats m 0 c).arrAt 6 cfg0.N = gate (A0 m c) (A1 m c) := by
  refine (dats m 0 c).arrAt_eq_of_covers 6 _ (by decide +kernel) fun t hf y => ?_
  have e := (idx t).2.2.2.2.2.2
  blk_simp
  rw [after0_6]
  refine (body (blocks m c t) y).trans (congrArg (gate (A0 m c) (A1 m c)) ?_)
  blk_ext [e]

/-- Kernel and reference agree. -/
theorem agree : Cert.algebraic_GateKIdeal_GateRIdeal := by
  intro m g m' g' _ hag
  refine ⟨fun c => (dats m 0 c).arrAt 6 cfg0.N, ?_, ?_⟩
  · exact (θ_run _ _ _).mono (fun r h c => h c) (Value.run_blocks (F := Ideal) m g)
  · refine (θ_run _ _ _).mono (fun r h c => ?_) (Cert.GateRIdeal.Value.run (F := Ideal) m' g')
    refine ⟨(h c).1.trans ?_, (h c).2⟩
    rw [Cert.GateRIdeal.Read.val_main_v28_eq, (hag c).1, (hag c).2]
    exact (funext (r28 _ _)).trans (value m c).symm

/-- The reference runs and leaves its arguments. -/
theorem reference_frame : Cert.quiescent_GateRIdeal := fun m g _ =>
  (θ_run _ _ _).mono (fun r h => ⟨fun c => (h c).2, sem_eq_zero_of_no_sems (by decide) r.2⟩) (Cert.GateRIdeal.Value.run (F := Ideal) m g)

end Cert.GateProof
-- ==== Proof.Up.lean ====
/- The norm fused with the product it feeds and the squared ReLU. -/
module

public import proofs.«01_k».proof.Defs
public import proofs.«01_k».proof.Proof.Gen.UpKIdeal.Value
public import proofs.«01_k».proof.Proof.Gen.UpRIdeal.Run
public import proofs.«01_k».proof.Proof.Gen.UpRIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.UpProof

open Idealize.ShloMosaic Idealize.ShloMosaic.TcCoe Idealize.SL.Sem
open Cert.UpKIdeal Cert.UpKIdeal.Gen

section Values

variable (x : S8192x1024.Idx → EReal) (g : S1024.Idx → EReal) (w : S1024x4096.Idx → EReal)

/-- A normed row, scaled: the row, its scale and a place. -/
def normed (x g : Fin 1024 → EReal) (q : Fin 1024) : EReal :=
  x q * Ideal.rsqrt (Ideal.div (∑ k, x k * x k) (Ideal.ofBits .f32 0x44800000#32) + Ideal.ofBits .f32 0x358637BD#32) * g q
def H (r : Fin 8192) (q : Fin 1024) : EReal := normed (fun k => x (ix2 r k)) (fun k => g (ix1 k)) q
/-- The product, cut off at zero. -/
def relu (r : Fin 8192) (n : Fin 4096) : EReal := max (∑ k : Fin 1024, H x g r k * w (ix2 k n)) 0
def hT (i : S1024x8192.Idx) : EReal := H x g (i 1) (i 0)
def act (i : S8192x4096.Idx) : EReal := relu x g w (i 0) (i 1) * relu x g w (i 0) (i 1)
def slope (i : S8192x4096.Idx) : EReal := 2 * relu x g w (i 0) (i 1)

theorem two : (Ideal.ofBits .f32 0x40000000#32 : EReal) = 2 := by
  rw [show Ideal.ofBits .f32 0x40000000#32 = ((2 : ℝ) : EReal) by simp [Ideal.ofBits, Ideal.ieee, -EReal.coe_mul]; norm_num]; rfl

end Values

section Reference

open Cert.UpRIdeal.Read

variable (x : S8192x1024.Idx → EReal) (g : S1024.Idx → EReal) (w : S1024x4096.Idx → EReal)

/-- A row of the reference's norm. -/
theorem r12 (r : Fin 8192) (q : Fin 1024) : (val_main_v12 (F := Ideal) x g : S8192x1024.Idx → EReal) (ix2 r q) = H x g r q := by
  unfold val_main_v12 val_main_v11 val_main_v10 val_main_v9 val_main_v8 val_main_v7 val_main_v6 val_main_v5 val_main_v4 val_main_v3 val_main_v2 val_main_v1 val_main_v0
    val_main_cst val_main_cst_0 val_main_cst_1
  pointwise
  rfl

theorem r14 (r : Fin 8192) (n : Fin 4096) : (val_main_v14 (F := Ideal) x g w : S8192x4096.Idx → EReal) (ix2 r n) = relu x g w r n := by
  unfold val_main_v14 val_main_call0_v0 val_main_call0_cst val_main_v13
  pointwise [r12]
  rfl
theorem r16 (i : S1024x8192.Idx) : (val_main_v16 (F := Ideal) x g : S1024x8192.Idx → EReal) i = hT x g i := by
  obtain ⟨q, r, rfl⟩ : ∃ q r, i = ix2 q r := ⟨_, _, eq_ix2 i⟩
  unfold val_main_v16 val_main_v15
  pointwise [r12]
  rfl
theorem r18 (i : S8192x4096.Idx) : (val_main_v18 (F := Ideal) x g w : S8192x4096.Idx → EReal) i = act x g w i := by
  obtain ⟨r, n, rfl⟩ : ∃ r n, i = ix2 r n := ⟨_, _, eq_ix2 i⟩
  unfold val_main_v18 val_main_v17
  pointwise [r14]
  rfl
theorem r21 (i : S8192x4096.Idx) : (val_main_v21 (F := Ideal) x g w : S8192x4096.Idx → EReal) i = slope x g w i := by
  obtain ⟨r, n, rfl⟩ : ∃ r n, i = ix2 r n := ⟨_, _, eq_ix2 i⟩
  unfold val_main_v21 val_main_v20 val_main_v19 val_main_cst_2
  pointwise [r14]
  rw [two]
  rfl

end Reference

section Body

variable {x0 : S512x1024.Idx → EReal} {x1 : S1x1024.Idx → EReal} {x2 : S8x1024x512.Idx → EReal} {x : Fin 1024 → EReal} {g : Fin 1024 → EReal} {w : Fin 1024 → Fin 4096 → EReal} {a : Fin 512}
  (e0 : ∀ k, x0 (ix2 a k) = x k) (e1 : ∀ k, x1 (ix2 0 k) = g k) (e2 : ∀ (b : Fin 8) (k : Fin 1024) (n : Fin 512), x2 (ix3 b k n) = w k ⟨b.val * 512 + n.val, by omega⟩)

include e0 e1 in
theorem norm_body (q : Fin 1024) : out0_3 (F := Ideal) x0 x1 x2 (ix2 q a) = normed x g q := by
  unfold_out out0_3
  canon_tiles z h
  unfold_payloads
  pointwise
  pointwise at h0 h1
  have hq : z 0 = q := Fin.ext h0.symm
  have ha : z 1 = a := Fin.ext h1.symm
  simp [ha, hq, e0, e1, normed]
include e0 e1 e2 in
theorem act_body (n : Fin 4096) : out0_4 (F := Ideal) x0 x1 x2 (ix2 a n) = max (∑ k, normed x g k * w k n) 0 * max (∑ k, normed x g k * w k n) 0 := by
  unfold_out out0_4
  canon_tiles z h
  all_goals
    unfold_payloads
    pointwise
    pointwise at h0 h1
    have ha : z 0 = a := Fin.ext h0.symm
    simp only [ha, e0, e1]
    refine congrArg (fun y : EReal => max y 0 * max y 0) (Finset.sum_congr rfl fun k _ => congrArg (normed x g k * ·) ((e2 _ k (z 1)).trans (congrArg (w k) (Fin.ext ?_))))
    exact Eq.trans (by simp) h1.symm
include e0 e1 e2 in
theorem slope_body (n : Fin 4096) : out0_5 (F := Ideal) x0 x1 x2 (ix2 a n) = 2 * max (∑ k, normed x g k * w k n) 0 := by
  unfold_out out0_5
  canon_tiles z h
  all_goals
    unfold_payloads
    pointwise
    pointwise at h0 h1
    have ha : z 0 = a := Fin.ext h0.symm
    simp only [ha, e0, e1]
    rw [two]
    refine congrArg (fun y : EReal => 2 * max y 0) (Finset.sum_congr rfl fun k _ => congrArg (normed x g k * ·) ((e2 _ k (z 1)).trans (congrArg (w k) (Fin.ext ?_))))
    exact Eq.trans (by simp) h1.symm

end Body

variable (m : (ℓ : Loc nD τ sig) → Buf (Elt Ideal) ℓ) (c : Dev nD)

/-- The arguments and the input blocks at a grid point. -/
abbrev A0 : S8192x1024.Idx → EReal := m ((c : Thread nD τ).loc main_arg0)
abbrev A1 : S1024.Idx → EReal := m ((c : Thread nD τ).loc main_arg1)
abbrev A2 : S1024x4096.Idx → EReal := m ((c : Thread nD τ).loc main_arg2)
abbrev B0 (t : Fin cfg0.N) : S512x1024.Idx → EReal := iblk m c 0 t
abbrev B1 (t : Fin cfg0.N) : S1x1024.Idx → EReal := iblk m c 1 t
abbrev B2 (t : Fin cfg0.N) : S8x1024x512.Idx → EReal := iblk m c 2 t

/-- Where each window's block stands at grid point `t`. -/
theorem idx : ∀ t : Fin grid0.N, win0_0.index t = ![t.val, 0] ∧ win0_1.index t = ![0, 0] ∧ win0_2.index t = ![0, 0, 0] ∧ win0_3.index t = ![0, t.val]
    ∧ win0_4.index t = ![t.val, 0] ∧ win0_5.index t = ![t.val, 0] := by
  decide +kernel

theorem v2 (b : Fin 8) (q : Fin 1024) (k : Fin 512) : (V m c main_v2 : S8x1024x512.Idx → EReal) (ix3 b q k) = A2 m c (ix2 q ⟨b.val * 512 + k.val, by omega⟩) := by
  entry_read; pointwise
theorem v3 (q : Fin 1024) : (V m c main_v3 : S1x1024.Idx → EReal) (ix2 0 q) = A1 m c (ix1 q) := by
  entry_read; pointwise

theorem b0 (t : Fin cfg0.N) (a : Fin 512) (r : Fin 8192) (h : r.val = t.val * 512 + a.val) (q : Fin 1024) : B0 m c t (ix2 a q) = A0 m c (ix2 r q) := by
  have g : (win0_0.blk t).view.emb (ix2 a q) = ix2 r q := by blk_ext [(idx t).1, h]
  unfold B0; blk_simp [iblk]
  exact congrArg (A0 m c) g
theorem b1 (t : Fin cfg0.N) (q : Fin 1024) : B1 m c t (ix2 0 q) = A1 m c (ix1 q) := by
  have g : (win0_1.blk t).view.emb (ix2 0 q) = ix2 0 q := by blk_ext [(idx t).2.1]
  unfold B1; blk_simp [iblk]
  exact (congrArg (V m c main_v3 : S1x1024.Idx → EReal) g).trans (v3 m c _)
theorem b2 (t : Fin cfg0.N) (b : Fin 8) (q : Fin 1024) (k : Fin 512) : B2 m c t (ix3 b q k) = A2 m c (ix2 q ⟨b.val * 512 + k.val, by omega⟩) := by
  have g : (win0_2.blk t).view.emb (ix3 b q k) = ix3 b q k := by blk_ext [(idx t).2.2.1]
  unfold B2; blk_simp [iblk]
  exact (congrArg (V m c main_v2 : S8x1024x512.Idx → EReal) g).trans (v2 m c _ _ _)

/-- The row of the whole array a block's row is. -/
def row (t : Fin cfg0.N) (a : Fin 512) : Fin 8192 := ⟨t.val * 512 + a.val, by have := lt_of_lt_of_eq t.isLt N_0; omega⟩

theorem norm_value : (dats m 0 c).arrAt 3 cfg0.N = hT (A0 m c) (A1 m c) := by
  refine (dats m 0 c).arrAt_eq_of_covers 3 _ (by decide +kernel) fun t hf y => ?_
  blk_simp
  rw [after0_3]
  obtain ⟨q, a, rfl⟩ : ∃ q a, y = ix2 q a := ⟨_, _, eq_ix2 y⟩
  refine (norm_body (b0 m c t a (row t a) rfl) (b1 m c t) q).trans (congrArg (hT (A0 m c) (A1 m c)) ?_ : hT (A0 m c) (A1 m c) (ix2 q (row t a)) = _)
  blk_ext [(idx t).2.2.2.1, row]
theorem act_value : (dats m 0 c).arrAt 4 cfg0.N = act (A0 m c) (A1 m c) (A2 m c) := by
  refine (dats m 0 c).arrAt_eq_of_covers 4 _ (by decide +kernel) fun t hf y => ?_
  blk_simp
  rw [after0_4]
  obtain ⟨a, n, rfl⟩ : ∃ a n, y = ix2 a n := ⟨_, _, eq_ix2 y⟩
  refine (act_body (w := fun k n => A2 m c (ix2 k n)) (b0 m c t a (row t a) rfl) (b1 m c t) (b2 m c t) n).trans (congrArg (act (A0 m c) (A1 m c) (A2 m c)) ?_ : act (A0 m c) (A1 m c) (A2 m c) (ix2 (row t a) n) = _)
  blk_ext [(idx t).2.2.2.2.1, row]
theorem slope_value : (dats m 0 c).arrAt 5 cfg0.N = slope (A0 m c) (A1 m c) (A2 m c) := by
  refine (dats m 0 c).arrAt_eq_of_covers 5 _ (by decide +kernel) fun t hf y => ?_
  blk_simp
  rw [after0_5]
  obtain ⟨a, n, rfl⟩ : ∃ a n, y = ix2 a n := ⟨_, _, eq_ix2 y⟩
  refine (slope_body (w := fun k n => A2 m c (ix2 k n)) (b0 m c t a (row t a) rfl) (b1 m c t) (b2 m c t) n).trans (congrArg (slope (A0 m c) (A1 m c) (A2 m c)) ?_ : slope (A0 m c) (A1 m c) (A2 m c) (ix2 (row t a) n) = _)
  blk_ext [(idx t).2.2.2.2.2, row]

/-- Kernel and reference agree. -/
theorem agree : Cert.algebraic_UpKIdeal_UpRIdeal := by
  intro m g m' g' _ hag
  refine ⟨fun c => (dats m 0 c).arrAt 3 cfg0.N, fun c => (dats m 0 c).arrAt 4 cfg0.N, fun c => (dats m 0 c).arrAt 5 cfg0.N, ?_, ?_⟩
  · exact (θ_run _ _ _).mono (fun r h c => h c) (Value.run_blocks (F := Ideal) m g)
  · refine (θ_run _ _ _).mono (fun r h c => ?_) (Cert.UpRIdeal.Value.run (F := Ideal) m' g')
    obtain ⟨e0, e1, e2⟩ := hag c
    refine ⟨(h c).1.trans ?_, (h c).2.1.trans ?_, (h c).2.2.1.trans ?_, (h c).2.2.2⟩
    · rw [Cert.UpRIdeal.Read.val_main_v16_eq, e0, e1]
      exact (funext (r16 _ _)).trans (norm_value m c).symm
    · rw [Cert.UpRIdeal.Read.val_main_v18_eq, e0, e1, e2]
      exact (funext (r18 _ _ _)).trans (act_value m c).symm
    · rw [Cert.UpRIdeal.Read.val_main_v21_eq, e0, e1, e2]
      exact (funext (r21 _ _ _)).trans (slope_value m c).symm

/-- The reference runs and leaves its arguments. -/
theorem reference_frame : Cert.quiescent_UpRIdeal := fun m g _ =>
  (θ_run _ _ _).mono (fun r h => ⟨fun c => (h c).2.2.2, sem_eq_zero_of_no_sems (by decide) r.2⟩) (Cert.UpRIdeal.Value.run (F := Ideal) m g)

end Cert.UpProof
-- ==== Proof.In.lean ====
/- The norm ahead of the convolution mixer, fused with the product it feeds. -/
module

public import proofs.«01_k».proof.Defs
public import proofs.«01_k».proof.Proof.Gen.InKIdeal.Value
public import proofs.«01_k».proof.Proof.Gen.InRIdeal.Run
public import proofs.«01_k».proof.Proof.Gen.InRIdeal.Read
public import proofs.«01_k».proof.Proof.Up
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.InProof

open Idealize.ShloMosaic Idealize.ShloMosaic.TcCoe Idealize.SL.Sem
open Cert.InKIdeal Cert.InKIdeal.Gen
open Cert.UpProof (normed H hT)

section Reference

open Cert.InRIdeal.Read

variable (x : S8192x1024.Idx → EReal) (g : S1024.Idx → EReal) (w : S1024x3072.Idx → EReal)

/-- The product. -/
def prod (i : S8192x3072.Idx) : EReal := ∑ k : Fin 1024, H x g (i 0) k * w (ix2 k (i 1))

theorem r12 (r : Fin 8192) (q : Fin 1024) : (val_main_v12 (F := Ideal) x g : S8192x1024.Idx → EReal) (ix2 r q) = H x g r q := Cert.UpProof.r12 x g r q
theorem r14 (i : S1024x8192.Idx) : (val_main_v14 (F := Ideal) x g : S1024x8192.Idx → EReal) i = hT x g i := Cert.UpProof.r16 x g i
theorem r16 (i : S8192x3072.Idx) : (val_main_v16 (F := Ideal) x g w : S8192x3072.Idx → EReal) i = prod x g w i := by
  obtain ⟨r, n, rfl⟩ : ∃ r n, i = ix2 r n := ⟨_, _, eq_ix2 i⟩
  unfold val_main_v16 val_main_v15
  pointwise [r12]
  rfl

end Reference

section Body

variable {x0 : S512x1024.Idx → EReal} {x1 : S1x1024.Idx → EReal} {x2 : S8x1024x384.Idx → EReal} {x : Fin 1024 → EReal} {g : Fin 1024 → EReal} {w : Fin 1024 → Fin 3072 → EReal} {a : Fin 512}
  (e0 : ∀ k, x0 (ix2 a k) = x k) (e1 : ∀ k, x1 (ix2 0 k) = g k) (e2 : ∀ (b : Fin 8) (k : Fin 1024) (n : Fin 384), x2 (ix3 b k n) = w k ⟨b.val * 384 + n.val, by omega⟩)

include e0 e1 in
theorem norm_body (q : Fin 1024) : out0_3 (F := Ideal) x0 x1 x2 (ix2 q a) = normed x g q := Cert.UpProof.norm_body (x2 := fun _ => 0) e0 e1 q
include e0 e1 e2 in
theorem prod_body (n : Fin 3072) : out0_4 (F := Ideal) x0 x1 x2 (ix2 a n) = ∑ k, normed x g k * w k n := by
  unfold_out out0_4
  canon_tiles z h
  all_goals
    unfold_payloads
    pointwise
    pointwise at h0 h1
    have ha : z 0 = a := Fin.ext h0.symm
    simp only [ha, e0, e1]
    refine Finset.sum_congr rfl fun k _ => congrArg (normed x g k * ·) ((e2 _ k (z 1)).trans (congrArg (w k) (Fin.ext ?_)))
    exact Eq.trans (by simp) h1.symm

end Body

variable (m : (ℓ : Loc nD τ sig) → Buf (Elt Ideal) ℓ) (c : Dev nD)

/-- The arguments and the input blocks at a grid point. -/
abbrev A0 : S8192x1024.Idx → EReal := m ((c : Thread nD τ).loc main_arg0)
abbrev A1 : S1024.Idx → EReal := m ((c : Thread nD τ).loc main_arg1)
abbrev A2 : S1024x3072.Idx → EReal := m ((c : Thread nD τ).loc main_arg2)
abbrev B0 (t : Fin cfg0.N) : S512x1024.Idx → EReal := iblk m c 0 t
abbrev B1 (t : Fin cfg0.N) : S1x1024.Idx → EReal := iblk m c 1 t
abbrev B2 (t : Fin cfg0.N) : S8x1024x384.Idx → EReal := iblk m c 2 t

/-- Where each window's block stands at grid point `t`. -/
theorem idx : ∀ t : Fin grid0.N, win0_0.index t = ![t.val, 0] ∧ win0_1.index t = ![0, 0] ∧ win0_2.index t = ![0, 0, 0] ∧ win0_3.index t = ![0, t.val] ∧ win0_4.index t = ![t.val, 0] := by
  decide +kernel

theorem v2 (b : Fin 8) (q : Fin 1024) (k : Fin 384) : (V m c main_v2 : S8x1024x384.Idx → EReal) (ix3 b q k) = A2 m c (ix2 q ⟨b.val * 384 + k.val, by omega⟩) := by
  entry_read; pointwise
theorem v3 (q : Fin 1024) : (V m c main_v3 : S1x1024.Idx → EReal) (ix2 0 q) = A1 m c (ix1 q) := by
  entry_read; pointwise

theorem b0 (t : Fin cfg0.N) (a : Fin 512) (r : Fin 8192) (h : r.val = t.val * 512 + a.val) (q : Fin 1024) : B0 m c t (ix2 a q) = A0 m c (ix2 r q) := by
  unfold B0; blk_simp [iblk]
  exact congrArg (A0 m c) (by blk_ext [(idx t).1, h])
theorem b1 (t : Fin cfg0.N) (q : Fin 1024) : B1 m c t (ix2 0 q) = A1 m c (ix1 q) := by
  unfold B1; blk_simp [iblk]
  exact (congrArg (V m c main_v3 : S1x1024.Idx → EReal) (by blk_ext [(idx t).2.1])).trans (v3 m c q)
theorem b2 (t : Fin cfg0.N) (b : Fin 8) (q : Fin 1024) (k : Fin 384) : B2 m c t (ix3 b q k) = A2 m c (ix2 q ⟨b.val * 384 + k.val, by omega⟩) := by
  unfold B2; blk_simp [iblk]
  exact (congrArg (V m c main_v2 : S8x1024x384.Idx → EReal) (by blk_ext [(idx t).2.2.1])).trans (v2 m c b q k)

/-- The row of the whole array a block's row is. -/
def row (t : Fin cfg0.N) (a : Fin 512) : Fin 8192 := ⟨t.val * 512 + a.val, by have := lt_of_lt_of_eq t.isLt N_0; omega⟩

theorem norm_value : (dats m 0 c).arrAt 3 cfg0.N = hT (A0 m c) (A1 m c) := by
  refine (dats m 0 c).arrAt_eq_of_covers 3 _ (by decide +kernel) fun t hf y => ?_
  blk_simp
  rw [after0_3]
  obtain ⟨q, a, rfl⟩ : ∃ q a, y = ix2 q a := ⟨_, _, eq_ix2 y⟩
  refine (norm_body (b0 m c t a (row t a) rfl) (b1 m c t) q).trans (congrArg (hT (A0 m c) (A1 m c)) ?_ : hT (A0 m c) (A1 m c) (ix2 q (row t a)) = _)
  blk_ext [(idx t).2.2.2.1, row]
theorem prod_value : (dats m 0 c).arrAt 4 cfg0.N = prod (A0 m c) (A1 m c) (A2 m c) := by
  refine (dats m 0 c).arrAt_eq_of_covers 4 _ (by decide +kernel) fun t hf y => ?_
  blk_simp
  rw [after0_4]
  obtain ⟨a, n, rfl⟩ : ∃ a n, y = ix2 a n := ⟨_, _, eq_ix2 y⟩
  refine (prod_body (w := fun k n => A2 m c (ix2 k n)) (b0 m c t a (row t a) rfl) (b1 m c t) (b2 m c t) n).trans (congrArg (prod (A0 m c) (A1 m c) (A2 m c)) ?_ : prod (A0 m c) (A1 m c) (A2 m c) (ix2 (row t a) n) = _)
  blk_ext [(idx t).2.2.2.2, row]

/-- Kernel and reference agree. -/
theorem agree : Cert.algebraic_InKIdeal_InRIdeal := by
  intro m g m' g' _ hag
  refine ⟨fun c => (dats m 0 c).arrAt 3 cfg0.N, fun c => (dats m 0 c).arrAt 4 cfg0.N, ?_, ?_⟩
  · exact (θ_run _ _ _).mono (fun r h c => h c) (Value.run_blocks (F := Ideal) m g)
  · refine (θ_run _ _ _).mono (fun r h c => ?_) (Cert.InRIdeal.Value.run (F := Ideal) m' g')
    obtain ⟨e0, e1, e2⟩ := hag c
    refine ⟨(h c).1.trans ?_, (h c).2.1.trans ?_, (h c).2.2⟩
    · rw [Cert.InRIdeal.Read.val_main_v14_eq, e0, e1]
      exact (funext (r14 _ _)).trans (norm_value m c).symm
    · rw [Cert.InRIdeal.Read.val_main_v16_eq, e0, e1, e2]
      exact (funext (r16 _ _ _)).trans (prod_value m c).symm

/-- The reference runs and leaves its arguments. -/
theorem reference_frame : Cert.quiescent_InRIdeal := fun m g _ =>
  (θ_run _ _ _).mono (fun r h => ⟨fun c => (h c).2.2, sem_eq_zero_of_no_sems (by decide) r.2⟩) (Cert.InRIdeal.Value.run (F := Ideal) m g)

end Cert.InProof
-- ==== Proof.Down.lean ====
/- The norm ahead of attention, fused with the product it feeds. -/
module

public import proofs.«01_k».proof.Defs
public import proofs.«01_k».proof.Proof.Gen.DownKIdeal.Value
public import proofs.«01_k».proof.Proof.Gen.DownRIdeal.Run
public import proofs.«01_k».proof.Proof.Gen.DownRIdeal.Read
public import proofs.«01_k».proof.Proof.Up
public import Idealize.ShloMosaic.Lib.Pipeline.ValueKit
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

namespace Cert.DownProof

open Idealize.ShloMosaic Idealize.ShloMosaic.TcCoe Idealize.SL.Sem
open Cert.DownKIdeal Cert.DownKIdeal.Gen
open Cert.UpProof (normed H hT)

section Reference

open Cert.DownRIdeal.Read

variable (x : S8192x1024.Idx → EReal) (g : S1024.Idx → EReal) (w : S1024x448.Idx → EReal)

/-- The weight at row `k` and column `n` of the padded layout: zero from column 448 on. -/
def padded (k : Fin 1024) (n : Fin 512) : EReal := if h : n.val < 448 then w (ix2 k ⟨n.val, h⟩) else 0
/-- The product in the padded layout. -/
def prod (i : S8192x512.Idx) : EReal := ∑ k : Fin 1024, H x g (i 0) k * padded w k (i 1)

theorem pad_zero (φ : FTy) : (FloatOps.sitofp (F := Ideal) φ (0#32 : BitVec 32) : EReal) = 0 := by
  simp [FloatOps.sitofp]
theorem r12 (r : Fin 8192) (q : Fin 1024) : (val_main_v12 (F := Ideal) x g : S8192x1024.Idx → EReal) (ix2 r q) = H x g r q := Cert.UpProof.r12 x g r q
theorem r14 (i : S1024x8192.Idx) : (val_main_v14 (F := Ideal) x g : S1024x8192.Idx → EReal) i = hT x g i := Cert.UpProof.r16 x g i
theorem r15 (r : Fin 8192) (n : Fin 448) : (val_main_v15 (F := Ideal) x g w : Cert.DownRIdeal.S8192x448.Idx → EReal) (ix2 r n) = ∑ k : Fin 1024, H x g r k * w (ix2 k n) := by
  unfold val_main_v15
  pointwise [r12]
theorem r16 (i : S8192x512.Idx) : (val_main_v16 (F := Ideal) x g w : S8192x512.Idx → EReal) i = prod x g w i := by
  obtain ⟨r, n, rfl⟩ : ∃ r n, i = ix2 r n := ⟨_, _, eq_ix2 i⟩
  unfold val_main_v16 val_main_call0_v0 val_main_c
  pointwise [r15]
  unfold prod padded
  pointwise
  by_cases h : n.val < 448
  · simp only [dif_pos h]
  · simp [h, pad_zero]

end Reference

section Body

variable {x0 : S1024x1024.Idx → EReal} {x1 : S1x1024.Idx → EReal} {x2 : S1x1024x512.Idx → EReal} {x : Fin 1024 → EReal} {g : Fin 1024 → EReal} {w : Fin 1024 → Fin 512 → EReal} {a : Fin 1024}
  (e0 : ∀ k, x0 (ix2 a k) = x k) (e1 : ∀ k, x1 (ix2 0 k) = g k) (e2 : ∀ (b : Fin 1) (k : Fin 1024) (n : Fin 512), x2 (ix3 b k n) = w k n)

include e0 e1 in
theorem norm_body (q : Fin 1024) : out0_3 (F := Ideal) x0 x1 x2 (ix2 q a) = normed x g q := by
  unfold out0_3
  canon_tiles z h
  unfold_payloads
  pointwise
  pointwise at h0 h1
  have hq : z 0 = q := Fin.ext h0.symm
  have ha : z 1 = a := Fin.ext h1.symm
  simp [ha, hq, e0, e1, normed]
include e0 e1 e2 in
theorem prod_body (n : Fin 512) : out0_4 (F := Ideal) x0 x1 x2 (ix2 a n) = ∑ k, normed x g k * w k n := by
  unfold out0_4
  canon_tiles z h
  all_goals
    unfold_payloads
    pointwise
    pointwise at h0 h1
    have ha : z 0 = a := Fin.ext h0.symm
    simp only [ha, e0, e1]
    refine Finset.sum_congr rfl fun k _ => congrArg (normed x g k * ·) ((e2 _ k (z 1)).trans (congrArg (w k) (Fin.ext ?_)))
    exact Eq.trans (by simp) h1.symm

end Body

variable (m : (ℓ : Loc nD τ sig) → Buf (Elt Ideal) ℓ) (c : Dev nD)

/-- The arguments and the input blocks at a grid point. -/
abbrev A0 : S8192x1024.Idx → EReal := m ((c : Thread nD τ).loc main_arg0)
abbrev A1 : S1024.Idx → EReal := m ((c : Thread nD τ).loc main_arg1)
abbrev A2 : S1024x448.Idx → EReal := m ((c : Thread nD τ).loc main_arg2)
abbrev B0 (t : Fin cfg0.N) : S1024x1024.Idx → EReal := iblk m c 0 t
abbrev B1 (t : Fin cfg0.N) : S1x1024.Idx → EReal := iblk m c 1 t
abbrev B2 (t : Fin cfg0.N) : S1x1024x512.Idx → EReal := iblk m c 2 t

/-- Where each window's block stands at grid point `t`. -/
theorem idx : ∀ t : Fin grid0.N, win0_0.index t = ![t.val, 0] ∧ win0_1.index t = ![0, 0] ∧ win0_2.index t = ![0, 0, 0] ∧ win0_3.index t = ![0, t.val] ∧ win0_4.index t = ![t.val, 0] := by
  decide +kernel

theorem v2 (b : Fin 1) (q : Fin 1024) (k : Fin 512) : (V m c main_v2 : S1x1024x512.Idx → EReal) (ix3 b q k) = padded (A2 m c) q k := by
  obtain rfl : b = 0 := Subsingleton.elim _ _
  refine Eq.trans (b := if h : k.val < 448 then A2 m c (ix2 q ⟨k.val, h⟩) else FloatOps.sitofp (F := Ideal) .bf16 (0#32 : BitVec 32)) ?_ (by simp [pad_zero, padded])
  unfold V
  after_reads_at
theorem v3 (q : Fin 1024) : (V m c main_v3 : S1x1024.Idx → EReal) (ix2 0 q) = A1 m c (ix1 q) := by
  unfold V
  after_reads_at

theorem b0 (t : Fin cfg0.N) (a : Fin 1024) (r : Fin 8192) (h : r.val = t.val * 1024 + a.val) (q : Fin 1024) : B0 m c t (ix2 a q) = A0 m c (ix2 r q) := by
  unfold B0; blk_simp [iblk]
  exact congrArg (A0 m c) (by blk_ext [(idx t).1, h])
theorem b1 (t : Fin cfg0.N) (q : Fin 1024) : B1 m c t (ix2 0 q) = A1 m c (ix1 q) := by
  unfold B1; blk_simp [iblk]
  exact (congrArg (V m c main_v3 : S1x1024.Idx → EReal) (by blk_ext [(idx t).2.1])).trans (v3 m c q)
theorem b2 (t : Fin cfg0.N) (b : Fin 1) (q : Fin 1024) (k : Fin 512) : B2 m c t (ix3 b q k) = padded (A2 m c) q k := by
  unfold B2; blk_simp [iblk]
  exact (congrArg (V m c main_v2 : S1x1024x512.Idx → EReal) (by blk_ext [(idx t).2.2.1])).trans (v2 m c b q k)

/-- The row of the whole array a block's row is. -/
def row (t : Fin cfg0.N) (a : Fin 1024) : Fin 8192 := ⟨t.val * 1024 + a.val, by have := lt_of_lt_of_eq t.isLt N_0; omega⟩

theorem norm_value : (dats m 0 c).arrAt 3 cfg0.N = hT (A0 m c) (A1 m c) := by
  refine (dats m 0 c).arrAt_eq_of_covers 3 _ (by decide +kernel) fun t hf y => ?_
  blk_simp
  rw [after0_3]
  obtain ⟨q, a, rfl⟩ : ∃ q a, y = ix2 q a := ⟨_, _, eq_ix2 y⟩
  refine (norm_body (b0 m c t a (row t a) rfl) (b1 m c t) q).trans (congrArg (hT (A0 m c) (A1 m c)) ?_ : hT (A0 m c) (A1 m c) (ix2 q (row t a)) = _)
  blk_ext [(idx t).2.2.2.1, row]
theorem prod_value : (dats m 0 c).arrAt 4 cfg0.N = prod (A0 m c) (A1 m c) (A2 m c) := by
  refine (dats m 0 c).arrAt_eq_of_covers 4 _ (by decide +kernel) fun t hf y => ?_
  blk_simp
  rw [after0_4]
  obtain ⟨a, n, rfl⟩ : ∃ a n, y = ix2 a n := ⟨_, _, eq_ix2 y⟩
  refine (prod_body (w := fun k n => padded (A2 m c) k n) (b0 m c t a (row t a) rfl) (b1 m c t) (b2 m c t) n).trans (congrArg (prod (A0 m c) (A1 m c) (A2 m c)) ?_ : prod (A0 m c) (A1 m c) (A2 m c) (ix2 (row t a) n) = _)
  blk_ext [(idx t).2.2.2.2, row]

/-- Kernel and reference agree. -/
theorem agree : Cert.algebraic_DownKIdeal_DownRIdeal := by
  intro m g m' g' _ hag
  refine ⟨fun c => (dats m 0 c).arrAt 3 cfg0.N, fun c => (dats m 0 c).arrAt 4 cfg0.N, ?_, ?_⟩
  · exact (θ_run _ _ _).mono (fun r h c => h c) (Value.run_blocks (F := Ideal) m g)
  · refine (θ_run _ _ _).mono (fun r h c => ?_) (Cert.DownRIdeal.Value.run (F := Ideal) m' g')
    obtain ⟨e0, e1, e2⟩ := hag c
    refine ⟨(h c).1.trans ?_, (h c).2.1.trans ?_, (h c).2.2⟩
    · rw [Cert.DownRIdeal.Read.val_main_v14_eq, e0, e1]
      exact (funext (r14 _ _)).trans (norm_value m c).symm
    · rw [Cert.DownRIdeal.Read.val_main_v16_eq, e0, e1, e2]
      exact (funext (r16 _ _ _)).trans (prod_value m c).symm

/-- The reference runs and leaves its arguments. -/
theorem reference_frame : Cert.quiescent_DownRIdeal := fun m g _ =>
  (θ_run _ _ _).mono (fun r h => ⟨fun c => (h c).2.2, sem_eq_zero_of_no_sems (by decide) r.2⟩) (Cert.DownRIdeal.Value.run (F := Ideal) m g)

end Cert.DownProof
-- ==== Proof.lean ====
module

public import proofs.«01_k».proof.Defs
public import proofs.«01_k».proof.Proof.Gen.ConvK
public import proofs.«01_k».proof.Proof.Gen.ConvK.Skeleton
public import proofs.«01_k».proof.Proof.Gen.ConvK.Launch
public import proofs.«01_k».proof.Proof.Gen.ConvK.Points
public import proofs.«01_k».proof.Proof.Gen.ConvK.Frame
public import proofs.«01_k».proof.Proof.Gen.ConvKIdeal
public import proofs.«01_k».proof.Proof.Gen.ConvKIdeal.Skeleton
public import proofs.«01_k».proof.Proof.Gen.ConvKIdeal.Launch
public import proofs.«01_k».proof.Proof.Gen.ConvKIdeal.Points
public import proofs.«01_k».proof.Proof.Gen.ConvKIdeal.Frame
public import proofs.«01_k».proof.Proof.Gen.ConvRIdeal
public import proofs.«01_k».proof.Proof.Gen.DuK
public import proofs.«01_k».proof.Proof.Gen.DuK.Skeleton
public import proofs.«01_k».proof.Proof.Gen.DuK.Launch
public import proofs.«01_k».proof.Proof.Gen.DuK.Points
public import proofs.«01_k».proof.Proof.Gen.DuK.Frame
public import proofs.«01_k».proof.Proof.Gen.DuKIdeal
public import proofs.«01_k».proof.Proof.Gen.DuKIdeal.Skeleton
public import proofs.«01_k».proof.Proof.Gen.DuKIdeal.Launch
public import proofs.«01_k».proof.Proof.Gen.DuKIdeal.Points
public import proofs.«01_k».proof.Proof.Gen.DuKIdeal.Frame
public import proofs.«01_k».proof.Proof.Gen.DuRIdeal
public import proofs.«01_k».proof.Proof.Gen.ConvKIdeal.Value
public import proofs.«01_k».proof.Proof.Gen.DuKIdeal.Value
public import proofs.«01_k».proof.Proof.Gen.ConvRIdeal.Run
public import proofs.«01_k».proof.Proof.Gen.DuRIdeal.Run
public import proofs.«01_k».proof.Proof.Gen.ConvRIdeal.Read
public import proofs.«01_k».proof.Proof.Gen.DuRIdeal.Read
public import proofs.«01_k».proof.Proof.Gen.AttK
public import proofs.«01_k».proof.Proof.Gen.AttK.Skeleton
public import proofs.«01_k».proof.Proof.Gen.AttK.Launch
public import proofs.«01_k».proof.Proof.Gen.AttKIdeal
public import proofs.«01_k».proof.Proof.Gen.AttKIdeal.Skeleton
public import proofs.«01_k».proof.Proof.Gen.AttKIdeal.Launch
public import proofs.«01_k».proof.Proof.Gen.AttKIdeal.Flash
public import proofs.«01_k».proof.Proof.Gen.AttRIdeal
public import proofs.«01_k».proof.Proof.Gen.AttRIdeal.Run
public import proofs.«01_k».proof.Proof.Gen.AttRIdeal.Read
public import proofs.«01_k».proof.Proof.Gen.RmsK
public import proofs.«01_k».proof.Proof.Gen.RmsK.Skeleton
public import proofs.«01_k».proof.Proof.Gen.RmsK.Launch
public import proofs.«01_k».proof.Proof.Gen.RmsK.Points
public import proofs.«01_k».proof.Proof.Gen.RmsK.Frame
public import proofs.«01_k».proof.Proof.Gen.RmsKIdeal
public import proofs.«01_k».proof.Proof.Gen.RmsKIdeal.Skeleton
public import proofs.«01_k».proof.Proof.Gen.RmsKIdeal.Launch
public import proofs.«01_k».proof.Proof.Gen.RmsKIdeal.Points
public import proofs.«01_k».proof.Proof.Gen.RmsKIdeal.Frame
public import proofs.«01_k».proof.Proof.Gen.RmsKIdeal.Value
public import proofs.«01_k».proof.Proof.Gen.RmsRIdeal
public import proofs.«01_k».proof.Proof.Gen.RmsRIdeal.Run
public import proofs.«01_k».proof.Proof.Gen.RmsRIdeal.Read
public import proofs.«01_k».proof.Proof.Gen.LossK
public import proofs.«01_k».proof.Proof.Gen.LossK.Skeleton
public import proofs.«01_k».proof.Proof.Gen.LossK.Launch
public import proofs.«01_k».proof.Proof.Gen.LossK.Points
public import proofs.«01_k».proof.Proof.Gen.LossK.Frame
public import proofs.«01_k».proof.Proof.Gen.LossKIdeal
public import proofs.«01_k».proof.Proof.Gen.LossKIdeal.Skeleton
public import proofs.«01_k».proof.Proof.Gen.LossKIdeal.Launch
public import proofs.«01_k».proof.Proof.Gen.LossKIdeal.Points
public import proofs.«01_k».proof.Proof.Gen.LossKIdeal.Frame
public import proofs.«01_k».proof.Proof.Gen.LossKIdeal.Value
public import proofs.«01_k».proof.Proof.Gen.LossRIdeal
public import proofs.«01_k».proof.Proof.Gen.LossRIdeal.Run
public import proofs.«01_k».proof.Proof.Gen.LossRIdeal.Read
public import proofs.«01_k».proof.Proof.Gen.DeltaK
public import proofs.«01_k».proof.Proof.Gen.DeltaK.Skeleton
public import proofs.«01_k».proof.Proof.Gen.DeltaK.Launch
public import proofs.«01_k».proof.Proof.Gen.DeltaK.Points
public import proofs.«01_k».proof.Proof.Gen.DeltaK.Frame
public import proofs.«01_k».proof.Proof.Gen.DeltaKIdeal
public import proofs.«01_k».proof.Proof.Gen.DeltaKIdeal.Skeleton
public import proofs.«01_k».proof.Proof.Gen.DeltaKIdeal.Launch
public import proofs.«01_k».proof.Proof.Gen.DeltaKIdeal.Points
public import proofs.«01_k».proof.Proof.Gen.DeltaKIdeal.Frame
public import proofs.«01_k».proof.Proof.Gen.DeltaKIdeal.Value
public import proofs.«01_k».proof.Proof.Gen.DeltaRIdeal
public import proofs.«01_k».proof.Proof.Gen.DeltaRIdeal.Run
public import proofs.«01_k».proof.Proof.Gen.DeltaRIdeal.Read
public import proofs.«01_k».proof.Proof.Gen.RmsCK
public import proofs.«01_k».proof.Proof.Gen.RmsCK.Skeleton
public import proofs.«01_k».proof.Proof.Gen.RmsCK.Launch
public import proofs.«01_k».proof.Proof.Gen.RmsCK.Points
public import proofs.«01_k».proof.Proof.Gen.RmsCK.Frame
public import proofs.«01_k».proof.Proof.Gen.RmsCKIdeal
public import proofs.«01_k».proof.Proof.Gen.RmsCKIdeal.Skeleton
public import proofs.«01_k».proof.Proof.Gen.RmsCKIdeal.Launch
public import proofs.«01_k».proof.Proof.Gen.RmsCKIdeal.Points
public import proofs.«01_k».proof.Proof.Gen.RmsCKIdeal.Frame
public import proofs.«01_k».proof.Proof.Gen.RmsCKIdeal.Value
public import proofs.«01_k».proof.Proof.Gen.RmsCRIdeal
public import proofs.«01_k».proof.Proof.Gen.RmsCRIdeal.Run
public import proofs.«01_k».proof.Proof.Gen.RmsCRIdeal.Read
public import proofs.«01_k».proof.Proof.Gen.RmsDK
public import proofs.«01_k».proof.Proof.Gen.RmsDK.Skeleton
public import proofs.«01_k».proof.Proof.Gen.RmsDK.Launch
public import proofs.«01_k».proof.Proof.Gen.RmsDK.Points
public import proofs.«01_k».proof.Proof.Gen.RmsDK.Frame
public import proofs.«01_k».proof.Proof.Gen.RmsDKIdeal
public import proofs.«01_k».proof.Proof.Gen.RmsDKIdeal.Skeleton
public import proofs.«01_k».proof.Proof.Gen.RmsDKIdeal.Launch
public import proofs.«01_k».proof.Proof.Gen.RmsDKIdeal.Points
public import proofs.«01_k».proof.Proof.Gen.RmsDKIdeal.Frame
public import proofs.«01_k».proof.Proof.Gen.RmsDKIdeal.Value
public import proofs.«01_k».proof.Proof.Gen.RmsDRIdeal
public import proofs.«01_k».proof.Proof.Gen.RmsDRIdeal.Run
public import proofs.«01_k».proof.Proof.Gen.RmsDRIdeal.Read
public import proofs.«01_k».proof.Proof.Gen.GateK
public import proofs.«01_k».proof.Proof.Gen.GateK.Skeleton
public import proofs.«01_k».proof.Proof.Gen.GateK.Launch
public import proofs.«01_k».proof.Proof.Gen.GateK.Points
public import proofs.«01_k».proof.Proof.Gen.GateK.Frame
public import proofs.«01_k».proof.Proof.Gen.GateKIdeal
public import proofs.«01_k».proof.Proof.Gen.GateKIdeal.Skeleton
public import proofs.«01_k».proof.Proof.Gen.GateKIdeal.Launch
public import proofs.«01_k».proof.Proof.Gen.GateKIdeal.Points
public import proofs.«01_k».proof.Proof.Gen.GateKIdeal.Frame
public import proofs.«01_k».proof.Proof.Gen.GateKIdeal.Value
public import proofs.«01_k».proof.Proof.Gen.GateRIdeal
public import proofs.«01_k».proof.Proof.Gen.GateRIdeal.Run
public import proofs.«01_k».proof.Proof.Gen.GateRIdeal.Read
public import proofs.«01_k».proof.Proof.Gen.UpK
public import proofs.«01_k».proof.Proof.Gen.UpK.Skeleton
public import proofs.«01_k».proof.Proof.Gen.UpK.Launch
public import proofs.«01_k».proof.Proof.Gen.UpK.Points
public import proofs.«01_k».proof.Proof.Gen.UpK.Frame
public import proofs.«01_k».proof.Proof.Gen.UpKIdeal
public import proofs.«01_k».proof.Proof.Gen.UpKIdeal.Skeleton
public import proofs.«01_k».proof.Proof.Gen.UpKIdeal.Launch
public import proofs.«01_k».proof.Proof.Gen.UpKIdeal.Points
public import proofs.«01_k».proof.Proof.Gen.UpKIdeal.Frame
public import proofs.«01_k».proof.Proof.Gen.UpKIdeal.Value
public import proofs.«01_k».proof.Proof.Gen.UpRIdeal
public import proofs.«01_k».proof.Proof.Gen.UpRIdeal.Run
public import proofs.«01_k».proof.Proof.Gen.UpRIdeal.Read
public import proofs.«01_k».proof.Proof.Gen.InK
public import proofs.«01_k».proof.Proof.Gen.InK.Skeleton
public import proofs.«01_k».proof.Proof.Gen.InK.Launch
public import proofs.«01_k».proof.Proof.Gen.InK.Points
public import proofs.«01_k».proof.Proof.Gen.InK.Frame
public import proofs.«01_k».proof.Proof.Gen.InKIdeal
public import proofs.«01_k».proof.Proof.Gen.InKIdeal.Skeleton
public import proofs.«01_k».proof.Proof.Gen.InKIdeal.Launch
public import proofs.«01_k».proof.Proof.Gen.InKIdeal.Points
public import proofs.«01_k».proof.Proof.Gen.InKIdeal.Frame
public import proofs.«01_k».proof.Proof.Gen.InKIdeal.Value
public import proofs.«01_k».proof.Proof.Gen.InRIdeal
public import proofs.«01_k».proof.Proof.Gen.InRIdeal.Run
public import proofs.«01_k».proof.Proof.Gen.InRIdeal.Read
public import proofs.«01_k».proof.Proof.Gen.DownK
public import proofs.«01_k».proof.Proof.Gen.DownK.Skeleton
public import proofs.«01_k».proof.Proof.Gen.DownK.Launch
public import proofs.«01_k».proof.Proof.Gen.DownK.Points
public import proofs.«01_k».proof.Proof.Gen.DownK.Frame
public import proofs.«01_k».proof.Proof.Gen.DownKIdeal
public import proofs.«01_k».proof.Proof.Gen.DownKIdeal.Skeleton
public import proofs.«01_k».proof.Proof.Gen.DownKIdeal.Launch
public import proofs.«01_k».proof.Proof.Gen.DownKIdeal.Points
public import proofs.«01_k».proof.Proof.Gen.DownKIdeal.Frame
public import proofs.«01_k».proof.Proof.Gen.DownKIdeal.Value
public import proofs.«01_k».proof.Proof.Gen.DownRIdeal
public import proofs.«01_k».proof.Proof.Gen.DownRIdeal.Run
public import proofs.«01_k».proof.Proof.Gen.DownRIdeal.Read
public import proofs.«01_k».proof.Proof.Gen.Pre_attn_ok
public import proofs.«01_k».proof.Proof.Gen.Pre_rms_ok
public import proofs.«01_k».proof.Proof.Gen.Pre_rms_ok_conv
public import proofs.«01_k».proof.Proof.Gen.Pre_rms_ok_down
public import proofs.«01_k».proof.Proof.Conv
public import proofs.«01_k».proof.Proof.Du
public import proofs.«01_k».proof.Proof.AttFrames
public import proofs.«01_k».proof.Proof.AttAgree
public import proofs.«01_k».proof.Proof.Rms
public import proofs.«01_k».proof.Proof.RmsC
public import proofs.«01_k».proof.Proof.RmsD
public import proofs.«01_k».proof.Proof.Loss
public import proofs.«01_k».proof.Proof.Delta
public import proofs.«01_k».proof.Proof.Gate
public import proofs.«01_k».proof.Proof.Up
public import proofs.«01_k».proof.Proof.In
public import proofs.«01_k».proof.Proof.Down
public import Idealize.ShloMosaic.Adequacy
public import Idealize.ShloMosaic.Init

@[expose] public section

noncomputable section

namespace Cert.Proof

open Idealize.ShloMosaic Idealize.SL.Sem Cert.ConvK

theorem claim : Cert.Claim := ⟨Cert.ConvK.Gen.facts, Cert.ConvKIdeal.Gen.facts, Cert.ConvRIdeal.Gen.facts, Cert.DuK.Gen.facts, Cert.DuKIdeal.Gen.facts, Cert.DuRIdeal.Gen.facts,
  Cert.AttK.Gen.facts, Cert.AttKIdeal.Gen.facts, Cert.AttRIdeal.Gen.facts, Cert.RmsK.Gen.facts, Cert.RmsKIdeal.Gen.facts, Cert.RmsRIdeal.Gen.facts,
  Cert.RmsCK.Gen.facts, Cert.RmsCKIdeal.Gen.facts, Cert.RmsCRIdeal.Gen.facts, Cert.RmsDK.Gen.facts, Cert.RmsDKIdeal.Gen.facts, Cert.RmsDRIdeal.Gen.facts,
  Cert.LossK.Gen.facts, Cert.LossKIdeal.Gen.facts, Cert.LossRIdeal.Gen.facts, Cert.DeltaK.Gen.facts, Cert.DeltaKIdeal.Gen.facts, Cert.DeltaRIdeal.Gen.facts,
  Cert.GateK.Gen.facts, Cert.GateKIdeal.Gen.facts, Cert.GateRIdeal.Gen.facts, Cert.UpK.Gen.facts, Cert.UpKIdeal.Gen.facts, Cert.UpRIdeal.Gen.facts,
  Cert.InK.Gen.facts, Cert.InKIdeal.Gen.facts, Cert.InRIdeal.Gen.facts, Cert.DownK.Gen.facts, Cert.DownKIdeal.Gen.facts, Cert.DownRIdeal.Gen.facts, Cert.Pre_attn_ok.Gen.facts, Cert.Pre_rms_ok.Gen.facts, Cert.Pre_rms_ok_conv.Gen.facts, Cert.Pre_rms_ok_down.Gen.facts,
  fun m ρ _ => Cert.ConvK.Gen.frame m ρ, fun m ρ _ => Cert.ConvKIdeal.Gen.frame m ρ, Cert.ConvProof.reference_frame,
  fun m ρ _ => Cert.DuK.Gen.frame m ρ, fun m ρ _ => Cert.DuKIdeal.Gen.frame m ρ, Cert.DuProof.reference_frame,
  Cert.AttProof.frame_bits, Cert.AttProof.frame_ideal, Cert.AttProof.frame_pre, Cert.AttProof.reference_frame, Cert.AttProof.reference_frame_pre,
  fun m ρ _ => Cert.RmsK.Gen.frame m ρ, fun m ρ _ => Cert.RmsKIdeal.Gen.frame m ρ, fun m ρ _ => Cert.RmsKIdeal.Gen.frame m ρ, Cert.RmsProof.reference_frame, Cert.RmsProof.reference_frame_pre,
  fun m ρ _ => Cert.RmsCK.Gen.frame m ρ, fun m ρ _ => Cert.RmsCKIdeal.Gen.frame m ρ, fun m ρ _ => Cert.RmsCKIdeal.Gen.frame m ρ, Cert.RmsCProof.reference_frame, Cert.RmsCProof.reference_frame_pre,
  fun m ρ _ => Cert.RmsDK.Gen.frame m ρ, fun m ρ _ => Cert.RmsDKIdeal.Gen.frame m ρ, fun m ρ _ => Cert.RmsDKIdeal.Gen.frame m ρ, Cert.RmsDProof.reference_frame, Cert.RmsDProof.reference_frame_pre,
  fun m ρ _ => Cert.LossK.Gen.frame m ρ, fun m ρ _ => Cert.LossKIdeal.Gen.frame m ρ, Cert.LossProof.reference_frame,
  fun m ρ _ => Cert.DeltaK.Gen.frame m ρ, fun m ρ _ => Cert.DeltaKIdeal.Gen.frame m ρ, Cert.DeltaProof.reference_frame,
  fun m ρ _ => Cert.GateK.Gen.frame m ρ, fun m ρ _ => Cert.GateKIdeal.Gen.frame m ρ, Cert.GateProof.reference_frame,
  fun m ρ _ => Cert.UpK.Gen.frame m ρ, fun m ρ _ => Cert.UpKIdeal.Gen.frame m ρ, Cert.UpProof.reference_frame,
  fun m ρ _ => Cert.InK.Gen.frame m ρ, fun m ρ _ => Cert.InKIdeal.Gen.frame m ρ, Cert.InProof.reference_frame,
  fun m ρ _ => Cert.DownK.Gen.frame m ρ, fun m ρ _ => Cert.DownKIdeal.Gen.frame m ρ, Cert.DownProof.reference_frame,
  trivial, Cert.ConvProof.agree, trivial, Cert.DuProof.agree, Cert.AttProof.mask_named, Cert.AttProof.agree,
  trivial, Cert.RmsProof.agree, trivial, Cert.RmsCProof.agree, trivial, Cert.RmsDProof.agree,
   trivial, Cert.LossProof.agree, trivial, Cert.DeltaProof.agree,
  trivial, Cert.GateProof.agree, trivial, Cert.UpProof.agree, trivial, Cert.InProof.agree, trivial, Cert.DownProof.agree⟩

end Cert.Proof

end
